-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_sample_finite_logits [hPre_sample_finite_logits : Cert.Pre_sample_finite_logits.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_sample_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).1 = (fun _ => 1#1)
    ∧ (Cert.Pre_sample_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.1 = (fun _ => 1#1)
    ∧ (Cert.Pre_sample_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.1 = (fun _ => 1#1)
    ∧ (Cert.Pre_sample_finite_logits.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_sample_finite_logits [hPre_sample_finite_logits : Cert.Pre_sample_finite_logits.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_sample_finite_logits.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).1 = (fun _ => 1#1)
    ∧ (Cert.Pre_sample_finite_logits.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.1 = (fun _ => 1#1)
    ∧ (Cert.Pre_sample_finite_logits.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.1 = (fun _ => 1#1)
    ∧ (Cert.Pre_sample_finite_logits.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_sample_finite_logits [hKernel3Ideal : Cert.Kernel3Ideal.Facts] [hPre_sample_finite_logits : Cert.Pre_sample_finite_logits.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_sample_finite_logits m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_sample_finite_logits [hReference3Ideal : Cert.Reference3Ideal.Facts] [hPre_sample_finite_logits : Cert.Pre_sample_finite_logits.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_sample_finite_logits m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  IdealRules.named_const.Statement Cert.Kernel2Ideal.κ "gelu_cube" .f32 0xBDD2D3E8#32 (((-2) * ((Real.log 2)⁻¹ * ((6693141 / 8388608) * (12003091 / 268435456))) : ℝ) : EReal)
  ∧ IdealRules.named_const.Statement Cert.Kernel2Ideal.κ "gelu_scale" .f32 0xC0135761#32 (((-2) * ((Real.log 2)⁻¹ * (6693141 / 8388608)) : ℝ) : EReal)
  ∧ IdealRules.named_const.Statement Cert.Kernel2Ideal.κ "neg_log2e" .f32 0xBFB8AA3B#32 (((-1) * (Real.log 2)⁻¹ : ℝ) : EReal)
  ∧ IdealRules.named_const.Statement Cert.Kernel2Ideal.κ "q_scale" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v112) = v0 c
          ∧ r.2.mem ((c.tc : Thread Cert.Reference2Ideal.nD Cert.Reference2Ideal.τ).loc Cert.Reference2Ideal.main_v114) = v1 c
          ∧ r.2.mem ((c.tc : Thread Cert.Reference2Ideal.nD Cert.Reference2Ideal.τ).loc Cert.Reference2Ideal.main_v116) = v2 c
          ∧ r.2.mem ((c.tc : Thread Cert.Reference2Ideal.nD Cert.Reference2Ideal.τ).loc Cert.Reference2Ideal.main_v119) = v3 c
          ∧ r.2.mem ((c.tc : Thread Cert.Reference2Ideal.nD Cert.Reference2Ideal.τ).loc Cert.Reference2Ideal.main_v127) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  IdealRules.named_const.Statement Cert.Kernel3Ideal.κ "log2e" .f32 0x3FB8AA3B#32 (((Real.log 2)⁻¹ : ℝ) : EReal)
  ∧ IdealRules.named_const.Statement Cert.Kernel3Ideal.κ "mask" .f32 0xF149F2CA#32 ⊥

def algebraic_Kernel3Ideal_Reference3Ideal_pre_sample_finite_logits [hKernel3Ideal : Cert.Kernel3Ideal.Facts] [hReference3Ideal : Cert.Reference3Ideal.Facts] [hPre_sample_finite_logits : Cert.Pre_sample_finite_logits.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_sample_finite_logits m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v58)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v140) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "gelu_cube" .f32 0xBDD2D3E8#32 (((-2) * ((Real.log 2)⁻¹ * ((6693141 / 8388608) * (12003091 / 268435456))) : ℝ) : EReal)
  ∧ IdealRules.named_const.Statement Cert.Kernel4Ideal.κ "gelu_scale" .f32 0xC0135761#32 (((-2) * ((Real.log 2)⁻¹ * (6693141 / 8388608)) : ℝ) : EReal)
  ∧ IdealRules.named_const.Statement Cert.Kernel4Ideal.κ "neg_log2e" .f32 0xBFB8AA3B#32 (((-1) * (Real.log 2)⁻¹ : ℝ) : EReal)
  ∧ IdealRules.named_const.Statement Cert.Kernel4Ideal.κ "q_scale" .f32 0x3E0293EE#32 (((Real.sqrt 128)⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v21_0)) (v1 : (c : Dev Cert.Kernel4Ideal.nD) → Buf (Elt Ideal) ((c.tc : Thread Cert.Kernel4Ideal.nD Cert.Kernel4Ideal.τ).loc Cert.Kernel4Ideal.main_v21_1)) (v2 : (c : Dev Cert.Kernel4Ideal.nD) → Buf (Elt Ideal) ((c.tc : Thread Cert.Kernel4Ideal.nD Cert.Kernel4Ideal.τ).loc Cert.Kernel4Ideal.main_v21_2)) (v3 : (c : Dev Cert.Kernel4Ideal.nD) → Buf (Elt Ideal) ((c.tc : Thread Cert.Kernel4Ideal.nD Cert.Kernel4Ideal.τ).loc Cert.Kernel4Ideal.main_v21_3)) (v4 : (c : Dev Cert.Kernel4Ideal.nD) → Buf (Elt Ideal) ((c.tc : Thread Cert.Kernel4Ideal.nD Cert.Kernel4Ideal.τ).loc Cert.Kernel4Ideal.main_v21_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_0) = v0 c
          ∧ r.2.mem ((c.tc : Thread Cert.Kernel4Ideal.nD Cert.Kernel4Ideal.τ).loc Cert.Kernel4Ideal.main_v21_1) = v1 c
          ∧ r.2.mem ((c.tc : Thread Cert.Kernel4Ideal.nD Cert.Kernel4Ideal.τ).loc Cert.Kernel4Ideal.main_v21_2) = v2 c
          ∧ r.2.mem ((c.tc : Thread Cert.Kernel4Ideal.nD Cert.Kernel4Ideal.τ).loc Cert.Kernel4Ideal.main_v21_3) = v3 c
          ∧ r.2.mem ((c.tc : Thread Cert.Kernel4Ideal.nD Cert.Kernel4Ideal.τ).loc Cert.Kernel4Ideal.main_v21_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v112) = v0 c
          ∧ r.2.mem ((c.tc : Thread Cert.Reference4Ideal.nD Cert.Reference4Ideal.τ).loc Cert.Reference4Ideal.main_v114) = v1 c
          ∧ r.2.mem ((c.tc : Thread Cert.Reference4Ideal.nD Cert.Reference4Ideal.τ).loc Cert.Reference4Ideal.main_v116) = v2 c
          ∧ r.2.mem ((c.tc : Thread Cert.Reference4Ideal.nD Cert.Reference4Ideal.τ).loc Cert.Reference4Ideal.main_v119) = v3 c
          ∧ r.2.mem ((c.tc : Thread Cert.Reference4Ideal.nD Cert.Reference4Ideal.τ).loc Cert.Reference4Ideal.main_v127) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts) (hPre_sample_finite_logits : Cert.Pre_sample_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_sample_finite_logits (hKernel3Ideal := hKernel3Ideal) (hPre_sample_finite_logits := hPre_sample_finite_logits)
    ∧ quiescent_Reference3Ideal (hReference3Ideal := hReference3Ideal)
    ∧ quiescent_Reference3Ideal_pre_sample_finite_logits (hReference3Ideal := hReference3Ideal) (hPre_sample_finite_logits := hPre_sample_finite_logits)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_sample_finite_logits (hKernel3Ideal := hKernel3Ideal) (hReference3Ideal := hReference3Ideal) (hPre_sample_finite_logits := hPre_sample_finite_logits)
    ∧ preserves_Kernel4_Kernel4Ideal
    ∧ algebraic_Kernel4Ideal_Reference4Ideal (hKernel4Ideal := hKernel4Ideal) (hReference4Ideal := hReference4Ideal)
-- ==== Pre_finite_logits.lean ====
abbrev S8x4096x1024 : Shape := ⟨3, ![8, 4096, 1024]⟩
abbrev S8x4096x256 : Shape := ⟨3, ![8, 4096, 256]⟩
abbrev S32x8 : Shape := ⟨2, ![32, 8]⟩
abbrev S1x8 : Shape := ⟨2, ![1, 8]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  bcast_S_S8x4096x256 : S_.BroadcastsInDim S8x4096x256 (![] : Fin 0 → Fin S8x4096x256.rank)
  bcast_S_S32x8 : S_.BroadcastsInDim S32x8 (![] : Fin 0 → Fin S32x8.rank)
  bcast_S_S1x8 : S_.BroadcastsInDim S1x8 (![] : Fin 0 → Fin S1x8.rank)

variable [Facts]

def fn {F : FTy → Type} [FloatOps F] (main_arg0 : FVec F S8x4096x1024 .f32) (main_arg1 : FVec F S8x4096x1024 .bf16) (main_arg2 : FVec F S8x4096x1024 .bf16) (main_arg3 : FVec F S8x4096x256 .bf16) (main_arg4 : FVec F S8x4096x256 .bf16) (main_arg5 : FVec F S8x4096x1024 .bf16) (main_arg6 : FVec F S32x8 .f32) (main_arg7 : FVec F S1x8 .f32) (main_arg8 : FVec F S1x1024x1024 .f32) (main_arg9 : FVec F S1x1024 .f32) (main_arg10 : FVec F S1x1024x4096 .f32) (main_arg11 : FVec F S1x4096x1024 .f32) : IVec S8x4096x1024 1 × IVec S8x4096x256 1 × IVec S32x8 1 × IVec S1x8 1 :=
  let main_v0 : FVec F S8x4096x1024 .f32 := (extf .f32 · bitsLt_bf16_f32) main_arg2
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_v4 : FVec F S8x4096x256 .f32 := (extf .f32 · bitsLt_bf16_f32) main_arg3
  let main_v5 : FVec F S8x4096x256 .f32 := Host.absf main_v4
  let main_cst_0 : FVec F S_ .f32 := constant S_ .f32 0x7F800000#32
  let main_v6 : FVec F S8x4096x256 .f32 := broadcastInDim S8x4096x256 ![] bcast_S_S8x4096x256 main_cst_0
  let main_v7 : IVec S8x4096x256 1 := cmpf .olt main_v5 main_v6
  let main_v8 : FVec F S32x8 .f32 := Host.absf main_arg6
  let main_cst_1 : FVec F S_ .f32 := constant S_ .f32 0x7F800000#32
  let main_v9 : FVec F S32x8 .f32 := broadcastInDim S32x8 ![] bcast_S_S32x8 main_cst_1
  let main_v10 : IVec S32x8 1 := cmpf .olt main_v8 main_v9
  let main_v11 : FVec F S1x8 .f32 := Host.absf main_arg7
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  (main_v3, main_v7, main_v10, main_v13)
-- ==== Pre_sample_finite_logits.lean ====
abbrev S8x8192x1024 : Shape := ⟨3, ![8, 8192, 1024]⟩
abbrev S8x8192x256 : Shape := ⟨3, ![8, 8192, 256]⟩
abbrev S32x8 : Shape := ⟨2, ![32, 8]⟩
abbrev S1x8 : Shape := ⟨2, ![1, 8]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)
  bcast_S_S8x8192x256 : S_.BroadcastsInDim S8x8192x256 (![] : Fin 0 → Fin S8x8192x256.rank)
  bcast_S_S32x8 : S_.BroadcastsInDim S32x8 (![] : Fin 0 → Fin S32x8.rank)
  bcast_S_S1x8 : S_.BroadcastsInDim S1x8 (![] : Fin 0 → Fin S1x8.rank)

variable [Facts]

def fn {F : FTy → Type} [FloatOps F] (main_arg0 : FVec F S8x8192x1024 .f32) (main_arg1 : FVec F S8x8192x1024 .bf16) (main_arg2 : FVec F S8x8192x1024 .bf16) (main_arg3 : FVec F S8x8192x256 .bf16) (main_arg4 : FVec F S8x8192x256 .bf16) (main_arg5 : FVec F S8x8192x1024 .bf16) (main_arg6 : FVec F S32x8 .f32) (main_arg7 : FVec F S1x8 .f32) (main_arg8 : FVec F S1x1024x1024 .f32) (main_arg9 : FVec F S1x1024 .f32) (main_arg10 : FVec F S1x1024x4096 .f32) (main_arg11 : FVec F S1x4096x1024 .f32) : IVec S8x8192x1024 1 × IVec S8x8192x256 1 × IVec S32x8 1 × IVec S1x8 1 :=
  let main_v0 : FVec F S8x8192x1024 .f32 := (extf .f32 · bitsLt_bf16_f32) main_arg2
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_v4 : FVec F S8x8192x256 .f32 := (extf .f32 · bitsLt_bf16_f32) main_arg3
  let main_v5 : FVec F S8x8192x256 .f32 := Host.absf main_v4
  let main_cst_0 : FVec F S_ .f32 := constant S_ .f32 0x7F800000#32
  let main_v6 : FVec F S8x8192x256 .f32 := broadcastInDim S8x8192x256 ![] bcast_S_S8x8192x256 main_cst_0
  let main_v7 : IVec S8x8192x256 1 := cmpf .olt main_v5 main_v6
  let main_v8 : FVec F S32x8 .f32 := Host.absf main_arg6
  let main_cst_1 : FVec F S_ .f32 := constant S_ .f32 0x7F800000#32
  let main_v9 : FVec F S32x8 .f32 := broadcastInDim S32x8 ![] bcast_S_S32x8 main_cst_1
  let main_v10 : IVec S32x8 1 := cmpf .olt main_v8 main_v9
  let main_v11 : FVec F S1x8 .f32 := Host.absf main_arg7
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  (main_v3, main_v7, main_v10, main_v13)
-- ==== Kernel.lean ====
abbrev S8x4096x1024 : Shape := ⟨3, ![8, 4096, 1024]⟩
abbrev S8x4096x256 : Shape := ⟨3, ![8, 4096, 256]⟩
abbrev S32x8 : Shape := ⟨2, ![32, 8]⟩
abbrev S1x8 : Shape := ⟨2, ![1, 8]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S384 : Shape := ⟨1, ![384]⟩
abbrev S384x1 : Shape := ⟨2, ![384, 1]⟩
abbrev S128 : Shape := ⟨1, ![128]⟩
abbrev S1x128 : Shape := ⟨2, ![1, 128]⟩
abbrev S_ : Shape := ⟨0, ![]⟩
abbrev S384x128 : Shape := ⟨2, ![384, 128]⟩
abbrev S3x2x384x512 : Shape := ⟨4, ![3, 2, 384, 512]⟩
abbrev S1x1 : Shape := ⟨2, ![1, 1]⟩
abbrev S1x1x384x128 : Shape := ⟨4, ![1, 1, 384, 128]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8 : Shape := ⟨1, ![8]⟩
abbrev S32768x1024 : Shape := ⟨2, ![32768, 1024]⟩
abbrev S32768x256 : Shape := ⟨2, ![32768, 256]⟩
abbrev S256x32768 : Shape := ⟨2, ![256, 32768]⟩
abbrev S512x1024 : Shape := ⟨2, ![512, 1024]⟩
abbrev S512x256 : Shape := ⟨2, ![512, 256]⟩
abbrev S128x256 : Shape := ⟨2, ![128, 256]⟩
abbrev S256x512 : Shape := ⟨2, ![256, 512]⟩
abbrev S256x128 : Shape := ⟨2, ![256, 128]⟩
abbrev S768x256 : Shape := ⟨2, ![768, 256]⟩
abbrev S256x768 : Shape := ⟨2, ![256, 768]⟩
abbrev S128x128 : Shape := ⟨2, ![128, 128]⟩
abbrev S512x128 : Shape := ⟨2, ![512, 128]⟩
abbrev S384x512 : Shape := ⟨2, ![384, 512]⟩
abbrev S1 : Shape := ⟨1, ![1]⟩
abbrev S128x384 : Shape := ⟨2, ![128, 384]⟩
abbrev S128x512 : Shape := ⟨2, ![128, 512]⟩
abbrev S256x1024 : Shape := ⟨2, ![256, 1024]⟩
abbrev S256 : Shape := ⟨1, ![256]⟩
abbrev S256x1 : Shape := ⟨2, ![256, 1]⟩

abbrev nBuf : Space → Nat
  | .hbm => 86
  | .vmem => 32
  | .smem => 2
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x4096x256, .bf16⟩
  | .hbm, ⟨4, _⟩ => ⟨S8x4096x256, .bf16⟩
  | .hbm, ⟨5, _⟩ => ⟨S8x4096x1024, .bf16⟩
  | .hbm, ⟨6, _⟩ => ⟨S32x8, .f32⟩
  | .hbm, ⟨7, _⟩ => ⟨S1x8, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S384, .i32⟩
  | .hbm, ⟨13, _⟩ => ⟨S384x1, .i32⟩
  | .hbm, ⟨14, _⟩ => ⟨S128, .i32⟩
  | .hbm, ⟨15, _⟩ => ⟨S1x128, .i32⟩
  | .hbm, ⟨16, _⟩ => ⟨S_, .i32⟩
  | .hbm, ⟨17, _⟩ => ⟨S384x1, .i32⟩
  | .hbm, ⟨18, _⟩ => ⟨S384x1, .i32⟩
  | .hbm, ⟨19, _⟩ => ⟨S384x128, .i32⟩
  | .hbm, ⟨20, _⟩ => ⟨S384x128, .i32⟩
  | .hbm, ⟨21, _⟩ => ⟨S384x128, .i32⟩
  | .hbm, ⟨22, _⟩ => ⟨S_, .i32⟩
  | .hbm, ⟨23, _⟩ => ⟨S384x128, .i32⟩
  | .hbm, ⟨24, _⟩ => ⟨S384x128, .i1⟩
  | .hbm, ⟨25, _⟩ => ⟨S_, .i32⟩
  | .hbm, ⟨26, _⟩ => ⟨S_, .i32⟩
  | .hbm, ⟨27, _⟩ => ⟨S384x128, .i32⟩
  | .hbm, ⟨28, _⟩ => ⟨S384x128, .i32⟩
  | .hbm, ⟨29, _⟩ => ⟨S384x128, .i32⟩
  | .hbm, ⟨30, _⟩ => ⟨S384x128, .i32⟩
  | .hbm, ⟨31, _⟩ => ⟨S_, .i32⟩
  | .hbm, ⟨32, _⟩ => ⟨S384x128, .i32⟩
  | .hbm, ⟨33, _⟩ => ⟨S384x128, .i32⟩
  | .hbm, ⟨34, _⟩ => ⟨S384x128, .f32⟩
  | .hbm, ⟨35, _⟩ => ⟨S_, .f32⟩
  | .hbm, ⟨36, _⟩ => ⟨S384x128, .f32⟩
  | .hbm, ⟨37, _⟩ => ⟨S384x128, .f32⟩
  | .hbm, ⟨38, _⟩ => ⟨S384x128, .f32⟩
  | .hbm, ⟨39, _⟩ => ⟨S_, .f32⟩
  | .hbm, ⟨40, _⟩ => ⟨S384x128, .f32⟩
  | .hbm, ⟨41, _⟩ => ⟨S384x128, .f32⟩
  | .hbm, ⟨42, _⟩ => ⟨S_, .f32⟩
  | .hbm, ⟨43, _⟩ => ⟨S384x128, .f32⟩
  | .hbm, ⟨44, _⟩ => ⟨S384x128, .f32⟩
  | .hbm, ⟨45, _⟩ => ⟨S384x128, .i32⟩
  | .hbm, ⟨46, _⟩ => ⟨S_, .i32⟩
  | .hbm, ⟨47, _⟩ => ⟨S384x128, .i32⟩
  | .hbm, ⟨48, _⟩ => ⟨S384x128, .i32⟩
  | .hbm, ⟨49, _⟩ => ⟨S_, .i32⟩
  | .hbm, ⟨50, _⟩ => ⟨S384x128, .i32⟩
  | .hbm, ⟨51, _⟩ => ⟨S384x128, .i32⟩
  | .hbm, ⟨52, _⟩ => ⟨S_, .i32⟩
  | .hbm, ⟨53, _⟩ => ⟨S384x128, .i32⟩
  | .hbm, ⟨54, _⟩ => ⟨S384x128, .i1⟩
  | .hbm, ⟨55, _⟩ => ⟨S384x128, .i32⟩
  | .hbm, ⟨56, _⟩ => ⟨S384x128, .i32⟩
  | .hbm, ⟨57, _⟩ => ⟨S384x128, .i32⟩
  | .hbm, ⟨58, _⟩ => ⟨S3x2x384x512, .f32⟩
  | .hbm, ⟨59, _⟩ => ⟨S1024, .f32⟩
  | .hbm, ⟨60, _⟩ => ⟨S1x1024, .f32⟩
  | .hbm, ⟨61, _⟩ => ⟨S1024x1024, .f32⟩
  | .hbm, ⟨62, _⟩ => ⟨S1024x1024, .bf16⟩
  | .hbm, ⟨63, _⟩ => ⟨S1024x4096, .f32⟩
  | .hbm, ⟨64, _⟩ => ⟨S1024x4096, .bf16⟩
  | .hbm, ⟨65, _⟩ => ⟨S4096x1024, .f32⟩
  | .hbm, ⟨66, _⟩ => ⟨S4096x1024, .bf16⟩
  | .hbm, ⟨67, _⟩ => ⟨S8, .f32⟩
  | .hbm, ⟨68, _⟩ => ⟨S32768x1024, .f32⟩
  | .hbm, ⟨69, _⟩ => ⟨S32768x1024, .bf16⟩
  | .hbm, ⟨70, _⟩ => ⟨S32768x1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S32768x1024, .f32⟩
  | .hbm, ⟨77, _⟩ => ⟨S32768x1024, .f32⟩
  | .hbm, ⟨78, _⟩ => ⟨S32768x1024, .bf16⟩
  | .hbm, ⟨79, _⟩ => ⟨S32768x256, .bf16⟩
  | .hbm, ⟨80, _⟩ => ⟨S256x32768, .bf16⟩
  | .hbm, ⟨81, _⟩ => ⟨S32768x1024, .bf16⟩
  | .hbm, ⟨82, _⟩ => ⟨S32768x256, .bf16⟩
  | .hbm, ⟨83, _⟩ => ⟨S32768x1024, .bf16⟩
  | .hbm, ⟨84, _⟩ => ⟨S32768x1024, .f32⟩
  | .hbm, ⟨85, _⟩ => ⟨S8x4096x1024, .f32⟩
  | .local _ .vmem, ⟨0, _⟩ => ⟨S384x128, .i32⟩
  | .local _ .vmem, ⟨1, _⟩ => ⟨S3x2x384x512, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S256x512, .bf16⟩
  | .local _ .vmem, ⟨15, _⟩ => ⟨S256x512, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S512x1024, .bf16⟩
  | .local _ .vmem, ⟨21, _⟩ => ⟨S512x1024, .bf16⟩
  | .local _ .vmem, ⟨22, _⟩ => ⟨S3x2x384x512, .f32⟩
  | .local _ .vmem, ⟨23, _⟩ => ⟨S1024x1024, .bf16⟩
  | .local _ .vmem, ⟨24, _⟩ => ⟨S1x1024, .f32⟩
  | .local _ .vmem, ⟨25, _⟩ => ⟨S1024x4096, .bf16⟩
  | .local _ .vmem, ⟨26, _⟩ => ⟨S4096x1024, .bf16⟩
  | .local _ .vmem, ⟨27, _⟩ => ⟨S512x1024, .f32⟩
  | .local _ .vmem, ⟨28, _⟩ => ⟨S512x1024, .f32⟩
  | .local _ .vmem, ⟨29, _⟩ => ⟨S768x256, .bf16⟩
  | .local _ .vmem, ⟨30, _⟩ => ⟨S256x768, .bf16⟩
  | .local _ .vmem, ⟨31, _⟩ => ⟨S512x1024, .bf16⟩
  | .local _ .smem, ⟨0, _⟩ => ⟨S32x8, .f32⟩
  | .local _ .smem, ⟨1, _⟩ => ⟨S8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg2_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg16_0 : Ref sig .tc := ⟨.vmem, 27, rfl⟩
abbrev cc1_stg16_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_stg1_0 : Ref sig .tc := ⟨.smem, 0, rfl⟩
abbrev cc1_stg11_0 : Ref sig .tc := ⟨.smem, 1, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem16_0 : DmaSem sig := 29
abbrev cc1_sem16_1 : DmaSem sig := 30

abbrev nD : Nat := 1
abbrev τ : Topo := Topo.v7x

variable {F : FTy → Type} [FloatOps F]

abbrev grid0 : Pipeline.Grid := .none

abbrev stage0_0 : Fin 1 → Memref sig .tc .vmem S384x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2x384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![64], ![false]⟩

def k1_off1 (i : grid1.Coords) (c0_i32_24 : BitVec 32) (c0_i32_25 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v89 : Index := Scalar.indexCast v41
  let c0_68 : Index := 0#32
  let c0_69 : Index := 0#32
  let c0_70 : Index := 0#32
  ![v89.toNat, 0, 0, 0]
def k1_off1_at (r : Fin 2) : BitVec 32 × BitVec 32 :=
  if r.val < 1 then
    (0#32, 0#32)
  else
    (7#32, 2#32)
def k1_off2 (i : grid1.Coords) (c0_i32_35 : BitVec 32) (c0_i32_36 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v112 : Index := Scalar.indexCast v54
  let c1 : Index := 1#32
  let c0_76 : Index := 0#32
  let c0_77 : Index := 0#32
  ![v112.toNat, 1, 0, 0]
def k1_off2_at (r : Fin 2) : BitVec 32 × BitVec 32 :=
  if r.val < 1 then
    (0#32, 0#32)
  else
    (7#32, 2#32)
def k1_off3 (i : grid1.Coords) (c0_i32_24 : BitVec 32) (c0_i32_25 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v179 : Index := Scalar.indexCast v41
  let c0_100 : Index := 0#32
  let c0_101 : Index := 0#32
  let c128_102 : Index := 128#32
  ![v179.toNat, 0, 0, 128]
def k1_off3_at (r : Fin 2) : BitVec 32 × BitVec 32 :=
  if r.val < 1 then
    (0#32, 0#32)
  else
    (7#32, 2#32)
def k1_off4 (i : grid1.Coords) (c0_i32_35 : BitVec 32) (c0_i32_36 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v202 : Index := Scalar.indexCast v54
  let c1_108 : Index := 1#32
  let c0_109 : Index := 0#32
  let c128_110 : Index := 128#32
  ![v202.toNat, 1, 0, 128]
def k1_off4_at (r : Fin 2) : BitVec 32 × BitVec 32 :=
  if r.val < 1 then
    (0#32, 0#32)
  else
    (7#32, 2#32)
def k1_off5 (i : grid1.Coords) (c0_i32_24 : BitVec 32) (c0_i32_25 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v269 : Index := Scalar.indexCast v41
  let c0_133 : Index := 0#32
  let c0_134 : Index := 0#32
  let c256_135 : Index := 256#32
  ![v269.toNat, 0, 0, 256]
def k1_off5_at (r : Fin 2) : BitVec 32 × BitVec 32 :=
  if r.val < 1 then
    (0#32, 0#32)
  else
    (7#32, 2#32)
def k1_off6 (i : grid1.Coords) (c0_i32_35 : BitVec 32) (c0_i32_36 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v292 : Index := Scalar.indexCast v54
  let c1_140 : Index := 1#32
  let c0_141 : Index := 0#32
  let c256_142 : Index := 256#32
  ![v292.toNat, 1, 0, 256]
def k1_off6_at (r : Fin 2) : BitVec 32 × BitVec 32 :=
  if r.val < 1 then
    (0#32, 0#32)
  else
    (7#32, 2#32)
def k1_off7 (i : grid1.Coords) (c0_i32_24 : BitVec 32) (c0_i32_25 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v359 : Index := Scalar.indexCast v41
  let c0_165 : Index := 0#32
  let c0_166 : Index := 0#32
  let c384_167 : Index := 384#32
  ![v359.toNat, 0, 0, 384]
def k1_off7_at (r : Fin 2) : BitVec 32 × BitVec 32 :=
  if r.val < 1 then
    (0#32, 0#32)
  else
    (7#32, 2#32)
def k1_off8 (i : grid1.Coords) (c0_i32_35 : BitVec 32) (c0_i32_36 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v382 : Index := Scalar.indexCast v54
  let c1_172 : Index := 1#32
  let c0_173 : Index := 0#32
  let c384_174 : Index := 384#32
  ![v382.toNat, 1, 0, 384]
def k1_off8_at (r : Fin 2) : BitVec 32 × BitVec 32 :=
  if r.val < 1 then
    (0#32, 0#32)
  else
    (7#32, 2#32)
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_5 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc1_transform_8 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![c0_i32.toNat, v2.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S3x2x384x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .smem S8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x4096 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S4096x1024 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S512x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== KernelIdeal.lean ====
abbrev S8x4096x1024 : Shape := ⟨3, ![8, 4096, 1024]⟩
abbrev S8x4096x256 : Shape := ⟨3, ![8, 4096, 256]⟩
abbrev S32x8 : Shape := ⟨2, ![32, 8]⟩
abbrev S1x8 : Shape := ⟨2, ![1, 8]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S384 : Shape := ⟨1, ![384]⟩
abbrev S384x1 : Shape := ⟨2, ![384, 1]⟩
abbrev S128 : Shape := ⟨1, ![128]⟩
abbrev S1x128 : Shape := ⟨2, ![1, 128]⟩
abbrev S_ : Shape := ⟨0, ![]⟩
abbrev S384x128 : Shape := ⟨2, ![384, 128]⟩
abbrev S3x2x384x512 : Shape := ⟨4, ![3, 2, 384, 512]⟩
abbrev S1x1 : Shape := ⟨2, ![1, 1]⟩
abbrev S1x1x384x128 : Shape := ⟨4, ![1, 1, 384, 128]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8 : Shape := ⟨1, ![8]⟩
abbrev S32768x1024 : Shape := ⟨2, ![32768, 1024]⟩
abbrev S32768x256 : Shape := ⟨2, ![32768, 256]⟩
abbrev S256x32768 : Shape := ⟨2, ![256, 32768]⟩
abbrev S512x1024 : Shape := ⟨2, ![512, 1024]⟩
abbrev S512x256 : Shape := ⟨2, ![512, 256]⟩
abbrev S128x256 : Shape := ⟨2, ![128, 256]⟩
abbrev S256x512 : Shape := ⟨2, ![256, 512]⟩
abbrev S256x128 : Shape := ⟨2, ![256, 128]⟩
abbrev S768x256 : Shape := ⟨2, ![768, 256]⟩
abbrev S256x768 : Shape := ⟨2, ![256, 768]⟩
abbrev S128x128 : Shape := ⟨2, ![128, 128]⟩
abbrev S512x128 : Shape := ⟨2, ![512, 128]⟩
abbrev S384x512 : Shape := ⟨2, ![384, 512]⟩
abbrev S1 : Shape := ⟨1, ![1]⟩
abbrev S128x384 : Shape := ⟨2, ![128, 384]⟩
abbrev S128x512 : Shape := ⟨2, ![128, 512]⟩
abbrev S256x1024 : Shape := ⟨2, ![256, 1024]⟩
abbrev S256 : Shape := ⟨1, ![256]⟩
abbrev S256x1 : Shape := ⟨2, ![256, 1]⟩

abbrev nBuf : Space → Nat
  | .hbm => 86
  | .vmem => 32
  | .smem => 2
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S8x4096x256, .bf16⟩
  | .hbm, ⟨4, _⟩ => ⟨S8x4096x256, .bf16⟩
  | .hbm, ⟨5, _⟩ => ⟨S8x4096x1024, .bf16⟩
  | .hbm, ⟨6, _⟩ => ⟨S32x8, .f32⟩
  | .hbm, ⟨7, _⟩ => ⟨S1x8, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S384, .i32⟩
  | .hbm, ⟨13, _⟩ => ⟨S384x1, .i32⟩
  | .hbm, ⟨14, _⟩ => ⟨S128, .i32⟩
  | .hbm, ⟨15, _⟩ => ⟨S1x128, .i32⟩
  | .hbm, ⟨16, _⟩ => ⟨S_, .i32⟩
  | .hbm, ⟨17, _⟩ => ⟨S384x1, .i32⟩
  | .hbm, ⟨18, _⟩ => ⟨S384x1, .i32⟩
  | .hbm, ⟨19, _⟩ => ⟨S384x128, .i32⟩
  | .hbm, ⟨20, _⟩ => ⟨S384x128, .i32⟩
  | .hbm, ⟨21, _⟩ => ⟨S384x128, .i32⟩
  | .hbm, ⟨22, _⟩ => ⟨S_, .i32⟩
  | .hbm, ⟨23, _⟩ => ⟨S384x128, .i32⟩
  | .hbm, ⟨24, _⟩ => ⟨S384x128, .i1⟩
  | .hbm, ⟨25, _⟩ => ⟨S_, .i32⟩
  | .hbm, ⟨26, _⟩ => ⟨S_, .i32⟩
  | .hbm, ⟨27, _⟩ => ⟨S384x128, .i32⟩
  | .hbm, ⟨28, _⟩ => ⟨S384x128, .i32⟩
  | .hbm, ⟨29, _⟩ => ⟨S384x128, .i32⟩
  | .hbm, ⟨30, _⟩ => ⟨S384x128, .i32⟩
  | .hbm, ⟨31, _⟩ => ⟨S_, .i32⟩
  | .hbm, ⟨32, _⟩ => ⟨S384x128, .i32⟩
  | .hbm, ⟨33, _⟩ => ⟨S384x128, .i32⟩
  | .hbm, ⟨34, _⟩ => ⟨S384x128, .f32⟩
  | .hbm, ⟨35, _⟩ => ⟨S_, .f32⟩
  | .hbm, ⟨36, _⟩ => ⟨S384x128, .f32⟩
  | .hbm, ⟨37, _⟩ => ⟨S384x128, .f32⟩
  | .hbm, ⟨38, _⟩ => ⟨S384x128, .f32⟩
  | .hbm, ⟨39, _⟩ => ⟨S_, .f32⟩
  | .hbm, ⟨40, _⟩ => ⟨S384x128, .f32⟩
  | .hbm, ⟨41, _⟩ => ⟨S384x128, .f32⟩
  | .hbm, ⟨42, _⟩ => ⟨S_, .f32⟩
  | .hbm, ⟨43, _⟩ => ⟨S384x128, .f32⟩
  | .hbm, ⟨44, _⟩ => ⟨S384x128, .f32⟩
  | .hbm, ⟨45, _⟩ => ⟨S384x128, .i32⟩
  | .hbm, ⟨46, _⟩ => ⟨S_, .i32⟩
  | .hbm, ⟨47, _⟩ => ⟨S384x128, .i32⟩
  | .hbm, ⟨48, _⟩ => ⟨S384x128, .i32⟩
  | .hbm, ⟨49, _⟩ => ⟨S_, .i32⟩
  | .hbm, ⟨50, _⟩ => ⟨S384x128, .i32⟩
  | .hbm, ⟨51, _⟩ => ⟨S384x128, .i32⟩
  | .hbm, ⟨52, _⟩ => ⟨S_, .i32⟩
  | .hbm, ⟨53, _⟩ => ⟨S384x128, .i32⟩
  | .hbm, ⟨54, _⟩ => ⟨S384x128, .i1⟩
  | .hbm, ⟨55, _⟩ => ⟨S384x128, .i32⟩
  | .hbm, ⟨56, _⟩ => ⟨S384x128, .i32⟩
  | .hbm, ⟨57, _⟩ => ⟨S384x128, .i32⟩
  | .hbm, ⟨58, _⟩ => ⟨S3x2x384x512, .f32⟩
  | .hbm, ⟨59, _⟩ => ⟨S1024, .f32⟩
  | .hbm, ⟨60, _⟩ => ⟨S1x1024, .f32⟩
  | .hbm, ⟨61, _⟩ => ⟨S1024x1024, .f32⟩
  | .hbm, ⟨62, _⟩ => ⟨S1024x1024, .bf16⟩
  | .hbm, ⟨63, _⟩ => ⟨S1024x4096, .f32⟩
  | .hbm, ⟨64, _⟩ => ⟨S1024x4096, .bf16⟩
  | .hbm, ⟨65, _⟩ => ⟨S4096x1024, .f32⟩
  | .hbm, ⟨66, _⟩ => ⟨S4096x1024, .bf16⟩
  | .hbm, ⟨67, _⟩ => ⟨S8, .f32⟩
  | .hbm, ⟨68, _⟩ => ⟨S32768x1024, .f32⟩
  | .hbm, ⟨69, _⟩ => ⟨S32768x1024, .bf16⟩
  | .hbm, ⟨70, _⟩ => ⟨S32768x1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S32768x1024, .f32⟩
  | .hbm, ⟨77, _⟩ => ⟨S32768x1024, .f32⟩
  | .hbm, ⟨78, _⟩ => ⟨S32768x1024, .bf16⟩
  | .hbm, ⟨79, _⟩ => ⟨S32768x256, .bf16⟩
  | .hbm, ⟨80, _⟩ => ⟨S256x32768, .bf16⟩
  | .hbm, ⟨81, _⟩ => ⟨S32768x1024, .bf16⟩
  | .hbm, ⟨82, _⟩ => ⟨S32768x256, .bf16⟩
  | .hbm, ⟨83, _⟩ => ⟨S32768x1024, .bf16⟩
  | .hbm, ⟨84, _⟩ => ⟨S32768x1024, .f32⟩
  | .hbm, ⟨85, _⟩ => ⟨S8x4096x1024, .f32⟩
  | .local _ .vmem, ⟨0, _⟩ => ⟨S384x128, .i32⟩
  | .local _ .vmem, ⟨1, _⟩ => ⟨S3x2x384x512, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S256x512, .bf16⟩
  | .local _ .vmem, ⟨15, _⟩ => ⟨S256x512, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S512x1024, .bf16⟩
  | .local _ .vmem, ⟨21, _⟩ => ⟨S512x1024, .bf16⟩
  | .local _ .vmem, ⟨22, _⟩ => ⟨S3x2x384x512, .f32⟩
  | .local _ .vmem, ⟨23, _⟩ => ⟨S1024x1024, .bf16⟩
  | .local _ .vmem, ⟨24, _⟩ => ⟨S1x1024, .f32⟩
  | .local _ .vmem, ⟨25, _⟩ => ⟨S1024x4096, .bf16⟩
  | .local _ .vmem, ⟨26, _⟩ => ⟨S4096x1024, .bf16⟩
  | .local _ .vmem, ⟨27, _⟩ => ⟨S512x1024, .f32⟩
  | .local _ .vmem, ⟨28, _⟩ => ⟨S512x1024, .f32⟩
  | .local _ .vmem, ⟨29, _⟩ => ⟨S768x256, .bf16⟩
  | .local _ .vmem, ⟨30, _⟩ => ⟨S256x768, .bf16⟩
  | .local _ .vmem, ⟨31, _⟩ => ⟨S512x1024, .bf16⟩
  | .local _ .smem, ⟨0, _⟩ => ⟨S32x8, .f32⟩
  | .local _ .smem, ⟨1, _⟩ => ⟨S8, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg2_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg16_0 : Ref sig .tc := ⟨.vmem, 27, rfl⟩
abbrev cc1_stg16_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_stg1_0 : Ref sig .tc := ⟨.smem, 0, rfl⟩
abbrev cc1_stg11_0 : Ref sig .tc := ⟨.smem, 1, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem16_0 : DmaSem sig := 29
abbrev cc1_sem16_1 : DmaSem sig := 30

abbrev nD : Nat := 1
abbrev τ : Topo := Topo.v7x

variable {F : FTy → Type} [FloatOps F] [Named F]

def κ : String → Option EReal := fun
  | "log2e" => some (((Real.log 2)⁻¹ : ℝ) : EReal)
  | "mask" => some ⊥
  | _ => none

abbrev grid0 : Pipeline.Grid := .none

abbrev stage0_0 : Fin 1 → Memref sig .tc .vmem S384x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2x384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![64], ![false]⟩

def k1_off1 (i : grid1.Coords) (c0_i32_24 : BitVec 32) (c0_i32_25 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v89 : Index := Scalar.indexCast v41
  let c0_68 : Index := 0#32
  let c0_69 : Index := 0#32
  let c0_70 : Index := 0#32
  ![v89.toNat, 0, 0, 0]
def k1_off1_at (r : Fin 2) : BitVec 32 × BitVec 32 :=
  if r.val < 1 then
    (0#32, 0#32)
  else
    (7#32, 2#32)
def k1_off2 (i : grid1.Coords) (c0_i32_35 : BitVec 32) (c0_i32_36 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v112 : Index := Scalar.indexCast v54
  let c1 : Index := 1#32
  let c0_76 : Index := 0#32
  let c0_77 : Index := 0#32
  ![v112.toNat, 1, 0, 0]
def k1_off2_at (r : Fin 2) : BitVec 32 × BitVec 32 :=
  if r.val < 1 then
    (0#32, 0#32)
  else
    (7#32, 2#32)
def k1_off3 (i : grid1.Coords) (c0_i32_24 : BitVec 32) (c0_i32_25 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v179 : Index := Scalar.indexCast v41
  let c0_100 : Index := 0#32
  let c0_101 : Index := 0#32
  let c128_102 : Index := 128#32
  ![v179.toNat, 0, 0, 128]
def k1_off3_at (r : Fin 2) : BitVec 32 × BitVec 32 :=
  if r.val < 1 then
    (0#32, 0#32)
  else
    (7#32, 2#32)
def k1_off4 (i : grid1.Coords) (c0_i32_35 : BitVec 32) (c0_i32_36 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v202 : Index := Scalar.indexCast v54
  let c1_108 : Index := 1#32
  let c0_109 : Index := 0#32
  let c128_110 : Index := 128#32
  ![v202.toNat, 1, 0, 128]
def k1_off4_at (r : Fin 2) : BitVec 32 × BitVec 32 :=
  if r.val < 1 then
    (0#32, 0#32)
  else
    (7#32, 2#32)
def k1_off5 (i : grid1.Coords) (c0_i32_24 : BitVec 32) (c0_i32_25 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v269 : Index := Scalar.indexCast v41
  let c0_133 : Index := 0#32
  let c0_134 : Index := 0#32
  let c256_135 : Index := 256#32
  ![v269.toNat, 0, 0, 256]
def k1_off5_at (r : Fin 2) : BitVec 32 × BitVec 32 :=
  if r.val < 1 then
    (0#32, 0#32)
  else
    (7#32, 2#32)
def k1_off6 (i : grid1.Coords) (c0_i32_35 : BitVec 32) (c0_i32_36 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v292 : Index := Scalar.indexCast v54
  let c1_140 : Index := 1#32
  let c0_141 : Index := 0#32
  let c256_142 : Index := 256#32
  ![v292.toNat, 1, 0, 256]
def k1_off6_at (r : Fin 2) : BitVec 32 × BitVec 32 :=
  if r.val < 1 then
    (0#32, 0#32)
  else
    (7#32, 2#32)
def k1_off7 (i : grid1.Coords) (c0_i32_24 : BitVec 32) (c0_i32_25 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v359 : Index := Scalar.indexCast v41
  let c0_165 : Index := 0#32
  let c0_166 : Index := 0#32
  let c384_167 : Index := 384#32
  ![v359.toNat, 0, 0, 384]
def k1_off7_at (r : Fin 2) : BitVec 32 × BitVec 32 :=
  if r.val < 1 then
    (0#32, 0#32)
  else
    (7#32, 2#32)
def k1_off8 (i : grid1.Coords) (c0_i32_35 : BitVec 32) (c0_i32_36 : BitVec 32) : Fin 4 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v382 : Index := Scalar.indexCast v54
  let c1_172 : Index := 1#32
  let c0_173 : Index := 0#32
  let c384_174 : Index := 384#32
  ![v382.toNat, 1, 0, 384]
def k1_off8_at (r : Fin 2) : BitVec 32 × BitVec 32 :=
  if r.val < 1 then
    (0#32, 0#32)
  else
    (7#32, 2#32)
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_5 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc1_transform_8 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![c0_i32.toNat, v2.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S3x2x384x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .smem S8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x4096 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S4096x1024 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S512x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== ReferenceIdeal.lean ====
abbrev S8x4096x1024 : Shape := ⟨3, ![8, 4096, 1024]⟩
abbrev S8x4096x256 : Shape := ⟨3, ![8, 4096, 256]⟩
abbrev S32x8 : Shape := ⟨2, ![32, 8]⟩
abbrev S1x8 : Shape := ⟨2, ![1, 8]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S8 : Shape := ⟨1, ![8]⟩
abbrev S8x4096x2x128 : Shape := ⟨4, ![8, 4096, 2, 128]⟩
abbrev S8x32x128x2x4x128 : Shape := ⟨6, ![8, 32, 128, 2, 4, 128]⟩
abbrev S_ : Shape := ⟨0, ![]⟩
abbrev S8x4352x2x128 : Shape := ⟨4, ![8, 4352, 2, 128]⟩
abbrev S8x34x128x2x128 : Shape := ⟨5, ![8, 34, 128, 2, 128]⟩
abbrev S8x32x128x2x128 : Shape := ⟨5, ![8, 32, 128, 2, 128]⟩
abbrev S8x32x384x2x128 : Shape := ⟨5, ![8, 32, 384, 2, 128]⟩
abbrev S8x32x2x384x128x4 : Shape := ⟨6, ![8, 32, 2, 384, 128, 4]⟩
abbrev S8x32x2x4x128x384 : Shape := ⟨6, ![8, 32, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S1x32x1x1x128x384 : Shape := ⟨6, ![1, 32, 1, 1, 128, 384]⟩
abbrev S1x1x2x4x128x384 : Shape := ⟨6, ![1, 1, 2, 4, 128, 384]⟩
abbrev S2x4 : Shape := ⟨2, ![2, 4]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x128x4x128 : Shape := ⟨6, ![8, 32, 2, 128, 4, 128]⟩
abbrev S1024x1024 : Shape := ⟨2, ![1024, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S4096x1024 : Shape := ⟨2, ![4096, 1024]⟩

abbrev nBuf : Space → Nat
  | .hbm => 189
  | .vmem => 0
  | .smem => 0
  | _ => 0

abbrev hbmTy0_0 (i : Nat) : BufTy := match i % 128 with
  | 0 => ⟨S8x4096x1024, .f32⟩
  | 1 => ⟨S8x4096x1024, .bf16⟩
  | 2 => ⟨S8x4096x1024, .bf16⟩
  | 3 => ⟨S8x4096x256, .bf16⟩
  | 4 => ⟨S8x4096x256, .bf16⟩
  | 5 => ⟨S8x4096x1024, .bf16⟩
  | 6 => ⟨S32x8, .f32⟩
  | 7 => ⟨S1x8, .f32⟩
  | 8 => ⟨S1x1024x1024, .f32⟩
  | 9 => ⟨S1x1024, .f32⟩
  | 10 => ⟨S1x1024x4096, .f32⟩
  | 11 => ⟨S1x4096x1024, .f32⟩
  | 12 => ⟨S8x4096x1024, .f32⟩
  | 13 => ⟨S8x4096x256, .f32⟩
  | 14 => ⟨S8x4096x256, .f32⟩
  | 15 => ⟨S8, .f32⟩
  | 16 => ⟨S8x4096x2x128, .f32⟩
  | 17 => ⟨S8x4096x2x128, .f32⟩
  | 18 => ⟨S8x32x128x2x4x128, .f32⟩
  | 19 => ⟨S_, .i32⟩
  | 20 => ⟨S_, .f32⟩
  | 21 => ⟨S8x4352x2x128, .f32⟩
  | 22 => ⟨S8x34x128x2x128, .f32⟩
  | 23 => ⟨S8x32x128x2x128, .f32⟩
  | 24 => ⟨S8x32x128x2x128, .f32⟩
  | 25 => ⟨S8x32x128x2x128, .f32⟩
  | 26 => ⟨S8x32x384x2x128, .f32⟩
  | 27 => ⟨S_, .i32⟩
  | 28 => ⟨S_, .f32⟩
  | 29 => ⟨S8x4352x2x128, .f32⟩
  | 30 => ⟨S8x34x128x2x128, .f32⟩
  | 31 => ⟨S8x32x128x2x128, .f32⟩
  | 32 => ⟨S8x32x128x2x128, .f32⟩
  | 33 => ⟨S8x32x128x2x128, .f32⟩
  | 34 => ⟨S8x32x384x2x128, .f32⟩
  | 35 => ⟨S8x32x2x384x128x4, .f32⟩
  | 36 => ⟨S8x32x2x4x128x384, .f32⟩
  | 37 => ⟨S_, .f32⟩
  | 38 => ⟨S_, .f32⟩
  | 39 => ⟨S8x32x2x4x128x384, .f32⟩
  | 40 => ⟨S8x32x2x4x128x384, .f32⟩
  | 41 => ⟨S128, .i32⟩
  | 42 => ⟨S128x1, .i32⟩
  | 43 => ⟨S384, .i32⟩
  | 44 => ⟨S1x384, .i32⟩
  | 45 => ⟨S_, .i32⟩
  | 46 => ⟨S1x384, .i32⟩
  | 47 => ⟨S1x384, .i32⟩
  | 48 => ⟨S128x384, .i32⟩
  | 49 => ⟨S128x384, .i32⟩
  | 50 => ⟨S128x384, .i32⟩
  | 51 => ⟨S_, .i32⟩
  | 52 => ⟨S128x384, .i32⟩
  | 53 => ⟨S128x384, .i1⟩
  | 54 => ⟨S_, .i32⟩
  | 55 => ⟨S_, .i32⟩
  | 56 => ⟨S128x384, .i32⟩
  | 57 => ⟨S128x384, .i32⟩
  | 58 => ⟨S128x384, .i32⟩
  | 59 => ⟨S128x384, .i32⟩
  | 60 => ⟨S_, .i32⟩
  | 61 => ⟨S128x384, .i32⟩
  | 62 => ⟨S128x384, .i32⟩
  | 63 => ⟨S128x384, .f32⟩
  | 64 => ⟨S_, .f32⟩
  | 65 => ⟨S128x384, .f32⟩
  | 66 => ⟨S128x384, .f32⟩
  | 67 => ⟨S128x384, .f32⟩
  | 68 => ⟨S_, .f32⟩
  | 69 => ⟨S128x384, .f32⟩
  | 70 => ⟨S128x384, .f32⟩
  | 71 => ⟨S_, .f32⟩
  | 72 => ⟨S128x384, .f32⟩
  | 73 => ⟨S128x384, .f32⟩
  | 74 => ⟨S128x384, .i32⟩
  | 75 => ⟨S_, .i32⟩
  | 76 => ⟨S128x384, .i32⟩
  | 77 => ⟨S128x384, .i32⟩
  | 78 => ⟨S_, .i32⟩
  | 79 => ⟨S128x384, .i32⟩
  | 80 => ⟨S128x384, .i32⟩
  | 81 => ⟨S_, .i32⟩
  | 82 => ⟨S128x384, .i32⟩
  | 83 => ⟨S128x384, .i1⟩
  | 84 => ⟨S128x384, .i32⟩
  | 85 => ⟨S128x384, .i32⟩
  | 86 => ⟨S128x384, .i32⟩
  | 87 => ⟨S_, .i32⟩
  | 88 => ⟨S128x384, .i32⟩
  | 89 => ⟨S128x384, .i1⟩
  | 90 => ⟨S_, .i32⟩
  | 91 => ⟨S128x384, .i32⟩
  | 92 => ⟨S128x384, .i32⟩
  | 93 => ⟨S128x384, .i32⟩
  | 94 => ⟨S128x384x1, .i32⟩
  | 95 => ⟨S128x384x8, .f32⟩
  | 96 => ⟨S8x128x384, .f32⟩
  | 97 => ⟨S2x4x128x384, .f32⟩
  | 98 => ⟨S128x384, .i32⟩
  | 99 => ⟨S_, .i32⟩
  | 100 => ⟨S128x384, .i32⟩
  | 101 => ⟨S128x384, .i1⟩
  | 102 => ⟨S32, .i32⟩
  | 103 => ⟨S32x1, .i32⟩
  | 104 => ⟨S_, .i32⟩
  | 105 => ⟨S32x1, .i32⟩
  | 106 => ⟨S32x1, .i32⟩
  | 107 => ⟨S_, .i32⟩
  | 108 => ⟨S32x1, .i32⟩
  | 109 => ⟨S32x1, .i32⟩
  | 110 => ⟨S32x384, .i32⟩
  | 111 => ⟨S32x384, .i32⟩
  | 112 => ⟨S32x384, .i32⟩
  | 113 => ⟨S_, .i32⟩
  | 114 => ⟨S32x384, .i32⟩
  | 115 => ⟨S32x384, .i1⟩
  | 116 => ⟨S_, .i32⟩
  | 117 => ⟨S32x384, .i32⟩
  | 118 => ⟨S32x384, .i1⟩
  | 119 => ⟨S32x384, .i1⟩
  | 120 => ⟨S1x128x384, .i1⟩
  | 121 => ⟨S32x1x384, .i1⟩
  | 122 => ⟨S32x128x384, .i1⟩
  | 123 => ⟨S32x128x384, .i1⟩
  | 124 => ⟨S32x128x384, .i1⟩
  | 125 => ⟨S1x32x1x1x128x384, .i1⟩
  | 126 => ⟨S1x1x2x4x128x384, .f32⟩
  | 127 => ⟨S8x32x2x4x128x384, .f32⟩
  | _ => ⟨S8x4096x1024, .f32⟩

abbrev hbmTy0_1 (i : Nat) : BufTy := match i % 128 with
  | 0 => ⟨S8x32x2x4x128x384, .f32⟩
  | 1 => ⟨S_, .f32⟩
  | 2 => ⟨S_, .f32⟩
  | 3 => ⟨S8x32x2x4x128x384, .i1⟩
  | 4 => ⟨S8x32x2x4x128x384, .f32⟩
  | 5 => ⟨S8x32x2x4x128x384, .f32⟩
  | 6 => ⟨S2x4, .f32⟩
  | 7 => ⟨S1x1x2x4x1x1, .f32⟩
  | 8 => ⟨S_, .f32⟩
  | 9 => ⟨S8x32x2x4x128, .f32⟩
  | 10 => ⟨S8x32x2x4x128x1, .f32⟩
  | 11 => ⟨S8x32x2x4x128x1, .f32⟩
  | 12 => ⟨S8x32x2x4x128x1, .f32⟩
  | 13 => ⟨S8x32x2x4x128x384, .f32⟩
  | 14 => ⟨S8x32x2x4x128x384, .f32⟩
  | 15 => ⟨S8x32x2x4x128x384, .f32⟩
  | 16 => ⟨S_, .f32⟩
  | 17 => ⟨S8x32x2x4x128, .f32⟩
  | 18 => ⟨S8x32x2x4x128x1, .f32⟩
  | 19 => ⟨S8x32x2x4x128x1, .f32⟩
  | 20 => ⟨S8x32x2x4x128x1, .f32⟩
  | 21 => ⟨S8x32x2x4x128x1, .f32⟩
  | 22 => ⟨S8x32x2x4x128x1, .f32⟩
  | 23 => ⟨S8x32x2x4x128x384, .f32⟩
  | 24 => ⟨S8x32x2x4x128x384, .f32⟩
  | 25 => ⟨S8x32x2x128x4x128, .f32⟩
  | 26 => ⟨S8x32x128x2x4x128, .f32⟩
  | 27 => ⟨S8x4096x1024, .f32⟩
  | 28 => ⟨S8x4096x1024, .f32⟩
  | 29 => ⟨S8x4096x1024, .f32⟩
  | 30 => ⟨S8x4096x1024, .f32⟩
  | 31 => ⟨S8x4096x1024, .f32⟩
  | 32 => ⟨S1024x1024, .f32⟩
  | 33 => ⟨S8x4096x1024, .f32⟩
  | 34 => ⟨S8x4096x1024, .f32⟩
  | 35 => ⟨S1024, .f32⟩
  | 36 => ⟨S8x4096x1024, .f32⟩
  | 37 => ⟨S_, .f32⟩
  | 38 => ⟨S8x4096, .f32⟩
  | 39 => ⟨S8x4096x1, .f32⟩
  | 40 => ⟨S_, .f32⟩
  | 41 => ⟨S8x4096x1, .f32⟩
  | 42 => ⟨S8x4096x1, .f32⟩
  | 43 => ⟨S_, .f32⟩
  | 44 => ⟨S8x4096x1, .f32⟩
  | 45 => ⟨S8x4096x1, .f32⟩
  | 46 => ⟨S8x4096x1, .f32⟩
  | 47 => ⟨S8x4096x1024, .f32⟩
  | 48 => ⟨S8x4096x1024, .f32⟩
  | 49 => ⟨S1x1x1024, .f32⟩
  | 50 => ⟨S8x4096x1024, .f32⟩
  | 51 => ⟨S8x4096x1024, .f32⟩
  | 52 => ⟨S1024x4096, .f32⟩
  | 53 => ⟨S8x4096x4096, .f32⟩
  | 54 => ⟨S_, .f32⟩
  | 55 => ⟨S8x4096x4096, .f32⟩
  | 56 => ⟨S8x4096x4096, .f32⟩
  | 57 => ⟨S8x4096x4096, .f32⟩
  | 58 => ⟨S4096x1024, .f32⟩
  | 59 => ⟨S8x4096x1024, .f32⟩
  | 60 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_c_3 : Ref sig .tc := ⟨.hbm, 54, rfl⟩
abbrev main_c_4 : Ref sig .tc := ⟨.hbm, 55, rfl⟩
abbrev main_call2_v0 : Ref sig .tc := ⟨.hbm, 56, rfl⟩
abbrev main_call2_v1 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_17 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_21 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_22 : Ref sig .tc := ⟨.hbm, 165, rfl⟩
abbrev main_v122 : Ref sig .tc := ⟨.hbm, 166, rfl⟩
abbrev main_v123 : Ref sig .tc := ⟨.hbm, 167, rfl⟩
abbrev main_cst_23 : Ref sig .tc := ⟨.hbm, 168, rfl⟩
abbrev main_v124 : Ref sig .tc := ⟨.hbm, 169, rfl⟩
abbrev main_v125 : Ref sig .tc := ⟨.hbm, 170, rfl⟩
abbrev main_cst_24 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_call5_cst : Ref sig .tc := ⟨.hbm, 182, rfl⟩
abbrev main_call5_v0 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩

abbrev nD : Nat := 1
abbrev τ : Topo := Topo.v7x

variable {F : FTy → Type} [FloatOps F]
-- ==== Kernel2.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x8x128x128 : Shape := ⟨4, ![1, 8, 128, 128]⟩
abbrev S1x8x128 : Shape := ⟨3, ![1, 8, 128]⟩
abbrev S1x128 : Shape := ⟨2, ![1, 128]⟩
abbrev S1024 : Shape := ⟨1, ![1024]⟩
abbrev S128 : Shape := ⟨1, ![128]⟩
abbrev S_ : Shape := ⟨0, ![]⟩
abbrev S1024x5632 : Shape := ⟨2, ![1024, 5632]⟩
abbrev S8x128x128 : Shape := ⟨3, ![8, 128, 128]⟩
abbrev S8x128 : Shape := ⟨2, ![8, 128]⟩
abbrev S8x128x1 : Shape := ⟨3, ![8, 128, 1]⟩
abbrev S32768x1024 : Shape := ⟨2, ![32768, 1024]⟩
abbrev S32768x256 : Shape := ⟨2, ![32768, 256]⟩
abbrev S256x32768 : Shape := ⟨2, ![256, 32768]⟩
abbrev S1024x1024 : Shape := ⟨2, ![1024, 1024]⟩
abbrev S1x1024x256 : Shape := ⟨3, ![1, 1024, 256]⟩
abbrev S1024x256 : Shape := ⟨2, ![1024, 256]⟩
abbrev S256x1024 : Shape := ⟨2, ![256, 1024]⟩
abbrev S1024x1 : Shape := ⟨2, ![1024, 1]⟩
abbrev S256x256 : Shape := ⟨2, ![256, 256]⟩
abbrev S256x1 : Shape := ⟨2, ![256, 1]⟩
abbrev S256 : Shape := ⟨1, ![256]⟩
abbrev S256x128 : Shape := ⟨2, ![256, 128]⟩
abbrev S128x128 : Shape := ⟨2, ![128, 128]⟩
abbrev S128x256 : Shape := ⟨2, ![128, 256]⟩
abbrev S1x128x128 : Shape := ⟨3, ![1, 128, 128]⟩

abbrev nBuf : Space → Nat
  | .hbm => 36
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x128, .f32⟩
  | .hbm, ⟨7, _⟩ => ⟨S1x128, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S1024x5632, .f32⟩
  | .hbm, ⟨24, _⟩ => ⟨S1024x5632, .bf16⟩
  | .hbm, ⟨25, _⟩ => ⟨S8x128x128, .f32⟩
  | .hbm, ⟨26, _⟩ => ⟨S8x128x128, .bf16⟩
  | .hbm, ⟨27, _⟩ => ⟨S8x128, .f32⟩
  | .hbm, ⟨28, _⟩ => ⟨S8x128x1, .f32⟩
  | .hbm, ⟨29, _⟩ => ⟨S8x128x128, .f32⟩
  | .hbm, ⟨30, _⟩ => ⟨S32768x1024, .f32⟩
  | .hbm, ⟨31, _⟩ => ⟨S32768x1024, .bf16⟩
  | .hbm, ⟨32, _⟩ => ⟨S32768x1024, .bf16⟩
  | .hbm, ⟨33, _⟩ => ⟨S32768x256, .bf16⟩
  | .hbm, ⟨34, _⟩ => ⟨S256x32768, .bf16⟩
  | .hbm, ⟨35, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S1x1024x256, .f32⟩
  | .local _ .vmem, ⟨5, _⟩ => ⟨S1x1024, .f32⟩
  | .local _ .vmem, ⟨6, _⟩ => ⟨S1x128, .f32⟩
  | .local _ .vmem, ⟨7, _⟩ => ⟨S1x128, .f32⟩
  | .local _ .vmem, ⟨8, _⟩ => ⟨S8x128x128, .bf16⟩
  | .local _ .vmem, ⟨9, _⟩ => ⟨S8x128x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | .local _ .vmem, ⟨24, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c13_i32 : BitVec 32 := 13#32
  let c0_i32_1 : BitVec 32 := 0#32
  ![c0_i32.toNat, c0_i32_0.toNat, c13_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel2Ideal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x8x128x128 : Shape := ⟨4, ![1, 8, 128, 128]⟩
abbrev S1x8x128 : Shape := ⟨3, ![1, 8, 128]⟩
abbrev S1x128 : Shape := ⟨2, ![1, 128]⟩
abbrev S1024 : Shape := ⟨1, ![1024]⟩
abbrev S128 : Shape := ⟨1, ![128]⟩
abbrev S_ : Shape := ⟨0, ![]⟩
abbrev S1024x5632 : Shape := ⟨2, ![1024, 5632]⟩
abbrev S8x128x128 : Shape := ⟨3, ![8, 128, 128]⟩
abbrev S8x128 : Shape := ⟨2, ![8, 128]⟩
abbrev S8x128x1 : Shape := ⟨3, ![8, 128, 1]⟩
abbrev S32768x1024 : Shape := ⟨2, ![32768, 1024]⟩
abbrev S32768x256 : Shape := ⟨2, ![32768, 256]⟩
abbrev S256x32768 : Shape := ⟨2, ![256, 32768]⟩
abbrev S1024x1024 : Shape := ⟨2, ![1024, 1024]⟩
abbrev S1x1024x256 : Shape := ⟨3, ![1, 1024, 256]⟩
abbrev S1024x256 : Shape := ⟨2, ![1024, 256]⟩
abbrev S256x1024 : Shape := ⟨2, ![256, 1024]⟩
abbrev S1024x1 : Shape := ⟨2, ![1024, 1]⟩
abbrev S256x256 : Shape := ⟨2, ![256, 256]⟩
abbrev S256x1 : Shape := ⟨2, ![256, 1]⟩
abbrev S256 : Shape := ⟨1, ![256]⟩
abbrev S256x128 : Shape := ⟨2, ![256, 128]⟩
abbrev S128x128 : Shape := ⟨2, ![128, 128]⟩
abbrev S128x256 : Shape := ⟨2, ![128, 256]⟩
abbrev S1x128x128 : Shape := ⟨3, ![1, 128, 128]⟩

abbrev nBuf : Space → Nat
  | .hbm => 36
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5632, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x128, .f32⟩
  | .hbm, ⟨7, _⟩ => ⟨S1x128, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S1024x5632, .f32⟩
  | .hbm, ⟨24, _⟩ => ⟨S1024x5632, .bf16⟩
  | .hbm, ⟨25, _⟩ => ⟨S8x128x128, .f32⟩
  | .hbm, ⟨26, _⟩ => ⟨S8x128x128, .bf16⟩
  | .hbm, ⟨27, _⟩ => ⟨S8x128, .f32⟩
  | .hbm, ⟨28, _⟩ => ⟨S8x128x1, .f32⟩
  | .hbm, ⟨29, _⟩ => ⟨S8x128x128, .f32⟩
  | .hbm, ⟨30, _⟩ => ⟨S32768x1024, .f32⟩
  | .hbm, ⟨31, _⟩ => ⟨S32768x1024, .bf16⟩
  | .hbm, ⟨32, _⟩ => ⟨S32768x1024, .bf16⟩
  | .hbm, ⟨33, _⟩ => ⟨S32768x256, .bf16⟩
  | .hbm, ⟨34, _⟩ => ⟨S256x32768, .bf16⟩
  | .hbm, ⟨35, _⟩ => ⟨S32768x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S1x1024x256, .f32⟩
  | .local _ .vmem, ⟨5, _⟩ => ⟨S1x1024, .f32⟩
  | .local _ .vmem, ⟨6, _⟩ => ⟨S1x128, .f32⟩
  | .local _ .vmem, ⟨7, _⟩ => ⟨S1x128, .f32⟩
  | .local _ .vmem, ⟨8, _⟩ => ⟨S8x128x128, .bf16⟩
  | .local _ .vmem, ⟨9, _⟩ => ⟨S8x128x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | .local _ .vmem, ⟨24, _⟩ => ⟨S256x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F] [Named F]

def κ : String → Option EReal := fun
  | "gelu_cube" => some (((-2) * ((Real.log 2)⁻¹ * ((6693141 / 8388608) * (12003091 / 268435456))) : ℝ) : EReal)
  | "gelu_scale" => some (((-2) * ((Real.log 2)⁻¹ * (6693141 / 8388608)) : ℝ) : EReal)
  | "neg_log2e" => some (((-1) * (Real.log 2)⁻¹ : ℝ) : EReal)
  | "q_scale" => some (((Real.sqrt 128)⁻¹ * (Real.log 2)⁻¹ : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c13_i32 : BitVec 32 := 13#32
  let c0_i32_1 : BitVec 32 := 0#32
  ![c0_i32.toNat, c0_i32_0.toNat, c13_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x4096x1024 : Shape := ⟨3, ![8, 4096, 1024]⟩
abbrev S1x1024 : Shape := ⟨2, ![1, 1024]⟩
abbrev S1x1024x5632 : Shape := ⟨3, ![1, 1024, 5632]⟩
abbrev S1x8x128x128 : Shape := ⟨4, ![1, 8, 128, 128]⟩
abbrev S1x8x128 : Shape := ⟨3, ![1, 8, 128]⟩
abbrev S1x128 : Shape := ⟨2, ![1, 128]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x5632 : Shape := ⟨2, ![1024, 5632]⟩
abbrev S8x4096x5632 : Shape := ⟨3, ![8, 4096, 5632]⟩
abbrev S8x4096x256 : Shape := ⟨3, ![8, 4096, 256]⟩
abbrev S8x128x128 : Shape := ⟨3, ![8, 128, 128]⟩
abbrev S8x128 : Shape := ⟨2, ![8, 128]⟩
abbrev S8x32x128x8x128 : Shape := ⟨5, ![8, 32, 128, 8, 128]⟩
abbrev S8x8x32x128x128 : Shape := ⟨5, ![8, 8, 32, 128, 128]⟩
abbrev S128x8 : Shape := ⟨2, ![128, 8]⟩
abbrev S1x1x128x8x1 : Shape := ⟨5, ![1, 1, 128, 8, 1]⟩
abbrev S8x4096x8x128 : Shape := ⟨4, ![8, 4096, 8, 128]⟩
abbrev S128 : Shape := ⟨1, ![128]⟩
abbrev S8x4096x8 : Shape := ⟨3, ![8, 4096, 8]⟩
abbrev S8x4096x8x1 : Shape := ⟨4, ![8, 4096, 8, 1]⟩
abbrev S1x1x1x128 : Shape := ⟨4, ![1, 1, 1, 128]⟩
abbrev S8x4096x2x128 : Shape := ⟨4, ![8, 4096, 2, 128]⟩
abbrev S8x4096x2 : Shape := ⟨3, ![8, 4096, 2]⟩
abbrev S8x4096x2x1 : Shape := ⟨4, ![8, 4096, 2, 1]⟩
abbrev S32768x1024 : Shape := ⟨2, ![32768, 1024]⟩
abbrev S32768x256 : Shape := ⟨2, ![32768, 256]⟩
abbrev S256x32768 : Shape := ⟨2, ![256, 32768]⟩

abbrev nBuf : Space → Nat
  | .hbm => 160
  | .vmem => 0
  | .smem => 0
  | _ => 0

abbrev hbmTy0_0 (i : Nat) : BufTy := match i % 128 with
  | 0 => ⟨S8x4096x1024, .f32⟩
  | 1 => ⟨S1x1024, .f32⟩
  | 2 => ⟨S1x1024x5632, .f32⟩
  | 3 => ⟨S1x1024, .f32⟩
  | 4 => ⟨S1x8x128x128, .f32⟩
  | 5 => ⟨S1x8x128, .f32⟩
  | 6 => ⟨S1x128, .f32⟩
  | 7 => ⟨S1x128, .f32⟩
  | 8 => ⟨S1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S1024x5632, .f32⟩
  | 26 => ⟨S8x4096x5632, .f32⟩
  | 27 => ⟨S8x4096x1024, .f32⟩
  | 28 => ⟨S8x4096x1024, .f32⟩
  | 29 => ⟨S8x4096x1024, .f32⟩
  | 30 => ⟨S8x4096x256, .f32⟩
  | 31 => ⟨S8x4096x256, .f32⟩
  | 32 => ⟨S8x4096x1024, .f32⟩
  | 33 => ⟨S8x4096x1024, .f32⟩
  | 34 => ⟨S1024, .f32⟩
  | 35 => ⟨S8x128x128, .f32⟩
  | 36 => ⟨S8x128, .f32⟩
  | 37 => ⟨S8x4096x1024, .f32⟩
  | 38 => ⟨S8x4096x1024, .f32⟩
  | 39 => ⟨S_, .f32⟩
  | 40 => ⟨S8x4096x1024, .f32⟩
  | 41 => ⟨S8x4096x1024, .f32⟩
  | 42 => ⟨S8x4096x1024, .f32⟩
  | 43 => ⟨S_, .f32⟩
  | 44 => ⟨S8x4096x1024, .f32⟩
  | 45 => ⟨S8x4096x1024, .f32⟩
  | 46 => ⟨S8x4096x1024, .f32⟩
  | 47 => ⟨S_, .f32⟩
  | 48 => ⟨S8x4096x1024, .f32⟩
  | 49 => ⟨S8x4096x1024, .f32⟩
  | 50 => ⟨S_, .f32⟩
  | 51 => ⟨S8x4096x1024, .f32⟩
  | 52 => ⟨S8x4096x1024, .f32⟩
  | 53 => ⟨S8x4096x1024, .f32⟩
  | 54 => ⟨S8x4096x1024, .f32⟩
  | 55 => ⟨S8x4096x1024, .f32⟩
  | 56 => ⟨S_, .f32⟩
  | 57 => ⟨S8x4096x1024, .f32⟩
  | 58 => ⟨S8x4096x1024, .f32⟩
  | 59 => ⟨S8x4096x1024, .f32⟩
  | 60 => ⟨S_, .f32⟩
  | 61 => ⟨S8x4096x1024, .f32⟩
  | 62 => ⟨S8x4096x1024, .f32⟩
  | 63 => ⟨S8x4096x1024, .f32⟩
  | 64 => ⟨S_, .f32⟩
  | 65 => ⟨S8x4096x1024, .f32⟩
  | 66 => ⟨S8x4096x1024, .f32⟩
  | 67 => ⟨S_, .f32⟩
  | 68 => ⟨S8x4096x1024, .f32⟩
  | 69 => ⟨S8x4096x1024, .f32⟩
  | 70 => ⟨S8x4096x1024, .f32⟩
  | 71 => ⟨S8x4096x1024, .f32⟩
  | 72 => ⟨S_, .f32⟩
  | 73 => ⟨S8x4096, .f32⟩
  | 74 => ⟨S8x4096x1, .f32⟩
  | 75 => ⟨S_, .f32⟩
  | 76 => ⟨S8x4096x1, .f32⟩
  | 77 => ⟨S8x4096x1, .f32⟩
  | 78 => ⟨S_, .f32⟩
  | 79 => ⟨S8x4096x1, .f32⟩
  | 80 => ⟨S8x4096x1, .f32⟩
  | 81 => ⟨S8x4096x1, .f32⟩
  | 82 => ⟨S8x4096x1024, .f32⟩
  | 83 => ⟨S8x4096x1024, .f32⟩
  | 84 => ⟨S1x1x1024, .f32⟩
  | 85 => ⟨S8x4096x1024, .f32⟩
  | 86 => ⟨S8x4096x1024, .f32⟩
  | 87 => ⟨S8x32x128x8x128, .f32⟩
  | 88 => ⟨S8x8x32x128x128, .f32⟩
  | 89 => ⟨S8x32x128x8x128, .f32⟩
  | 90 => ⟨S128x8, .f32⟩
  | 91 => ⟨S1x1x128x8x1, .f32⟩
  | 92 => ⟨S8x32x128x8x128, .f32⟩
  | 93 => ⟨S8x32x128x8x128, .f32⟩
  | 94 => ⟨S8x4096x1024, .f32⟩
  | 95 => ⟨S8x4096x1024, .f32⟩
  | 96 => ⟨S8x4096x8x128, .f32⟩
  | 97 => ⟨S128, .f32⟩
  | 98 => ⟨S8x4096x8x128, .f32⟩
  | 99 => ⟨S_, .f32⟩
  | 100 => ⟨S8x4096x8, .f32⟩
  | 101 => ⟨S8x4096x8x1, .f32⟩
  | 102 => ⟨S_, .f32⟩
  | 103 => ⟨S8x4096x8x1, .f32⟩
  | 104 => ⟨S8x4096x8x1, .f32⟩
  | 105 => ⟨S_, .f32⟩
  | 106 => ⟨S8x4096x8x1, .f32⟩
  | 107 => ⟨S8x4096x8x1, .f32⟩
  | 108 => ⟨S8x4096x8x1, .f32⟩
  | 109 => ⟨S8x4096x8x128, .f32⟩
  | 110 => ⟨S8x4096x8x128, .f32⟩
  | 111 => ⟨S1x1x1x128, .f32⟩
  | 112 => ⟨S8x4096x8x128, .f32⟩
  | 113 => ⟨S8x4096x8x128, .f32⟩
  | 114 => ⟨S8x4096x2x128, .f32⟩
  | 115 => ⟨S128, .f32⟩
  | 116 => ⟨S8x4096x2x128, .f32⟩
  | 117 => ⟨S_, .f32⟩
  | 118 => ⟨S8x4096x2, .f32⟩
  | 119 => ⟨S8x4096x2x1, .f32⟩
  | 120 => ⟨S_, .f32⟩
  | 121 => ⟨S8x4096x2x1, .f32⟩
  | 122 => ⟨S8x4096x2x1, .f32⟩
  | 123 => ⟨S_, .f32⟩
  | 124 => ⟨S8x4096x2x1, .f32⟩
  | 125 => ⟨S8x4096x2x1, .f32⟩
  | 126 => ⟨S8x4096x2x1, .f32⟩
  | 127 => ⟨S8x4096x2x128, .f32⟩
  | _ => ⟨S8x4096x1024, .f32⟩

abbrev hbmTy0_1 (i : Nat) : BufTy := match i % 128 with
  | 0 => ⟨S8x4096x2x128, .f32⟩
  | 1 => ⟨S1x1x1x128, .f32⟩
  | 2 => ⟨S8x4096x2x128, .f32⟩
  | 3 => ⟨S8x4096x2x128, .f32⟩
  | 4 => ⟨S8x4096x1024, .f32⟩
  | 5 => ⟨S8x4096x1024, .f32⟩
  | 6 => ⟨S_, .f32⟩
  | 7 => ⟨S8x4096x1024, .f32⟩
  | 8 => ⟨S8x4096x1024, .f32⟩
  | 9 => ⟨S_, .f32⟩
  | 10 => ⟨S8x4096x1024, .f32⟩
  | 11 => ⟨S8x4096x1024, .f32⟩
  | 12 => ⟨S8x4096x1024, .f32⟩
  | 13 => ⟨S32768x1024, .f32⟩
  | 14 => ⟨S32768x1024, .bf16⟩
  | 15 => ⟨S32768x1024, .f32⟩
  | 16 => ⟨S32768x1024, .bf16⟩
  | 17 => ⟨S32768x256, .f32⟩
  | 18 => ⟨S32768x256, .bf16⟩
  | 19 => ⟨S32768x256, .f32⟩
  | 20 => ⟨S32768x256, .bf16⟩
  | 21 => ⟨S256x32768, .bf16⟩
  | 22 => ⟨S8x4096x1024, .f32⟩
  | 23 => ⟨S8x4096x1024, .f32⟩
  | 24 => ⟨S_, .f32⟩
  | 25 => ⟨S8x4096x1024, .f32⟩
  | 26 => ⟨S8x4096x1024, .f32⟩
  | 27 => ⟨S_, .f32⟩
  | 28 => ⟨S8x4096x1024, .f32⟩
  | 29 => ⟨S8x4096x1024, .f32⟩
  | 30 => ⟨S32768x1024, .f32⟩
  | 31 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_v78 : Ref sig .tc := ⟨.hbm, 101, rfl⟩
abbrev main_cst_14 : Ref sig .tc := ⟨.hbm, 102, rfl⟩
abbrev main_v79 : Ref sig .tc := ⟨.hbm, 103, rfl⟩
abbrev main_v80 : Ref sig .tc := ⟨.hbm, 104, rfl⟩
abbrev main_cst_15 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_16 : Ref sig .tc := ⟨.hbm, 117, rfl⟩
abbrev main_v92 : Ref sig .tc := ⟨.hbm, 118, rfl⟩
abbrev main_v93 : Ref sig .tc := ⟨.hbm, 119, rfl⟩
abbrev main_cst_17 : Ref sig .tc := ⟨.hbm, 120, rfl⟩
abbrev main_v94 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_19 : Ref sig .tc := ⟨.hbm, 134, rfl⟩
abbrev main_v106 : Ref sig .tc := ⟨.hbm, 135, rfl⟩
abbrev main_v107 : Ref sig .tc := ⟨.hbm, 136, rfl⟩
abbrev main_cst_20 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_21 : Ref sig .tc := ⟨.hbm, 152, rfl⟩
abbrev main_v122 : Ref sig .tc := ⟨.hbm, 153, rfl⟩
abbrev main_v123 : Ref sig .tc := ⟨.hbm, 154, rfl⟩
abbrev main_cst_22 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x256 : Shape := ⟨3, ![8, 8192, 256]⟩
abbrev S32x8 : Shape := ⟨2, ![32, 8]⟩
abbrev S1x8 : Shape := ⟨2, ![1, 8]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S384 : Shape := ⟨1, ![384]⟩
abbrev S384x1 : Shape := ⟨2, ![384, 1]⟩
abbrev S128 : Shape := ⟨1, ![128]⟩
abbrev S1x128 : Shape := ⟨2, ![1, 128]⟩
abbrev S_ : Shape := ⟨0, ![]⟩
abbrev S384x128 : Shape := ⟨2, ![384, 128]⟩
abbrev S3x2x384x512 : Shape := ⟨4, ![3, 2, 384, 512]⟩
abbrev S1x1 : Shape := ⟨2, ![1, 1]⟩
abbrev S1x1x384x128 : Shape := ⟨4, ![1, 1, 384, 128]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8 : Shape := ⟨1, ![8]⟩
abbrev S65536x1024 : Shape := ⟨2, ![65536, 1024]⟩
abbrev S65536x256 : Shape := ⟨2, ![65536, 256]⟩
abbrev S256x65536 : Shape := ⟨2, ![256, 65536]⟩
abbrev S512x1024 : Shape := ⟨2, ![512, 1024]⟩
abbrev S512x256 : Shape := ⟨2, ![512, 256]⟩
abbrev S128x256 : Shape := ⟨2, ![128, 256]⟩
abbrev S256x512 : Shape := ⟨2, ![256, 512]⟩
abbrev S256x128 : Shape := ⟨2, ![256, 128]⟩
abbrev S768x256 : Shape := ⟨2, ![768, 256]⟩
abbrev S256x768 : Shape := ⟨2, ![256, 768]⟩
abbrev S128x128 : Shape := ⟨2, ![128, 128]⟩
abbrev S512x128 : Shape := ⟨2, ![512, 128]⟩
abbrev S384x512 : Shape := ⟨2, ![384, 512]⟩
abbrev S1 : Shape := ⟨1, ![1]⟩
abbrev S128x384 : Shape := ⟨2, ![128, 384]⟩
abbrev S128x512 : Shape := ⟨2, ![128, 512]⟩
abbrev S256x1024 : Shape := ⟨2, ![256, 1024]⟩
abbrev S256 : Shape := ⟨1, ![256]⟩
abbrev S256x1 : Shape := ⟨2, ![256, 1]⟩

abbrev nBuf : Space → Nat
  | .hbm => 86
  | .vmem => 32
  | .smem => 2
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x256, .bf16⟩
  | .hbm, ⟨4, _⟩ => ⟨S8x8192x256, .bf16⟩
  | .hbm, ⟨5, _⟩ => ⟨S8x8192x1024, .bf16⟩
  | .hbm, ⟨6, _⟩ => ⟨S32x8, .f32⟩
  | .hbm, ⟨7, _⟩ => ⟨S1x8, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S384, .i32⟩
  | .hbm, ⟨13, _⟩ => ⟨S384x1, .i32⟩
  | .hbm, ⟨14, _⟩ => ⟨S128, .i32⟩
  | .hbm, ⟨15, _⟩ => ⟨S1x128, .i32⟩
  | .hbm, ⟨16, _⟩ => ⟨S_, .i32⟩
  | .hbm, ⟨17, _⟩ => ⟨S384x1, .i32⟩
  | .hbm, ⟨18, _⟩ => ⟨S384x1, .i32⟩
  | .hbm, ⟨19, _⟩ => ⟨S384x128, .i32⟩
  | .hbm, ⟨20, _⟩ => ⟨S384x128, .i32⟩
  | .hbm, ⟨21, _⟩ => ⟨S384x128, .i32⟩
  | .hbm, ⟨22, _⟩ => ⟨S_, .i32⟩
  | .hbm, ⟨23, _⟩ => ⟨S384x128, .i32⟩
  | .hbm, ⟨24, _⟩ => ⟨S384x128, .i1⟩
  | .hbm, ⟨25, _⟩ => ⟨S_, .i32⟩
  | .hbm, ⟨26, _⟩ => ⟨S_, .i32⟩
  | .hbm, ⟨27, _⟩ => ⟨S384x128, .i32⟩
  | .hbm, ⟨28, _⟩ => ⟨S384x128, .i32⟩
  | .hbm, ⟨29, _⟩ => ⟨S384x128, .i32⟩
  | .hbm, ⟨30, _⟩ => ⟨S384x128, .i32⟩
  | .hbm, ⟨31, _⟩ => ⟨S_, .i32⟩
  | .hbm, ⟨32, _⟩ => ⟨S384x128, .i32⟩
  | .hbm, ⟨33, _⟩ => ⟨S384x128, .i32⟩
  | .hbm, ⟨34, _⟩ => ⟨S384x128, .f32⟩
  | .hbm, ⟨35, _⟩ => ⟨S_, .f32⟩
  | .hbm, ⟨36, _⟩ => ⟨S384x128, .f32⟩
  | .hbm, ⟨37, _⟩ => ⟨S384x128, .f32⟩
  | .hbm, ⟨38, _⟩ => ⟨S384x128, .f32⟩
  | .hbm, ⟨39, _⟩ => ⟨S_, .f32⟩
  | .hbm, ⟨40, _⟩ => ⟨S384x128, .f32⟩
  | .hbm, ⟨41, _⟩ => ⟨S384x128, .f32⟩
  | .hbm, ⟨42, _⟩ => ⟨S_, .f32⟩
  | .hbm, ⟨43, _⟩ => ⟨S384x128, .f32⟩
  | .hbm, ⟨44, _⟩ => ⟨S384x128, .f32⟩
  | .hbm, ⟨45, _⟩ => ⟨S384x128, .i32⟩
  | .hbm, ⟨46, _⟩ => ⟨S_, .i32⟩
  | .hbm, ⟨47, _⟩ => ⟨S384x128, .i32⟩
  | .hbm, ⟨48, _⟩ => ⟨S384x128, .i32⟩
  | .hbm, ⟨49, _⟩ => ⟨S_, .i32⟩
  | .hbm, ⟨50, _⟩ => ⟨S384x128, .i32⟩
  | .hbm, ⟨51, _⟩ => ⟨S384x128, .i32⟩
  | .hbm, ⟨52, _⟩ => ⟨S_, .i32⟩
  | .hbm, ⟨53, _⟩ => ⟨S384x128, .i32⟩
  | .hbm, ⟨54, _⟩ => ⟨S384x128, .i1⟩
  | .hbm, ⟨55, _⟩ => ⟨S384x128, .i32⟩
  | .hbm, ⟨56, _⟩ => ⟨S384x128, .i32⟩
  | .hbm, ⟨57, _⟩ => ⟨S384x128, .i32⟩
  | .hbm, ⟨58, _⟩ => ⟨S3x2x384x512, .f32⟩
  | .hbm, ⟨59, _⟩ => ⟨S1024, .f32⟩
  | .hbm, ⟨60, _⟩ => ⟨S1x1024, .f32⟩
  | .hbm, ⟨61, _⟩ => ⟨S1024x1024, .f32⟩
  | .hbm, ⟨62, _⟩ => ⟨S1024x1024, .bf16⟩
  | .hbm, ⟨63, _⟩ => ⟨S1024x4096, .f32⟩
  | .hbm, ⟨64, _⟩ => ⟨S1024x4096, .bf16⟩
  | .hbm, ⟨65, _⟩ => ⟨S4096x1024, .f32⟩
  | .hbm, ⟨66, _⟩ => ⟨S4096x1024, .bf16⟩
  | .hbm, ⟨67, _⟩ => ⟨S8, .f32⟩
  | .hbm, ⟨68, _⟩ => ⟨S65536x1024, .f32⟩
  | .hbm, ⟨69, _⟩ => ⟨S65536x1024, .bf16⟩
  | .hbm, ⟨70, _⟩ => ⟨S65536x1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S65536x1024, .f32⟩
  | .hbm, ⟨77, _⟩ => ⟨S65536x1024, .f32⟩
  | .hbm, ⟨78, _⟩ => ⟨S65536x1024, .bf16⟩
  | .hbm, ⟨79, _⟩ => ⟨S65536x256, .bf16⟩
  | .hbm, ⟨80, _⟩ => ⟨S256x65536, .bf16⟩
  | .hbm, ⟨81, _⟩ => ⟨S65536x1024, .bf16⟩
  | .hbm, ⟨82, _⟩ => ⟨S65536x256, .bf16⟩
  | .hbm, ⟨83, _⟩ => ⟨S65536x1024, .bf16⟩
  | .hbm, ⟨84, _⟩ => ⟨S65536x1024, .f32⟩
  | .hbm, ⟨85, _⟩ => ⟨S8x8192x1024, .f32⟩
  | .local _ .vmem, ⟨0, _⟩ => ⟨S384x128, .i32⟩
  | .local _ .vmem, ⟨1, _⟩ => ⟨S3x2x384x512, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S128x256, .bf16⟩
  | .local _ .vmem, ⟨14, _⟩ => ⟨S256x512, .bf16⟩
  | .local _ .vmem, ⟨15, _⟩ => ⟨S256x512, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S256x128, .bf16⟩
  | .local _ .vmem, ⟨20, _⟩ => ⟨S512x1024, .bf16⟩
  | .local _ .vmem, ⟨21, _⟩ => ⟨S512x1024, .bf16⟩
  | .local _ .vmem, ⟨22, _⟩ => ⟨S3x2x384x512, .f32⟩
  | .local _ .vmem, ⟨23, _⟩ => ⟨S1024x1024, .bf16⟩
  | .local _ .vmem, ⟨24, _⟩ => ⟨S1x1024, .f32⟩
  | .local _ .vmem, ⟨25, _⟩ => ⟨S1024x4096, .bf16⟩
  | .local _ .vmem, ⟨26, _⟩ => ⟨S4096x1024, .bf16⟩
  | .local _ .vmem, ⟨27, _⟩ => ⟨S512x1024, .f32⟩
  | .local _ .vmem, ⟨28, _⟩ => ⟨S512x1024, .f32⟩
  | .local _ .vmem, ⟨29, _⟩ => ⟨S768x256, .bf16⟩
  | .local _ .vmem, ⟨30, _⟩ => ⟨S256x768, .bf16⟩
  | .local _ .vmem, ⟨31, _⟩ => ⟨S512x1024, .bf16⟩
  | .local _ .smem, ⟨0, _⟩ => ⟨S32x8, .f32⟩
  | .local _ .smem, ⟨1, _⟩ => ⟨S8, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev cc0_stg0_0 : Ref sig .tc := ⟨.vmem, 0, rfl⟩
abbrev cc0_stg2_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg9_1 : Ref sig .tc := ⟨.vmem, 21, rfl⟩
abbrev cc1_stg10_0 : Ref sig .tc := ⟨.vmem, 22, rfl⟩
abbrev cc1_stg12_0 : Ref sig .tc := ⟨.vmem, 23, rfl⟩
abbrev cc1_stg13_0 : Ref sig .tc := ⟨.vmem, 24, rfl⟩
abbrev cc1_stg14_0 : Ref sig .tc := ⟨.vmem, 25, rfl⟩
abbrev cc1_stg15_0 : Ref sig .tc := ⟨.vmem, 26, rfl⟩
abbrev cc1_stg16_0 : Ref sig .tc := ⟨.vmem, 27, rfl⟩
abbrev cc1_stg16_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_stg1_0 : Ref sig .tc := ⟨.smem, 0, rfl⟩
abbrev cc1_stg11_0 : Ref sig .tc := ⟨.smem, 1, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem16_0 : DmaSem sig := 29
abbrev cc1_sem16_1 : DmaSem sig := 30

abbrev nD : Nat := 1
abbrev τ : Topo := Topo.v7x

variable {F : FTy → Type} [FloatOps F]

abbrev grid0 : Pipeline.Grid := .none

abbrev stage0_0 : Fin 1 → Memref sig .tc .vmem S384x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2x384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![128], ![false]⟩

def k1_off1 (i : grid1.Coords) (c0_i32_24 : BitVec 32) (c0_i32_25 : BitVec 32) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v89 : Index := Scalar.indexCast v41
  let c0_68 : Index := 0#32
  let c0_69 : Index := 0#32
  let c0_70 : Index := 0#32
  ![v89.toNat, 0, 0, 0]
def k1_off1_at (r : Fin 2) : BitVec 32 × BitVec 32 :=
  if r.val < 1 then
    (0#32, 0#32)
  else
    (15#32, 2#32)
def k1_off2 (i : grid1.Coords) (c0_i32_35 : BitVec 32) (c0_i32_36 : BitVec 32) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v112 : Index := Scalar.indexCast v54
  let c1 : Index := 1#32
  let c0_76 : Index := 0#32
  let c0_77 : Index := 0#32
  ![v112.toNat, 1, 0, 0]
def k1_off2_at (r : Fin 2) : BitVec 32 × BitVec 32 :=
  if r.val < 1 then
    (0#32, 0#32)
  else
    (15#32, 2#32)
def k1_off3 (i : grid1.Coords) (c0_i32_24 : BitVec 32) (c0_i32_25 : BitVec 32) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v179 : Index := Scalar.indexCast v41
  let c0_100 : Index := 0#32
  let c0_101 : Index := 0#32
  let c128_102 : Index := 128#32
  ![v179.toNat, 0, 0, 128]
def k1_off3_at (r : Fin 2) : BitVec 32 × BitVec 32 :=
  if r.val < 1 then
    (0#32, 0#32)
  else
    (15#32, 2#32)
def k1_off4 (i : grid1.Coords) (c0_i32_35 : BitVec 32) (c0_i32_36 : BitVec 32) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v202 : Index := Scalar.indexCast v54
  let c1_108 : Index := 1#32
  let c0_109 : Index := 0#32
  let c128_110 : Index := 128#32
  ![v202.toNat, 1, 0, 128]
def k1_off4_at (r : Fin 2) : BitVec 32 × BitVec 32 :=
  if r.val < 1 then
    (0#32, 0#32)
  else
    (15#32, 2#32)
def k1_off5 (i : grid1.Coords) (c0_i32_24 : BitVec 32) (c0_i32_25 : BitVec 32) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v269 : Index := Scalar.indexCast v41
  let c0_133 : Index := 0#32
  let c0_134 : Index := 0#32
  let c256_135 : Index := 256#32
  ![v269.toNat, 0, 0, 256]
def k1_off5_at (r : Fin 2) : BitVec 32 × BitVec 32 :=
  if r.val < 1 then
    (0#32, 0#32)
  else
    (15#32, 2#32)
def k1_off6 (i : grid1.Coords) (c0_i32_35 : BitVec 32) (c0_i32_36 : BitVec 32) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v292 : Index := Scalar.indexCast v54
  let c1_140 : Index := 1#32
  let c0_141 : Index := 0#32
  let c256_142 : Index := 256#32
  ![v292.toNat, 1, 0, 256]
def k1_off6_at (r : Fin 2) : BitVec 32 × BitVec 32 :=
  if r.val < 1 then
    (0#32, 0#32)
  else
    (15#32, 2#32)
def k1_off7 (i : grid1.Coords) (c0_i32_24 : BitVec 32) (c0_i32_25 : BitVec 32) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : BitVec 1 := Scalar.cmpi .eq v9 c0_i32_24
  let c1_i32_26 : BitVec 32 := 1#32
  let v41 : BitVec 32 := Scalar.select v40 c0_i32_25 c1_i32_26
  let v359 : Index := Scalar.indexCast v41
  let c0_165 : Index := 0#32
  let c0_166 : Index := 0#32
  let c384_167 : Index := 384#32
  ![v359.toNat, 0, 0, 384]
def k1_off7_at (r : Fin 2) : BitVec 32 × BitVec 32 :=
  if r.val < 1 then
    (0#32, 0#32)
  else
    (15#32, 2#32)
def k1_off8 (i : grid1.Coords) (c0_i32_35 : BitVec 32) (c0_i32_36 : BitVec 32) : Fin 4 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : BitVec 1 := Scalar.cmpi .eq v9 c0_i32_35
  let c1_i32_37 : BitVec 32 := 1#32
  let v54 : BitVec 32 := Scalar.select v53 c0_i32_36 c1_i32_37
  let v382 : Index := Scalar.indexCast v54
  let c1_172 : Index := 1#32
  let c0_173 : Index := 0#32
  let c384_174 : Index := 384#32
  ![v382.toNat, 1, 0, 384]
def k1_off8_at (r : Fin 2) : BitVec 32 × BitVec 32 :=
  if r.val < 1 then
    (0#32, 0#32)
  else
    (15#32, 2#32)
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc1_transform_5 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc1_transform_8 (i : grid1.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![c0_i32.toNat, v2.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S3x2x384x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .smem S8 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1024x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x4096 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S4096x1024 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S512x1024 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]
-- ==== Kernel3Ideal.lean ====
variable {F : FTy → Type} [FloatOps F] [Named F]
def κ : String → Option EReal := fun
  | "log2e" => some (((Real.log 2)⁻¹ : ℝ) : EReal)
  | "mask" => some ⊥
  | _ => none
-- ==== Reference3Ideal.lean ====
abbrev S8x8192x1024 : Shape := ⟨3, ![8, 8192, 1024]⟩
abbrev S8x8192x256 : Shape := ⟨3, ![8, 8192, 256]⟩
abbrev S32x8 : Shape := ⟨2, ![32, 8]⟩
abbrev S1x8 : Shape := ⟨2, ![1, 8]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S8 : Shape := ⟨1, ![8]⟩
abbrev S8x8192x2x128 : Shape := ⟨4, ![8, 8192, 2, 128]⟩
abbrev S8x64x128x2x4x128 : Shape := ⟨6, ![8, 64, 128, 2, 4, 128]⟩
abbrev S_ : Shape := ⟨0, ![]⟩
abbrev S8x8448x2x128 : Shape := ⟨4, ![8, 8448, 2, 128]⟩
abbrev S8x66x128x2x128 : Shape := ⟨5, ![8, 66, 128, 2, 128]⟩
abbrev S8x64x128x2x128 : Shape := ⟨5, ![8, 64, 128, 2, 128]⟩
abbrev S8x64x384x2x128 : Shape := ⟨5, ![8, 64, 384, 2, 128]⟩
abbrev S8x64x2x384x128x4 : Shape := ⟨6, ![8, 64, 2, 384, 128, 4]⟩
abbrev S8x64x2x4x128x384 : Shape := ⟨6, ![8, 64, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S1x1x2x4x128x384 : Shape := ⟨6, ![1, 1, 2, 4, 128, 384]⟩
abbrev S2x4 : Shape := ⟨2, ![2, 4]⟩
abbrev S1x1x2x4x1x1 : Shape := ⟨6, ![1, 1, 2, 4, 1, 1]⟩
abbrev S8x64x2x4x128 : Shape := ⟨5, ![8, 64, 2, 4, 128]⟩
abbrev S8x64x2x4x128x1 : Shape := ⟨6, ![8, 64, 2, 4, 128, 1]⟩
abbrev S8x64x2x128x4x128 : Shape := ⟨6, ![8, 64, 2, 128, 4, 128]⟩
abbrev S1024x1024 : Shape := ⟨2, ![1024, 1024]⟩
abbrev S1024 : Shape := ⟨1, ![1024]⟩
abbrev S8x8192 : Shape := ⟨2, ![8, 8192]⟩
abbrev S8x8192x1 : Shape := ⟨3, ![8, 8192, 1]⟩
abbrev S1x1x1024 : Shape := ⟨3, ![1, 1, 1024]⟩
abbrev S1024x4096 : Shape := ⟨2, ![1024, 4096]⟩
abbrev S8x8192x4096 : Shape := ⟨3, ![8, 8192, 4096]⟩
abbrev S4096x1024 : Shape := ⟨2, ![4096, 1024]⟩

abbrev nBuf : Space → Nat
  | .hbm => 189
  | .vmem => 0
  | .smem => 0
  | _ => 0

abbrev hbmTy0_0 (i : Nat) : BufTy := match i % 128 with
  | 0 => ⟨S8x8192x1024, .f32⟩
  | 1 => ⟨S8x8192x1024, .bf16⟩
  | 2 => ⟨S8x8192x1024, .bf16⟩
  | 3 => ⟨S8x8192x256, .bf16⟩
  | 4 => ⟨S8x8192x256, .bf16⟩
  | 5 => ⟨S8x8192x1024, .bf16⟩
  | 6 => ⟨S32x8, .f32⟩
  | 7 => ⟨S1x8, .f32⟩
  | 8 => ⟨S1x1024x1024, .f32⟩
  | 9 => ⟨S1x1024, .f32⟩
  | 10 => ⟨S1x1024x4096, .f32⟩
  | 11 => ⟨S1x4096x1024, .f32⟩
  | 12 => ⟨S8x8192x1024, .f32⟩
  | 13 => ⟨S8x8192x256, .f32⟩
  | 14 => ⟨S8x8192x256, .f32⟩
  | 15 => ⟨S8, .f32⟩
  | 16 => ⟨S8x8192x2x128, .f32⟩
  | 17 => ⟨S8x8192x2x128, .f32⟩
  | 18 => ⟨S8x64x128x2x4x128, .f32⟩
  | 19 => ⟨S_, .i32⟩
  | 20 => ⟨S_, .f32⟩
  | 21 => ⟨S8x8448x2x128, .f32⟩
  | 22 => ⟨S8x66x128x2x128, .f32⟩
  | 23 => ⟨S8x64x128x2x128, .f32⟩
  | 24 => ⟨S8x64x128x2x128, .f32⟩
  | 25 => ⟨S8x64x128x2x128, .f32⟩
  | 26 => ⟨S8x64x384x2x128, .f32⟩
  | 27 => ⟨S_, .i32⟩
  | 28 => ⟨S_, .f32⟩
  | 29 => ⟨S8x8448x2x128, .f32⟩
  | 30 => ⟨S8x66x128x2x128, .f32⟩
  | 31 => ⟨S8x64x128x2x128, .f32⟩
  | 32 => ⟨S8x64x128x2x128, .f32⟩
  | 33 => ⟨S8x64x128x2x128, .f32⟩
  | 34 => ⟨S8x64x384x2x128, .f32⟩
  | 35 => ⟨S8x64x2x384x128x4, .f32⟩
  | 36 => ⟨S8x64x2x4x128x384, .f32⟩
  | 37 => ⟨S_, .f32⟩
  | 38 => ⟨S_, .f32⟩
  | 39 => ⟨S8x64x2x4x128x384, .f32⟩
  | 40 => ⟨S8x64x2x4x128x384, .f32⟩
  | 41 => ⟨S128, .i32⟩
  | 42 => ⟨S128x1, .i32⟩
  | 43 => ⟨S384, .i32⟩
  | 44 => ⟨S1x384, .i32⟩
  | 45 => ⟨S_, .i32⟩
  | 46 => ⟨S1x384, .i32⟩
  | 47 => ⟨S1x384, .i32⟩
  | 48 => ⟨S128x384, .i32⟩
  | 49 => ⟨S128x384, .i32⟩
  | 50 => ⟨S128x384, .i32⟩
  | 51 => ⟨S_, .i32⟩
  | 52 => ⟨S128x384, .i32⟩
  | 53 => ⟨S128x384, .i1⟩
  | 54 => ⟨S_, .i32⟩
  | 55 => ⟨S_, .i32⟩
  | 56 => ⟨S128x384, .i32⟩
  | 57 => ⟨S128x384, .i32⟩
  | 58 => ⟨S128x384, .i32⟩
  | 59 => ⟨S128x384, .i32⟩
  | 60 => ⟨S_, .i32⟩
  | 61 => ⟨S128x384, .i32⟩
  | 62 => ⟨S128x384, .i32⟩
  | 63 => ⟨S128x384, .f32⟩
  | 64 => ⟨S_, .f32⟩
  | 65 => ⟨S128x384, .f32⟩
  | 66 => ⟨S128x384, .f32⟩
  | 67 => ⟨S128x384, .f32⟩
  | 68 => ⟨S_, .f32⟩
  | 69 => ⟨S128x384, .f32⟩
  | 70 => ⟨S128x384, .f32⟩
  | 71 => ⟨S_, .f32⟩
  | 72 => ⟨S128x384, .f32⟩
  | 73 => ⟨S128x384, .f32⟩
  | 74 => ⟨S128x384, .i32⟩
  | 75 => ⟨S_, .i32⟩
  | 76 => ⟨S128x384, .i32⟩
  | 77 => ⟨S128x384, .i32⟩
  | 78 => ⟨S_, .i32⟩
  | 79 => ⟨S128x384, .i32⟩
  | 80 => ⟨S128x384, .i32⟩
  | 81 => ⟨S_, .i32⟩
  | 82 => ⟨S128x384, .i32⟩
  | 83 => ⟨S128x384, .i1⟩
  | 84 => ⟨S128x384, .i32⟩
  | 85 => ⟨S128x384, .i32⟩
  | 86 => ⟨S128x384, .i32⟩
  | 87 => ⟨S_, .i32⟩
  | 88 => ⟨S128x384, .i32⟩
  | 89 => ⟨S128x384, .i1⟩
  | 90 => ⟨S_, .i32⟩
  | 91 => ⟨S128x384, .i32⟩
  | 92 => ⟨S128x384, .i32⟩
  | 93 => ⟨S128x384, .i32⟩
  | 94 => ⟨S128x384x1, .i32⟩
  | 95 => ⟨S128x384x8, .f32⟩
  | 96 => ⟨S8x128x384, .f32⟩
  | 97 => ⟨S2x4x128x384, .f32⟩
  | 98 => ⟨S128x384, .i32⟩
  | 99 => ⟨S_, .i32⟩
  | 100 => ⟨S128x384, .i32⟩
  | 101 => ⟨S128x384, .i1⟩
  | 102 => ⟨S64, .i32⟩
  | 103 => ⟨S64x1, .i32⟩
  | 104 => ⟨S_, .i32⟩
  | 105 => ⟨S64x1, .i32⟩
  | 106 => ⟨S64x1, .i32⟩
  | 107 => ⟨S_, .i32⟩
  | 108 => ⟨S64x1, .i32⟩
  | 109 => ⟨S64x1, .i32⟩
  | 110 => ⟨S64x384, .i32⟩
  | 111 => ⟨S64x384, .i32⟩
  | 112 => ⟨S64x384, .i32⟩
  | 113 => ⟨S_, .i32⟩
  | 114 => ⟨S64x384, .i32⟩
  | 115 => ⟨S64x384, .i1⟩
  | 116 => ⟨S_, .i32⟩
  | 117 => ⟨S64x384, .i32⟩
  | 118 => ⟨S64x384, .i1⟩
  | 119 => ⟨S64x384, .i1⟩
  | 120 => ⟨S1x128x384, .i1⟩
  | 121 => ⟨S64x1x384, .i1⟩
  | 122 => ⟨S64x128x384, .i1⟩
  | 123 => ⟨S64x128x384, .i1⟩
  | 124 => ⟨S64x128x384, .i1⟩
  | 125 => ⟨S1x64x1x1x128x384, .i1⟩
  | 126 => ⟨S1x1x2x4x128x384, .f32⟩
  | 127 => ⟨S8x64x2x4x128x384, .f32⟩
  | _ => ⟨S8x8192x1024, .f32⟩

abbrev hbmTy0_1 (i : Nat) : BufTy := match i % 128 with
  | 0 => ⟨S8x64x2x4x128x384, .f32⟩
  | 1 => ⟨S_, .f32⟩
  | 2 => ⟨S_, .f32⟩
  | 3 => ⟨S8x64x2x4x128x384, .i1⟩
  | 4 => ⟨S8x64x2x4x128x384, .f32⟩
  | 5 => ⟨S8x64x2x4x128x384, .f32⟩
  | 6 => ⟨S2x4, .f32⟩
  | 7 => ⟨S1x1x2x4x1x1, .f32⟩
  | 8 => ⟨S_, .f32⟩
  | 9 => ⟨S8x64x2x4x128, .f32⟩
  | 10 => ⟨S8x64x2x4x128x1, .f32⟩
  | 11 => ⟨S8x64x2x4x128x1, .f32⟩
  | 12 => ⟨S8x64x2x4x128x1, .f32⟩
  | 13 => ⟨S8x64x2x4x128x384, .f32⟩
  | 14 => ⟨S8x64x2x4x128x384, .f32⟩
  | 15 => ⟨S8x64x2x4x128x384, .f32⟩
  | 16 => ⟨S_, .f32⟩
  | 17 => ⟨S8x64x2x4x128, .f32⟩
  | 18 => ⟨S8x64x2x4x128x1, .f32⟩
  | 19 => ⟨S8x64x2x4x128x1, .f32⟩
  | 20 => ⟨S8x64x2x4x128x1, .f32⟩
  | 21 => ⟨S8x64x2x4x128x1, .f32⟩
  | 22 => ⟨S8x64x2x4x128x1, .f32⟩
  | 23 => ⟨S8x64x2x4x128x384, .f32⟩
  | 24 => ⟨S8x64x2x4x128x384, .f32⟩
  | 25 => ⟨S8x64x2x128x4x128, .f32⟩
  | 26 => ⟨S8x64x128x2x4x128, .f32⟩
  | 27 => ⟨S8x8192x1024, .f32⟩
  | 28 => ⟨S8x8192x1024, .f32⟩
  | 29 => ⟨S8x8192x1024, .f32⟩
  | 30 => ⟨S8x8192x1024, .f32⟩
  | 31 => ⟨S8x8192x1024, .f32⟩
  | 32 => ⟨S1024x1024, .f32⟩
  | 33 => ⟨S8x8192x1024, .f32⟩
  | 34 => ⟨S8x8192x1024, .f32⟩
  | 35 => ⟨S1024, .f32⟩
  | 36 => ⟨S8x8192x1024, .f32⟩
  | 37 => ⟨S_, .f32⟩
  | 38 => ⟨S8x8192, .f32⟩
  | 39 => ⟨S8x8192x1, .f32⟩
  | 40 => ⟨S_, .f32⟩
  | 41 => ⟨S8x8192x1, .f32⟩
  | 42 => ⟨S8x8192x1, .f32⟩
  | 43 => ⟨S_, .f32⟩
  | 44 => ⟨S8x8192x1, .f32⟩
  | 45 => ⟨S8x8192x1, .f32⟩
  | 46 => ⟨S8x8192x1, .f32⟩
  | 47 => ⟨S8x8192x1024, .f32⟩
  | 48 => ⟨S8x8192x1024, .f32⟩
  | 49 => ⟨S1x1x1024, .f32⟩
  | 50 => ⟨S8x8192x1024, .f32⟩
  | 51 => ⟨S8x8192x1024, .f32⟩
  | 52 => ⟨S1024x4096, .f32⟩
  | 53 => ⟨S8x8192x4096, .f32⟩
  | 54 => ⟨S_, .f32⟩
  | 55 => ⟨S8x8192x4096, .f32⟩
  | 56 => ⟨S8x8192x4096, .f32⟩
  | 57 => ⟨S8x8192x4096, .f32⟩
  | 58 => ⟨S4096x1024, .f32⟩
  | 59 => ⟨S8x8192x1024, .f32⟩
  | 60 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_call1_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_2 : Ref sig .tc := ⟨.hbm, 51, rfl⟩
abbrev main_v33 : Ref sig .tc := ⟨.hbm, 52, rfl⟩
abbrev main_v34 : Ref sig .tc := ⟨.hbm, 53, rfl⟩
abbrev main_c_3 : Ref sig .tc := ⟨.hbm, 54, rfl⟩
abbrev main_c_4 : Ref sig .tc := ⟨.hbm, 55, rfl⟩
abbrev main_call2_v0 : Ref sig .tc := ⟨.hbm, 56, rfl⟩
abbrev main_call2_v1 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_6 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_9 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_17 : Ref sig .tc := ⟨.hbm, 113, rfl⟩
abbrev main_v78 : Ref sig .tc := ⟨.hbm, 114, rfl⟩
abbrev main_v79 : Ref sig .tc := ⟨.hbm, 115, rfl⟩
abbrev main_c_18 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_21 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_22 : Ref sig .tc := ⟨.hbm, 165, rfl⟩
abbrev main_v122 : Ref sig .tc := ⟨.hbm, 166, rfl⟩
abbrev main_v123 : Ref sig .tc := ⟨.hbm, 167, rfl⟩
abbrev main_cst_23 : Ref sig .tc := ⟨.hbm, 168, rfl⟩
abbrev main_v124 : Ref sig .tc := ⟨.hbm, 169, rfl⟩
abbrev main_v125 : Ref sig .tc := ⟨.hbm, 170, rfl⟩
abbrev main_cst_24 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_call5_cst : Ref sig .tc := ⟨.hbm, 182, rfl⟩
abbrev main_call5_v0 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩

abbrev nD : Nat := 1
abbrev τ : Topo := Topo.v7x

variable {F : FTy → Type} [FloatOps F]
-- ==== Kernel4.lean ====
abbrev S8x8192x1024 : Shape := ⟨3, ![8, 8192, 1024]⟩
abbrev S1x1024 : Shape := ⟨2, ![1, 1024]⟩
abbrev S1x1024x5632 : Shape := ⟨3, ![1, 1024, 5632]⟩
abbrev S1x8x128x128 : Shape := ⟨4, ![1, 8, 128, 128]⟩
abbrev S1x8x128 : Shape := ⟨3, ![1, 8, 128]⟩
abbrev S1x128 : Shape := ⟨2, ![1, 128]⟩
abbrev S1024 : Shape := ⟨1, ![1024]⟩
abbrev S128 : Shape := ⟨1, ![128]⟩
abbrev S_ : Shape := ⟨0, ![]⟩
abbrev S1024x5632 : Shape := ⟨2, ![1024, 5632]⟩
abbrev S8x128x128 : Shape := ⟨3, ![8, 128, 128]⟩
abbrev S8x128 : Shape := ⟨2, ![8, 128]⟩
abbrev S8x128x1 : Shape := ⟨3, ![8, 128, 1]⟩
abbrev S65536x1024 : Shape := ⟨2, ![65536, 1024]⟩
abbrev S65536x256 : Shape := ⟨2, ![65536, 256]⟩
abbrev S256x65536 : Shape := ⟨2, ![256, 65536]⟩
abbrev S1024x1024 : Shape := ⟨2, ![1024, 1024]⟩
abbrev S1x1024x256 : Shape := ⟨3, ![1, 1024, 256]⟩
abbrev S1024x256 : Shape := ⟨2, ![1024, 256]⟩
abbrev S256x1024 : Shape := ⟨2, ![256, 1024]⟩
abbrev S1024x1 : Shape := ⟨2, ![1024, 1]⟩
abbrev S256x256 : Shape := ⟨2, ![256, 256]⟩
abbrev S256x1 : Shape := ⟨2, ![256, 1]⟩
abbrev S256 : Shape := ⟨1, ![256]⟩
abbrev S256x128 : Shape := ⟨2, ![256, 128]⟩
abbrev S128x128 : Shape := ⟨2, ![128, 128]⟩
abbrev S128x256 : Shape := ⟨2, ![128, 256]⟩
abbrev S1x128x128 : Shape := ⟨3, ![1, 128, 128]⟩

abbrev nBuf : Space → Nat
  | .hbm => 36
  | .vmem => 25
  | .smem => 0
  | _ => 0

abbrev bufTy : (tb : Table) → Fin (tcTables nBuf tb) → BufTy
  | .hbm, ⟨0, _⟩ => ⟨S8x8192x1024, .f32⟩
  | .hbm, ⟨1, _⟩ => ⟨S1x1024, .f32⟩
  | .hbm, ⟨2, _⟩ => ⟨S1x1024x5632, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S1x128, .f32⟩
  | .hbm, ⟨7, _⟩ => ⟨S1x128, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S1024x5632, .f32⟩
  | .hbm, ⟨24, _⟩ => ⟨S1024x5632, .bf16⟩
  | .hbm, ⟨25, _⟩ => ⟨S8x128x128, .f32⟩
  | .hbm, ⟨26, _⟩ => ⟨S8x128x128, .bf16⟩
  | .hbm, ⟨27, _⟩ => ⟨S8x128, .f32⟩
  | .hbm, ⟨28, _⟩ => ⟨S8x128x1, .f32⟩
  | .hbm, ⟨29, _⟩ => ⟨S8x128x128, .f32⟩
  | .hbm, ⟨30, _⟩ => ⟨S65536x1024, .f32⟩
  | .hbm, ⟨31, _⟩ => ⟨S65536x1024, .bf16⟩
  | .hbm, ⟨32, _⟩ => ⟨S65536x1024, .bf16⟩
  | .hbm, ⟨33, _⟩ => ⟨S65536x256, .bf16⟩
  | .hbm, ⟨34, _⟩ => ⟨S256x65536, .bf16⟩
  | .hbm, ⟨35, _⟩ => ⟨S65536x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S1x1024x256, .f32⟩
  | .local _ .vmem, ⟨5, _⟩ => ⟨S1x1024, .f32⟩
  | .local _ .vmem, ⟨6, _⟩ => ⟨S1x128, .f32⟩
  | .local _ .vmem, ⟨7, _⟩ => ⟨S1x128, .f32⟩
  | .local _ .vmem, ⟨8, _⟩ => ⟨S8x128x128, .bf16⟩
  | .local _ .vmem, ⟨9, _⟩ => ⟨S8x128x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x256, .bf16⟩
  | .local _ .vmem, ⟨15, _⟩ => ⟨S1024x256, .bf16⟩
  | .local _ .vmem, ⟨16, _⟩ => ⟨S256x1024, .bf16⟩
  | .local _ .vmem, ⟨17, _⟩ => ⟨S256x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1024x1024, .bf16⟩
  | .local _ .vmem, ⟨23, _⟩ => ⟨S1024x1024, .bf16⟩
  | .local _ .vmem, ⟨24, _⟩ => ⟨S256x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c13_i32 : BitVec 32 := 13#32
  let c0_i32_1 : BitVec 32 := 0#32
  ![c0_i32.toNat, c0_i32_0.toNat, c13_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel4Ideal.lean ====
variable {F : FTy → Type} [FloatOps F] [Named F]
def κ : String → Option EReal := fun
  | "gelu_cube" => some (((-2) * ((Real.log 2)⁻¹ * ((6693141 / 8388608) * (12003091 / 268435456))) : ℝ) : EReal)
  | "gelu_scale" => some (((-2) * ((Real.log 2)⁻¹ * (6693141 / 8388608)) : ℝ) : EReal)
  | "neg_log2e" => some (((-1) * (Real.log 2)⁻¹ : ℝ) : EReal)
  | "q_scale" => some (((Real.sqrt 128)⁻¹ * (Real.log 2)⁻¹ : ℝ) : EReal)
  | _ => none
-- ==== Reference4Ideal.lean ====
abbrev S8x8192x1024 : Shape := ⟨3, ![8, 8192, 1024]⟩
abbrev S1x1024 : Shape := ⟨2, ![1, 1024]⟩
abbrev S1x1024x5632 : Shape := ⟨3, ![1, 1024, 5632]⟩
abbrev S1x8x128x128 : Shape := ⟨4, ![1, 8, 128, 128]⟩
abbrev S1x8x128 : Shape := ⟨3, ![1, 8, 128]⟩
abbrev S1x128 : Shape := ⟨2, ![1, 128]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x5632 : Shape := ⟨2, ![1024, 5632]⟩
abbrev S8x8192x5632 : Shape := ⟨3, ![8, 8192, 5632]⟩
abbrev S8x8192x256 : Shape := ⟨3, ![8, 8192, 256]⟩
abbrev S8x128x128 : Shape := ⟨3, ![8, 128, 128]⟩
abbrev S8x128 : Shape := ⟨2, ![8, 128]⟩
abbrev S8x64x128x8x128 : Shape := ⟨5, ![8, 64, 128, 8, 128]⟩
abbrev S8x8x64x128x128 : Shape := ⟨5, ![8, 8, 64, 128, 128]⟩
abbrev S128x8 : Shape := ⟨2, ![128, 8]⟩
abbrev S1x1x128x8x1 : Shape := ⟨5, ![1, 1, 128, 8, 1]⟩
abbrev S8x8192x8x128 : Shape := ⟨4, ![8, 8192, 8, 128]⟩
abbrev S128 : Shape := ⟨1, ![128]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩
abbrev S8x8192x2x128 : Shape := ⟨4, ![8, 8192, 2, 128]⟩
abbrev S8x8192x2 : Shape := ⟨3, ![8, 8192, 2]⟩
abbrev S8x8192x2x1 : Shape := ⟨4, ![8, 8192, 2, 1]⟩
abbrev S65536x1024 : Shape := ⟨2, ![65536, 1024]⟩
abbrev S65536x256 : Shape := ⟨2, ![65536, 256]⟩
abbrev S256x65536 : Shape := ⟨2, ![256, 65536]⟩

abbrev nBuf : Space → Nat
  | .hbm => 160
  | .vmem => 0
  | .smem => 0
  | _ => 0

abbrev hbmTy0_0 (i : Nat) : BufTy := match i % 128 with
  | 0 => ⟨S8x8192x1024, .f32⟩
  | 1 => ⟨S1x1024, .f32⟩
  | 2 => ⟨S1x1024x5632, .f32⟩
  | 3 => ⟨S1x1024, .f32⟩
  | 4 => ⟨S1x8x128x128, .f32⟩
  | 5 => ⟨S1x8x128, .f32⟩
  | 6 => ⟨S1x128, .f32⟩
  | 7 => ⟨S1x128, .f32⟩
  | 8 => ⟨S1024, .f32⟩
  | 9 => ⟨S8x8192x1024, .f32⟩
  | 10 => ⟨S_, .f32⟩
  | 11 => ⟨S8x8192, .f32⟩
  | 12 => ⟨S8x8192x1, .f32⟩
  | 13 => ⟨S_, .f32⟩
  | 14 => ⟨S8x8192x1, .f32⟩
  | 15 => ⟨S8x8192x1, .f32⟩
  | 16 => ⟨S_, .f32⟩
  | 17 => ⟨S8x8192x1, .f32⟩
  | 18 => ⟨S8x8192x1, .f32⟩
  | 19 => ⟨S8x8192x1, .f32⟩
  | 20 => ⟨S8x8192x1024, .f32⟩
  | 21 => ⟨S8x8192x1024, .f32⟩
  | 22 => ⟨S1x1x1024, .f32⟩
  | 23 => ⟨S8x8192x1024, .f32⟩
  | 24 => ⟨S8x8192x1024, .f32⟩
  | 25 => ⟨S1024x5632, .f32⟩
  | 26 => ⟨S8x8192x5632, .f32⟩
  | 27 => ⟨S8x8192x1024, .f32⟩
  | 28 => ⟨S8x8192x1024, .f32⟩
  | 29 => ⟨S8x8192x1024, .f32⟩
  | 30 => ⟨S8x8192x256, .f32⟩
  | 31 => ⟨S8x8192x256, .f32⟩
  | 32 => ⟨S8x8192x1024, .f32⟩
  | 33 => ⟨S8x8192x1024, .f32⟩
  | 34 => ⟨S1024, .f32⟩
  | 35 => ⟨S8x128x128, .f32⟩
  | 36 => ⟨S8x128, .f32⟩
  | 37 => ⟨S8x8192x1024, .f32⟩
  | 38 => ⟨S8x8192x1024, .f32⟩
  | 39 => ⟨S_, .f32⟩
  | 40 => ⟨S8x8192x1024, .f32⟩
  | 41 => ⟨S8x8192x1024, .f32⟩
  | 42 => ⟨S8x8192x1024, .f32⟩
  | 43 => ⟨S_, .f32⟩
  | 44 => ⟨S8x8192x1024, .f32⟩
  | 45 => ⟨S8x8192x1024, .f32⟩
  | 46 => ⟨S8x8192x1024, .f32⟩
  | 47 => ⟨S_, .f32⟩
  | 48 => ⟨S8x8192x1024, .f32⟩
  | 49 => ⟨S8x8192x1024, .f32⟩
  | 50 => ⟨S_, .f32⟩
  | 51 => ⟨S8x8192x1024, .f32⟩
  | 52 => ⟨S8x8192x1024, .f32⟩
  | 53 => ⟨S8x8192x1024, .f32⟩
  | 54 => ⟨S8x8192x1024, .f32⟩
  | 55 => ⟨S8x8192x1024, .f32⟩
  | 56 => ⟨S_, .f32⟩
  | 57 => ⟨S8x8192x1024, .f32⟩
  | 58 => ⟨S8x8192x1024, .f32⟩
  | 59 => ⟨S8x8192x1024, .f32⟩
  | 60 => ⟨S_, .f32⟩
  | 61 => ⟨S8x8192x1024, .f32⟩
  | 62 => ⟨S8x8192x1024, .f32⟩
  | 63 => ⟨S8x8192x1024, .f32⟩
  | 64 => ⟨S_, .f32⟩
  | 65 => ⟨S8x8192x1024, .f32⟩
  | 66 => ⟨S8x8192x1024, .f32⟩
  | 67 => ⟨S_, .f32⟩
  | 68 => ⟨S8x8192x1024, .f32⟩
  | 69 => ⟨S8x8192x1024, .f32⟩
  | 70 => ⟨S8x8192x1024, .f32⟩
  | 71 => ⟨S8x8192x1024, .f32⟩
  | 72 => ⟨S_, .f32⟩
  | 73 => ⟨S8x8192, .f32⟩
  | 74 => ⟨S8x8192x1, .f32⟩
  | 75 => ⟨S_, .f32⟩
  | 76 => ⟨S8x8192x1, .f32⟩
  | 77 => ⟨S8x8192x1, .f32⟩
  | 78 => ⟨S_, .f32⟩
  | 79 => ⟨S8x8192x1, .f32⟩
  | 80 => ⟨S8x8192x1, .f32⟩
  | 81 => ⟨S8x8192x1, .f32⟩
  | 82 => ⟨S8x8192x1024, .f32⟩
  | 83 => ⟨S8x8192x1024, .f32⟩
  | 84 => ⟨S1x1x1024, .f32⟩
  | 85 => ⟨S8x8192x1024, .f32⟩
  | 86 => ⟨S8x8192x1024, .f32⟩
  | 87 => ⟨S8x64x128x8x128, .f32⟩
  | 88 => ⟨S8x8x64x128x128, .f32⟩
  | 89 => ⟨S8x64x128x8x128, .f32⟩
  | 90 => ⟨S128x8, .f32⟩
  | 91 => ⟨S1x1x128x8x1, .f32⟩
  | 92 => ⟨S8x64x128x8x128, .f32⟩
  | 93 => ⟨S8x64x128x8x128, .f32⟩
  | 94 => ⟨S8x8192x1024, .f32⟩
  | 95 => ⟨S8x8192x1024, .f32⟩
  | 96 => ⟨S8x8192x8x128, .f32⟩
  | 97 => ⟨S128, .f32⟩
  | 98 => ⟨S8x8192x8x128, .f32⟩
  | 99 => ⟨S_, .f32⟩
  | 100 => ⟨S8x8192x8, .f32⟩
  | 101 => ⟨S8x8192x8x1, .f32⟩
  | 102 => ⟨S_, .f32⟩
  | 103 => ⟨S8x8192x8x1, .f32⟩
  | 104 => ⟨S8x8192x8x1, .f32⟩
  | 105 => ⟨S_, .f32⟩
  | 106 => ⟨S8x8192x8x1, .f32⟩
  | 107 => ⟨S8x8192x8x1, .f32⟩
  | 108 => ⟨S8x8192x8x1, .f32⟩
  | 109 => ⟨S8x8192x8x128, .f32⟩
  | 110 => ⟨S8x8192x8x128, .f32⟩
  | 111 => ⟨S1x1x1x128, .f32⟩
  | 112 => ⟨S8x8192x8x128, .f32⟩
  | 113 => ⟨S8x8192x8x128, .f32⟩
  | 114 => ⟨S8x8192x2x128, .f32⟩
  | 115 => ⟨S128, .f32⟩
  | 116 => ⟨S8x8192x2x128, .f32⟩
  | 117 => ⟨S_, .f32⟩
  | 118 => ⟨S8x8192x2, .f32⟩
  | 119 => ⟨S8x8192x2x1, .f32⟩
  | 120 => ⟨S_, .f32⟩
  | 121 => ⟨S8x8192x2x1, .f32⟩
  | 122 => ⟨S8x8192x2x1, .f32⟩
  | 123 => ⟨S_, .f32⟩
  | 124 => ⟨S8x8192x2x1, .f32⟩
  | 125 => ⟨S8x8192x2x1, .f32⟩
  | 126 => ⟨S8x8192x2x1, .f32⟩
  | 127 => ⟨S8x8192x2x128, .f32⟩
  | _ => ⟨S8x8192x1024, .f32⟩

abbrev hbmTy0_1 (i : Nat) : BufTy := match i % 128 with
  | 0 => ⟨S8x8192x2x128, .f32⟩
  | 1 => ⟨S1x1x1x128, .f32⟩
  | 2 => ⟨S8x8192x2x128, .f32⟩
  | 3 => ⟨S8x8192x2x128, .f32⟩
  | 4 => ⟨S8x8192x1024, .f32⟩
  | 5 => ⟨S8x8192x1024, .f32⟩
  | 6 => ⟨S_, .f32⟩
  | 7 => ⟨S8x8192x1024, .f32⟩
  | 8 => ⟨S8x8192x1024, .f32⟩
  | 9 => ⟨S_, .f32⟩
  | 10 => ⟨S8x8192x1024, .f32⟩
  | 11 => ⟨S8x8192x1024, .f32⟩
  | 12 => ⟨S8x8192x1024, .f32⟩
  | 13 => ⟨S65536x1024, .f32⟩
  | 14 => ⟨S65536x1024, .bf16⟩
  | 15 => ⟨S65536x1024, .f32⟩
  | 16 => ⟨S65536x1024, .bf16⟩
  | 17 => ⟨S65536x256, .f32⟩
  | 18 => ⟨S65536x256, .bf16⟩
  | 19 => ⟨S65536x256, .f32⟩
  | 20 => ⟨S65536x256, .bf16⟩
  | 21 => ⟨S256x65536, .bf16⟩
  | 22 => ⟨S8x8192x1024, .f32⟩
  | 23 => ⟨S8x8192x1024, .f32⟩
  | 24 => ⟨S_, .f32⟩
  | 25 => ⟨S8x8192x1024, .f32⟩
  | 26 => ⟨S8x8192x1024, .f32⟩
  | 27 => ⟨S_, .f32⟩
  | 28 => ⟨S8x8192x1024, .f32⟩
  | 29 => ⟨S8x8192x1024, .f32⟩
  | 30 => ⟨S65536x1024, .f32⟩
  | 31 => ⟨S65536x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_13 : Ref sig .tc := ⟨.hbm, 99, rfl⟩
abbrev main_v77 : Ref sig .tc := ⟨.hbm, 100, rfl⟩
abbrev main_v78 : Ref sig .tc := ⟨.hbm, 101, rfl⟩
abbrev main_cst_14 : Ref sig .tc := ⟨.hbm, 102, rfl⟩
abbrev main_v79 : Ref sig .tc := ⟨.hbm, 103, rfl⟩
abbrev main_v80 : Ref sig .tc := ⟨.hbm, 104, rfl⟩
abbrev main_cst_15 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_16 : Ref sig .tc := ⟨.hbm, 117, rfl⟩
abbrev main_v92 : Ref sig .tc := ⟨.hbm, 118, rfl⟩
abbrev main_v93 : Ref sig .tc := ⟨.hbm, 119, rfl⟩
abbrev main_cst_17 : Ref sig .tc := ⟨.hbm, 120, rfl⟩
abbrev main_v94 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_19 : Ref sig .tc := ⟨.hbm, 134, rfl⟩
abbrev main_v106 : Ref sig .tc := ⟨.hbm, 135, rfl⟩
abbrev main_v107 : Ref sig .tc := ⟨.hbm, 136, rfl⟩
abbrev main_cst_20 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_21 : Ref sig .tc := ⟨.hbm, 152, rfl⟩
abbrev main_v122 : Ref sig .tc := ⟨.hbm, 153, rfl⟩
abbrev main_v123 : Ref sig .tc := ⟨.hbm, 154, rfl⟩
abbrev main_cst_22 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩

abbrev nD : Nat := 1
abbrev τ : Topo := Topo.v7x

variable {F : FTy → Type} [FloatOps F]
-- ==== Proof.Consts.lean ====
/- The float constants the programs spell, as the extended reals they stand for. -/
module

public import Idealize.ShloMosaic.PureOps.Ideal

@[expose] public section

noncomputable section

namespace Cert.Consts

open Idealize.ShloMosaic

theorem ofBits_128 : Ideal.ofBits .f32 0x43000000#32 = ((128 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

/-- The rounding of `log 16` the bucket of a far key divides by is at least two. -/
theorem ofBits_log16 : ∃ r : ℝ, 2 ≤ r ∧ Ideal.ofBits .f32 0x40317218#32 = (r : EReal) := by
  refine ⟨_, ?_, by simp [Ideal.ofBits, Ideal.ieee, -EReal.coe_mul]; rfl⟩
  norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

end Cert.Consts

end
-- ==== Proof.Pre.lean ====
/- What the preconditions, the prompt's and the sample's, say: every entry of the queries, the keys, the biases and the sinks is a real number. -/
module

public import proofs.«01_k».proof.Defs
public import proofs.«01_k».proof.Proof.Consts
public import Idealize.ShloMosaic.Lib.Pointwise
public import Idealize.ShloMosaic.Lib.Affine

@[expose] public section

noncomputable section

namespace Cert.Pre

open Idealize.ShloMosaic

/-- The side conditions of the precondition's operations. -/
theorem facts : Cert.Pre_finite_logits.Facts where
  bitsLt_bf16_f32 := by decide
  bcast_S_S8x4096x1024 := by decide
  bcast_S_S8x4096x256 := by decide
  bcast_S_S32x8 := by decide
  bcast_S_S1x8 := by decide

/-- The side conditions of the sample's precondition's. -/
theorem sample_facts : Cert.Pre_sample_finite_logits.Facts where
  bitsLt_bf16_f32 := by decide
  bcast_S_S8x8192x1024 := by decide
  bcast_S_S8x8192x256 := by decide
  bcast_S_S32x8 := by decide
  bcast_S_S1x8 := by decide

/-- A number of magnitude below infinity is real. -/
theorem real_of_olt (x : EReal) (h : FloatOps.cmpf (F := Ideal) (φ := .f32) .olt (FloatOps.hostAbsf (F := Ideal) (φ := .f32) x) (Ideal.ofBits .f32 0x7F800000#32) = 1#1) : ∃ r : ℝ, x = r := by
  rw [Consts.ofBits_inf] at h
  induction x with
  | bot => exact absurd h (by simp [Ideal.cmp, FloatOps.cmpf, FloatOps.hostAbsf])
  | top => exact absurd h (by simp [Ideal.cmp, FloatOps.cmpf, FloatOps.hostAbsf])
  | coe a => exact ⟨a, rfl⟩

/-- The queries, the keys, the biases and the sinks are real. -/
theorem finite (m : (ℓ : Loc Cert.KernelIdeal.nD Cert.KernelIdeal.τ Cert.KernelIdeal.sig) → Buf (Elt Ideal) ℓ) (h : Cert.Pre_KernelIdeal_finite_logits (hPre_finite_logits := facts) m) (c : Dev Cert.KernelIdeal.nD) :
    (∀ j, ∃ x : ℝ, (show Vec Ideal Cert.KernelIdeal.S8x4096x1024 .bf16 from m ((c.tc : Thread Cert.KernelIdeal.nD Cert.KernelIdeal.τ).loc Cert.KernelIdeal.main_arg2)) j = (x : EReal))
    ∧ (∀ j, ∃ x : ℝ, (show Vec Ideal Cert.KernelIdeal.S8x4096x256 .bf16 from m ((c.tc : Thread Cert.KernelIdeal.nD Cert.KernelIdeal.τ).loc Cert.KernelIdeal.main_arg3)) j = (x : EReal))
    ∧ (∀ j, ∃ x : ℝ, (show Vec Ideal Cert.KernelIdeal.S32x8 .f32 from m ((c.tc : Thread Cert.KernelIdeal.nD Cert.KernelIdeal.τ).loc Cert.KernelIdeal.main_arg6)) j = (x : EReal))
    ∧ (∀ j, ∃ x : ℝ, (show Vec Ideal Cert.KernelIdeal.S1x8 .f32 from m ((c.tc : Thread Cert.KernelIdeal.nD Cert.KernelIdeal.τ).loc Cert.KernelIdeal.main_arg7)) j = (x : EReal)) := by
  obtain ⟨h0, h1, h2, h3⟩ := h c
  exact ⟨fun j => real_of_olt _ (congrFun h0 j), fun j => real_of_olt _ (congrFun h1 j), fun j => real_of_olt _ (congrFun h2 j), fun j => real_of_olt _ (congrFun h3 j)⟩

/-- The queries, the keys, the biases and the sinks of the sample are real. -/
theorem sample_finite (m : (ℓ : Loc Cert.Kernel3Ideal.nD Cert.Kernel3Ideal.τ Cert.Kernel3Ideal.sig) → Buf (Elt Ideal) ℓ) (h : Cert.Pre_Kernel3Ideal_sample_finite_logits (hPre_sample_finite_logits := sample_facts) m) (c : Dev Cert.Kernel3Ideal.nD) :
    (∀ j, ∃ x : ℝ, (show Vec Ideal Cert.Kernel3Ideal.S8x8192x1024 .bf16 from m ((c.tc : Thread Cert.Kernel3Ideal.nD Cert.Kernel3Ideal.τ).loc Cert.Kernel3Ideal.main_arg2)) j = (x : EReal))
    ∧ (∀ j, ∃ x : ℝ, (show Vec Ideal Cert.Kernel3Ideal.S8x8192x256 .bf16 from m ((c.tc : Thread Cert.Kernel3Ideal.nD Cert.Kernel3Ideal.τ).loc Cert.Kernel3Ideal.main_arg3)) j = (x : EReal))
    ∧ (∀ j, ∃ x : ℝ, (show Vec Ideal Cert.Kernel3Ideal.S32x8 .f32 from m ((c.tc : Thread Cert.Kernel3Ideal.nD Cert.Kernel3Ideal.τ).loc Cert.Kernel3Ideal.main_arg6)) j = (x : EReal))
    ∧ (∀ j, ∃ x : ℝ, (show Vec Ideal Cert.Kernel3Ideal.S1x8 .f32 from m ((c.tc : Thread Cert.Kernel3Ideal.nD Cert.Kernel3Ideal.τ).loc Cert.Kernel3Ideal.main_arg7)) j = (x : EReal)) := by
  obtain ⟨h0, h1, h2, h3⟩ := h c
  exact ⟨fun j => real_of_olt _ (congrFun h0 j), fun j => real_of_olt _ (congrFun h1 j), fun j => real_of_olt _ (congrFun h2 j), fun j => real_of_olt _ (congrFun h3 j)⟩

end Cert.Pre

end
-- ==== Proof.Frames.lean ====
/- The claims that state no value: both kernels and the reference run, leave their arguments as they were and
   every semaphore at zero; and the two constants the idealized kernel names are the reals they round. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Pre
public import Idealize.ShloMosaic.Lib.Quiescent

@[expose] public section

noncomputable section

open Idealize.ShloMosaic Idealize.SL.Sem

namespace Cert.Proof.Frames

/-- The printed kernel runs from every memory. -/
theorem kernel : Cert.quiescent_Kernel := fun m ρ _ => Cert.Kernel.Gen.frame m ρ

/-- So does the idealized kernel. -/
theorem kernelIdeal : Cert.quiescent_KernelIdeal := fun m ρ _ => Cert.KernelIdeal.Gen.frame m ρ

/-- The reference runs from every memory. -/
theorem referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Both run in particular where the value claim assumes real logits. -/
theorem kernelIdeal_pre : Cert.quiescent_KernelIdeal_pre_finite_logits (hPre_finite_logits := Cert.Pre.facts) := fun m ρ _ => Cert.KernelIdeal.Gen.frame m ρ

theorem referenceIdeal_pre : Cert.quiescent_ReferenceIdeal_pre_finite_logits (hPre_finite_logits := Cert.Pre.facts) := fun m ρ _ => referenceIdeal m ρ trivial

/-- The named constants: log₂ e is (log 2)⁻¹, and the mask's filler stands for −∞. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl⟩

end Cert.Proof.Frames

end
-- ==== Proof.Words.lean ====
/- The mixer's arithmetic, written once: one head's tile of the merged activations as a function of the arrays read for
   it, and a half tile's channel mix as a function of the merged rows. The kernel's unrolled text is these
   functions at each block, key/value head and query head. -/
module

public import proofs.«01_k».proof.Proof.Gen.KernelIdeal.Skeleton

@[expose] public section

noncomputable section

namespace Cert.KernelIdeal.Words

open Cert.KernelIdeal Cert.KernelIdeal.Gen Idealize.ShloMosaic

variable {F : FTy → Type} [FloatOps F] [Named F]

/-- The four heads' columns of a row of scores are slices of it. -/
theorem slices_st (g : Fin 4) : S384x512.Slices ![0, 128 * g.val] S384x128 := by
  fin_cases g
  exacts [slices_S384x512_o0_0_S384x128, slices_S384x512_o0_128_S384x128, slices_S384x512_o0_256_S384x128,
    slices_S384x512_o0_384_S384x128]

/-- Likewise of the values. -/
theorem slices_pv (g : Fin 4) : S128x512.Slices ![0, 128 * g.val] S128x128 := by
  fin_cases g
  exacts [slices_S128x512_o0_0_S128x128, slices_S128x512_o0_128_S128x128, slices_S128x512_o0_256_S128x128,
    slices_S128x512_o0_384_S128x128]

/-- The raw scores of a band of keys against the four heads' queries. -/
def st (kb : Vec F S384x128 .bf16) (q : Fin 4 → Vec F S128x128 .bf16) : FVec F S384x512 .f32 :=
  matmul dot_S384x128_S512x128_S384x512_1_1_0_0_n_n none kb
    (concatenate S512x128 0
      [⟨S128x128, shapeCast S128x128 (q 0) shapeCasts_S128x128_S128x128⟩, ⟨S128x128, shapeCast S128x128 (q 1) shapeCasts_S128x128_S128x128⟩,
       ⟨S128x128, shapeCast S128x128 (q 2) shapeCasts_S128x128_S128x128⟩, ⟨S128x128, shapeCast S128x128 (q 3) shapeCasts_S128x128_S128x128⟩]
      concatenates_S128x128_S128x128_S128x128_S128x128_S512x128_d0)
    (constant S384x512 .f32 0x00000000#32)

/-- One head's scores with the bias table's block added. -/
def sg (s : FVec F S384x512 .f32) (tb : Vec F S1x1x384x128 .f32) (g : Fin 4) : FVec F S384x128 .f32 :=
  addf (extractStridedSlice S384x128 ![0, 128 * g.val] s (slices_st g)) (shapeCast S384x128 tb shapeCasts_S1x1x384x128_S384x128)

/-- The head's sink logit, to base two. -/
def sk (s : Elt F .f32) : F .f32 := Scalar.mulf s (Named.named κ "log2e" 0x3FB8AA3B#32)

/-- The column maxima, the sink among them. -/
def mx (s : FVec F S384x128 .f32) (z : F .f32) : FVec F S1x128 .f32 :=
  maximumf (shapeCast S1x128 (multiReduction .maximumf [0] S128 s 0xFF800000#32 reduces_S384x128_S128 (.inl rfl) rfl) shapeCasts_S128_S1x128)
    (broadcast S1x128 z)

/-- The unnormalised weights. -/
def ex (s : FVec F S384x128 .f32) (z : F .f32) : FVec F S384x128 .f32 :=
  exp2 (subf s (broadcastTo S384x128 (mx s z) broadcasts_S1x128_S384x128))

/-- The reciprocal denominators. -/
def inv (s : FVec F S384x128 .f32) (z : F .f32) : FVec F S1x128 .f32 :=
  divf (broadcast S1x128 (Scalar.ofBits .f32 0x3F800000#32))
    (addf (shapeCast S1x128 (multiReduction .add [0] S128 (ex s z) 0x00000000#32 reduces_S384x128_S128 (.inl rfl) rfl) shapeCasts_S128_S1x128)
      (exp2 (subf (broadcast S1x128 z) (mx s z))))

/-- The values weighted by the four heads' weights. -/
def pv (vb : Vec F S128x384 .bf16) (e : Fin 4 → FVec F S384x128 .f32) : FVec F S128x512 .f32 :=
  matmul dot_S128x384_S384x512_S128x512_1_0_0_1_n_n none vb
    (concatenate S384x512 1
      [⟨S384x128, truncf .bf16 (e 0) bitsLt_bf16_f32⟩, ⟨S384x128, truncf .bf16 (e 1) bitsLt_bf16_f32⟩,
       ⟨S384x128, truncf .bf16 (e 2) bitsLt_bf16_f32⟩, ⟨S384x128, truncf .bf16 (e 3) bitsLt_bf16_f32⟩]
      concatenates_S384x128_S384x128_S384x128_S384x128_S384x512_d1)
    (constant S128x512 .f32 0x00000000#32)

/-- One head's tile of the merged activations. -/
def merge (ga gb : Vec F S128x128 .bf16) (o : FVec F S128x512 .f32) (d : FVec F S1x128 .f32) (g : Fin 4) : FVec F S128x128 .bf16 :=
  shapeCast S128x128
    (addf (shapeCast S128x128 ga shapeCasts_S128x128_S128x128)
      (mulf (shapeCast S128x128 gb shapeCasts_S128x128_S128x128)
        (truncf .bf16
          (transpose S128x128 [1, 0]
            (mulf (extractStridedSlice S128x128 ![0, 128 * g.val] o (slices_pv g)) (broadcastTo S128x128 d broadcasts_S1x128_S128x128))
            transposes_S128x128_p1_0_S128x128)
          bitsLt_bf16_f32)))
    shapeCasts_S128x128_S128x128

/-- The tile from everything read for it. -/
def tile (kb : Vec F S384x128 .bf16) (vb : Vec F S128x384 .bf16) (q : Fin 4 → Vec F S128x128 .bf16)
    (tb : Fin 4 → Vec F S1x1x384x128 .f32) (s : Fin 4 → Elt F .f32) (ga gb : Vec F S128x128 .bf16) (g : Fin 4) : FVec F S128x128 .bf16 :=
  merge ga gb (pv vb fun h => ex (sg (st kb q) (tb h) h) (sk (s h))) (inv (sg (st kb q) (tb g) g) (sk (s g))) g

/-- The residual after the output projection. -/
def x1 (x : Vec F S256x1024 .f32) (mg : Vec F S256x1024 .bf16) (wo : Vec F S1024x1024 .bf16) : FVec F S256x1024 .f32 :=
  addf (shapeCast S256x1024 x shapeCasts_S256x1024_S256x1024)
    (matmul dot_S256x1024_S1024x1024_S256x1024_1_0_0_1_n_n none mg (shapeCast S1024x1024 wo shapeCasts_S1024x1024_S1024x1024)
      (constant S256x1024 .f32 0x00000000#32))

/-- Its norm, scaled by the gains. -/
def h2 (x : FVec F S256x1024 .f32) (n : Vec F S1x1024 .f32) : FVec F S256x1024 .bf16 :=
  truncf .bf16
    (mulf
      (mulf x (broadcastTo S256x1024
        (rsqrt (addf (divf (shapeCast S256x1 (multiReduction .add [1] S256 (mulf x x) 0x00000000#32 reduces_S256x1024_S256 (.inl rfl) rfl)
            shapeCasts_S256_S256x1) (broadcast S256x1 (Scalar.ofBits .f32 0x44800000#32)))
          (broadcast S256x1 (Scalar.ofBits .f32 0x358637BD#32)))) broadcasts_S256x1_S256x1024))
      (broadcastTo S256x1024 (shapeCast S1x1024 n shapeCasts_S1x1024_S1x1024) broadcasts_S1x1024_S256x1024))
    bitsLt_bf16_f32

/-- One quarter of the hidden units' contribution. -/
def quarter (h : FVec F S256x1024 .bf16) (w1 w2 : Vec F S1024x1024 .bf16) : FVec F S256x1024 .f32 :=
  let hid := maximumf
    (matmul dot_S256x1024_S1024x1024_S256x1024_1_0_0_1_n_n none h (shapeCast S1024x1024 w1 shapeCasts_S1024x1024_S1024x1024)
      (constant S256x1024 .f32 0x00000000#32))
    (broadcast S256x1024 (Scalar.ofBits .f32 0x00000000#32))
  matmul dot_S256x1024_S1024x1024_S256x1024_1_0_0_1_n_n none (truncf .bf16 (mulf hid hid) bitsLt_bf16_f32)
    (shapeCast S1024x1024 w2 shapeCasts_S1024x1024_S1024x1024) (constant S256x1024 .f32 0x00000000#32)

/-- A half tile of the result. -/
def half (x : Vec F S256x1024 .f32) (mg : Vec F S256x1024 .bf16) (wo : Vec F S1024x1024 .bf16) (n : Vec F S1x1024 .f32)
    (w1 w2 : Fin 4 → Vec F S1024x1024 .bf16) : FVec F S256x1024 .f32 :=
  addf (addf (addf (addf (x1 x mg wo) (quarter (h2 (x1 x mg wo) n) (w1 0) (w2 0))) (quarter (h2 (x1 x mg wo) n) (w1 1) (w2 1)))
    (quarter (h2 (x1 x mg wo) n) (w1 2) (w2 2))) (quarter (h2 (x1 x mg wo) n) (w1 3) (w2 3))

end Cert.KernelIdeal.Words

end
-- ==== Proof.Ran.lean ====
/- What the mixer's unrolled run leaves, in the words of Words.lean: the scratch bands it assembles, the tiles it merges,
   and the two halves of the output block. The memory the blocks are staged in is left open, so that every call of the
   mixer reads from here. -/
module

public import Idealize.ShloMosaic.Lib.WholeRead
public import Idealize.ShloMosaic.Lib.Ring
public import Idealize.ShloMosaic.Lib.Tactic
public import proofs.«01_k».proof.Proof.Words

@[expose] public section

set_option maxRecDepth 16384

noncomputable section

namespace Cert.KernelIdeal.Ran

open Cert.KernelIdeal Cert.KernelIdeal.Gen Idealize.ShloMosaic Idealize.ShloMosaic.TcCoe Idealize.ShloMosaic.Tactic Idealize.SL.Sem

variable {F : FTy → Type} [FloatOps F] [Named F]

/- The staged blocks, with the variant of the bias table each of the tile's four blocks of rows takes. -/
variable {sig : RefSig} (vr : Fin 4 → Fin 3)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S256x512 .bf16) (harg7 : arg7.IsWhole)
  (arg8 : Memref sig .tc .vmem S256x128 .bf16) (harg8 : arg8.IsWhole)
  (arg9 : Memref sig .tc .vmem S256x128 .bf16) (harg9 : arg9.IsWhole)
  (arg10 : Memref sig .tc .vmem S512x1024 .bf16) (harg10 : arg10.IsWhole)
  (arg11 : Memref sig .tc .vmem S3x2x384x512 .f32) (harg11 : arg11.IsWhole)
  (arg12 : Memref sig .tc .smem S8 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x4096 .bf16) (harg15 : arg15.IsWhole)
  (arg16 : Memref sig .tc .vmem S4096x1024 .bf16) (harg16 : arg16.IsWhole)
  (arg17 : Memref sig .tc .vmem S512x1024 .f32) (harg17 : arg17.IsWhole)
  (arg18 : Memref sig .tc .vmem S768x256 .bf16) (harg18 : arg18.IsWhole)
  (arg19 : Memref sig .tc .vmem S256x768 .bf16) (harg19 : arg19.IsWhole)
  (arg20 : Memref sig .tc .vmem S512x1024 .bf16) (harg20 : arg20.IsWhole)
  (x0 : Vec F S512x1024 .f32)
  (x1 : Vec F S512x1024 .bf16)
  (x2 : Vec F S512x1024 .bf16)
  (x3 : Vec F S512x256 .bf16)
  (x4 : Vec F S128x256 .bf16)
  (x5 : Vec F S128x256 .bf16)
  (x6 : Vec F S256x512 .bf16)
  (x7 : Vec F S256x128 .bf16)
  (x8 : Vec F S256x128 .bf16)
  (x9 : Vec F S512x1024 .bf16)
  (x10 : Vec F S3x2x384x512 .f32)
  (x11 : Vec F S8 .f32)
  (x12 : Vec F S1024x1024 .bf16)
  (x13 : Vec F S1x1024 .f32)
  (x14 : Vec F S1024x4096 .bf16)
  (x15 : Vec F S4096x1024 .bf16)

/-- The band of key rows: the tile's own between the neighbours'. -/
def kPieces : List (View.Piece (Elt F) S768x256 .bf16) :=
  [⟨Rect.unit ![640, 0] S128x256.size inb_S768x256_S128x256_640_0,
      shapeCast S128x256 (shapeCast S128x256 (View.readAt (Elt F) arg6.view (Rect.unit (s := S128x256) ![0, 0] S128x256.size inb_S128x256_S128x256_0_0).toLoadRect (harg6.unread x5)) shapeCasts_S128x256_S128x256) shapeCasts_S128x256_S128x256⟩,
   ⟨Rect.unit ![128, 0] S512x256.size inb_S768x256_S512x256_128_0,
      shapeCast S512x256 (shapeCast S512x256 (View.readAt (Elt F) arg4.view (Rect.unit (s := S512x256) ![0, 0] S512x256.size inb_S512x256_S512x256_0_0).toLoadRect (harg4.unread x3)) shapeCasts_S512x256_S512x256) shapeCasts_S512x256_S512x256⟩,
   ⟨Rect.unit ![0, 0] S128x256.size inb_S768x256_S128x256_0_0,
      shapeCast S128x256 (shapeCast S128x256 (View.readAt (Elt F) arg5.view (Rect.unit (s := S128x256) ![0, 0] S128x256.size inb_S128x256_S128x256_0_0).toLoadRect (harg5.unread x4)) shapeCasts_S128x256_S128x256) shapeCasts_S128x256_S128x256⟩]

/-- The band of values, transposed, likewise. -/
def vPieces : List (View.Piece (Elt F) S256x768 .bf16) :=
  [⟨Rect.unit ![0, 640] S256x128.size inb_S256x768_S256x128_0_640,
      shapeCast S256x128 (shapeCast S256x128 (View.readAt (Elt F) arg9.view (Rect.unit (s := S256x128) ![0, 0] S256x128.size inb_S256x128_S256x128_0_0).toLoadRect (harg9.unread x8)) shapeCasts_S256x128_S256x128) shapeCasts_S256x128_S256x128⟩,
   ⟨Rect.unit ![0, 128] S256x512.size inb_S256x768_S256x512_0_128,
      shapeCast S256x512 (shapeCast S256x512 (View.readAt (Elt F) arg7.view (Rect.unit (s := S256x512) ![0, 0] S256x512.size inb_S256x512_S256x512_0_0).toLoadRect (harg7.unread x6)) shapeCasts_S256x512_S256x512) shapeCasts_S256x512_S256x512⟩,
   ⟨Rect.unit ![0, 0] S256x128.size inb_S256x768_S256x128_0_0,
      shapeCast S256x128 (shapeCast S256x128 (View.readAt (Elt F) arg8.view (Rect.unit (s := S256x128) ![0, 0] S256x128.size inb_S256x128_S256x128_0_0).toLoadRect (harg8.unread x7)) shapeCasts_S256x128_S256x128) shapeCasts_S256x128_S256x128⟩]

theorem inb_q (b : Fin 4) (kh : Fin 2) (g : Fin 4) : ∀ a, (![128 * b.val, 512 * kh.val + 128 * g.val] : Fin 2 → Nat) a + S128x128.size a ≤ S512x1024.size a := by
  revert b kh g; decide
theorem inb_k (b : Fin 4) (kh : Fin 2) : ∀ a, (![128 * b.val, 128 * kh.val] : Fin 2 → Nat) a + S384x128.size a ≤ S768x256.size a := by
  revert b kh; decide
theorem inb_v (b : Fin 4) (kh : Fin 2) : ∀ a, (![128 * kh.val, 128 * b.val] : Fin 2 → Nat) a + S128x384.size a ≤ S256x768.size a := by
  revert b kh; decide
theorem inb_s (kh : Fin 2) (g : Fin 4) : ∀ a, (![4 * kh.val + g.val] : Fin 1 → Nat) a + S1.size a ≤ S8.size a := by
  revert kh g; decide
theorem inb_t (v : Fin 3) (kh : Fin 2) (g : Fin 4) : ∀ a, (![v.val, kh.val, 0, 128 * g.val] : Fin 4 → Nat) a + S1x1x384x128.size a ≤ S3x2x384x512.size a := by
  revert v kh g; decide

/-- The bias block of each block, key/value head and query head: read from the block's variant of the table. -/
def tb (b : Fin 4) (kh : Fin 2) (g : Fin 4) : Vec F S1x1x384x128 .f32 :=
  View.readAt (Elt F) arg11.view (Rect.unit (s := S3x2x384x512) ![(vr b).val, kh.val, 0, 128 * g.val] S1x1x384x128.size (inb_t (vr b) kh g)).toLoadRect (harg11.unread x10)

/-- One tile of the merged activations, at its place. -/
def piece (b : Fin 4) (kh : Fin 2) (g : Fin 4) : View.Piece (Elt F) S512x1024 .bf16 :=
  ⟨Rect.unit ![128 * b.val, 512 * kh.val + 128 * g.val] S128x128.size (inb_q b kh g),
    Words.tile (arg18.view.readCov (kPieces arg4 harg4 arg5 harg5 arg6 harg6 x3 x4 x5) (Rect.unit (s := S768x256) ![128 * b.val, 128 * kh.val] S384x128.size (inb_k b kh)).toLoadRect)
      (arg19.view.readCov (vPieces arg7 harg7 arg8 harg8 arg9 harg9 x6 x7 x8) (Rect.unit (s := S256x768) ![128 * kh.val, 128 * b.val] S128x384.size (inb_v b kh)).toLoadRect)
      (fun g => View.readAt (Elt F) arg3.view (Rect.unit (s := S512x1024) ![128 * b.val, 512 * kh.val + 128 * g.val] S128x128.size (inb_q b kh g)).toLoadRect (harg3.unread x2))
      (tb vr arg11 harg11 x10 b kh)
      (fun g => View.readAt (Elt F) arg12.view (Rect.unit (s := S8) ![4 * kh.val + g.val] S1.size (inb_s kh g)).toLoadRect (harg12.unread x11) (Shape.Idx.first (show 0 < S1.numel by decide)))
      (View.readAt (Elt F) arg2.view (Rect.unit (s := S512x1024) ![128 * b.val, 512 * kh.val + 128 * g.val] S128x128.size (inb_q b kh g)).toLoadRect (harg2.unread x1))
      (View.readAt (Elt F) arg10.view (Rect.unit (s := S512x1024) ![128 * b.val, 512 * kh.val + 128 * g.val] S128x128.size (inb_q b kh g)).toLoadRect (harg10.unread x9))
      g⟩

/-- The order the second pair of blocks' tiles were stored in, last first. -/
def late : List (Fin 4 × Fin 2 × Fin 4) :=
  [(3, 1, 3), (3, 0, 3), (2, 1, 3), (2, 0, 3), (3, 1, 2), (3, 0, 2), (2, 1, 2), (2, 0, 2),
   (3, 1, 1), (3, 0, 1), (2, 1, 1), (2, 0, 1), (3, 1, 0), (3, 0, 0), (2, 1, 0), (2, 0, 0)]

/-- And the first pair's. -/
def early : List (Fin 4 × Fin 2 × Fin 4) :=
  [(1, 1, 3), (1, 0, 3), (0, 1, 3), (0, 0, 3), (1, 1, 2), (1, 0, 2), (0, 1, 2), (0, 0, 2),
   (1, 1, 1), (1, 0, 1), (0, 1, 1), (0, 0, 1), (1, 1, 0), (1, 0, 0), (0, 1, 0), (0, 0, 0)]

/-- The merged rows stored by a list of tiles. -/
def merged (l : List (Fin 4 × Fin 2 × Fin 4)) : List (View.Piece (Elt F) S512x1024 .bf16) :=
  l.map fun t => piece vr arg2 harg2 arg3 harg3 arg4 harg4 arg5 harg5 arg6 harg6 arg7 harg7 arg8 harg8 arg9 harg9 arg10 harg10 arg11 harg11 arg12 harg12 arg18 arg19 x1 x2 x3 x4 x5 x6 x7 x8 x9 x10 x11 t.1 t.2.1 t.2.2

theorem inb_w1 (n : Fin 4) : ∀ a, (![0, 1024 * n.val] : Fin 2 → Nat) a + S1024x1024.size a ≤ S1024x4096.size a := by
  revert n; decide
theorem inb_w2 (n : Fin 4) : ∀ a, (![1024 * n.val, 0] : Fin 2 → Nat) a + S1024x1024.size a ≤ S4096x1024.size a := by
  revert n; decide
theorem inb_h (n : Fin 2) : ∀ a, (![256 * n.val, 0] : Fin 2 → Nat) a + S256x1024.size a ≤ S512x1024.size a := by
  revert n; decide

/-- Half of the output block, from the tiles merged so far. -/
def halfPiece (l : List (Fin 4 × Fin 2 × Fin 4)) (n : Fin 2) : View.Piece (Elt F) S512x1024 .f32 :=
  ⟨Rect.unit ![256 * n.val, 0] S256x1024.size (inb_h n),
    Words.half (View.readAt (Elt F) arg1.view (Rect.unit (s := S512x1024) ![256 * n.val, 0] S256x1024.size (inb_h n)).toLoadRect (harg1.unread x0))
      (arg20.view.readCov (merged vr arg2 harg2 arg3 harg3 arg4 harg4 arg5 harg5 arg6 harg6 arg7 harg7 arg8 harg8 arg9 harg9 arg10 harg10 arg11 harg11 arg12 harg12 arg18 arg19 x1 x2 x3 x4 x5 x6 x7 x8 x9 x10 x11 l) (Rect.unit (s := S512x1024) ![256 * n.val, 0] S256x1024.size (inb_h n)).toLoadRect)
      (View.readAt (Elt F) arg13.view (Rect.unit (s := S1024x1024) ![0, 0] S1024x1024.size inb_S1024x1024_S1024x1024_0_0).toLoadRect (harg13.unread x12))
      (View.readAt (Elt F) arg14.view (Rect.unit (s := S1x1024) ![0, 0] S1x1024.size inb_S1x1024_S1x1024_0_0).toLoadRect (harg14.unread x13))
      (fun n => View.readAt (Elt F) arg15.view (Rect.unit (s := S1024x4096) ![0, 1024 * n.val] S1024x1024.size (inb_w1 n)).toLoadRect (harg15.unread x14))
      (fun n => View.readAt (Elt F) arg16.view (Rect.unit (s := S4096x1024) ![1024 * n.val, 0] S1024x1024.size (inb_w2 n)).toLoadRect (harg16.unread x15))⟩

/-- The two halves, the first stored when only the first pair of blocks was merged. -/
def outPieces : List (View.Piece (Elt F) S512x1024 .f32) :=
  [halfPiece vr arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14 x15 (late ++ early) 1,
   halfPiece vr arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14 x15 (early) 0]

end Cert.KernelIdeal.Ran

end
-- ==== Proof.Spec.lean ====
/- The mathematics the two programs share, over the extended reals: softmax attention with a sink (to base e as the
   reference writes it, to base two as the kernel does) and why the two agree; and the channel mix. -/
module

public import Idealize.ShloMosaic.PureOps.Ideal
public import Idealize.ShloMosaic.PureOps.Ideal.Laws

@[expose] public section

noncomputable section

namespace Cert.Spec

open Idealize.ShloMosaic

/-- The greatest of the scores and the sink. -/
def top {n : Nat} (s : Fin n → EReal) (z : EReal) : EReal := max (Finset.univ.fold max ⊥ s) z

/-- Attention as the reference writes it: every weight divided by the denominator. -/
def attnR {n : Nat} (s v : Fin n → EReal) (z : EReal) : EReal :=
  ∑ r, v r * Ideal.div (Ideal.exp (s r - top s z)) (∑ r, Ideal.exp (s r - top s z) + Ideal.exp (z - top s z))

/-- Attention as the kernel writes it: powers of two, the sum times the reciprocal. -/
def attnK {n : Nat} (s v : Fin n → EReal) (z : EReal) : EReal :=
  (∑ r, v r * Ideal.exp2 (s r - top s z)) * Ideal.div 1 (∑ r, Ideal.exp2 (s r - top s z) + Ideal.exp2 (z - top s z))

/-- Scaling by the reciprocal of `log 2`. -/
def scale (x : EReal) : EReal := x * ((Real.log 2)⁻¹ : ℝ)

theorem log2_pos : 0 < (Real.log 2)⁻¹ := inv_pos.2 (Real.log_pos (by norm_num))

theorem scale_bot : scale ⊥ = ⊥ := EReal.bot_mul_coe_of_pos log2_pos

theorem scale_coe (a : ℝ) : scale a = ((a * (Real.log 2)⁻¹ : ℝ) : EReal) := (EReal.coe_mul _ _).symm

theorem scale_mono : Monotone scale := fun _ _ h =>
  mul_le_mul_of_nonneg_right h (EReal.coe_nonneg.2 log2_pos.le)

theorem top_scale {n : Nat} (s : Fin n → EReal) (z : EReal) : top (fun r => scale (s r)) (scale z) = scale (top s z) := by
  unfold top
  rw [scale_mono.map_max]
  congr 1
  have h := Finset.fold_hom (op := max) (op' := max) (s := Finset.univ) (f := s) (b := (⊥ : EReal)) (m := scale)
    (fun x y => scale_mono.map_max)
  rw [scale_bot] at h
  exact h

/-- With no score infinite upwards and a real sink, the greatest is real. -/
theorem top_real {n : Nat} (s : Fin n → EReal) (z : ℝ) (hs : ∀ r, s r ≠ ⊤) : ∃ M : ℝ, top s z = M := by
  have h1 : top s z ≠ ⊤ := by
    refine (max_lt ?_ (EReal.coe_lt_top z)).ne
    rw [Finset.fold_max_lt]
    exact ⟨bot_lt_top, fun r _ => lt_top_iff_ne_top.2 (hs r)⟩
  have h2 : top s z ≠ ⊥ := (lt_of_lt_of_le (EReal.bot_lt_coe z) (le_max_right _ _)).ne'
  exact ⟨(top s z).toReal, (EReal.coe_toReal h1 h2).symm⟩

/-- A power of two of a scaled difference is the exponential of the difference. -/
theorem exp2_scale (a M : ℝ) : Ideal.exp2 (scale a - scale M) = ((Real.exp (a - M) : ℝ) : EReal) := by
  rw [scale_coe, scale_coe, ← EReal.coe_sub, Ideal.exp2_coe, EReal.coe_eq_coe_iff]
  rw [Real.rpow_eq_pow, Real.rpow_def_of_pos (by norm_num)]
  congr 1
  have : Real.log 2 ≠ 0 := (Real.log_pos (by norm_num)).ne'
  field_simp

theorem exp_sub (a M : ℝ) : Ideal.exp ((a : EReal) - M) = ((Real.exp (a - M) : ℝ) : EReal) := by
  rw [← EReal.coe_sub, Ideal.exp_coe]

theorem sum_coe {n : Nat} (e : Fin n → ℝ) : ∑ r, (e r : EReal) = ((∑ r, e r : ℝ) : EReal) := by
  induction (Finset.univ : Finset (Fin n)) using Finset.induction_on with
  | empty => simp
  | insert a t ha ih => rw [Finset.sum_insert ha, Finset.sum_insert ha, ih, EReal.coe_add]

theorem sum_mul {n : Nat} (f : Fin n → EReal) (c : ℝ) (hc : 0 ≤ c) : (∑ r, f r) * (c : EReal) = ∑ r, f r * (c : EReal) := by
  induction (Finset.univ : Finset (Fin n)) using Finset.induction_on with
  | empty => simp
  | insert a t ha ih =>
    rw [Finset.sum_insert ha, Finset.sum_insert ha, ← ih, mul_comm, mul_comm (f a), mul_comm (∑ _ ∈ _, _),
      EReal.left_distrib_of_nonneg_of_ne_top (EReal.coe_nonneg.2 hc) (EReal.coe_ne_top c)]

/-- The two ways of writing it agree where the kernel's scores and sink are the reference's, scaled. The values need
    agree only where the score is not masked. -/
theorem attn_eq {n : Nat} (s t v w : Fin n → EReal) (z : ℝ) (zt : EReal) (hs : ∀ r, s r ≠ ⊤) (ht : ∀ r, t r = scale (s r))
    (hz : zt = scale z) (hv : ∀ r, s r ≠ ⊥ → v r = w r) : attnK t w zt = attnR s v z := by
  obtain ⟨M, hM⟩ := top_real s z hs
  have hM' : top t zt = scale M := by rw [hz, ← hM, ← top_scale]; congr 1; exact funext ht
  have he : ∀ r, ∃ ε : ℝ, 0 ≤ ε ∧ Ideal.exp (s r - M) = ε ∧ Ideal.exp2 (t r - scale M) = ε ∧ (ε ≠ 0 → v r = w r) := by
    intro r
    rw [ht r]
    have h1 := hs r
    have h2 := hv r
    revert h1 h2
    generalize s r = x
    induction x with
    | bot => intro _ _; exact ⟨0, le_rfl, by rw [EReal.bot_sub]; rfl, by rw [scale_bot, EReal.bot_sub]; rfl, fun h => absurd rfl h⟩
    | top => intro h; exact absurd rfl h
    | coe a => intro _ h; exact ⟨_, (Real.exp_pos _).le, exp_sub a M, exp2_scale a M, fun _ => h (EReal.coe_ne_bot a)⟩
  choose ε h0 h1 h2 h3 using he
  unfold attnK attnR
  rw [hM, hM', hz]
  simp only [h1, h2, exp_sub, exp2_scale, sum_coe, ← EReal.coe_add]
  set D : ℝ := ∑ r, ε r + Real.exp (z - M)
  have hD : 0 < D := add_pos_of_nonneg_of_pos (Finset.sum_nonneg fun r _ => h0 r) (Real.exp_pos _)
  have hdiv : ∀ x : EReal, Ideal.div x D = x * ((D⁻¹ : ℝ) : EReal) := by
    intro x
    unfold Ideal.div
    rw [if_neg (by exact_mod_cast hD.ne'), EReal.coe_inv]
  simp only [hdiv, one_mul]
  rw [sum_mul _ _ (inv_nonneg.2 hD.le)]
  refine Finset.sum_congr rfl fun r _ => ?_
  rw [← mul_assoc]
  congr 1
  by_cases h : ε r = 0
  · rw [h]; simp
  · rw [h3 r h]

/-- The channel mix of one row: the norm scaled by the gains, the hidden units' squared rectifications, their sum added
    to the row. -/
def ffn (x n : Fin 1024 → EReal) (w1 : Fin 1024 → Fin 4096 → EReal) (w2 : Fin 4096 → Fin 1024 → EReal) (c : Fin 1024) : EReal :=
  x c + ∑ j, max (∑ k, x k * Ideal.rsqrt (Ideal.div (∑ l, x l * x l) (Ideal.ofBits .f32 0x44800000#32) + Ideal.ofBits .f32 0x358637BD#32) * n k * w1 k j) 0
    * max (∑ k, x k * Ideal.rsqrt (Ideal.div (∑ l, x l * x l) (Ideal.ofBits .f32 0x44800000#32) + Ideal.ofBits .f32 0x358637BD#32) * n k * w1 k j) 0
    * w2 j c

/-- The row the channel mix starts from: the residual plus the projected merge of the gated halves. -/
def mid (x : Fin 1024 → EReal) (mg : Fin 1024 → EReal) (wo : Fin 1024 → Fin 1024 → EReal) (c : Fin 1024) : EReal :=
  x c + ∑ k, mg k * wo k c

theorem ffn_congr {x y n m : Fin 1024 → EReal} {w1 : Fin 1024 → Fin 4096 → EReal} {w2 : Fin 4096 → Fin 1024 → EReal} (h : ∀ k, x k = y k)
    (h' : ∀ k, n k = m k) (c : Fin 1024) : ffn x n w1 w2 c = ffn y m w1 w2 c := by
  rw [funext h, funext h']

theorem mid_congr {x y m m' : Fin 1024 → EReal} {w w' : Fin 1024 → Fin 1024 → EReal} (h : ∀ k, x k = y k) (h' : ∀ k, m k = m' k)
    (h'' : ∀ k l, w k l = w' k l) (c : Fin 1024) : mid x m w c = mid y m' w' c := by
  rw [funext h, funext h', funext fun k => funext (h'' k)]

end Cert.Spec

end
-- ==== Proof.Tile.lean ====
/- The mixer's arithmetic over the extended reals, read at an index: a tile of the merged activations is a gated
   attention, a half tile of the result a channel mix. -/
module

public import proofs.«01_k».proof.Proof.Words
public import proofs.«01_k».proof.Proof.Spec
public import proofs.«01_k».proof.Proof.Consts
public import Idealize.ShloMosaic.Lib.Pointwise

@[expose] public section

set_option maxRecDepth 16384

noncomputable section

namespace Cert.KernelIdeal.Words

open Cert.KernelIdeal Cert.KernelIdeal.Gen Idealize.ShloMosaic

/-- The constant the kernel scales its biases and sinks by is the reciprocal of `log 2`. -/
theorem log2e_eq : Named.named (F := Ideal) (φ := .f32) κ "log2e" 0x3FB8AA3B#32 = (((Real.log 2)⁻¹ : ℝ) : EReal) :=
  IdealRules.named_const.ideal_named_scalar _ _ _ _ rfl

/-- And its mask value minus infinity. -/
theorem mask_eq : Named.named (F := Ideal) (φ := .f32) κ "mask" 0xF149F2CA#32 = (⊥ : EReal) :=
  IdealRules.named_const.ideal_named_scalar _ _ _ _ rfl

theorem st_at (kb : Vec Ideal S384x128 .bf16) (q : Fin 4 → Vec Ideal S128x128 .bf16) (r : Fin 384) (g : Fin 4) (p : Fin 128) :
    st kb q (ix2 r ⟨128 * g.val + p.val, by omega⟩) = ∑ d : Fin 128, kb (ix2 r d) * q g (ix2 p d) := by
  have h2 : ¬ 256 + p.val < 128 ∧ ¬ 256 + p.val - 128 < 128 ∧ 256 + p.val - 128 - 128 < 128 := by omega
  have h3 : ¬ 384 + p.val < 128 ∧ ¬ 384 + p.val - 128 < 128 ∧ ¬ 384 + p.val - 128 - 128 < 128 := by omega
  have e2 : 256 + p.val - 128 - 128 = p.val := by omega
  have e3 : 384 + p.val - 128 - 128 - 128 = p.val := by omega
  fin_cases g <;>
  pointwise [st]
  · simp only [h2, dif_neg, dif_pos, not_false_eq_true, e2, p.isLt]
  · simp only [h3, dif_neg, not_false_eq_true, e3]

theorem sg_at (s : FVec Ideal S384x512 .f32) (tb : Vec Ideal S1x1x384x128 .f32) (g : Fin 4) (r : Fin 384) (p : Fin 128) :
    sg s tb g (ix2 r p) = s (ix2 r ⟨128 * g.val + p.val, by omega⟩) + tb (ix4 0 0 r p) := by
  pointwise [sg]

theorem mx_at (s : FVec Ideal S384x128 .f32) (z : EReal) (p : Fin 128) (o : Fin 1) :
   mx (F := Ideal) s z (ix2 o p) = Spec.top (fun r => s (ix2 r p)) z := by
  pointwise [mx]
  rw [Consts.ofBits_neg_inf]
  rfl

theorem ex_at (s : FVec Ideal S384x128 .f32) (z : EReal) (r : Fin 384) (p : Fin 128) :
   ex (F := Ideal) s z (ix2 r p) = Ideal.exp2 (s (ix2 r p) - Spec.top (fun r => s (ix2 r p)) z) := by
  pointwise [ex]
  rw [mx_at]
  rfl

theorem inv_at (s : FVec Ideal S384x128 .f32) (z : EReal) (p : Fin 128) (o : Fin 1) :
   inv (F := Ideal) s z (ix2 o p) =
    Ideal.div 1 (∑ r, Ideal.exp2 (s (ix2 r p) - Spec.top (fun r => s (ix2 r p)) z) + Ideal.exp2 (z - Spec.top (fun r => s (ix2 r p)) z)) := by
  pointwise [inv]
  simp only [ex_at, mx_at]
  rfl

theorem pv_at (vb : Vec Ideal S128x384 .bf16) (e : Fin 4 → FVec Ideal S384x128 .f32) (c : Fin 128) (g : Fin 4) (p : Fin 128) :
    pv vb e (ix2 c ⟨128 * g.val + p.val, by omega⟩) = ∑ r : Fin 384, vb (ix2 c r) * e g (ix2 r p) := by
  have h2 : ¬ 256 + p.val < 128 ∧ ¬ 256 + p.val - 128 < 128 ∧ 256 + p.val - 128 - 128 < 128 := by omega
  have h3 : ¬ 384 + p.val < 128 ∧ ¬ 384 + p.val - 128 < 128 ∧ ¬ 384 + p.val - 128 - 128 < 128 := by omega
  have e2 : 256 + p.val - 128 - 128 = p.val := by omega
  have e3 : 384 + p.val - 128 - 128 - 128 = p.val := by omega
  fin_cases g <;>
  pointwise [pv]
  · simp only [h2, dif_neg, dif_pos, not_false_eq_true, e2, p.isLt]
  · simp only [h3, dif_neg, not_false_eq_true, e3]

theorem merge_at (ga gb : Vec Ideal S128x128 .bf16) (o : FVec Ideal S128x512 .f32) (d : FVec Ideal S1x128 .f32) (g : Fin 4) (p c : Fin 128) :
    merge ga gb o d g (ix2 p c) = ga (ix2 p c) + gb (ix2 p c) * (o (ix2 c ⟨128 * g.val + p.val, by omega⟩) * d (ix2 0 p)) := by
  pointwise [merge]

/-- A tile is the first gated half plus the second's gate times an attention over the band. -/
theorem tile_at (kb : Vec Ideal S384x128 .bf16) (vb : Vec Ideal S128x384 .bf16) (q : Fin 4 → Vec Ideal S128x128 .bf16)
    (tb : Fin 4 → Vec Ideal S1x1x384x128 .f32) (s : Fin 4 → EReal) (ga gb : Vec Ideal S128x128 .bf16) (g : Fin 4) (p c : Fin 128) :
    tile (F := Ideal) kb vb q tb s ga gb g (ix2 p c) = ga (ix2 p c) + gb (ix2 p c) *
      Spec.attnK (fun r : Fin 384 => ∑ d : Fin 128, kb (ix2 r d) * q g (ix2 p d) + tb g (ix4 0 0 r p)) (fun r => vb (ix2 c r)) (Spec.scale (s g)) := by
  have hs : sk (F := Ideal) (s g) = Spec.scale (s g) := by
    unfold sk Spec.scale
    rw [log2e_eq]
    rfl
  unfold tile
  rw [merge_at, pv_at, inv_at]
  simp only [ex_at, sg_at, st_at, hs]
  rfl

theorem x1_at (x : Vec Ideal S256x1024 .f32) (mg : Vec Ideal S256x1024 .bf16) (wo : Vec Ideal S1024x1024 .bf16) (r : Fin 256) (c : Fin 1024) :
    x1 x mg wo (ix2 r c) = Spec.mid (fun k => x (ix2 r k)) (fun k => mg (ix2 r k)) (fun k l => wo (ix2 k l)) c := by
  pointwise [x1]
  rfl

theorem h2_at (x : FVec Ideal S256x1024 .f32) (n : Vec Ideal S1x1024 .f32) (r : Fin 256) (c : Fin 1024) :
    h2 x n (ix2 r c) = x (ix2 r c) * Ideal.rsqrt (Ideal.div (∑ k : Fin 1024, x (ix2 r k) * x (ix2 r k)) (Ideal.ofBits .f32 0x44800000#32) + Ideal.ofBits .f32 0x358637BD#32) * n (ix2 0 c) := by
  pointwise [h2]

theorem quarter_at (h : FVec Ideal S256x1024 .bf16) (w1 w2 : Vec Ideal S1024x1024 .bf16) (r : Fin 256) (c : Fin 1024) :
    quarter h w1 w2 (ix2 r c) = ∑ j : Fin 1024, max (∑ k : Fin 1024, h (ix2 r k) * w1 (ix2 k j)) 0 * max (∑ k : Fin 1024, h (ix2 r k) * w1 (ix2 k j)) 0 * w2 (ix2 j c) := by
  pointwise [quarter]

/-- A sum over 4096 is four sums over 1024. -/
theorem sum_quarters (f : Fin 4096 → EReal) : ∑ j, f j =
    ∑ j : Fin 1024, f ⟨1024 * 0 + j.val, by omega⟩ + ∑ j : Fin 1024, f ⟨1024 * 1 + j.val, by omega⟩
      + ∑ j : Fin 1024, f ⟨1024 * 2 + j.val, by omega⟩ + ∑ j : Fin 1024, f ⟨1024 * 3 + j.val, by omega⟩ := by
  rw [← (finProdFinEquiv (m := 4) (n := 1024)).sum_comp, Fintype.sum_prod_type, Fin.sum_univ_four]
  congr 1

/-- A half tile is the channel mix of its rows. -/
theorem half_at (x : Vec Ideal S256x1024 .f32) (mg : Vec Ideal S256x1024 .bf16) (wo : Vec Ideal S1024x1024 .bf16) (n : Vec Ideal S1x1024 .f32)
    (w1 w2 : Fin 4 → Vec Ideal S1024x1024 .bf16) (W1 : Fin 1024 → Fin 4096 → EReal) (W2 : Fin 4096 → Fin 1024 → EReal)
    (h1 : ∀ i k j, w1 i (ix2 k j) = W1 k ⟨1024 * i.val + j.val, by omega⟩) (h2 : ∀ i j c, w2 i (ix2 j c) = W2 ⟨1024 * i.val + j.val, by omega⟩ c)
    (r : Fin 256) (c : Fin 1024) :
    half x mg wo n w1 w2 (ix2 r c) =
      Spec.ffn (Spec.mid (fun k => x (ix2 r k)) (fun k => mg (ix2 r k)) (fun k l => wo (ix2 k l))) (fun k => n (ix2 0 k)) W1 W2 c := by
  unfold half Spec.ffn
  rw [sum_quarters]
  simp only [addf_apply, Ideal.addf_def, quarter_at, h2_at, x1_at, h1, h2, ← add_assoc]
  rfl

end Cert.KernelIdeal.Words

end
-- ==== Proof.Loads.lean ====
/- Reading part of a block at an index: the block at the index moved by the rectangle's offsets. -/
module

public import Idealize.ShloMosaic.Lib.Pointwise
public import Idealize.ShloMosaic.Lib.WholeRead
public import Idealize.ShloMosaic.Lib.Pipeline.Value

@[expose] public section

noncomputable section

namespace Cert.Loads

open Idealize.ShloMosaic

/-- A rectangle's place of an index of rank two. -/
theorem idx2 {A B a b : Nat} (o0 o1 : Nat) (inb : ∀ i, (![o0, o1] : Fin 2 → Nat) i + (![a, b] : Fin 2 → Nat) i ≤ (⟨2, ![A, B]⟩ : Shape).size i)
    (p : Fin a) (c : Fin b) :
    (Rect.unit (s := ⟨2, ![A, B]⟩) ![o0, o1] ![a, b] inb).toLoadRect.idx (ix2 p c) =
      ix2 ⟨o0 + p.val, lt_of_lt_of_le (Nat.add_lt_add_left p.isLt _) (inb 0)⟩ ⟨o1 + c.val, lt_of_lt_of_le (Nat.add_lt_add_left c.isLt _) (inb 1)⟩ := by
  funext i
  apply Fin.ext
  fin_cases i
  · show o0 + 1 * p.val = o0 + p.val
    omega
  · show o1 + 1 * c.val = o1 + c.val
    omega

/-- The same, the place given by its coordinates. -/
theorem idx2' {A B a b : Nat} (o0 o1 : Nat) (inb : ∀ i, (![o0, o1] : Fin 2 → Nat) i + (![a, b] : Fin 2 → Nat) i ≤ (⟨2, ![A, B]⟩ : Shape).size i)
    (p : Fin a) (c : Fin b) (P : Fin A) (C : Fin B) (h : P.val = o0 + p.val) (h' : C.val = o1 + c.val) :
    (Rect.unit (s := ⟨2, ![A, B]⟩) ![o0, o1] ![a, b] inb).toLoadRect.idx (ix2 p c) = ix2 P C :=
  (idx2 o0 o1 inb p c).trans (congrArg₂ ix2 (Fin.ext h.symm) (Fin.ext h'.symm))

/-- And of rank four. -/
theorem idx4 {A B C D a b c d : Nat} (o0 o1 o2 o3 : Nat)
    (inb : ∀ i, (![o0, o1, o2, o3] : Fin 4 → Nat) i + (![a, b, c, d] : Fin 4 → Nat) i ≤ (⟨4, ![A, B, C, D]⟩ : Shape).size i)
    (p : Fin a) (q : Fin b) (r : Fin c) (s : Fin d) :
    (Rect.unit (s := ⟨4, ![A, B, C, D]⟩) ![o0, o1, o2, o3] ![a, b, c, d] inb).toLoadRect.idx (ix4 p q r s) =
      ix4 ⟨o0 + p.val, lt_of_lt_of_le (Nat.add_lt_add_left p.isLt _) (inb 0)⟩ ⟨o1 + q.val, lt_of_lt_of_le (Nat.add_lt_add_left q.isLt _) (inb 1)⟩
        ⟨o2 + r.val, lt_of_lt_of_le (Nat.add_lt_add_left r.isLt _) (inb 2)⟩ ⟨o3 + s.val, lt_of_lt_of_le (Nat.add_lt_add_left s.isLt _) (inb 3)⟩ := by
  funext i
  apply Fin.ext
  fin_cases i
  · show o0 + 1 * p.val = o0 + p.val
    omega
  · show o1 + 1 * q.val = o1 + q.val
    omega
  · show o2 + 1 * r.val = o2 + r.val
    omega
  · show o3 + 1 * s.val = o3 + s.val
    omega

end Cert.Loads

end
-- ==== Proof.Blocks.lean ====
/- What the mixer's run leaves over the extended reals: its output block as a function of the blocks it read. -/
module

public import proofs.«01_k».proof.Proof.Ran
public import proofs.«01_k».proof.Proof.Tile
public import proofs.«01_k».proof.Proof.Loads

@[expose] public section

set_option maxRecDepth 16384

noncomputable section

namespace Cert.KernelIdeal.Blocks

open Cert.KernelIdeal Cert.KernelIdeal.Gen Idealize.ShloMosaic Idealize.ShloMosaic.TcCoe Idealize.ShloMosaic.Tactic Idealize.SL.Sem

/-- The key rows from 128 before the tile to 128 after it. -/
def kband (x3 : Vec Ideal S512x256 .bf16) (x4 x5 : Vec Ideal S128x256 .bf16) (r : Fin 768) (d : Fin 256) : EReal :=
  if h : r.val < 128 then x4 (ix2 ⟨r.val, h⟩ d)
  else if h' : r.val < 640 then x3 (ix2 ⟨r.val - 128, by omega⟩ d)
  else x5 (ix2 ⟨r.val - 640, by omega⟩ d)

/-- The values likewise, transposed. -/
def vband (x6 : Vec Ideal S256x512 .bf16) (x7 x8 : Vec Ideal S256x128 .bf16) (d : Fin 256) (r : Fin 768) : EReal :=
  if h : r.val < 128 then x7 (ix2 d ⟨r.val, h⟩)
  else if h' : r.val < 640 then x6 (ix2 d ⟨r.val - 128, by omega⟩)
  else x8 (ix2 d ⟨r.val - 640, by omega⟩)

/-- The merged activation of a row and a channel, the row given by its block and its place there, the channel by its
    key/value head, query head and place. -/
def tileVal (vr : Fin 4 → Fin 3) (x1 x2 : Vec Ideal S512x1024 .bf16) (x3 : Vec Ideal S512x256 .bf16) (x4 x5 : Vec Ideal S128x256 .bf16)
    (x6 : Vec Ideal S256x512 .bf16) (x7 x8 : Vec Ideal S256x128 .bf16) (x9 : Vec Ideal S512x1024 .bf16) (x10 : Vec Ideal S3x2x384x512 .f32)
    (x11 : Vec Ideal S8 .f32) (b : Fin 4) (kh : Fin 2) (g : Fin 4) (p c : Fin 128) : EReal :=
  x1 (ix2 ⟨128 * b.val + p.val, by omega⟩ ⟨512 * kh.val + 128 * g.val + c.val, by omega⟩) +
    x9 (ix2 ⟨128 * b.val + p.val, by omega⟩ ⟨512 * kh.val + 128 * g.val + c.val, by omega⟩) *
    Spec.attnK
      (fun r : Fin 384 => ∑ d : Fin 128, kband x3 x4 x5 ⟨128 * b.val + r.val, by omega⟩ ⟨128 * kh.val + d.val, by omega⟩ *
          x2 (ix2 ⟨128 * b.val + p.val, by omega⟩ ⟨512 * kh.val + 128 * g.val + d.val, by omega⟩)
        + x10 (ix4 (vr b) kh r ⟨128 * g.val + p.val, by omega⟩))
      (fun r => vband x6 x7 x8 ⟨128 * kh.val + c.val, by omega⟩ ⟨128 * b.val + r.val, by omega⟩)
      (Spec.scale (x11 (ix1 ⟨4 * kh.val + g.val, by omega⟩)))

/-- The same of an index. -/
def merged (vr : Fin 4 → Fin 3) (x1 x2 : Vec Ideal S512x1024 .bf16) (x3 : Vec Ideal S512x256 .bf16) (x4 x5 : Vec Ideal S128x256 .bf16)
    (x6 : Vec Ideal S256x512 .bf16) (x7 x8 : Vec Ideal S256x128 .bf16) (x9 : Vec Ideal S512x1024 .bf16) (x10 : Vec Ideal S3x2x384x512 .f32)
    (x11 : Vec Ideal S8 .f32) (r : Fin 512) (c : Fin 1024) : EReal :=
  tileVal vr x1 x2 x3 x4 x5 x6 x7 x8 x9 x10 x11 ⟨r.val / 128, by omega⟩ ⟨c.val / 512, by omega⟩ ⟨c.val % 512 / 128, by omega⟩
    ⟨r.val % 128, by omega⟩ ⟨c.val % 128, by omega⟩

variable {sig : RefSig} (vr : Fin 4 → Fin 3)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S256x512 .bf16) (harg7 : arg7.IsWhole)
  (arg8 : Memref sig .tc .vmem S256x128 .bf16) (harg8 : arg8.IsWhole)
  (arg9 : Memref sig .tc .vmem S256x128 .bf16) (harg9 : arg9.IsWhole)
  (arg10 : Memref sig .tc .vmem S512x1024 .bf16) (harg10 : arg10.IsWhole)
  (arg11 : Memref sig .tc .vmem S3x2x384x512 .f32) (harg11 : arg11.IsWhole)
  (arg12 : Memref sig .tc .smem S8 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x4096 .bf16) (harg15 : arg15.IsWhole)
  (arg16 : Memref sig .tc .vmem S4096x1024 .bf16) (harg16 : arg16.IsWhole)
  (arg17 : Memref sig .tc .vmem S512x1024 .f32) (harg17 : arg17.IsWhole)
  (arg18 : Memref sig .tc .vmem S768x256 .bf16) (harg18 : arg18.IsWhole)
  (arg19 : Memref sig .tc .vmem S256x768 .bf16) (harg19 : arg19.IsWhole)
  (arg20 : Memref sig .tc .vmem S512x1024 .bf16) (harg20 : arg20.IsWhole)
  (x0 : Vec Ideal S512x1024 .f32)
  (x1 : Vec Ideal S512x1024 .bf16)
  (x2 : Vec Ideal S512x1024 .bf16)
  (x3 : Vec Ideal S512x256 .bf16)
  (x4 : Vec Ideal S128x256 .bf16)
  (x5 : Vec Ideal S128x256 .bf16)
  (x6 : Vec Ideal S256x512 .bf16)
  (x7 : Vec Ideal S256x128 .bf16)
  (x8 : Vec Ideal S256x128 .bf16)
  (x9 : Vec Ideal S512x1024 .bf16)
  (x10 : Vec Ideal S3x2x384x512 .f32)
  (x11 : Vec Ideal S8 .f32)
  (x12 : Vec Ideal S1024x1024 .bf16)
  (x13 : Vec Ideal S1x1024 .f32)
  (x14 : Vec Ideal S1024x4096 .bf16)
  (x15 : Vec Ideal S4096x1024 .bf16)

theorem kPieces_canon (R : Fin 768) (C : Fin 256) : View.canon (Ran.kPieces arg4 harg4 arg5 harg5 arg6 harg6 x3 x4 x5) (ix2 R C) = kband x3 x4 x5 R C := by
  refine View.canon_apply_of_pieces (Val := Elt Ideal) (e := .bf16) (fun y => kband x3 x4 x5 (y 0) (y 1)) _ ?_ (ix2 R C) ?_
  · intro p hp
    fin_cases hp
    all_goals
      intro x
      obtain ⟨a, b, rfl⟩ : ∃ a b, x = ix2 a b := ⟨x 0, x 1, eq_ix2 x⟩
      have ha := a.isLt
      change _ = (fun y : S768x256.Idx => kband x3 x4 x5 (y 0) (y 1)) (LoadRect.idx _ _)
      dsimp only
      pointwise
      rw [Memref.IsWhole.readAt_unread, Loads.idx2]
      unfold kband
    · rw [dif_neg (by show ¬ 640 + a.val < 128; omega), dif_neg (by show ¬ 640 + a.val < 640; omega)]
      congr 1
      congr 1 <;> apply Fin.ext
      · show 0 + a.val = 640 + a.val - 640
        omega
      · show 0 + b.val = b.val
        omega
    · rw [dif_neg (by show ¬ 128 + a.val < 128; omega), dif_pos (by show 128 + a.val < 640; change a.val < 512 at ha; omega)]
      congr 1
      congr 1 <;> apply Fin.ext
      · show 0 + a.val = 128 + a.val - 128
        omega
      · show 0 + b.val = b.val
        omega
    · rw [dif_pos (by show a.val < 128; exact ha)]
      congr 1
      congr 1 <;> apply Fin.ext
      · show 0 + a.val = a.val
        omega
      · show 0 + b.val = b.val
        omega
  · refine View.cover_of_tiledBy _ ![128, 256] (by sl_kernel_rfl) _

theorem vPieces_canon (R : Fin 256) (C : Fin 768) : View.canon (Ran.vPieces arg7 harg7 arg8 harg8 arg9 harg9 x6 x7 x8) (ix2 R C) = vband x6 x7 x8 R C := by
  refine View.canon_apply_of_pieces (Val := Elt Ideal) (e := .bf16) (fun y => vband x6 x7 x8 (y 0) (y 1)) _ ?_ (ix2 R C) ?_
  · intro p hp
    fin_cases hp
    all_goals
      intro x
      obtain ⟨a, b, rfl⟩ : ∃ a b, x = ix2 a b := ⟨x 0, x 1, eq_ix2 x⟩
      have ha := b.isLt
      change _ = (fun y : S256x768.Idx => vband x6 x7 x8 (y 0) (y 1)) (LoadRect.idx _ _)
      dsimp only
      pointwise
      rw [Memref.IsWhole.readAt_unread, Loads.idx2]
      unfold vband
    · rw [dif_neg (by show ¬ 640 + b.val < 128; omega), dif_neg (by show ¬ 640 + b.val < 640; omega)]
      congr 1
      congr 1 <;> apply Fin.ext
      · show 0 + a.val = a.val
        omega
      · show 0 + b.val = 640 + b.val - 640
        omega
    · rw [dif_neg (by show ¬ 128 + b.val < 128; omega), dif_pos (by show 128 + b.val < 640; change b.val < 512 at ha; omega)]
      congr 1
      congr 1 <;> apply Fin.ext
      · show 0 + a.val = a.val
        omega
      · show 0 + b.val = 128 + b.val - 128
        omega
    · rw [dif_pos (by show b.val < 128; exact ha)]
      congr 1
      congr 1 <;> apply Fin.ext
      · show 0 + a.val = a.val
        omega
      · show 0 + b.val = b.val
        omega
  · refine View.cover_of_tiledBy _ ![256, 128] (by sl_kernel_rfl) _

/-- One tile's payload at an index. -/
theorem piece_at (b : Fin 4) (kh : Fin 2) (g : Fin 4) (p c : Fin 128) :
    (Ran.piece vr arg2 harg2 arg3 harg3 arg4 harg4 arg5 harg5 arg6 harg6 arg7 harg7 arg8 harg8 arg9 harg9 arg10 harg10 arg11 harg11 arg12 harg12 arg18 arg19 x1 x2 x3 x4 x5 x6 x7 x8 x9 x10 x11 b kh g).2 (ix2 p c) =
      tileVal vr x1 x2 x3 x4 x5 x6 x7 x8 x9 x10 x11 b kh g p c := by
  have htb : ∀ r : Fin 384, Ran.tb vr arg11 harg11 x10 b kh g (ix4 0 0 r p) = x10 (ix4 (vr b) kh r ⟨128 * g.val + p.val, by omega⟩) := by
    intro r
    refine (Memref.IsWhole.readAt_unread harg11 x10 _ _).trans (congrArg x10 ((Loads.idx4 _ _ _ _ _ 0 0 r p).trans ?_))
    congr 1 <;> apply Fin.ext
    all_goals first | rfl | exact Nat.zero_add _
  have hk : ∀ (r : Fin 384) (d : Fin 128), arg18.view.readCov (Ran.kPieces arg4 harg4 arg5 harg5 arg6 harg6 x3 x4 x5)
      (Rect.unit (s := S768x256) ![128 * b.val, 128 * kh.val] S384x128.size (Ran.inb_k b kh)).toLoadRect (ix2 r d) =
      kband x3 x4 x5 ⟨128 * b.val + r.val, by omega⟩ ⟨128 * kh.val + d.val, by omega⟩ := fun r d =>
    (congrFun (View.readCov_eq_canon' _ _ _) _).trans ((congrArg _ (Loads.idx2 _ _ _ r d)).trans (kPieces_canon ..))
  have hv : ∀ (d : Fin 128) (r : Fin 384), arg19.view.readCov (Ran.vPieces arg7 harg7 arg8 harg8 arg9 harg9 x6 x7 x8)
      (Rect.unit (s := S256x768) ![128 * kh.val, 128 * b.val] S128x384.size (Ran.inb_v b kh)).toLoadRect (ix2 d r) =
      vband x6 x7 x8 ⟨128 * kh.val + d.val, by omega⟩ ⟨128 * b.val + r.val, by omega⟩ := fun d r =>
    (congrFun (View.readCov_eq_canon' _ _ _) _).trans ((congrArg _ (Loads.idx2 _ _ _ d r)).trans (vPieces_canon ..))
  refine (Words.tile_at _ _ _ _ _ _ _ g p c).trans ?_
  unfold tileVal
  refine congrArg₂ (· + ·) ((Memref.IsWhole.readAt_unread harg2 x1 _ _).trans (congrArg x1 (Loads.idx2 _ _ _ p c)))
    (congrArg₂ (· * ·) ((Memref.IsWhole.readAt_unread harg10 x9 _ _).trans (congrArg x9 (Loads.idx2 _ _ _ p c))) ?_)
  congr 1
  · funext r
    exact congrArg₂ (· + ·) (Finset.sum_congr rfl fun d _ => congrArg₂ (· * ·) (hk r d)
      ((Memref.IsWhole.readAt_unread harg3 x2 _ _).trans (congrArg x2 (Loads.idx2 _ _ _ p d)))) (htb r)
  · funext r
    exact hv c r
  · refine congrArg Spec.scale ((Memref.IsWhole.readAt_unread harg12 x11 _ _).trans (congrArg x11 ?_))
    funext a
    fin_cases a
    exact Fin.ext (Nat.add_zero _)

/-- The merged rows, wherever the list of tiles covers them. -/
theorem merged_canon (l : List (Fin 4 × Fin 2 × Fin 4)) (R : Fin 512) (C : Fin 1024)
    (h : ((⟨R.val / 128, by omega⟩, ⟨C.val / 512, by omega⟩, ⟨C.val % 512 / 128, by omega⟩) : Fin 4 × Fin 2 × Fin 4) ∈ l) :
    View.canon (Ran.merged vr arg2 harg2 arg3 harg3 arg4 harg4 arg5 harg5 arg6 harg6 arg7 harg7 arg8 harg8 arg9 harg9 arg10 harg10 arg11 harg11 arg12 harg12 arg18 arg19 x1 x2 x3 x4 x5 x6 x7 x8 x9 x10 x11 l) (ix2 R C) =
      merged vr x1 x2 x3 x4 x5 x6 x7 x8 x9 x10 x11 R C := by
  refine View.canon_apply_of_pieces (Val := Elt Ideal) (e := .bf16) (fun y => merged vr x1 x2 x3 x4 x5 x6 x7 x8 x9 x10 x11 (y 0) (y 1)) _ ?_ (ix2 R C) ?_
  · intro p hp
    obtain ⟨⟨b, kh, g⟩, _, rfl⟩ := List.mem_map.1 hp
    intro x
    obtain ⟨a, c, rfl⟩ : ∃ (a c : Fin 128), x = ix2 a c := ⟨x 0, x 1, eq_ix2 x⟩
    refine (piece_at ..).trans ?_
    refine Eq.symm ((congrArg (fun y : S512x1024.Idx => merged vr x1 x2 x3 x4 x5 x6 x7 x8 x9 x10 x11 (y 0) (y 1)) (Loads.idx2 _ _ (Ran.inb_q b kh g) a c)).trans ?_)
    show merged vr x1 x2 x3 x4 x5 x6 x7 x8 x9 x10 x11 ⟨128 * b.val + a.val, _⟩ ⟨512 * kh.val + 128 * g.val + c.val, _⟩ = _
    unfold merged
    congr 1 <;> apply Fin.ext <;> dsimp only <;> omega
  · refine ⟨_, List.mem_map.2 ⟨_, h, rfl⟩, ?_⟩
    refine (Rect.mem_set_unit (inb := Ran.inb_q ⟨R.val / 128, by omega⟩ ⟨C.val / 512, by omega⟩ ⟨C.val % 512 / 128, by omega⟩)).2 fun a => ?_
    fin_cases a
    · show 128 * (R.val / 128) ≤ R.val ∧ R.val < 128 * (R.val / 128) + 128
      omega
    · show 512 * (C.val / 512) + 128 * (C.val % 512 / 128) ≤ C.val ∧ C.val < 512 * (C.val / 512) + 128 * (C.val % 512 / 128) + 128
      omega

theorem early_all (b : Fin 4) (hb : b.val < 2) (kh : Fin 2) (g : Fin 4) : (b, kh, g) ∈ Ran.early := by
  revert b kh g; decide
theorem all_all (b : Fin 4) (kh : Fin 2) (g : Fin 4) : (b, kh, g) ∈ Ran.late ++ Ran.early := by
  revert b kh g; decide

/-- The output block: the channel mix of the residual with the merged rows projected. -/
def outVal (vr : Fin 4 → Fin 3) (x0 : Vec Ideal S512x1024 .f32) (x1 x2 : Vec Ideal S512x1024 .bf16) (x3 : Vec Ideal S512x256 .bf16) (x4 x5 : Vec Ideal S128x256 .bf16)
    (x6 : Vec Ideal S256x512 .bf16) (x7 x8 : Vec Ideal S256x128 .bf16) (x9 : Vec Ideal S512x1024 .bf16) (x10 : Vec Ideal S3x2x384x512 .f32)
    (x11 : Vec Ideal S8 .f32) (x12 : Vec Ideal S1024x1024 .bf16) (x13 : Vec Ideal S1x1024 .f32) (x14 : Vec Ideal S1024x4096 .bf16) (x15 : Vec Ideal S4096x1024 .bf16)
    (r : Fin 512) (c : Fin 1024) : EReal :=
  Spec.ffn (Spec.mid (fun k => x0 (ix2 r k)) (fun k => merged vr x1 x2 x3 x4 x5 x6 x7 x8 x9 x10 x11 r k) (fun k l => x12 (ix2 k l)))
    (fun k => x13 (ix2 0 k)) (fun k j => x14 (ix2 k j)) (fun j l => x15 (ix2 j l)) c

/-- Half of it, whatever blocks it is computed from that read so. -/
theorem half_out (X : Vec Ideal S256x1024 .f32) (M : Vec Ideal S256x1024 .bf16) (O : Vec Ideal S1024x1024 .bf16) (N : Vec Ideal S1x1024 .f32)
    (w1 w2 : Fin 4 → Vec Ideal S1024x1024 .bf16) (r : Fin 256) (R : Fin 512) (c : Fin 1024)
    (hX : ∀ k, X (ix2 r k) = x0 (ix2 R k)) (hM : ∀ k, M (ix2 r k) = merged vr x1 x2 x3 x4 x5 x6 x7 x8 x9 x10 x11 R k)
    (hO : ∀ k l, O (ix2 k l) = x12 (ix2 k l)) (hN : ∀ k, N (ix2 0 k) = x13 (ix2 0 k))
    (h1 : ∀ a k j, w1 a (ix2 k j) = x14 (ix2 k ⟨1024 * a.val + j.val, by omega⟩)) (h2 : ∀ a j l, w2 a (ix2 j l) = x15 (ix2 ⟨1024 * a.val + j.val, by omega⟩ l)) :
    Words.half X M O N w1 w2 (ix2 r c) = outVal vr x0 x1 x2 x3 x4 x5 x6 x7 x8 x9 x10 x11 x12 x13 x14 x15 R c :=
  (Words.half_at X M O N w1 w2 (fun k j => x14 (ix2 k j)) (fun j l => x15 (ix2 j l)) h1 h2 r c).trans
    (Spec.ffn_congr (fun k => Spec.mid_congr hX hM hO k) hN c)

/-- Half of the output block. -/
theorem halfPiece_at (l : List (Fin 4 × Fin 2 × Fin 4)) (n : Fin 2) (hl : ∀ (b : Fin 4) (kh : Fin 2) (g : Fin 4), b.val / 2 = n.val → (b, kh, g) ∈ l) (r : Fin 256) (R : Fin 512) (hR : R.val = 256 * n.val + r.val) (c : Fin 1024) :
    Words.half (View.readAt (Elt Ideal) arg1.view (Rect.unit (s := S512x1024) ![256 * n.val, 0] S256x1024.size (Ran.inb_h n)).toLoadRect (harg1.unread x0))
      (arg20.view.readCov (Ran.merged vr arg2 harg2 arg3 harg3 arg4 harg4 arg5 harg5 arg6 harg6 arg7 harg7 arg8 harg8 arg9 harg9 arg10 harg10 arg11 harg11 arg12 harg12 arg18 arg19 x1 x2 x3 x4 x5 x6 x7 x8 x9 x10 x11 l) (Rect.unit (s := S512x1024) ![256 * n.val, 0] S256x1024.size (Ran.inb_h n)).toLoadRect)
      (View.readAt (Elt Ideal) arg13.view (Rect.unit (s := S1024x1024) ![0, 0] S1024x1024.size inb_S1024x1024_S1024x1024_0_0).toLoadRect (harg13.unread x12))
      (View.readAt (Elt Ideal) arg14.view (Rect.unit (s := S1x1024) ![0, 0] S1x1024.size inb_S1x1024_S1x1024_0_0).toLoadRect (harg14.unread x13))
      (fun n => View.readAt (Elt Ideal) arg15.view (Rect.unit (s := S1024x4096) ![0, 1024 * n.val] S1024x1024.size (Ran.inb_w1 n)).toLoadRect (harg15.unread x14))
      (fun n => View.readAt (Elt Ideal) arg16.view (Rect.unit (s := S4096x1024) ![1024 * n.val, 0] S1024x1024.size (Ran.inb_w2 n)).toLoadRect (harg16.unread x15)) (ix2 r c) =
      outVal vr x0 x1 x2 x3 x4 x5 x6 x7 x8 x9 x10 x11 x12 x13 x14 x15 R c := by
  have e : ∀ k : Fin 1024, (Rect.unit (s := S512x1024) ![256 * n.val, 0] S256x1024.size (Ran.inb_h n)).toLoadRect.idx (ix2 r k) = ix2 R k :=
    fun k => Loads.idx2' _ _ _ r k _ _ hR (Nat.zero_add _).symm
  refine half_out vr x0 x1 x2 x3 x4 x5 x6 x7 x8 x9 x10 x11 x12 x13 x14 x15 _ _ _ _ _ _ r R c ?_ ?_ ?_ ?_ ?_ ?_
  · exact fun k => (Memref.IsWhole.readAt_unread harg1 x0 _ _).trans (congrArg x0 (e k))
  · intro k
    refine (congrFun (View.readCov_eq_canon' _ _ _) _).trans ((congrArg _ (e k)).trans (merged_canon (l := l) (h := hl _ _ _ ?_) ..))
    show R.val / 128 / 2 = n.val
    omega
  · exact fun k l => (Memref.IsWhole.readAt_unread harg13 x12 _ _).trans (congrArg x12 (Loads.idx2' _ _ _ k l _ _ (Nat.zero_add _).symm (Nat.zero_add _).symm))
  · exact fun k => (Memref.IsWhole.readAt_unread harg14 x13 _ _).trans (congrArg x13 (Loads.idx2' _ _ _ 0 k _ _ rfl (Nat.zero_add _).symm))
  · exact fun a k j => (Memref.IsWhole.readAt_unread harg15 x14 _ _).trans (congrArg x14 (Loads.idx2' _ _ _ k j _ _ (Nat.zero_add _).symm rfl))
  · exact fun a j l => (Memref.IsWhole.readAt_unread harg16 x15 _ _).trans (congrArg x15 (Loads.idx2' _ _ _ j l _ _ rfl (Nat.zero_add _).symm))

/-- The output block the two halves make. -/
theorem outPieces_at (r : Fin 512) (c' : Fin 1024) :
    View.canon (Ran.outPieces vr arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14 x15) (ix2 r c') =
      outVal vr x0 x1 x2 x3 x4 x5 x6 x7 x8 x9 x10 x11 x12 x13 x14 x15 r c' := by
  unfold Ran.outPieces
  refine View.canon_apply_of_pieces (Val := Elt Ideal) (e := .f32) (fun y => outVal vr x0 x1 x2 x3 x4 x5 x6 x7 x8 x9 x10 x11 x12 x13 x14 x15 (y 0) (y 1)) _ ?_ (ix2 r c') ?_
  · intro p hp
    rcases List.mem_cons.1 hp with rfl | hp
    · intro x
      obtain ⟨a, k, rfl⟩ : ∃ (a : Fin 256) (k : Fin 1024), x = ix2 a k := ⟨x 0, x 1, eq_ix2 x⟩
      refine (halfPiece_at (l := Ran.late ++ Ran.early) (n := 1) (hl := fun b kh g _ => all_all b kh g) (r := a) (R := ⟨256 * 1 + 1 * a.val, by omega⟩) (hR := ?_) ..).trans ?_
      · show 256 * 1 + 1 * a.val = 256 * 1 + a.val
        omega
      · exact congrArg (outVal _ _ _ _ _ _ _ _ _ _ _ _ _ _ _ _ _ _) (Fin.ext (by show k.val = 0 + 1 * k.val; omega))
    · obtain rfl := List.mem_singleton.1 hp
      intro x
      obtain ⟨a, k, rfl⟩ : ∃ (a : Fin 256) (k : Fin 1024), x = ix2 a k := ⟨x 0, x 1, eq_ix2 x⟩
      refine (halfPiece_at (l := Ran.early) (n := 0) (hl := fun b kh g h => early_all b (by have : b.val / 2 = 0 := h; omega) kh g) (r := a) (R := ⟨256 * 0 + 1 * a.val, by omega⟩) (hR := ?_) ..).trans ?_
      · show 256 * 0 + 1 * a.val = 256 * 0 + a.val
        omega
      · exact congrArg (outVal _ _ _ _ _ _ _ _ _ _ _ _ _ _ _ _ _ _) (Fin.ext (by show k.val = 0 + 1 * k.val; omega))
  · by_cases hr : r.val < 256
    · refine ⟨_, List.mem_cons_of_mem _ (List.mem_singleton.2 rfl), (Rect.mem_set_unit (inb := Ran.inb_h 0)).2 fun a => ?_⟩
      fin_cases a
      · exact ⟨Nat.zero_le _, hr⟩
      · exact ⟨Nat.zero_le _, (Nat.zero_add 1024).symm ▸ c'.isLt⟩
    · refine ⟨_, List.mem_cons_self, (Rect.mem_set_unit (inb := Ran.inb_h 1)).2 fun a => ?_⟩
      fin_cases a
      · exact ⟨by show 256 * 1 ≤ r.val; omega, by show r.val < 256 * 1 + 256; omega⟩
      · exact ⟨Nat.zero_le _, (Nat.zero_add 1024).symm ▸ c'.isLt⟩

end Cert.KernelIdeal.Blocks

end
-- ==== Proof.Table.lean ====
/- What the bias table's unrolled run leaves: for every head a block of 384 × 128 biases in each of the three variants. -/
module

public import Idealize.ShloMosaic.Lib.WholeRead
public import proofs.«01_k».proof.Proof.Gen.KernelIdeal.Skeleton

@[expose] public section

set_option maxRecDepth 16384

noncomputable section

namespace Cert.KernelIdeal.Table

open Cert.KernelIdeal Cert.KernelIdeal.Gen Idealize.ShloMosaic Idealize.ShloMosaic.TcCoe Idealize.ShloMosaic.Tactic Idealize.SL.Sem

variable {F : FTy → Type} [FloatOps F] [Named F]

/-- The bias of every position: the head's entry at the position's bucket. -/
def chain (bk : IVec S384x128 32) (rb : Fin 32 → F .f32) : FVec F S384x128 .f32 :=
  (List.finRange 32).foldl (fun a b => select (cmpi .eq bk (broadcast S384x128 (BitVec.ofNat 32 b.val))) (broadcast S384x128 (rb b)) a)
    (broadcast S384x128 (Scalar.ofBits .f32 0x00000000#32))

/-- A key row's number. -/
def row : IVec S384x128 32 := iota .tc S384x128 32 [0] iota_S384x128_d0_w32

/-- Whether a key is inside the query's window. -/
def win : IVec S384x128 1 :=
  cmpi .sle (absi (subi (subi row (broadcast S384x128 128#32)) (iota .tc S384x128 32 [1] iota_S384x128_d1_w32))) (broadcast S384x128 128#32)

/-- The mask's value. -/
def off : FVec F S384x128 .f32 := broadcast S384x128 (Named.named κ "mask" 0xF149F2CA#32)

/-- The biases to base two, masked outside of the window. -/
def base (bk : IVec S384x128 32) (rb : Fin 32 → F .f32) : FVec F S384x128 .f32 :=
  select win (mulf (chain bk rb) (broadcast S384x128 (Named.named κ "log2e" 0x3FB8AA3B#32))) off

/-- The three variants: without the block before, with both neighbours, without the block after. -/
def var (bk : IVec S384x128 32) (rb : Fin 32 → F .f32) : Fin 3 → FVec F S384x128 .f32
  | 0 => select (cmpi .sge row (broadcast S384x128 128#32)) (base bk rb) off
  | 1 => base bk rb
  | 2 => select (cmpi .slt row (broadcast S384x128 256#32)) (base bk rb) off

variable {sig : RefSig}
  (arg0 : Memref sig .tc .vmem S384x128 .i32) (harg0 : arg0.IsWhole)
  (arg1 : Memref sig .tc .smem S32x8 .f32) (harg1 : arg1.IsWhole)
  (x0 : Vec F S384x128 .i32) (x1 : Vec F S32x8 .f32)

theorem inb_r (n : Fin 32) (kh : Fin 2) (g : Fin 4) : ∀ a, (![n.val, 4 * kh.val + g.val] : Fin 2 → Nat) a + S1x1.size a ≤ S32x8.size a := by
  revert n kh g; decide
theorem inb_o (v : Fin 3) (kh : Fin 2) (g : Fin 4) : ∀ a, (![v.val, kh.val, 0, 128 * g.val] : Fin 4 → Nat) a + S1x1x384x128.size a ≤ S3x2x384x512.size a := by
  revert v kh g; decide

/-- One head's block of one variant, at its place. -/
def piece (v : Fin 3) (kh : Fin 2) (g : Fin 4) : View.Piece (Elt F) S3x2x384x512 .f32 :=
  ⟨Rect.unit ![v.val, kh.val, 0, 128 * g.val] S1x1x384x128.size (inb_o v kh g),
    shapeCast S1x1x384x128
      (var (shapeCast S384x128 (View.readAt (Elt F) arg0.view (Rect.unit (s := S384x128) ![0, 0] S384x128.size inb_S384x128_S384x128_0_0).toLoadRect (harg0.unread x0)) shapeCasts_S384x128_S384x128)
        (fun n => View.readAt (Elt F) arg1.view (Rect.unit (s := S32x8) ![n.val, 4 * kh.val + g.val] S1x1.size (inb_r n kh g)).toLoadRect (harg1.unread x1) (Shape.Idx.first (show 0 < S1x1.numel by decide)))
        v)
      shapeCasts_S384x128_S1x1x384x128⟩

/-- The blocks in the order they were stored, last first. -/
def order : List (Fin 3 × Fin 2 × Fin 4) :=
  [(2, 1, 3), (1, 1, 3), (0, 1, 3), (2, 1, 2), (1, 1, 2), (0, 1, 2), (2, 1, 1), (1, 1, 1), (0, 1, 1), (2, 1, 0), (1, 1, 0), (0, 1, 0),
   (2, 0, 3), (1, 0, 3), (0, 0, 3), (2, 0, 2), (1, 0, 2), (0, 0, 2), (2, 0, 1), (1, 0, 1), (0, 0, 1), (2, 0, 0), (1, 0, 0), (0, 0, 0)]

/-- The 24 blocks. -/
def tablePieces : List (View.Piece (Elt F) S3x2x384x512 .f32) := order.map fun t => piece arg0 harg0 arg1 harg1 x0 x1 t.1 t.2.1 t.2.2

end Cert.KernelIdeal.Table

end
-- ==== Proof.Bits.lean ====
/- Words that count: the operations of the masks and the buckets on words of small integers, and the bucket of a relative
   position, which is one of the 32. -/
module

public import Idealize.ShloMosaic.PureOps.Ideal
public import proofs.«01_k».proof.Proof.Consts

@[expose] public section

noncomputable section

namespace Cert.Bits

open Idealize.ShloMosaic

/-- The word of an integer. -/
abbrev W (z : ℤ) : BitVec 32 := BitVec.ofInt 32 z

/-- Small integers. -/
abbrev Small (z : ℤ) : Prop := -1073741824 ≤ z ∧ z < 1073741824

theorem ofNat_eq (n : Nat) : BitVec.ofNat 32 n = W n := (BitVec.ofInt_natCast 32 n).symm

theorem toInt_W (z : ℤ) (h : Small z) : (W z).toInt = z := by
  rw [BitVec.toInt_ofInt]
  apply Int.bmod_eq_of_le <;> have := h.1 <;> have := h.2 <;> simp <;> omega

theorem subi_W (a b : ℤ) : IntOp.subi (W a) (W b) = W (a - b) := by
  show W a - W b = _
  rw [BitVec.sub_eq_add_neg, ← BitVec.ofInt_neg, ← BitVec.ofInt_add, sub_eq_add_neg]
theorem addi_W (a b : ℤ) : IntOp.addi (W a) (W b) = W (a + b) := (BitVec.ofInt_add a b).symm
theorem muli_W (a b : ℤ) : IntOp.muli (W a) (W b) = W (a * b) := (BitVec.ofInt_mul a b).symm

theorem absi_W (z : ℤ) (h : Small z) : IntOp.absi (W z) = W |z| := by
  unfold IntOp.absi
  rw [BitVec.msb_eq_toInt, toInt_W z h]
  by_cases hz : z < 0
  · rw [if_pos (by simpa using hz), abs_of_neg hz, ← BitVec.ofInt_neg]
  · rw [if_neg (by simpa using hz), abs_of_nonneg (by omega)]

theorem sle_W (a b : ℤ) (ha : Small a) (hb : Small b) : IntOp.cmpi .sle (W a) (W b) = BitVec.ofBool (a ≤ b) := by
  show BitVec.ofBool (decide _) = _
  rw [toInt_W a ha, toInt_W b hb]
theorem slt_W (a b : ℤ) (ha : Small a) (hb : Small b) : IntOp.cmpi .slt (W a) (W b) = BitVec.ofBool (a < b) := by
  show BitVec.ofBool (decide _) = _
  rw [toInt_W a ha, toInt_W b hb]
theorem sge_W (a b : ℤ) (ha : Small a) (hb : Small b) : IntOp.cmpi .sge (W a) (W b) = BitVec.ofBool (b ≤ a) := by
  show BitVec.ofBool (decide _) = _
  rw [toInt_W a ha, toInt_W b hb]
theorem sgt_W (a b : ℤ) (ha : Small a) (hb : Small b) : IntOp.cmpi .sgt (W a) (W b) = BitVec.ofBool (b < a) := by
  show BitVec.ofBool (decide _) = _
  rw [toInt_W a ha, toInt_W b hb]

theorem maxsi_W (a b : ℤ) (ha : Small a) (hb : Small b) : IntOp.maxsi (W a) (W b) = W (max a b) := by
  unfold IntOp.maxsi
  have : (W b).slt (W a) = decide (b < a) := by
    show decide _ = _
    rw [toInt_W a ha, toInt_W b hb]
  rw [this]
  by_cases h : b < a
  · rw [if_pos (by simpa using h), max_eq_left h.le]
  · rw [if_neg (by simpa using h), max_eq_right (by omega)]

theorem minsi_W (a b : ℤ) (ha : Small a) (hb : Small b) : IntOp.minsi (W a) (W b) = W (min a b) := by
  unfold IntOp.minsi
  have : (W a).slt (W b) = decide (a < b) := by
    show decide _ = _
    rw [toInt_W a ha, toInt_W b hb]
  rw [this]
  by_cases h : a < b
  · rw [if_pos (by simpa using h), min_eq_left h.le]
  · rw [if_neg (by simpa using h), min_eq_right (by omega)]

theorem select_ofBool {α : Type} (p : Prop) [Decidable p] (a b : α) : Scalar.select (BitVec.ofBool p) a b = if p then a else b := by
  unfold Scalar.select
  by_cases h : p <;> simp [h]

theorem andi_ofBool (p q : Prop) [Decidable p] [Decidable q] : IntOp.andi (BitVec.ofBool p) (BitVec.ofBool q) = BitVec.ofBool (p ∧ q) := by
  unfold IntOp.andi
  by_cases h : p <;> by_cases h' : q <;> simp [h, h']

/-- The bucket of a relative position: near keys one each, far ones logarithmically, those after the query the upper half. -/
def bucket (rel : BitVec 32) : BitVec 32 :=
  IntOp.addi (Scalar.select (IntOp.cmpi .sgt rel 0#32) 16#32 0#32)
    (Scalar.select (IntOp.cmpi .slt (IntOp.absi rel) 8#32) (IntOp.absi rel)
      (IntOp.minsi (IntOp.addi 8#32 (FloatOps.fptosi (F := Ideal) (φ := .f32) 32
        (FloatOps.mulf (FloatOps.hostDivf (FloatOps.hostUnary .log
          (FloatOps.hostDivf (FloatOps.sitofp .f32 (IntOp.maxsi (IntOp.absi rel) 1#32)) (FloatOps.ofBits .f32 0x41000000#32)))
          (FloatOps.ofBits .f32 0x40317218#32)) (FloatOps.ofBits .f32 0x41000000#32)))) 15#32))

/-- The logarithm's part of it is a small nonnegative number. -/
theorem far (n : ℤ) (h : 8 ≤ n) (h' : n < 1048576) : ∃ m : ℤ, 0 ≤ m ∧ m < 1048576 ∧
    FloatOps.fptosi (F := Ideal) (φ := .f32) 32
        (FloatOps.mulf (FloatOps.hostDivf (FloatOps.hostUnary .log
          (FloatOps.hostDivf (FloatOps.sitofp .f32 (W n)) (FloatOps.ofBits .f32 0x41000000#32)))
          (FloatOps.ofBits .f32 0x40317218#32)) (FloatOps.ofBits .f32 0x41000000#32)) = W m := by
  obtain ⟨r, hr, hre⟩ := Consts.ofBits_log16
  have hn : (8 : ℝ) ≤ n := by exact_mod_cast h
  have hn' : (n : ℝ) < 1048576 := by exact_mod_cast h'
  have e : FloatOps.mulf (F := Ideal) (φ := .f32) (FloatOps.hostDivf (FloatOps.hostUnary .log
          (FloatOps.hostDivf (FloatOps.sitofp .f32 (W n)) (FloatOps.ofBits .f32 0x41000000#32)))
          (FloatOps.ofBits .f32 0x40317218#32)) (FloatOps.ofBits .f32 0x41000000#32) = ((Real.log (n * 8⁻¹) * r⁻¹ * 8 : ℝ) : EReal) := by
    show Ideal.div (Ideal.log (Ideal.div ((((W n).toInt : ℝ)) : EReal) (Ideal.ofBits .f32 0x41000000#32))) (Ideal.ofBits .f32 0x40317218#32) * Ideal.ofBits .f32 0x41000000#32 = _
    rw [toInt_W n ⟨by omega, by omega⟩, hre, Consts.ofBits_8, Ideal.div_coe (by norm_num : (8:ℝ) ≠ 0), ← EReal.coe_mul, Ideal.log_coe,
      if_neg (by linarith), Ideal.div_coe (by linarith : r ≠ 0), ← EReal.coe_mul, ← EReal.coe_mul, one_div, one_div]
  have h0 : 0 ≤ Real.log (n * 8⁻¹) := Real.log_nonneg (by linarith)
  have h1 : Real.log (n * 8⁻¹) ≤ n * 8⁻¹ := (Real.log_le_sub_one_of_pos (by linarith)).trans (by linarith)
  have hri : r⁻¹ ≤ 1 / 2 := by rw [inv_eq_one_div]; exact one_div_le_one_div_of_le (by norm_num) hr
  have hri0 : 0 ≤ r⁻¹ := by positivity
  set x := Real.log (n * 8⁻¹) * r⁻¹ * 8 with hx
  have hx0 : 0 ≤ x := by positivity
  have hx1 : x < 1048576 := by nlinarith [mul_le_mul h1 hri hri0 (by linarith)]
  refine ⟨⌊x⌋, Int.floor_nonneg.2 hx0, ?_, ?_⟩
  · exact Int.floor_lt.2 (by exact_mod_cast hx1)
  · rw [e]
    show Ideal.fptosi 32 _ = _
    rw [Ideal.fptosi, Ideal.toIntClamped_coe, if_pos hx0]
    have hf : ⌊x⌋ < 1048576 := Int.floor_lt.2 (by exact_mod_cast hx1)
    have hf0 := Int.floor_nonneg.2 hx0
    congr 1
    simp
    omega

/-- The bucket is one of the 32. -/
theorem bucket_range (z : ℤ) (h : |z| < 1048576) : ∃ n : Fin 32, bucket (W z) = BitVec.ofNat 32 n.val := by
  have hz : Small z := by rw [abs_lt] at h; exact ⟨by omega, by omega⟩
  have ha : 0 ≤ |z| := abs_nonneg z
  have key : ∃ m : ℤ, 0 ≤ m ∧ m < 16 ∧ Scalar.select (IntOp.cmpi .slt (IntOp.absi (W z)) 8#32) (IntOp.absi (W z))
      (IntOp.minsi (IntOp.addi 8#32 (FloatOps.fptosi (F := Ideal) (φ := .f32) 32
        (FloatOps.mulf (FloatOps.hostDivf (FloatOps.hostUnary .log
          (FloatOps.hostDivf (FloatOps.sitofp .f32 (IntOp.maxsi (IntOp.absi (W z)) 1#32)) (FloatOps.ofBits .f32 0x41000000#32)))
          (FloatOps.ofBits .f32 0x40317218#32)) (FloatOps.ofBits .f32 0x41000000#32)))) 15#32) = W m := by
    rw [absi_W z hz, show (8#32 : BitVec 32) = W 8 from rfl, show (1#32 : BitVec 32) = W 1 from rfl, show (15#32 : BitVec 32) = W 15 from rfl,
      slt_W _ _ ⟨by omega, by omega⟩ ⟨by omega, by omega⟩, select_ofBool]
    by_cases hl : |z| < 8
    · exact ⟨|z|, ha, by omega, by rw [if_pos hl]⟩
    · obtain ⟨m, h0, h1, e⟩ := far |z| (by omega) h
      refine ⟨min (8 + m) 15, by omega, by omega, ?_⟩
      rw [if_neg hl, maxsi_W _ _ ⟨by omega, by omega⟩ ⟨by omega, by omega⟩, max_eq_left (by omega), e, addi_W, minsi_W _ _ ⟨by omega, by omega⟩ ⟨by omega, by omega⟩]
  obtain ⟨m, h0, h1, e⟩ := key
  unfold bucket
  rw [e, show (0#32 : BitVec 32) = W 0 from rfl, show (16#32 : BitVec 32) = W 16 from rfl, sgt_W _ _ hz ⟨by omega, by omega⟩, select_ofBool]
  refine ⟨⟨(if 0 < z then 16 + m else m).toNat, by split_ifs <;> omega⟩, ?_⟩
  rw [ofNat_eq, Int.toNat_of_nonneg (by split_ifs <;> omega)]
  split_ifs with h2
  · rw [addi_W]
  · rw [addi_W, zero_add]

end Cert.Bits

end
-- ==== Proof.TableAt.lean ====
/- The bias table over the extended reals: the entry of a position is its head's bias at its bucket, to base two, or
   −∞ outside of the window. -/
module

public import proofs.«01_k».proof.Proof.Table
public import proofs.«01_k».proof.Proof.Tile
public import proofs.«01_k».proof.Proof.Loads
public import proofs.«01_k».proof.Proof.Bits

@[expose] public section

set_option maxRecDepth 16384

noncomputable section

namespace Cert.KernelIdeal.Table

open Cert.KernelIdeal Cert.KernelIdeal.Gen Idealize.ShloMosaic Idealize.ShloMosaic.TcCoe Idealize.ShloMosaic.Tactic Idealize.SL.Sem

theorem select_eq_word {α : Type} (x y : BitVec 32) (a b : α) : Scalar.select (IntOp.cmpi .eq x y) a b = if x = y then a else b := by
  unfold Scalar.select IntOp.cmpi
  by_cases h : x = y
  · simp [h]
  · rw [beq_eq_false_iff_ne.2 h, if_neg h]
    rfl

/-- Choosing the entry of the position's own bucket: a pass over all the buckets finds it. -/
theorem chain_at (bk : IVec S384x128 32) (rb : Fin 32 → EReal) (r : Fin 384) (p : Fin 128) (n : Fin 32) (h : bk (ix2 r p) = BitVec.ofNat 32 n.val) :
    chain (F := Ideal) bk rb (ix2 r p) = rb n := by
  have key : ∀ (l : List (Fin 32)) (a : FVec Ideal S384x128 .f32),
      (n ∈ l ∨ a (ix2 r p) = rb n) →
      l.foldl (fun a b => select (cmpi .eq bk (broadcast S384x128 (BitVec.ofNat 32 b.val))) (broadcast S384x128 (rb b)) a) a (ix2 r p) = rb n := by
    intro l
    induction l with
    | nil => intro a ha; exact ha.resolve_left (List.not_mem_nil)
    | cons b l ih =>
      intro a ha
      refine ih _ ?_
      by_cases hb : b = n
      · right
        subst hb
        show Scalar.select (IntOp.cmpi .eq (bk (ix2 r p)) (BitVec.ofNat 32 b.val)) (rb b) (a (ix2 r p)) = rb b
        rw [select_eq_word, if_pos h]
      · rcases ha with ha | ha
        · exact .inl ((List.mem_cons.1 ha).resolve_left (fun h => hb h.symm))
        · right
          show Scalar.select (IntOp.cmpi .eq (bk (ix2 r p)) (BitVec.ofNat 32 b.val)) (rb b) (a (ix2 r p)) = rb n
          have : BitVec.ofNat 32 n.val ≠ BitVec.ofNat 32 b.val := fun e => hb (Fin.ext (by
            have := congrArg BitVec.toNat e
            simp only [BitVec.toNat_ofNat] at this
            omega))
          rw [select_eq_word, h, if_neg this, ha]
  exact key _ _ (.inl (List.mem_finRange n))

/-- A key row is within 128 of the query's place in the middle block. -/
def inside (r : Fin 384) (p : Fin 128) : Prop := p.val ≤ r.val ∧ r.val ≤ p.val + 256

/-- The rows a variant keeps. -/
def kept (v : Fin 3) (r : Fin 384) : Prop := (v = 0 → 128 ≤ r.val) ∧ (v = 2 → r.val < 256)

open Classical in
/-- The entry of the table. -/
def entry (v : Fin 3) (b : EReal) (r : Fin 384) (p : Fin 128) : EReal :=
  if inside r p ∧ kept v r then Spec.scale b else ⊥

theorem row_at (r : Fin 384) (p : Fin 128) : row (ix2 r p) = Bits.W r.val := by
  show BitVec.ofNat 32 (0 * 384 + r.val) = _
  rw [Bits.ofNat_eq]
  congr 1
  omega

open Classical in
theorem win_at (r : Fin 384) (p : Fin 128) : win (ix2 r p) = BitVec.ofBool (inside r p) := by
  show IntOp.cmpi .sle (IntOp.absi (IntOp.subi (IntOp.subi (row (ix2 r p)) 128#32) (BitVec.ofNat 32 (0 * 128 + p.val)))) 128#32 = _
  have hs : |(r.val : ℤ) - 128 - ((0 * 128 + p.val : Nat) : ℤ)| < 1024 := by rw [abs_lt]; omega
  have h0 := abs_nonneg ((r.val : ℤ) - 128 - ((0 * 128 + p.val : Nat) : ℤ))
  rw [row_at, Bits.ofNat_eq (0 * 128 + p.val), show (128#32 : BitVec 32) = Bits.W 128 from rfl, Bits.subi_W, Bits.subi_W, Bits.absi_W _ ⟨by omega, by omega⟩,
    Bits.sle_W _ _ ⟨by omega, by omega⟩ ⟨by omega, by omega⟩]
  congr 1
  unfold inside
  rw [decide_eq_decide, abs_le]
  omega

open Classical in
theorem var_at (bk : IVec S384x128 32) (rb : Fin 32 → EReal) (v : Fin 3) (r : Fin 384) (p : Fin 128) (n : Fin 32) (h : bk (ix2 r p) = BitVec.ofNat 32 n.val) :
    var (F := Ideal) bk rb v (ix2 r p) = entry v (rb n) r p := by
  have hb : base (F := Ideal) bk rb (ix2 r p) = if inside r p then Spec.scale (rb n) else ⊥ := by
    show Scalar.select (win (ix2 r p)) (chain (F := Ideal) bk rb (ix2 r p) * Named.named (F := Ideal) (φ := .f32) κ "log2e" 0x3FB8AA3B#32) (Named.named (F := Ideal) (φ := .f32) κ "mask" 0xF149F2CA#32) = _
    rw [win_at, Bits.select_ofBool, chain_at bk rb r p n h, Words.log2e_eq, Words.mask_eq]
    rfl
  unfold entry kept
  fin_cases v
  · show Scalar.select (IntOp.cmpi .sge (row (ix2 r p)) 128#32) (base (F := Ideal) bk rb (ix2 r p)) (Named.named (F := Ideal) (φ := .f32) κ "mask" 0xF149F2CA#32) = _
    rw [row_at, show (128#32 : BitVec 32) = Bits.W 128 from rfl, Bits.sge_W _ _ (by constructor <;> omega) (by constructor <;> omega), Bits.select_ofBool, hb, Words.mask_eq]
    by_cases h1 : inside r p <;> by_cases h2 : 128 ≤ r.val
    · rw [if_pos (by omega), if_pos h1, if_pos ⟨h1, fun _ => h2, by simp⟩]
    · rw [if_neg (by omega), if_neg (fun hh => h2 (hh.2.1 rfl))]
    · rw [if_pos (by omega), if_neg h1, if_neg (fun hh => h1 hh.1)]
    · rw [if_neg (by omega), if_neg (fun hh => h1 hh.1)]
  · show base (F := Ideal) bk rb (ix2 r p) = _
    rw [hb]
    by_cases h1 : inside r p
    · rw [if_pos h1, if_pos ⟨h1, by simp, by simp⟩]
    · rw [if_neg h1, if_neg (fun hh => h1 hh.1)]
  · show Scalar.select (IntOp.cmpi .slt (row (ix2 r p)) 256#32) (base (F := Ideal) bk rb (ix2 r p)) (Named.named (F := Ideal) (φ := .f32) κ "mask" 0xF149F2CA#32) = _
    rw [row_at, show (256#32 : BitVec 32) = Bits.W 256 from rfl, Bits.slt_W _ _ (by constructor <;> omega) (by constructor <;> omega), Bits.select_ofBool, hb, Words.mask_eq]
    by_cases h1 : inside r p <;> by_cases h2 : r.val < 256
    · rw [if_pos (by omega), if_pos h1, if_pos ⟨h1, by simp, fun _ => h2⟩]
    · rw [if_neg (by omega), if_neg (fun hh => h2 (hh.2.2 rfl))]
    · rw [if_pos (by omega), if_neg h1, if_neg (fun hh => h1 hh.1)]
    · rw [if_neg (by omega), if_neg (fun hh => h1 hh.1)]

variable {sig : RefSig}
  (arg0 : Memref sig .tc .vmem S384x128 .i32) (harg0 : arg0.IsWhole)
  (arg1 : Memref sig .tc .smem S32x8 .f32) (harg1 : arg1.IsWhole)
  (x0 : Vec Ideal S384x128 .i32) (x1 : Vec Ideal S32x8 .f32)

theorem cast_at (w : FVec Ideal S384x128 .f32) (r : Fin 384) (p : Fin 128) : shapeCast S1x1x384x128 w shapeCasts_S384x128_S1x1x384x128 (ix4 0 0 r p) = w (ix2 r p) := by
  pointwise

theorem same_at (w : IVec S384x128 32) (r : Fin 384) (p : Fin 128) : shapeCast S384x128 w shapeCasts_S384x128_S384x128 (ix2 r p) = w (ix2 r p) := by
  pointwise

/-- A stored block at an index. -/
theorem piece_at (v : Fin 3) (kh : Fin 2) (g : Fin 4) (r : Fin 384) (p : Fin 128) (n : Fin 32) (h : x0 (ix2 r p) = BitVec.ofNat 32 n.val) :
    (piece arg0 harg0 arg1 harg1 x0 x1 v kh g).2 (ix4 0 0 r p) = entry v (x1 (ix2 n ⟨4 * kh.val + g.val, by omega⟩)) r p := by
  refine (cast_at _ r p).trans ((var_at _ _ v r p n ?_).trans ?_)
  · refine (same_at _ r p).trans (Eq.trans ?_ h)
    exact (Memref.IsWhole.readAt_unread harg0 x0 _ _).trans (congrArg x0 (Loads.idx2' _ _ _ r p _ _ (Nat.zero_add _).symm (Nat.zero_add _).symm))
  · refine congrArg (fun b => entry v b r p) ((Memref.IsWhole.readAt_unread harg1 x1 _ _).trans (congrArg x1 ?_))
    funext a
    fin_cases a
    · exact Fin.ext (Nat.add_zero _)
    · exact Fin.ext (Nat.add_zero _)

/-- The table the blocks make. -/
theorem table_at (B : Fin 384 → Fin 128 → Fin 32) (h : ∀ r p, x0 (ix2 r p) = BitVec.ofNat 32 (B r p).val) (v : Fin 3) (kh : Fin 2) (r : Fin 384) (j : Fin 512) :
    View.canon (tablePieces arg0 harg0 arg1 harg1 x0 x1) (ix4 v kh r j) =
      entry v (x1 (ix2 (B r ⟨j.val % 128, by omega⟩) ⟨4 * kh.val + j.val / 128, by omega⟩)) r ⟨j.val % 128, by omega⟩ := by
  unfold tablePieces
  refine View.canon_apply_of_pieces (Val := Elt Ideal) (e := .f32) (fun y : S3x2x384x512.Idx =>
    entry (y 0) (x1 (ix2 (B (y 2) ⟨(y 3).val % 128, by omega⟩) ⟨4 * (y 1).val + (y 3).val / 128, by have : (y 1).val < 2 := (y 1).isLt; have : (y 3).val < 512 := (y 3).isLt; omega⟩)) (y 2) ⟨(y 3).val % 128, by omega⟩) _ ?_ (ix4 v kh r j) ?_
  · intro q hq
    obtain ⟨⟨v, kh, g⟩, _, rfl⟩ := List.mem_map.1 hq
    intro x
    obtain ⟨a, b, r, p, rfl⟩ : ∃ (a b : Fin 1) (r : Fin 384) (p : Fin 128), x = ix4 a b r p := ⟨x 0, x 1, x 2, x 3, eq_ix4 x⟩
    obtain rfl : a = 0 := Subsingleton.elim _ _
    obtain rfl : b = 0 := Subsingleton.elim _ _
    refine (piece_at arg0 harg0 arg1 harg1 x0 x1 v kh g r p (B r p) (h r p)).trans ?_
    have e : ∀ (v' : Fin 3) (kh' : Fin 2) (r' : Fin 384) (j' : Fin 512), v' = v → kh' = kh → r' = r → j'.val = 128 * g.val + p.val →
        entry v (x1 (ix2 (B r p) ⟨4 * kh.val + g.val, by omega⟩)) r p =
          entry v' (x1 (ix2 (B r' ⟨j'.val % 128, by omega⟩) ⟨4 * kh'.val + j'.val / 128, by omega⟩)) r' ⟨j'.val % 128, by omega⟩ := by
      intro v' kh' r' j' hv hk hr hj
      subst hv hk hr
      have e1 : (⟨j'.val % 128, by omega⟩ : Fin 128) = p := Fin.ext (by show j'.val % 128 = p.val; omega)
      have e2 : (⟨4 * kh'.val + j'.val / 128, by omega⟩ : Fin 8) = ⟨4 * kh'.val + g.val, by omega⟩ := Fin.ext (by show 4 * kh'.val + j'.val / 128 = 4 * kh'.val + g.val; omega)
      rw [e1, e2]
    exact e _ _ _ _ (Fin.ext (by show v.val + 1 * 0 = v.val; omega)) (Fin.ext (by show kh.val + 1 * 0 = kh.val; omega)) (Fin.ext (by show 0 + 1 * r.val = r.val; omega))
      (by show 128 * g.val + 1 * p.val = _; omega)
  · have hm : ∀ (v : Fin 3) (kh : Fin 2) (g : Fin 4), (v, kh, g) ∈ order := by decide
    refine ⟨_, List.mem_map.2 ⟨_, hm v kh ⟨j.val / 128, by omega⟩, rfl⟩, ?_⟩
    refine (Rect.mem_set_unit (inb := inb_o v kh ⟨j.val / 128, by omega⟩)).2 fun a => ?_
    fin_cases a
    · exact ⟨le_refl v.val, Nat.lt_succ_self _⟩
    · exact ⟨le_refl kh.val, Nat.lt_succ_self _⟩
    · exact ⟨Nat.zero_le _, by show r.val < 0 + 384; omega⟩
    · exact ⟨by show 128 * (j.val / 128) ≤ j.val; omega, by show j.val < 128 * (j.val / 128) + 128; omega⟩

end Cert.KernelIdeal.Table

end
-- ==== Proof.Run.lean ====
/- The prompt's program stores what Ran.lean and Table.lean describe: its bias table is that one, and its mixer takes the
   biases of a tile's edge blocks from the variant the tile's place picks. -/
module

public import proofs.«01_k».proof.Proof.Blocks
public import proofs.«01_k».proof.Proof.TableAt
public import proofs.«01_k».proof.Proof.Gen.KernelIdeal.Frame

@[expose] public section

set_option maxRecDepth 16384

noncomputable section

namespace Cert.KernelIdeal.Run

open Cert.KernelIdeal Cert.KernelIdeal.Gen Idealize.ShloMosaic Idealize.ShloMosaic.TcCoe Idealize.ShloMosaic.Tactic Idealize.SL.Sem

/-- The bias table's run. -/
theorem table_eq {F : FTy → Type} [FloatOps F] [Named F] (c : Dev nD)
    (arg0 : Memref sig .tc .vmem S384x128 .i32) (harg0 : arg0.IsWhole)
    (arg1 : Memref sig .tc .smem S32x8 .f32) (harg1 : arg1.IsWhole)
    (arg2 : Memref sig .tc .vmem S3x2x384x512 .f32) (harg2 : arg2.IsWhole)
    (x0 : Vec F S384x128 .i32) (x1 : Vec F S32x8 .f32) :
    (kernelRun0_A c arg0 harg0 arg1 harg1 arg2 harg2 x0 x1).1 = Table.tablePieces arg0 harg0 arg1 harg1 x0 x1 := by
  sl_kernel_rfl

variable {F : FTy → Type} [FloatOps F] [Named F]

/-- The variant of the bias table a block takes. -/
def variant (i : grid1.Coords) : Fin 4 → Fin 3
  | 0 => ⟨k1_off1 i 0#32 0#32 0, Nat.lt_of_succ_le (k1_off1_inb i 0 0)⟩
  | 3 => ⟨k1_off1 i 7#32 2#32 0, Nat.lt_of_succ_le (k1_off1_inb i 1 0)⟩
  | _ => 1

section

variable (c : Dev nD) (i : grid1.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S256x512 .bf16) (harg7 : arg7.IsWhole)
  (arg8 : Memref sig .tc .vmem S256x128 .bf16) (harg8 : arg8.IsWhole)
  (arg9 : Memref sig .tc .vmem S256x128 .bf16) (harg9 : arg9.IsWhole)
  (arg10 : Memref sig .tc .vmem S512x1024 .bf16) (harg10 : arg10.IsWhole)
  (arg11 : Memref sig .tc .vmem S3x2x384x512 .f32) (harg11 : arg11.IsWhole)
  (arg12 : Memref sig .tc .smem S8 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x4096 .bf16) (harg15 : arg15.IsWhole)
  (arg16 : Memref sig .tc .vmem S4096x1024 .bf16) (harg16 : arg16.IsWhole)
  (arg17 : Memref sig .tc .vmem S512x1024 .f32) (harg17 : arg17.IsWhole)
  (arg18 : Memref sig .tc .vmem S768x256 .bf16) (harg18 : arg18.IsWhole)
  (arg19 : Memref sig .tc .vmem S256x768 .bf16) (harg19 : arg19.IsWhole)
  (arg20 : Memref sig .tc .vmem S512x1024 .bf16) (harg20 : arg20.IsWhole)
  (x0 : Vec F S512x1024 .f32)
  (x1 : Vec F S512x1024 .bf16)
  (x2 : Vec F S512x1024 .bf16)
  (x3 : Vec F S512x256 .bf16)
  (x4 : Vec F S128x256 .bf16)
  (x5 : Vec F S128x256 .bf16)
  (x6 : Vec F S256x512 .bf16)
  (x7 : Vec F S256x128 .bf16)
  (x8 : Vec F S256x128 .bf16)
  (x9 : Vec F S512x1024 .bf16)
  (x10 : Vec F S3x2x384x512 .f32)
  (x11 : Vec F S8 .f32)
  (x12 : Vec F S1024x1024 .bf16)
  (x13 : Vec F S1x1024 .f32)
  (x14 : Vec F S1024x4096 .bf16)
  (x15 : Vec F S4096x1024 .bf16)

/-- The run's pieces. -/
theorem pieces_eq : (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15).1 =
    Ran.outPieces (variant i) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14 x15 := by
  sl_kernel_rfl

end

variable (c : Dev nD) (i : grid1.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S256x512 .bf16) (harg7 : arg7.IsWhole)
  (arg8 : Memref sig .tc .vmem S256x128 .bf16) (harg8 : arg8.IsWhole)
  (arg9 : Memref sig .tc .vmem S256x128 .bf16) (harg9 : arg9.IsWhole)
  (arg10 : Memref sig .tc .vmem S512x1024 .bf16) (harg10 : arg10.IsWhole)
  (arg11 : Memref sig .tc .vmem S3x2x384x512 .f32) (harg11 : arg11.IsWhole)
  (arg12 : Memref sig .tc .smem S8 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x4096 .bf16) (harg15 : arg15.IsWhole)
  (arg16 : Memref sig .tc .vmem S4096x1024 .bf16) (harg16 : arg16.IsWhole)
  (arg17 : Memref sig .tc .vmem S512x1024 .f32) (harg17 : arg17.IsWhole)
  (arg18 : Memref sig .tc .vmem S768x256 .bf16) (harg18 : arg18.IsWhole)
  (arg19 : Memref sig .tc .vmem S256x768 .bf16) (harg19 : arg19.IsWhole)
  (arg20 : Memref sig .tc .vmem S512x1024 .bf16) (harg20 : arg20.IsWhole)
  (x0 : Vec Ideal S512x1024 .f32)
  (x1 : Vec Ideal S512x1024 .bf16)
  (x2 : Vec Ideal S512x1024 .bf16)
  (x3 : Vec Ideal S512x256 .bf16)
  (x4 : Vec Ideal S128x256 .bf16)
  (x5 : Vec Ideal S128x256 .bf16)
  (x6 : Vec Ideal S256x512 .bf16)
  (x7 : Vec Ideal S256x128 .bf16)
  (x8 : Vec Ideal S256x128 .bf16)
  (x9 : Vec Ideal S512x1024 .bf16)
  (x10 : Vec Ideal S3x2x384x512 .f32)
  (x11 : Vec Ideal S8 .f32)
  (x12 : Vec Ideal S1024x1024 .bf16)
  (x13 : Vec Ideal S1x1024 .f32)
  (x14 : Vec Ideal S1024x4096 .bf16)
  (x15 : Vec Ideal S4096x1024 .bf16)

/-- The output block of the run. -/
theorem out_at (r : Fin 512) (c' : Fin 1024) :
    out1_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 (ix2 r c') = Blocks.outVal (variant i) x0 x1 x2 x3 x4 x5 x6 x7 x8 x9 x10 x11 x12 x13 x14 x15 r c' := by
  unfold out1_A_16
  rw [View.read_writes_junk_eq_canon, pieces_eq]
  exact Blocks.outPieces_at ..

end Cert.KernelIdeal.Run

end
-- ==== Proof.Regions.lean ====
/- The two calls' arrays: where a window's block sits in its array, and what the calls leave in their results. -/
module

public import proofs.«01_k».proof.Proof.Gen.KernelIdeal.Frame
public import proofs.«01_k».proof.Proof.Run
public import Idealize.ShloMosaic.Lib.Pipeline.Value

@[expose] public section

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Window Dat)

/-- A grid point's coordinate is its number. -/
theorem coords_val : ∀ t : Fin grid1.N, (grid1.coords t 0).val = t.val := by decide +kernel

theorem cur : ∀ t : Fin grid1.N, (BitVec.ofNat 32 (grid1.coords t 0).val).toNat = t.val := by decide +kernel

/-- The block of 128 rows before a point's rows, or the first. -/
theorem prev : ∀ t : Fin grid1.N, cc1_transform_4 (grid1.coords t) 0 = 4 * t.val - 1 := by decide +kernel

/-- The block of 128 rows after them, or the last. -/
theorem next : ∀ t : Fin grid1.N, cc1_transform_5 (grid1.coords t) 0 = min (4 * t.val + 4) 255 := by decide +kernel

variable (V : (c : Dev nD) → (b : Ref sig .tc) → Buf (Elt Ideal) ((c : Thread nD τ).loc b)) (c : Dev nD) (t : Fin 64)

theorem read1 {α : Type} {N : Nat} (X : (⟨1, ![N]⟩ : Shape).Idx → α) (y : (⟨1, ![N]⟩ : Shape).Idx) (R : Fin N) (h0 : (y 0).val = R.val) : X y = X (ix1 R) := by
  congr 1
  funext a
  fin_cases a
  exact Fin.ext h0

theorem read2 {α : Type} {P C : Nat} (X : (⟨2, ![P, C]⟩ : Shape).Idx → α) (y : (⟨2, ![P, C]⟩ : Shape).Idx) (R : Fin P) (S : Fin C) (h0 : (y 0).val = R.val) (h1 : (y 1).val = S.val) : X y = X (ix2 R S) := by
  congr 1
  funext a
  fin_cases a
  · exact Fin.ext h0
  · exact Fin.ext h1

theorem read4 {α : Type} {A B P C : Nat} (X : (⟨4, ![A, B, P, C]⟩ : Shape).Idx → α) (y : (⟨4, ![A, B, P, C]⟩ : Shape).Idx) (a : Fin A) (b : Fin B) (R : Fin P) (S : Fin C)
    (h0 : (y 0).val = a.val) (h1 : (y 1).val = b.val) (h2 : (y 2).val = R.val) (h3 : (y 3).val = S.val) : X y = X (ix4 a b R S) := by
  congr 1
  funext k
  fin_cases k
  · exact Fin.ext h0
  · exact Fin.ext h1
  · exact Fin.ext h2
  · exact Fin.ext h3

/-- The residual rows of a point. -/
theorem blk0 (r : Fin 512) (j : Fin 1024) :
    (show Vec Ideal S512x1024 .f32 from iblk1 V c 0 t) (ix2 r j) = (show Vec Ideal S32768x1024 .f32 from V c main_v43) (ix2 ⟨512 * t.val + r.val, by omega⟩ j) :=
  read2 (V c main_v43) ((win1_0.rect t).emb (ix2 r j)) _ _ ((Window.rect_emb_val win1_0 t (ix2 r j) 0).trans (by show (BitVec.ofNat 32 (grid1.coords t 0).val).toNat * 512 + r.val = 512 * t.val + r.val; exact (congrArg (fun z => z * 512 + r.val) (cur t)).trans (by omega)))
    ((Window.rect_emb_val win1_0 t (ix2 r j) 1).trans (by show 0 * 1024 + j.val = j.val; omega))

/-- Its gated rows. -/
theorem blk1 (r : Fin 512) (j : Fin 1024) :
    (show Vec Ideal S512x1024 .bf16 from iblk1 V c 1 t) (ix2 r j) = (show Vec Ideal S32768x1024 .bf16 from V c main_v54) (ix2 ⟨512 * t.val + r.val, by omega⟩ j) :=
  read2 (V c main_v54) ((win1_1.rect t).emb (ix2 r j)) _ _ ((Window.rect_emb_val win1_1 t (ix2 r j) 0).trans (by show (BitVec.ofNat 32 (grid1.coords t 0).val).toNat * 512 + r.val = 512 * t.val + r.val; exact (congrArg (fun z => z * 512 + r.val) (cur t)).trans (by omega)))
    ((Window.rect_emb_val win1_1 t (ix2 r j) 1).trans (by show 0 * 1024 + j.val = j.val; omega))

/-- Its queries. -/
theorem blk2 (r : Fin 512) (j : Fin 1024) :
    (show Vec Ideal S512x1024 .bf16 from iblk1 V c 2 t) (ix2 r j) = (show Vec Ideal S32768x1024 .bf16 from V c main_v51) (ix2 ⟨512 * t.val + r.val, by omega⟩ j) :=
  read2 (V c main_v51) ((win1_2.rect t).emb (ix2 r j)) _ _ ((Window.rect_emb_val win1_2 t (ix2 r j) 0).trans (by show (BitVec.ofNat 32 (grid1.coords t 0).val).toNat * 512 + r.val = 512 * t.val + r.val; exact (congrArg (fun z => z * 512 + r.val) (cur t)).trans (by omega)))
    ((Window.rect_emb_val win1_2 t (ix2 r j) 1).trans (by show 0 * 1024 + j.val = j.val; omega))

/-- Its keys, -/
theorem blk3 (r : Fin 512) (j : Fin 256) :
    (show Vec Ideal S512x256 .bf16 from iblk1 V c 3 t) (ix2 r j) = (show Vec Ideal S32768x256 .bf16 from V c main_v55) (ix2 ⟨512 * t.val + r.val, by omega⟩ j) :=
  read2 (V c main_v55) ((win1_3.rect t).emb (ix2 r j)) _ _ ((Window.rect_emb_val win1_3 t (ix2 r j) 0).trans (by show (BitVec.ofNat 32 (grid1.coords t 0).val).toNat * 512 + r.val = 512 * t.val + r.val; exact (congrArg (fun z => z * 512 + r.val) (cur t)).trans (by omega)))
    ((Window.rect_emb_val win1_3 t (ix2 r j) 1).trans (by show 0 * 256 + j.val = j.val; omega))

/-- those before them, -/
theorem blk4 (h : 0 < t.val) (r : Fin 128) (j : Fin 256) :
    (show Vec Ideal S128x256 .bf16 from iblk1 V c 4 t) (ix2 r j) = (show Vec Ideal S32768x256 .bf16 from V c main_v55) (ix2 ⟨512 * t.val + r.val - 128, by omega⟩ j) :=
  read2 (V c main_v55) ((win1_4.rect t).emb (ix2 r j)) _ _ ((Window.rect_emb_val win1_4 t (ix2 r j) 0).trans (by show cc1_transform_4 (grid1.coords t) 0 * 128 + r.val = 512 * t.val + r.val - 128; exact (congrArg (fun z => z * 128 + r.val) (prev t)).trans (by omega)))
    ((Window.rect_emb_val win1_4 t (ix2 r j) 1).trans (by show 0 * 256 + j.val = j.val; omega))

/-- and those after. -/
theorem blk5 (h : t.val < 63) (r : Fin 128) (j : Fin 256) :
    (show Vec Ideal S128x256 .bf16 from iblk1 V c 5 t) (ix2 r j) = (show Vec Ideal S32768x256 .bf16 from V c main_v55) (ix2 ⟨512 * t.val + r.val + 512, by omega⟩ j) :=
  read2 (V c main_v55) ((win1_5.rect t).emb (ix2 r j)) _ _ ((Window.rect_emb_val win1_5 t (ix2 r j) 0).trans (by show cc1_transform_5 (grid1.coords t) 0 * 128 + r.val = 512 * t.val + r.val + 512; exact (congrArg (fun z => z * 128 + r.val) (next t)).trans (by omega)))
    ((Window.rect_emb_val win1_5 t (ix2 r j) 1).trans (by show 0 * 256 + j.val = j.val; omega))

/-- Its values, -/
theorem blk6 (r : Fin 512) (j : Fin 256) :
    (show Vec Ideal S256x512 .bf16 from iblk1 V c 6 t) (ix2 j r) = (show Vec Ideal S256x32768 .bf16 from V c main_v53) (ix2 j ⟨512 * t.val + r.val, by omega⟩) :=
  read2 (V c main_v53) ((win1_6.rect t).emb (ix2 j r)) _ _ ((Window.rect_emb_val win1_6 t (ix2 j r) 0).trans (by show 0 * 256 + j.val = j.val; omega))
    ((Window.rect_emb_val win1_6 t (ix2 j r) 1).trans (by show (BitVec.ofNat 32 (grid1.coords t 0).val).toNat * 512 + r.val = 512 * t.val + r.val; exact (congrArg (fun z => z * 512 + r.val) (cur t)).trans (by omega)))

/-- those before them, -/
theorem blk7 (h : 0 < t.val) (r : Fin 128) (j : Fin 256) :
    (show Vec Ideal S256x128 .bf16 from iblk1 V c 7 t) (ix2 j r) = (show Vec Ideal S256x32768 .bf16 from V c main_v53) (ix2 j ⟨512 * t.val + r.val - 128, by omega⟩) :=
  read2 (V c main_v53) ((win1_7.rect t).emb (ix2 j r)) _ _ ((Window.rect_emb_val win1_7 t (ix2 j r) 0).trans (by show 0 * 256 + j.val = j.val; omega))
    ((Window.rect_emb_val win1_7 t (ix2 j r) 1).trans (by show cc1_transform_4 (grid1.coords t) 0 * 128 + r.val = 512 * t.val + r.val - 128; exact (congrArg (fun z => z * 128 + r.val) (prev t)).trans (by omega)))

/-- and those after. -/
theorem blk8 (h : t.val < 63) (r : Fin 128) (j : Fin 256) :
    (show Vec Ideal S256x128 .bf16 from iblk1 V c 8 t) (ix2 j r) = (show Vec Ideal S256x32768 .bf16 from V c main_v53) (ix2 j ⟨512 * t.val + r.val + 512, by omega⟩) :=
  read2 (V c main_v53) ((win1_8.rect t).emb (ix2 j r)) _ _ ((Window.rect_emb_val win1_8 t (ix2 j r) 0).trans (by show 0 * 256 + j.val = j.val; omega))
    ((Window.rect_emb_val win1_8 t (ix2 j r) 1).trans (by show cc1_transform_5 (grid1.coords t) 0 * 128 + r.val = 512 * t.val + r.val + 512; exact (congrArg (fun z => z * 128 + r.val) (next t)).trans (by omega)))

/-- Its second gate. -/
theorem blk9 (r : Fin 512) (j : Fin 1024) :
    (show Vec Ideal S512x1024 .bf16 from iblk1 V c 9 t) (ix2 r j) = (show Vec Ideal S32768x1024 .bf16 from V c main_v56) (ix2 ⟨512 * t.val + r.val, by omega⟩ j) :=
  read2 (V c main_v56) ((win1_9.rect t).emb (ix2 r j)) _ _ ((Window.rect_emb_val win1_9 t (ix2 r j) 0).trans (by show (BitVec.ofNat 32 (grid1.coords t 0).val).toNat * 512 + r.val = 512 * t.val + r.val; exact (congrArg (fun z => z * 512 + r.val) (cur t)).trans (by omega)))
    ((Window.rect_emb_val win1_9 t (ix2 r j) 1).trans (by show 0 * 1024 + j.val = j.val; omega))

/-- The bias table, whole at every point. -/
theorem blk10 (v : Fin 3) (kh : Fin 2) (r : Fin 384) (j : Fin 512) :
    (show Vec Ideal S3x2x384x512 .f32 from iblk1 V c 10 t) (ix4 v kh r j) = (show Vec Ideal S3x2x384x512 .f32 from V c main_v33) (ix4 v kh r j) :=
  read4 (V c main_v33) ((win1_10.rect t).emb (ix4 v kh r j)) _ _ _ _
    ((Window.rect_emb_val win1_10 t (ix4 v kh r j) 0).trans (by show 0 * 3 + v.val = v.val; omega))
    ((Window.rect_emb_val win1_10 t (ix4 v kh r j) 1).trans (by show 0 * 2 + kh.val = kh.val; omega))
    ((Window.rect_emb_val win1_10 t (ix4 v kh r j) 2).trans (by show 0 * 384 + r.val = r.val; omega))
    ((Window.rect_emb_val win1_10 t (ix4 v kh r j) 3).trans (by show 0 * 512 + j.val = j.val; omega))

/-- The sinks. -/
theorem blk11 (h : Fin 8) :
    (show Vec Ideal S8 .f32 from iblk1 V c 11 t) (ix1 h) = (show Vec Ideal S8 .f32 from V c main_v42) (ix1 h) :=
  read1 (V c main_v42) ((win1_11.rect t).emb (ix1 h)) _ ((Window.rect_emb_val win1_11 t (ix1 h) 0).trans (by show 0 * 8 + h.val = h.val; omega))

/-- The output projection. -/
theorem blk12 (k : Fin 1024) (l : Fin 1024) :
    (show Vec Ideal S1024x1024 .bf16 from iblk1 V c 12 t) (ix2 k l) = (show Vec Ideal S1024x1024 .bf16 from V c main_v37) (ix2 k l) :=
  read2 (V c main_v37) ((win1_12.rect t).emb (ix2 k l)) _ _ ((Window.rect_emb_val win1_12 t (ix2 k l) 0).trans (by show 0 * 1024 + k.val = k.val; omega))
    ((Window.rect_emb_val win1_12 t (ix2 k l) 1).trans (by show 0 * 1024 + l.val = l.val; omega))

/-- The norm's gain. -/
theorem blk13 (k : Fin 1) (l : Fin 1024) :
    (show Vec Ideal S1x1024 .f32 from iblk1 V c 13 t) (ix2 k l) = (show Vec Ideal S1x1024 .f32 from V c main_v35) (ix2 k l) :=
  read2 (V c main_v35) ((win1_13.rect t).emb (ix2 k l)) _ _ ((Window.rect_emb_val win1_13 t (ix2 k l) 0).trans (by show 0 * 1 + k.val = k.val; omega))
    ((Window.rect_emb_val win1_13 t (ix2 k l) 1).trans (by show 0 * 1024 + l.val = l.val; omega))

/-- The first channel-mix matrix. -/
theorem blk14 (k : Fin 1024) (l : Fin 4096) :
    (show Vec Ideal S1024x4096 .bf16 from iblk1 V c 14 t) (ix2 k l) = (show Vec Ideal S1024x4096 .bf16 from V c main_v39) (ix2 k l) :=
  read2 (V c main_v39) ((win1_14.rect t).emb (ix2 k l)) _ _ ((Window.rect_emb_val win1_14 t (ix2 k l) 0).trans (by show 0 * 1024 + k.val = k.val; omega))
    ((Window.rect_emb_val win1_14 t (ix2 k l) 1).trans (by show 0 * 4096 + l.val = l.val; omega))

/-- The second. -/
theorem blk15 (k : Fin 4096) (l : Fin 1024) :
    (show Vec Ideal S4096x1024 .bf16 from iblk1 V c 15 t) (ix2 k l) = (show Vec Ideal S4096x1024 .bf16 from V c main_v41) (ix2 k l) :=
  read2 (V c main_v41) ((win1_15.rect t).emb (ix2 k l)) _ _ ((Window.rect_emb_val win1_15 t (ix2 k l) 0).trans (by show 0 * 4096 + k.val = k.val; omega))
    ((Window.rect_emb_val win1_15 t (ix2 k l) 1).trans (by show 0 * 1024 + l.val = l.val; omega))

theorem flush1 : ∀ t : Fin grid1.N, win1_16.flush t = true := by decide +kernel

/-- Where a row of a point's output block lies, -/
theorem place0 (x : S512x1024.Idx) : ((win1_16.rect t).emb x 0).val = 512 * t.val + (x 0).val :=
  (Window.rect_emb_val win1_16 t x 0).trans (by show (BitVec.ofNat 32 (grid1.coords t 0).val).toNat * 512 + (x 0).val = 512 * t.val + (x 0).val; exact (congrArg (fun z => z * 512 + (x 0).val) (cur t)).trans (by omega))

/-- and where a column. -/
theorem place1 (x : S512x1024.Idx) : ((win1_16.rect t).emb x 1).val = (x 1).val :=
  (Window.rect_emb_val win1_16 t x 1).trans (by show 0 * 1024 + (x 1).val = (x 1).val; omega)

/-- The array that holds the points' blocks one under another. -/
def stack {α : Type} (f : Fin 64 → S512x1024.Idx → α) (y : S32768x1024.Idx) : α :=
  f ⟨(y 0).val / 512, by have : (y 0).val < 32768 := (y 0).isLt; omega⟩ (ix2 ⟨(y 0).val % 512, by omega⟩ (y 1))

theorem stack_eq {α : Type} (f : Fin 64 → S512x1024.Idx → α) (y : S32768x1024.Idx) (x : S512x1024.Idx) (h0 : (y 0).val = 512 * t.val + (x 0).val) (h1 : (y 1).val = (x 1).val) :
    stack f y = f t x := by
  have hx : (x 0).val < 512 := (x 0).isLt
  have ht : (⟨(y 0).val / 512, by have : (y 0).val < 32768 := (y 0).isLt; omega⟩ : Fin 64) = t := Fin.ext (by show (y 0).val / 512 = t.val; omega)
  unfold stack
  rw [ht]
  exact (read2 (f t) x _ _ (by show (x 0).val = (y 0).val % 512; omega) h1.symm).symm

theorem mem1 (x : S512x1024.Idx) (y : S32768x1024.Idx) (e : (win1_16.rect t).emb x = y) : y ∈ (win1_16.blk t).view.set := by
  subst e
  exact View.emb_mem_set _ x

theorem cover1 (y : S32768x1024.Idx) : ∃ t : Fin grid1.N, win1_16.flush t = true ∧ y ∈ (win1_16.blk t).view.set := by
  have hy : (y 0).val < 32768 := (y 0).isLt
  refine ⟨(⟨(y 0).val / 512, by omega⟩ : Fin 64), flush1 _, ?_⟩
  have e : (win1_16.rect (⟨(y 0).val / 512, by omega⟩ : Fin 64)).emb (ix2 (⟨(y 0).val % 512, by omega⟩ : Fin 512) (y 1)) = y := by
    funext a
    apply Fin.ext
    fin_cases a
    · refine (place0 ⟨(y 0).val / 512, by omega⟩ (ix2 ⟨(y 0).val % 512, by omega⟩ (y 1))).trans ?_
      show 512 * ((y 0).val / 512) + (y 0).val % 512 = (y 0).val
      omega
    · exact place1 ⟨(y 0).val / 512, by omega⟩ (ix2 ⟨(y 0).val % 512, by omega⟩ (y 1))
  exact mem1 _ _ y e

theorem arr1 : (dat1 V c).arrAt 16 cfg1.N = stack (fun t => outsAt1 V c t) := by
  refine (dat1 V c).arrAt_eq_of_cover 16 _ (fun t _ => ?_) cover1
  unfold Dat.flushed
  rw [after1_16]
  generalize outsAt1 V c = f
  funext x
  exact (stack_eq t (fun t => f t) ((win1_16.rect t).emb x) x (place0 t x) (place1 t x)).symm

/-- The second call's result: each row as its point leaves it. -/
theorem out1 (r : Fin 512) (j : Fin 1024) :
    (show Vec Ideal S32768x1024 .f32 from (dat1 V c).arrAt 16 cfg1.N) (ix2 ⟨512 * t.val + r.val, by omega⟩ j) = (show Vec Ideal S512x1024 .f32 from outsAt1 V c t) (ix2 r j) := by
  rw [arr1]
  exact stack_eq t (fun t => outsAt1 V c t) _ (ix2 r j) rfl rfl

/-! ## The first call -/

theorem blk0_0 (r : Fin 384) (p : Fin 128) :
    (show Vec Ideal S384x128 .i32 from iblk0 V c 0 t0_0) (ix2 r p) = (show Vec Ideal S384x128 .i32 from V c main_v32) (ix2 r p) :=
  read2 (V c main_v32) ((win0_0.rect t0_0).emb (ix2 r p)) _ _ ((Window.rect_emb_val win0_0 t0_0 (ix2 r p) 0).trans (by show 0 * 384 + r.val = r.val; omega))
    ((Window.rect_emb_val win0_0 t0_0 (ix2 r p) 1).trans (by show 0 * 128 + p.val = p.val; omega))

theorem blk0_1 (s : Fin 32) (h : Fin 8) :
    (show Vec Ideal S32x8 .f32 from iblk0 V c 1 t0_0) (ix2 s h) = (show Vec Ideal S32x8 .f32 from V c main_arg6) (ix2 s h) :=
  read2 (V c main_arg6) ((win0_1.rect t0_0).emb (ix2 s h)) _ _ ((Window.rect_emb_val win0_1 t0_0 (ix2 s h) 0).trans (by show 0 * 32 + s.val = s.val; omega))
    ((Window.rect_emb_val win0_1 t0_0 (ix2 s h) 1).trans (by show 0 * 8 + h.val = h.val; omega))

theorem flush0 : ∀ t : Fin grid0.N, win0_2.flush t = true := by decide +kernel

theorem place0_2 (x : S3x2x384x512.Idx) : (win0_2.rect t0_0).emb x = x := by
  funext a
  apply Fin.ext
  refine (Window.rect_emb_val win0_2 t0_0 x a).trans ?_
  fin_cases a
  · show 0 * 3 + (x 0).val = (x 0).val; omega
  · show 0 * 2 + (x 1).val = (x 1).val; omega
  · show 0 * 384 + (x 2).val = (x 2).val; omega
  · show 0 * 512 + (x 3).val = (x 3).val; omega

theorem mem0 (x : S3x2x384x512.Idx) : x ∈ (win0_2.blk t0_0).view.set := by
  have h := View.emb_mem_set (win0_2.blk t0_0).view x
  have e : (win0_2.blk t0_0).view.emb x = x := place0_2 x
  exact (congrArg (· ∈ (win0_2.blk t0_0).view.set) e).mp h

theorem arr0 : (dat0 V c).arrAt 2 cfg0.N = outsAt0 V c t0_0 := by
  refine (dat0 V c).arrAt_eq_of_cover 2 _ (fun t _ => ?_) fun y => ⟨t0_0, flush0 _, mem0 y⟩
  unfold Dat.flushed
  rw [after0_2, fin_N0 t]
  generalize outsAt0 V c t0_0 = f
  funext x
  exact (congrArg f (place0_2 x)).symm

/-- The first call's result: the bias table over the buckets it is given. -/
theorem out0 (B : Fin 384 → Fin 128 → Fin 32) (h : ∀ r p, (show Vec Ideal S384x128 .i32 from V c main_v32) (ix2 r p) = BitVec.ofNat 32 (B r p).val)
    (v : Fin 3) (kh : Fin 2) (r : Fin 384) (j : Fin 512) :
    (show Vec Ideal S3x2x384x512 .f32 from (dat0 V c).arrAt 2 cfg0.N) (ix4 v kh r j) =
      Table.entry v ((show Vec Ideal S32x8 .f32 from V c main_arg6) (ix2 (B r ⟨j.val % 128, by omega⟩) ⟨4 * kh.val + j.val / 128, by omega⟩)) r ⟨j.val % 128, by omega⟩ := by
  rw [arr0]
  show outsAt0 V c t0_0 (ix4 v kh r j) = _
  unfold outsAt0 out0_A_2
  rw [View.read_writes_junk_eq_canon, Run.table_eq]
  refine (Table.table_at _ _ _ _ _ _ B (fun r p => (blk0_0 V c r p).trans (h r p)) v kh r j).trans ?_
  exact congrArg (fun z => Table.entry v z r ⟨j.val % 128, by omega⟩) (blk0_1 V c _ _)

end Cert.KernelIdeal.Regions

end
-- ==== Proof.Host.lean ====
/- The host's arrays, at an index: the bucket table it hands the first call, and the arrays it prepares for the second. -/
module

public import proofs.«01_k».proof.Proof.Gen.KernelIdeal.Frame
public import proofs.«01_k».proof.Proof.Bits
public import proofs.«01_k».proof.Proof.Consts
public import Idealize.ShloMosaic.Lib.StableHlo.ReadAt
public import Idealize.ShloMosaic.Lib.Pointwise

@[expose] public section

set_option maxRecDepth 16384

noncomputable section

namespace Cert.KernelIdeal.Host

open Cert.KernelIdeal Cert.KernelIdeal.Gen Idealize.ShloMosaic Idealize.ShloMosaic.TcCoe Idealize.SL.Sem

variable (U : Valuation τ sig (Elt Ideal))

/-- The word of a position's bucket. -/
theorem bucket_at (r : Fin 384) (p : Fin 128) :
    (show Vec Ideal S384x128 .i32 from StableHlo.after hostOps0_4 (StableHlo.after hostOps0_3 (StableHlo.after hostOps0_2 (StableHlo.after hostOps0_1 (StableHlo.after hostOps0 U)))) (Proc.devRef .tc main_v32)) (ix2 r p) =
      Bits.bucket (IntOp.subi (IntOp.subi (BitVec.ofNat 32 r.val) 128#32) (BitVec.ofNat 32 p.val)) := by
  dsimp only
  after_reads_at
  unfold Bits.bucket
  rfl

theorem row_of (b : Fin 8) (t : Fin 4096) : (⟨(4096 * b.val + t.val) / 4096, by omega⟩ : Fin 8) = b := Fin.ext (by show (4096 * b.val + t.val) / 4096 = b.val; omega)

theorem row_in (b : Fin 8) (t : Fin 4096) : (⟨(4096 * b.val + t.val) % 4096, by omega⟩ : Fin 4096) = t := Fin.ext (by show (4096 * b.val + t.val) % 4096 = t.val; omega)

/-- The residual input, row by row. -/
theorem v43_at (b : Fin 8) (t : Fin 4096) (j : Fin 1024) :
    (show Vec Ideal S32768x1024 .f32 from StableHlo.after hostOps1 U (Proc.devRef .tc main_v43)) (ix2 ⟨4096 * b.val + t.val, by omega⟩ j) =
      (show Vec Ideal S8x4096x1024 .f32 from U (Proc.devRef .tc main_arg0)) (ix3 b t j) := by
  dsimp only
  after_reads_at

/-- The gated branch. -/
theorem v54_at (b : Fin 8) (t : Fin 4096) (j : Fin 1024) :
    (show Vec Ideal S32768x1024 .bf16 from StableHlo.after hostOps1 U (Proc.devRef .tc main_v54)) (ix2 ⟨4096 * b.val + t.val, by omega⟩ j) =
      (show Vec Ideal S8x4096x1024 .bf16 from U (Proc.devRef .tc main_arg1)) (ix3 b t j) := by
  dsimp only
  after_reads_at

/-- The keys. -/
theorem v55_at (b : Fin 8) (t : Fin 4096) (j : Fin 256) :
    (show Vec Ideal S32768x256 .bf16 from StableHlo.after hostOps1 U (Proc.devRef .tc main_v55)) (ix2 ⟨4096 * b.val + t.val, by omega⟩ j) =
      (show Vec Ideal S8x4096x256 .bf16 from U (Proc.devRef .tc main_arg3)) (ix3 b t j) := by
  dsimp only
  after_reads_at

/-- The values, transposed. -/
theorem v53_at (b : Fin 8) (t : Fin 4096) (j : Fin 256) :
    (show Vec Ideal S256x32768 .bf16 from StableHlo.after hostOps1 U (Proc.devRef .tc main_v53)) (ix2 j ⟨4096 * b.val + t.val, by omega⟩) =
      (show Vec Ideal S8x4096x256 .bf16 from U (Proc.devRef .tc main_arg4)) (ix3 b t j) := by
  dsimp only
  after_reads_at
  rw [row_of, row_in]

/-- The second gate. -/
theorem v56_at (b : Fin 8) (t : Fin 4096) (j : Fin 1024) :
    (show Vec Ideal S32768x1024 .bf16 from StableHlo.after hostOps1 U (Proc.devRef .tc main_v56)) (ix2 ⟨4096 * b.val + t.val, by omega⟩ j) =
      (show Vec Ideal S8x4096x1024 .bf16 from U (Proc.devRef .tc main_arg5)) (ix3 b t j) := by
  dsimp only
  after_reads_at

/-- The queries, scaled. -/
theorem v51_at (b : Fin 8) (t : Fin 4096) (j : Fin 1024) :
    (show Vec Ideal S32768x1024 .bf16 from StableHlo.after hostOps1 U (Proc.devRef .tc main_v51)) (ix2 ⟨4096 * b.val + t.val, by omega⟩ j) =
      Ideal.div ((show Vec Ideal S8x4096x1024 .bf16 from U (Proc.devRef .tc main_arg2)) (ix3 b t j)) (Ideal.sqrt ((128 : ℝ) : EReal) * Ideal.log ((2 : ℝ) : EReal)) := by
  dsimp only
  after_reads_at
  rw [row_of, row_in, Consts.ofBits_128, Consts.ofBits_2]

/-- The output projection. -/
theorem v37_at (k l : Fin 1024) :
    (show Vec Ideal S1024x1024 .bf16 from StableHlo.after hostOps1 U (Proc.devRef .tc main_v37)) (ix2 k l) =
      (show Vec Ideal S1x1024x1024 .f32 from U (Proc.devRef .tc main_arg8)) (ix3 0 k l) := by
  dsimp only
  after_reads_at

/-- The norm's gain. -/
theorem v35_at (k : Fin 1024) :
    (show Vec Ideal S1x1024 .f32 from StableHlo.after hostOps1 U (Proc.devRef .tc main_v35)) (ix2 0 k) =
      (show Vec Ideal S1x1024 .f32 from U (Proc.devRef .tc main_arg9)) (ix2 0 k) := by
  dsimp only
  after_reads_at

/-- The first channel-mix matrix. -/
theorem v39_at (k : Fin 1024) (l : Fin 4096) :
    (show Vec Ideal S1024x4096 .bf16 from StableHlo.after hostOps1 U (Proc.devRef .tc main_v39)) (ix2 k l) =
      (show Vec Ideal S1x1024x4096 .f32 from U (Proc.devRef .tc main_arg10)) (ix3 0 k l) := by
  dsimp only
  after_reads_at

/-- The second. -/
theorem v41_at (k : Fin 4096) (l : Fin 1024) :
    (show Vec Ideal S4096x1024 .bf16 from StableHlo.after hostOps1 U (Proc.devRef .tc main_v41)) (ix2 k l) =
      (show Vec Ideal S1x4096x1024 .f32 from U (Proc.devRef .tc main_arg11)) (ix3 0 k l) := by
  dsimp only
  after_reads_at

/-- The sinks. -/
theorem v42_at (h : Fin 8) :
    (show Vec Ideal S8 .f32 from StableHlo.after hostOps1 U (Proc.devRef .tc main_v42)) (ix1 h) =
      (show Vec Ideal S1x8 .f32 from U (Proc.devRef .tc main_arg7)) (ix2 0 h) := by
  dsimp only
  after_reads_at

/-- The result, batch by batch. -/
theorem v58_at (b : Fin 8) (t : Fin 4096) (j : Fin 1024) :
    (show Vec Ideal S8x4096x1024 .f32 from StableHlo.after hostOps2 U (Proc.devRef .tc main_v58)) (ix3 b t j) =
      (show Vec Ideal S32768x1024 .f32 from U (Proc.devRef .tc main_v57)) (ix2 ⟨4096 * b.val + t.val, by omega⟩ j) := by
  dsimp only
  after_reads_simp
  clean_types
  refine shapeCast_apply _ shapeCasts_S32768x1024_S8x4096x1024 _ _ ?_
  rw [rowMajor_val3 _ 4194304 1024 rfl rfl, rowMajor_val2 _ 1024 rfl]
  show (4096 * b.val + t.val) * 1024 + j.val = b.val * 4194304 + t.val * 1024 + j.val
  omega

end Cert.KernelIdeal.Host

end
-- ==== Proof.RefBand.lean ====
/- The reference's bands: for a block of 128 queries, the 384 key rows and value rows around it, zero outside of the sequence. -/
module

public import proofs.«01_k».proof.Proof.Gen.ReferenceIdeal.Read
public import Idealize.ShloMosaic.Lib.Pointwise
public import Idealize.ShloMosaic.Lib.KernelVsHost

@[expose] public section

noncomputable section

namespace Cert.ReferenceIdeal.Ref

open Cert.ReferenceIdeal Cert.ReferenceIdeal.Gen Cert.ReferenceIdeal.Read Idealize.ShloMosaic Idealize.ShloMosaic.TcCoe Idealize.SL.Sem

/-- A row of the padded keys or values, by its place counted from 128 before the sequence's first. -/
def padded (K : Vec Ideal S8x4096x256 .bf16) (b : Fin 8) (m : Nat) (j : Fin 256) : EReal :=
  if h : 128 ≤ m ∧ m < 4224 then K (ix3 b ⟨m - 128, by omega⟩ j) else 0

theorem v4_at (K : Vec Ideal S8x4096x256 .bf16) (b : Fin 8) (t : Fin 4096) (kh : Fin 2) (d : Fin 128) :
    val_main_v4 (F := Ideal) K (ix4 b t kh d) = K (ix3 b t ⟨128 * kh.val + d.val, by omega⟩) := by
  rw [val_main_v4_apply, val_main_v1_apply]
  show K _ = K _
  congr 1
  funext a
  apply Fin.ext
  fin_cases a
  · show (((b.val * 4096 + t.val) * 2 + kh.val) * 128 + d.val) / 1048576 = b.val
    omega
  · show (((b.val * 4096 + t.val) * 2 + kh.val) * 128 + d.val) / 256 % 4096 = t.val
    omega
  · show (((b.val * 4096 + t.val) * 2 + kh.val) * 128 + d.val) % 256 = 128 * kh.val + d.val
    omega

theorem v7_at (K : Vec Ideal S8x4096x256 .bf16) (b : Fin 8) (m : Fin 4352) (kh : Fin 2) (d : Fin 128) :
    val_main_v7 (F := Ideal) K (ix4 b m kh d) = padded K b m.val ⟨128 * kh.val + d.val, by omega⟩ := by
  unfold val_main_v7 padded
  by_cases h : 128 ≤ m.val ∧ m.val < 4224
  · rw [dif_pos h, pad_apply_of_inside (k := ix4 b ⟨m.val - 128, by omega⟩ kh d)]
    · exact v4_at K b _ kh d
    · intro a
      fin_cases a
      · show b.val = 0 + b.val * (0 + 1)
        omega
      · show m.val = 128 + (m.val - 128) * (0 + 1)
        omega
      · show kh.val = 0 + kh.val * (0 + 1)
        omega
      · show d.val = 0 + d.val * (0 + 1)
        omega
  · rw [dif_neg h, pad_apply_of_not_inside (a := 1)]
    · show (((BitVec.toInt 0#32 : ℤ) : ℝ) : EReal) = 0
      simp
    · show ¬ (128 ≤ m.val ∧ (m.val - 128) % (0 + 1) = 0 ∧ (m.val - 128) / (0 + 1) < 4096)
      omega

theorem v8_at (K : Vec Ideal S8x4096x256 .bf16) (b : Fin 8) (n : Fin 34) (p : Fin 128) (kh : Fin 2) (d : Fin 128) :
    val_main_v8 (F := Ideal) K (ix5 b n p kh d) = padded K b (128 * n.val + p.val) ⟨128 * kh.val + d.val, by omega⟩ := by
  rw [val_main_v8_apply, ← v7_at K b ⟨128 * n.val + p.val, by omega⟩ kh d]
  congr 1
  funext a
  apply Fin.ext
  fin_cases a
  · show ((((b.val * 34 + n.val) * 128 + p.val) * 2 + kh.val) * 128 + d.val) / 1114112 = b.val
    omega
  · show ((((b.val * 34 + n.val) * 128 + p.val) * 2 + kh.val) * 128 + d.val) / 256 % 4352 = 128 * n.val + p.val
    omega
  · show ((((b.val * 34 + n.val) * 128 + p.val) * 2 + kh.val) * 128 + d.val) / 128 % 2 = kh.val
    omega
  · show ((((b.val * 34 + n.val) * 128 + p.val) * 2 + kh.val) * 128 + d.val) % 128 = d.val
    omega

theorem v9_at (K : Vec Ideal S8x4096x256 .bf16) (b : Fin 8) (n : Fin 32) (p : Fin 128) (kh : Fin 2) (d : Fin 128) :
    val_main_v9 (F := Ideal) K (ix5 b n p kh d) = padded K b (128 * n.val + p.val) ⟨128 * kh.val + d.val, by omega⟩ := by
  rw [val_main_v9_apply]
  refine Eq.trans (congrArg _ ?_) (v8_at K b ⟨n.val, by omega⟩ p kh d)
  funext a
  apply Fin.ext
  fin_cases a <;> rfl

theorem v10_at (K : Vec Ideal S8x4096x256 .bf16) (b : Fin 8) (n : Fin 32) (p : Fin 128) (kh : Fin 2) (d : Fin 128) :
    val_main_v10 (F := Ideal) K (ix5 b n p kh d) = padded K b (128 * n.val + (128 + p.val)) ⟨128 * kh.val + d.val, by omega⟩ := by
  rw [val_main_v10_apply, show 128 * n.val + (128 + p.val) = 128 * (1 + n.val) + p.val by omega]
  refine Eq.trans (congrArg _ ?_) (v8_at K b ⟨1 + n.val, by omega⟩ p kh d)
  funext a
  apply Fin.ext
  fin_cases a <;> rfl

theorem v11_at (K : Vec Ideal S8x4096x256 .bf16) (b : Fin 8) (n : Fin 32) (p : Fin 128) (kh : Fin 2) (d : Fin 128) :
    val_main_v11 (F := Ideal) K (ix5 b n p kh d) = padded K b (128 * n.val + (256 + p.val)) ⟨128 * kh.val + d.val, by omega⟩ := by
  rw [val_main_v11_apply, show 128 * n.val + (256 + p.val) = 128 * (2 + n.val) + p.val by omega]
  refine Eq.trans (congrArg _ ?_) (v8_at K b ⟨2 + n.val, by omega⟩ p kh d)
  funext a
  apply Fin.ext
  fin_cases a <;> rfl

/-- The keys of a block of queries. -/
theorem v12_at (K : Vec Ideal S8x4096x256 .bf16) (b : Fin 8) (n : Fin 32) (r : Fin 384) (kh : Fin 2) (d : Fin 128) :
    val_main_v12 (F := Ideal) K (ix5 b n r kh d) = padded K b (128 * n.val + r.val) ⟨128 * kh.val + d.val, by omega⟩ := by
  unfold val_main_v12
  by_cases h1 : r.val < 128
  · refine (concatenate_apply_piece (t := S8x32x384x2x128) 2 _ _ _ 0 (by show 0 < 3; omega) S8x32x128x2x128 (val_main_v9 (F := Ideal) K) rfl rfl 0 rfl (ix5 b n ⟨r.val, by omega⟩ kh d) ?_ ?_).trans ?_
    · intro a ha
      fin_cases a
      · rfl
      · rfl
      · exact absurd rfl ha
      · rfl
      · rfl
    · show 0 + (r.val) = r.val
      omega
    · refine (v9_at K b n ⟨r.val, by omega⟩ kh d).trans ?_
      rfl
  by_cases h2 : r.val < 256
  · refine (concatenate_apply_piece (t := S8x32x384x2x128) 2 _ _ _ 1 (by show 1 < 3; omega) S8x32x128x2x128 (val_main_v10 (F := Ideal) K) rfl rfl 128 rfl (ix5 b n ⟨r.val - 128, by omega⟩ kh d) ?_ ?_).trans ?_
    · intro a ha
      fin_cases a
      · rfl
      · rfl
      · exact absurd rfl ha
      · rfl
      · rfl
    · show 128 + (r.val - 128) = r.val
      omega
    · refine (v10_at K b n ⟨r.val - 128, by omega⟩ kh d).trans ?_
      rw [show 128 + (r.val - 128) = r.val by omega]
  · refine (concatenate_apply_piece (t := S8x32x384x2x128) 2 _ _ _ 2 (by show 2 < 3; omega) S8x32x128x2x128 (val_main_v11 (F := Ideal) K) rfl rfl 256 rfl (ix5 b n ⟨r.val - 256, by omega⟩ kh d) ?_ ?_).trans ?_
    · intro a ha
      fin_cases a
      · rfl
      · rfl
      · exact absurd rfl ha
      · rfl
      · rfl
    · show 256 + (r.val - 256) = r.val
      omega
    · refine (v11_at K b n ⟨r.val - 256, by omega⟩ kh d).trans ?_
      rw [show 256 + (r.val - 256) = r.val by omega]

/-- The values of a block of queries are read the same way. -/
theorem v18_eq (V : Vec Ideal S8x4096x256 .bf16) : val_main_v18 (F := Ideal) V = val_main_v12 (F := Ideal) V := rfl

end Cert.ReferenceIdeal.Ref

end
-- ==== Proof.RefScore.lean ====
/- The reference's scores: the scaled products of queries and keys plus the bias of the relative position, −∞ outside of the
   window and of the sequence. -/
module

public import proofs.«01_k».proof.Proof.RefBand
public import proofs.«01_k».proof.Proof.Bits
public import proofs.«01_k».proof.Proof.Spec

@[expose] public section

noncomputable section

namespace Cert.ReferenceIdeal.Ref

open Cert.ReferenceIdeal Cert.ReferenceIdeal.Gen Cert.ReferenceIdeal.Read Idealize.ShloMosaic Idealize.ShloMosaic.TcCoe Idealize.SL.Sem

theorem v32_at (p : Fin 128) (r : Fin 384) : val_main_v32 (F := Ideal) (ix2 p r) = Bits.W ((r.val : ℤ) - 128 - p.val) := by
  simp only [val_main_v32_apply, val_main_v30_apply, val_main_v29_apply, val_main_v27_apply, val_main_v26_apply, val_main_v28_apply, val_main_c_1_apply,
    val_main_v31_apply, val_main_v25_apply, val_main_v24_apply]
  show IntOp.subi (IntOp.subi (BitVec.ofNat 32 r.val) (Bits.W 128)) (BitVec.ofNat 32 p.val) = _
  rw [Bits.ofNat_eq, Bits.ofNat_eq, Bits.subi_W, Bits.subi_W]

theorem v56_at (p : Fin 128) (r : Fin 384) : val_main_v56 (F := Ideal) (ix2 p r) = Bits.bucket (Bits.W ((r.val : ℤ) - 128 - p.val)) := by
  rw [← v32_at]
  rfl

theorem rel_small (p : Fin 128) (r : Fin 384) : |(r.val : ℤ) - 128 - p.val| < 1048576 := by
  rw [abs_lt]; omega

/-- The bucket of a query and a key. -/
def slot (r : Fin 384) (p : Fin 128) : Fin 32 := (Bits.bucket_range _ (rel_small p r)).choose

theorem slot_spec (r : Fin 384) (p : Fin 128) : Bits.bucket (Bits.W ((r.val : ℤ) - 128 - p.val)) = BitVec.ofNat 32 (slot r p).val :=
  (Bits.bucket_range _ (rel_small p r)).choose_spec

theorem v61_at (p : Fin 128) (r : Fin 384) : val_main_v61 (F := Ideal) (ix2 p r) = Bits.W (slot r p).val := by
  simp only [val_main_v61_apply, val_main_v58_apply, val_main_v60_apply, v56_at, val_main_v57_apply, val_main_c_12_apply, slot_spec]
  rw [show (0#32 : BitVec 32) = Bits.W 0 from rfl, Bits.ofNat_eq, Bits.slt_W _ _ ⟨by omega, by omega⟩ ⟨by omega, by omega⟩, Bits.select_ofBool, if_neg (by omega)]

theorem v62_at (p : Fin 128) (r : Fin 384) : val_main_v62 (F := Ideal) (ix3 p r 0) = Bits.W (slot r p).val := by
  rw [val_main_v62_apply, ← v61_at]
  congr 1
  funext a
  fin_cases a <;> rfl

/-- The bias looked up. -/
theorem v63_at (rb : Vec Ideal S32x8 .f32) (p : Fin 128) (r : Fin 384) (h : Fin 8) :
    val_main_v63 (F := Ideal) rb (ix3 p r h) = rb (ix2 (slot r p) h) := by
  unfold val_main_v63 Host.gather
  congr 1
  funext a
  refine Fin.ext ?_
  show (gather_S32x8_S128x384x1_S128x384x8_2_0_n_n_0_2_18).start (ix3 p r h) (val_main_v62 (F := Ideal)) a + (gather_S32x8_S128x384x1_S128x384x8_2_0_n_n_0_2_18).batchCoord (ix3 p r h) a
    + (gather_S32x8_S128x384x1_S128x384x8_2_0_n_n_0_2_18).offCoord (ix3 p r h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (gather_S32x8_S128x384x1_S128x384x8_2_0_n_n_0_2_18).startIndexMap from List.mem_singleton.mpr rfl)]
    have hsi : ∀ k, (gather_S32x8_S128x384x1_S128x384x8_2_0_n_n_0_2_18).siIdx (ix3 p r h) k = ix3 p r 0 := by
      intro k
      obtain rfl : k = ⟨0, by decide⟩ := Fin.ext (by have hk : k.val < 1 := k.isLt; show k.val = 0; omega)
      funext b
      refine Fin.ext ?_
      fin_cases b <;> rfl
    rw [hsi, v62_at, Bits.toInt_W _ ⟨by omega, by omega⟩]
    show min (Int.toNat ((slot r p).val : ℤ)) (32 - 1) + 0 + 0 = (slot r p).val
    rw [Int.toNat_natCast]
    omega
  · unfold GatherDims.start
    rw [dif_neg (show ¬ (1 : Fin 2) ∈ (gather_S32x8_S128x384x1_S128x384x8_2_0_n_n_0_2_18).startIndexMap from (by decide : ¬ (1 : Fin 2) ∈ ([0] : List (Fin 2)))), Nat.zero_add]
    unfold GatherDims.offCoord
    rw [dif_pos ((GatherDims.mem_sKept _ _).mpr ⟨(by decide : ¬ (1 : Fin 2) ∈ ([0] : List (Fin 2))), List.not_mem_nil⟩)]
    rfl

theorem v65_at (rb : Vec Ideal S32x8 .f32) (kh : Fin 2) (g : Fin 4) (p : Fin 128) (r : Fin 384) :
    val_main_v65 (F := Ideal) rb (ix4 kh g p r) = rb (ix2 (slot r p) ⟨4 * kh.val + g.val, by omega⟩) := by
  rw [val_main_v65_apply, val_main_v64_apply, ← v63_at rb]
  congr 1
  funext a
  apply Fin.ext
  fin_cases a
  · show (((kh.val * 4 + g.val) * 128 + p.val) * 384 + r.val) / 384 % 128 = p.val
    omega
  · show (((kh.val * 4 + g.val) * 128 + p.val) * 384 + r.val) % 384 = r.val
    omega
  · show (((kh.val * 4 + g.val) * 128 + p.val) * 384 + r.val) / 49152 = 4 * kh.val + g.val
    omega

/-- A key is seen: within 128 of the query and inside the sequence. -/
abbrev Seen (n : Fin 32) (p : Fin 128) (r : Fin 384) : Prop :=
  (p.val ≤ r.val ∧ r.val ≤ p.val + 256) ∧ 128 ≤ 128 * n.val + r.val ∧ 128 * n.val + r.val < 4224

theorem v68_at (p : Fin 128) (r : Fin 384) : val_main_v68 (F := Ideal) (ix2 p r) = BitVec.ofBool (p.val ≤ r.val ∧ r.val ≤ p.val + 256) := by
  simp only [val_main_v68_apply, val_main_v66_apply, val_main_v67_apply, val_main_c_14_apply, v32_at]
  have h := rel_small p r
  have h0 := abs_nonneg ((r.val : ℤ) - 128 - p.val)
  rw [show (128#32 : BitVec 32) = Bits.W 128 from rfl, Bits.absi_W _ ⟨by omega, by omega⟩, Bits.sle_W _ _ ⟨by omega, by omega⟩ ⟨by omega, by omega⟩]
  congr 1
  rw [decide_eq_decide, abs_le]
  omega

theorem v82_at (n : Fin 32) (r : Fin 384) : val_main_v82 (F := Ideal) (ix2 n r) = BitVec.ofBool (128 ≤ 128 * n.val + r.val ∧ 128 * n.val + r.val < 4224) := by
  have e : val_main_v77 (F := Ideal) (ix2 n r) = Bits.W (((n.val : ℤ) - 1) * 128 + r.val) := by
    simp only [val_main_v77_apply, val_main_v75_apply, val_main_v74_apply, val_main_v72_apply, val_main_v70_apply, val_main_v69_apply, val_main_v71_apply, val_main_c_15_apply,
      val_main_v73_apply, val_main_c_16_apply, val_main_v76_apply, val_main_v27_apply, val_main_v26_apply]
    show IntOp.addi (IntOp.muli (IntOp.subi (BitVec.ofNat 32 n.val) (Bits.W 1)) (Bits.W 128)) (BitVec.ofNat 32 r.val) = _
    rw [Bits.ofNat_eq, Bits.ofNat_eq, Bits.subi_W, Bits.muli_W, Bits.addi_W]
  simp only [val_main_v82_apply, val_main_v79_apply, val_main_v81_apply, e, val_main_v78_apply, val_main_c_17_apply, val_main_v80_apply, val_main_c_18_apply]
  rw [show (0#32 : BitVec 32) = Bits.W 0 from rfl, show (4096#32 : BitVec 32) = Bits.W 4096 from rfl, Bits.sge_W _ _ ⟨by omega, by omega⟩ ⟨by omega, by omega⟩,
    Bits.slt_W _ _ ⟨by omega, by omega⟩ ⟨by omega, by omega⟩, Bits.andi_ofBool]
  congr 1
  rw [decide_eq_decide]
  omega

theorem v87_at (n : Fin 32) (p : Fin 128) (r : Fin 384) : val_main_v87 (F := Ideal) (ix3 n p r) = BitVec.ofBool (Seen n p r) := by
  simp only [val_main_v87_apply, val_main_v85_apply, val_main_v83_apply, val_main_v86_apply, val_main_v84_apply]
  refine Eq.trans ?_ (Bits.andi_ofBool _ _)
  rw [← v68_at, ← v82_at]
  congr 1 <;> congr 1 <;> funext a <;> fin_cases a <;> rfl

/-- The score of a query and a key. -/
def score (Q : Vec Ideal S8x4096x1024 .bf16) (K : Vec Ideal S8x4096x256 .bf16) (rb : Vec Ideal S32x8 .f32)
    (b : Fin 8) (n : Fin 32) (kh : Fin 2) (g : Fin 4) (p : Fin 128) (r : Fin 384) : EReal :=
  if Seen n p r then
    Ideal.div (∑ d : Fin 128, padded K b (128 * n.val + r.val) ⟨128 * kh.val + d.val, by omega⟩ *
      Q (ix3 b ⟨128 * n.val + p.val, by omega⟩ ⟨512 * kh.val + 128 * g.val + d.val, by omega⟩)) (Ideal.sqrt ((128 : ℝ) : EReal))
      + rb (ix2 (slot r p) ⟨4 * kh.val + g.val, by omega⟩)
  else ⊥

theorem v6_at (Q : Vec Ideal S8x4096x1024 .bf16) (b : Fin 8) (n : Fin 32) (p : Fin 128) (kh : Fin 2) (g : Fin 4) (d : Fin 128) :
    val_main_v6 (F := Ideal) Q (ix6 b n p kh g d) = Q (ix3 b ⟨128 * n.val + p.val, by omega⟩ ⟨512 * kh.val + 128 * g.val + d.val, by omega⟩) := by
  unfold val_main_v6
  generalize h : val_main_v0 (F := Ideal) Q = y
  refine Eq.trans (shapeCast_apply y shapeCasts_S8x4096x1024_S8x32x128x2x4x128 _ (ix3 b ⟨128 * n.val + p.val, by omega⟩ ⟨512 * kh.val + 128 * g.val + d.val, by omega⟩) ?_) ?_
  · rw [rowMajor_val3 _ 4194304 1024 rfl rfl, rowMajor_val6 _ 4194304 131072 1024 512 128 rfl rfl rfl rfl rfl]
    show b.val * 4194304 + (128 * n.val + p.val) * 1024 + (512 * kh.val + 128 * g.val + d.val) =
      b.val * 4194304 + n.val * 131072 + p.val * 1024 + kh.val * 512 + g.val * 128 + d.val
    omega
  · subst h
    rfl

theorem v92_at (Q : Vec Ideal S8x4096x1024 .bf16) (K : Vec Ideal S8x4096x256 .bf16) (rb : Vec Ideal S32x8 .f32)
    (b : Fin 8) (n : Fin 32) (kh : Fin 2) (g : Fin 4) (p : Fin 128) (r : Fin 384) :
    val_main_v92 (F := Ideal) Q K rb (ix6 b n kh g p r) = score Q K rb b n kh g p r := by
  have hm : val_main_call4_v1 (F := Ideal) (ix6 b n kh g p r) = BitVec.ofBool (Seen n p r) := by
    rw [← v87_at, val_main_call4_v1_apply, val_main_v88_apply]
    congr 1
    funext a
    fin_cases a <;> rfl
  have hi : val_main_call4_v2 (F := Ideal) (ix6 b n kh g p r) = ⊥ := Consts.ofBits_neg_inf
  rw [val_main_v92_apply, hm, hi, Bits.select_ofBool]
  unfold score
  refine if_congr Iff.rfl ?_ rfl
  rw [val_main_v91_apply, val_main_v23_apply]
  refine congrArg₂ (· + ·) (congrArg₂ Ideal.div ?_ ?_) ?_
  · rw [val_main_v20_apply, val_main_v19_apply]
    refine Finset.sum_congr rfl fun d _ => congrArg₂ (· * ·) (Eq.trans (congrArg _ ?_) (v12_at K b n r kh d)) (Eq.trans (congrArg _ ?_) (v6_at Q b n p kh g d))
    · funext a
      fin_cases a <;> rfl
    · funext a
      fin_cases a <;> rfl
  · show Ideal.sqrt (Ideal.ofBits .f32 0x43000000#32) = _
    rw [Consts.ofBits_128]
  · rw [val_main_v90_apply, val_main_v89_apply]
    refine Eq.trans (congrArg _ ?_) (v65_at rb kh g p r)
    funext a
    fin_cases a <;> rfl

end Cert.ReferenceIdeal.Ref

end
-- ==== Proof.RefOut.lean ====
/- The reference's attention and its result at an index. -/
module

public import proofs.«01_k».proof.Proof.RefScore

@[expose] public section

noncomputable section

namespace Cert.ReferenceIdeal.Ref

open Cert.ReferenceIdeal Cert.ReferenceIdeal.Gen Cert.ReferenceIdeal.Read Idealize.ShloMosaic Idealize.ShloMosaic.TcCoe Idealize.SL.Sem

variable (X : Vec Ideal S8x4096x1024 .f32) (GA Q : Vec Ideal S8x4096x1024 .bf16) (K V : Vec Ideal S8x4096x256 .bf16) (GB : Vec Ideal S8x4096x1024 .bf16)
  (rb : Vec Ideal S32x8 .f32) (sk : Vec Ideal S1x8 .f32) (wo : Vec Ideal S1x1024x1024 .f32) (n2 : Vec Ideal S1x1024 .f32) (w1 : Vec Ideal S1x1024x4096 .f32) (w2 : Vec Ideal S1x4096x1024 .f32)

theorem v94_at (kh : Fin 2) (g : Fin 4) : val_main_v94 (F := Ideal) sk (ix6 0 0 kh g 0 0) = sk (ix2 0 ⟨4 * kh.val + g.val, by omega⟩) := by
  rw [val_main_v94_apply, val_main_v93_apply, val_main_v3_apply]
  congr 1
  funext a
  apply Fin.ext
  fin_cases a
  · rfl
  · show (kh.val * 4 + g.val) % 8 = 4 * kh.val + g.val
    omega

theorem v95_at (b : Fin 8) (n : Fin 32) (kh : Fin 2) (g : Fin 4) (p : Fin 128) :
    val_main_v95 (F := Ideal) Q K rb (ix5 b n kh g p) = Finset.univ.fold max ⊥ (score Q K rb b n kh g p) := by
  have e : ∀ r, val_main_v92 (F := Ideal) Q K rb (ix6 b n kh g p r) = score Q K rb b n kh g p r := v92_at Q K rb b n kh g p
  unfold val_main_v95
  generalize val_main_v92 (F := Ideal) Q K rb = y at e
  rw [← funext e]
  have hR : S8x32x2x4x128x384.Reduces [5] S8x32x2x4x128 := by decide
  rw [Host.reduce_eq_fold_single _ _ _ _ hR]
  refine congrArg₂ (fun z f => Finset.univ.fold max z f) Consts.ofBits_neg_inf (funext fun r => congrArg y ?_)
  funext a
  fin_cases a <;> rfl

/-- The largest score or the sink. -/
theorem v98_at (b : Fin 8) (n : Fin 32) (kh : Fin 2) (g : Fin 4) (p : Fin 128) :
    val_main_v98 (F := Ideal) Q K rb sk (ix6 b n kh g p 0) = Spec.top (score Q K rb b n kh g p) (sk (ix2 0 ⟨4 * kh.val + g.val, by omega⟩)) := by
  rw [val_main_v98_apply, val_main_v96_apply, val_main_v97_apply]
  refine congrArg₂ max (Eq.trans (congrArg _ ?_) (v95_at Q K rb b n kh g p)) (Eq.trans (congrArg _ ?_) (v94_at sk kh g))
  · funext a
    fin_cases a <;> rfl
  · funext a
    fin_cases a <;> rfl

theorem v101_at (b : Fin 8) (n : Fin 32) (kh : Fin 2) (g : Fin 4) (p : Fin 128) (r : Fin 384) :
    val_main_v101 (F := Ideal) Q K rb sk (ix6 b n kh g p r) =
      Ideal.exp (score Q K rb b n kh g p r - Spec.top (score Q K rb b n kh g p) (sk (ix2 0 ⟨4 * kh.val + g.val, by omega⟩))) := by
  have e : idx_main_v99 (ix6 b n kh g p r) = ix6 b n kh g p 0 := by
    funext a
    fin_cases a <;> rfl
  rw [val_main_v101_apply, val_main_v100_apply, val_main_v99_apply, v92_at, e, v98_at]
  rfl

theorem v107_at (b : Fin 8) (n : Fin 32) (kh : Fin 2) (g : Fin 4) (p : Fin 128) :
    val_main_v107 (F := Ideal) Q K rb sk (ix6 b n kh g p 0) =
      ∑ r, Ideal.exp (score Q K rb b n kh g p r - Spec.top (score Q K rb b n kh g p) (sk (ix2 0 ⟨4 * kh.val + g.val, by omega⟩))) +
        Ideal.exp (sk (ix2 0 ⟨4 * kh.val + g.val, by omega⟩) - Spec.top (score Q K rb b n kh g p) (sk (ix2 0 ⟨4 * kh.val + g.val, by omega⟩))) := by
  rw [val_main_v107_apply, val_main_v103_apply, val_main_v102_apply, val_main_v106_apply, val_main_v105_apply, val_main_v104_apply, v98_at]
  refine congrArg₂ (· + ·) (Eq.trans (congrArg₂ (· + ·) (Ideal.ofBits_zero_f32) (Finset.sum_congr rfl fun r _ => Eq.trans (congrArg _ ?_) (v101_at Q K rb sk b n kh g p r))) (zero_add _))
    (congrArg (fun z => Ideal.exp (z - _)) (Eq.trans (congrArg _ ?_) (v94_at sk kh g)))
  · funext a
    fin_cases a <;> rfl
  · funext a
    fin_cases a <;> rfl

/-- The attention of a query head. -/
def attn (b : Fin 8) (n : Fin 32) (kh : Fin 2) (g : Fin 4) (p c : Fin 128) : EReal :=
  Spec.attnR (score Q K rb b n kh g p) (fun r => padded V b (128 * n.val + r.val) ⟨128 * kh.val + c.val, by omega⟩) (sk (ix2 0 ⟨4 * kh.val + g.val, by omega⟩))

theorem v111_at (b : Fin 8) (n : Fin 32) (kh : Fin 2) (g : Fin 4) (p c : Fin 128) :
    val_main_v111 (F := Ideal) Q K V rb sk (ix6 b n p kh g c) = attn Q K V rb sk b n kh g p c := by
  rw [val_main_v111_apply, val_main_v110_apply]
  unfold attn Spec.attnR
  refine Finset.sum_congr rfl fun r _ => congrArg₂ (· * ·) (Eq.trans (congrArg (val_main_v12 (F := Ideal) V) ?_) (v12_at V b n r kh c)) ?_
  · funext a
    fin_cases a <;> rfl
  · rw [val_main_v109_apply, val_main_v108_apply]
    refine congrArg₂ Ideal.div (Eq.trans (congrArg _ ?_) (v101_at Q K rb sk b n kh g p r)) (Eq.trans (congrArg _ ?_) (v107_at Q K rb sk b n kh g p))
    · funext a
      fin_cases a <;> rfl
    · funext a
      fin_cases a <;> rfl

theorem v112_at (b : Fin 8) (t : Fin 4096) (j : Fin 1024) :
    val_main_v112 (F := Ideal) Q K V rb sk (ix3 b t j) =
      attn Q K V rb sk b ⟨t.val / 128, by omega⟩ ⟨j.val / 512, by omega⟩ ⟨j.val % 512 / 128, by omega⟩ ⟨t.val % 128, by omega⟩ ⟨j.val % 128, by omega⟩ := by
  rw [← v111_at]
  unfold val_main_v112
  refine shapeCast_apply _ shapeCasts_S8x32x128x2x4x128_S8x4096x1024 _ _ ?_
  rw [rowMajor_val3 _ 4194304 1024 rfl rfl, rowMajor_val6 _ 4194304 131072 1024 512 128 rfl rfl rfl rfl rfl]
  show b.val * 4194304 + t.val / 128 * 131072 + t.val % 128 * 1024 + j.val / 512 * 512 + j.val % 512 / 128 * 128 + j.val % 128 = b.val * 4194304 + t.val * 1024 + j.val
  omega

/-- The merged activations of a row. -/
def merged (b : Fin 8) (t : Fin 4096) (j : Fin 1024) : EReal :=
  GA (ix3 b t j) + GB (ix3 b t j) * attn Q K V rb sk b ⟨t.val / 128, by omega⟩ ⟨j.val / 512, by omega⟩ ⟨j.val % 512 / 128, by omega⟩ ⟨t.val % 128, by omega⟩ ⟨j.val % 128, by omega⟩

theorem v119_at (b : Fin 8) (t : Fin 4096) (j : Fin 1024) :
    val_main_v119 (F := Ideal) X GA Q K V GB rb sk wo (ix3 b t j) =
      Spec.mid (fun k => X (ix3 b t k)) (merged GA Q K V GB rb sk b t) (fun k l => wo (ix3 0 k l)) j := by
  rw [val_main_v119_apply, val_main_v118_apply]
  unfold Spec.mid
  refine congrArg₂ (· + ·) rfl (Finset.sum_congr rfl fun k _ => congrArg₂ (· * ·) ?_ ?_)
  · rw [val_main_v116_apply, val_main_v115_apply, val_main_v113_apply, val_main_v114_apply]
    have e : lidx_main_v118 (ix3 b t j) k = ix3 b t k := by
      funext a
      fin_cases a <;> rfl
    rw [e]
    exact congrArg₂ (· + ·) rfl (congrArg₂ (· * ·) rfl (v112_at Q K V rb sk b t k))
  · rw [val_main_v117_apply]
    congr 1
    funext a
    apply Fin.ext
    fin_cases a
    · rfl
    · show (k.val * 1024 + j.val) / 1024 % 1024 = k.val
      omega
    · show (k.val * 1024 + j.val) % 1024 = j.val
      omega

/-- The reference's result. -/
theorem v140_at (b : Fin 8) (t : Fin 4096) (j : Fin 1024) :
    val_main_v140 (F := Ideal) X GA Q K V GB rb sk wo n2 w1 w2 (ix3 b t j) =
      Spec.ffn (Spec.mid (fun k => X (ix3 b t k)) (merged GA Q K V GB rb sk b t) (fun k l => wo (ix3 0 k l))) (fun k => n2 (ix2 0 k)) (fun k l => w1 (ix3 0 k l)) (fun k l => w2 (ix3 0 k l)) j := by
  have h119 := v119_at X GA Q K V GB rb sk wo b t
  have hn : ∀ k, val_main_v133 (F := Ideal) X GA Q K V GB rb sk wo n2 (ix3 b t k) =
      Spec.mid (fun k => X (ix3 b t k)) (merged GA Q K V GB rb sk b t) (fun k l => wo (ix3 0 k l)) k *
        Ideal.rsqrt (Ideal.div (∑ l, Spec.mid (fun k => X (ix3 b t k)) (merged GA Q K V GB rb sk b t) (fun k l => wo (ix3 0 k l)) l *
          Spec.mid (fun k => X (ix3 b t k)) (merged GA Q K V GB rb sk b t) (fun k l => wo (ix3 0 k l)) l) (Ideal.ofBits .f32 0x44800000#32) + Ideal.ofBits .f32 0x358637BD#32) * n2 (ix2 0 k) := by
    intro k
    rw [val_main_v133_apply, val_main_v130_apply, h119, val_main_v129_apply, val_main_v128_apply, val_main_v127_apply, val_main_v125_apply, val_main_v123_apply, val_main_v122_apply]
    refine congrArg₂ (· * ·) (congrArg₂ (· * ·) rfl (congrArg (fun z => Ideal.rsqrt (Ideal.div z _ + _)) (Eq.trans (congrArg₂ (· + ·) (Ideal.ofBits_zero_f32) (Finset.sum_congr rfl fun l _ => ?_)) (zero_add _)))) ?_
    · rw [val_main_v121_apply]
      have e : idx_main_v122 (idx_main_v123 (idx_main_v129 (ix3 b t k))) l = ix3 b t l := by
        funext a
        fin_cases a <;> rfl
      rw [e, h119]
      rfl
    · rw [val_main_v132_apply, val_main_v131_apply, val_main_v120_apply]
      congr 1
      funext a
      apply Fin.ext
      fin_cases a
      · rfl
      · show k.val % 1024 = k.val
        omega
  rw [val_main_v140_apply, h119, val_main_v139_apply]
  unfold Spec.ffn
  refine congrArg₂ (· + ·) rfl (Finset.sum_congr rfl fun l _ => congrArg₂ (· * ·) ?_ ?_)
  · have e : lidx_main_v139 (ix3 b t j) l = ix3 b t l := by
      funext a
      fin_cases a <;> rfl
    have h : val_main_v135 (F := Ideal) X GA Q K V GB rb sk wo n2 w1 (ix3 b t l) = ∑ k, Spec.mid (fun k => X (ix3 b t k)) (merged GA Q K V GB rb sk b t) (fun k l => wo (ix3 0 k l)) k *
        Ideal.rsqrt (Ideal.div (∑ l, Spec.mid (fun k => X (ix3 b t k)) (merged GA Q K V GB rb sk b t) (fun k l => wo (ix3 0 k l)) l *
          Spec.mid (fun k => X (ix3 b t k)) (merged GA Q K V GB rb sk b t) (fun k l => wo (ix3 0 k l)) l) (Ideal.ofBits .f32 0x44800000#32) + Ideal.ofBits .f32 0x358637BD#32) * n2 (ix2 0 k) * w1 (ix3 0 k l) := by
      rw [val_main_v135_apply]
      refine Finset.sum_congr rfl fun k _ => congrArg₂ (· * ·) (Eq.trans (congrArg _ ?_) (hn k)) ?_
      · funext a
        fin_cases a <;> rfl
      · rw [val_main_v134_apply]
        congr 1
        funext a
        apply Fin.ext
        fin_cases a
        · rfl
        · show (k.val * 4096 + l.val) / 4096 % 1024 = k.val
          omega
        · show (k.val * 4096 + l.val) % 4096 = l.val
          omega
    rw [e, val_main_v137_apply, val_main_v136_apply, h]
    exact congrArg₂ (· * ·) (congrArg (max _) (Ideal.ofBits_zero_f32)) (congrArg (max _) (Ideal.ofBits_zero_f32))
  · rw [val_main_v138_apply]
    congr 1
    funext a
    apply Fin.ext
    fin_cases a
    · rfl
    · show (l.val * 1024 + j.val) / 1024 % 4096 = l.val
      omega
    · show (l.val * 1024 + j.val) % 1024 = j.val
      omega

end Cert.ReferenceIdeal.Ref

end
-- ==== Proof.Meet.lean ====
/- A tile of the kernel is what the reference says of its rows: the two attentions agree, and with them the merged
   activations. -/
module

public import proofs.«01_k».proof.Proof.Blocks
public import proofs.«01_k».proof.Proof.Run
public import proofs.«01_k».proof.Proof.RefOut

@[expose] public section

noncomputable section

namespace Cert.Meet

open Idealize.ShloMosaic Idealize.ShloMosaic.TcCoe Idealize.SL.Sem
open Cert.KernelIdeal (grid1 S512x1024 S512x256 S128x256 S256x512 S256x128 S3x2x384x512 S8 S8x4096x1024 S8x4096x256 S32x8 S1x8)

/-- The grid's coordinates of a point. -/
def coord (t : Fin 64) : grid1.Coords := fun | ⟨0, _⟩ => t

theorem off_first : ∀ t : Fin 64, Cert.KernelIdeal.k1_off1 (coord t) 0#32 0#32 0 = if t.val % 8 = 0 then 0 else 1 := by decide +kernel

theorem off_last : ∀ t : Fin 64, Cert.KernelIdeal.k1_off1 (coord t) 7#32 2#32 0 = if t.val % 8 = 7 then 2 else 1 := by decide +kernel

/-- The variant of a block: the first of a batch's rows take 0, the last 2. -/
theorem variant_val (i : grid1.Coords) (t : Fin 64) (hi : i = coord t) (b : Fin 4) :
    (Cert.KernelIdeal.Run.variant i b).val = if b.val = 0 ∧ t.val % 8 = 0 then 0 else if b.val = 3 ∧ t.val % 8 = 7 then 2 else 1 := by
  subst hi
  have h1 := off_first t
  have h2 := off_last t
  unfold Cert.KernelIdeal.Run.variant
  match b with
  | 0 => refine h1.trans ?_; by_cases h : t.val % 8 = 0 <;> simp [h]
  | 1 => simp
  | 2 => simp
  | 3 => refine h2.trans ?_; by_cases h : t.val % 8 = 7 <;> simp [h]

/-- A key is seen exactly where the table's variant keeps it. -/
theorem seen_iff (i : grid1.Coords) (t : Fin 64) (hi : i = coord t) (b : Fin 4) (n : Fin 32) (hn : n.val = 4 * (t.val % 8) + b.val) (p : Fin 128) (r : Fin 384) :
    (Cert.KernelIdeal.Table.inside r p ∧ Cert.KernelIdeal.Table.kept (Cert.KernelIdeal.Run.variant i b) r) ↔ Cert.ReferenceIdeal.Ref.Seen n p r := by
  have hv := variant_val i t hi b
  unfold Cert.KernelIdeal.Table.inside Cert.KernelIdeal.Table.kept Cert.ReferenceIdeal.Ref.Seen
  have e0 : Cert.KernelIdeal.Run.variant i b = 0 ↔ (Cert.KernelIdeal.Run.variant i b).val = 0 := Fin.ext_iff
  have e2 : Cert.KernelIdeal.Run.variant i b = 2 ↔ (Cert.KernelIdeal.Run.variant i b).val = 2 := Fin.ext_iff
  have hv0 : (Cert.KernelIdeal.Run.variant i b).val = 0 ↔ b.val = 0 ∧ t.val % 8 = 0 := by
    rw [hv]
    split_ifs <;> constructor <;> intro _ <;> first | assumption | contradiction | omega
  have hv2 : (Cert.KernelIdeal.Run.variant i b).val = 2 ↔ b.val = 3 ∧ t.val % 8 = 7 := by
    rw [hv]
    split_ifs <;> constructor <;> intro _ <;> first | assumption | contradiction | omega
  rw [e0, e2, hv0, hv2]
  have := b.isLt
  have := r.isLt
  have := p.isLt
  constructor
  · rintro ⟨⟨_, _⟩, k0, k2⟩
    by_cases hA : b.val = 0 ∧ t.val % 8 = 0
    · have := k0 hA
      omega
    · by_cases hB : b.val = 3 ∧ t.val % 8 = 7
      · have := k2 hB
        omega
      · omega
  · intro h
    exact ⟨by omega, fun _ => by omega, fun _ => by omega⟩

theorem sqrt_128 : Ideal.sqrt ((128 : ℝ) : EReal) = ((Real.sqrt 128 : ℝ) : EReal) := (Ideal.sqrt_coe 128).trans (if_neg (by norm_num))

theorem sqrt_pos : Real.sqrt 128 ≠ 0 := (Real.sqrt_pos.2 (by norm_num)).ne'

theorem log_ne : Real.log 2 ≠ 0 := (Real.log_pos (by norm_num)).ne'

/-- Dividing the query beforehand scales the sum. -/
theorem scores (k q : Fin 128 → ℝ) (b : ℝ) :
    ∑ d, ((k d : ℝ) : EReal) * Ideal.div (q d) (Ideal.sqrt ((128 : ℝ) : EReal) * Ideal.log ((2 : ℝ) : EReal)) + Spec.scale b =
      Spec.scale (Ideal.div (∑ d, ((k d : ℝ) : EReal) * (q d : ℝ)) (Ideal.sqrt ((128 : ℝ) : EReal)) + b) := by
  have hl : Ideal.log ((2 : ℝ) : EReal) = ((Real.log 2 : ℝ) : EReal) := by
    rw [Ideal.log_coe]
    simp
  rw [hl, sqrt_128, ← EReal.coe_mul]
  simp only [Ideal.div_coe (mul_ne_zero sqrt_pos log_ne), Ideal.div_coe sqrt_pos, ← EReal.coe_mul]
  have hs : ∀ f : Fin 128 → ℝ, ∑ d, ((f d : ℝ) : EReal) = ((∑ d, f d : ℝ) : EReal) := fun f => (map_sum (⟨⟨((↑) : ℝ → EReal), EReal.coe_zero⟩, EReal.coe_add⟩ : ℝ →+ EReal) f Finset.univ).symm
  rw [hs, hs, ← EReal.coe_mul, ← EReal.coe_add, Spec.scale_coe, Spec.scale_coe, ← EReal.coe_add]
  congr 1
  rw [add_mul, Finset.sum_mul, Finset.sum_mul]
  congr 1
  refine Finset.sum_congr rfl fun d _ => ?_
  field_simp

/-! Bounds of the indices the assumptions below name. -/

theorem batch_lt (t : Fin 64) : t.val / 8 < 8 := by omega
theorem cur_lt (t : Fin 64) (r : Fin 512) : 512 * (t.val % 8) + r.val < 4096 := by omega
theorem prev_lt (t : Fin 64) (r : Fin 128) : 512 * (t.val % 8) + r.val - 128 < 4096 := by omega
theorem next_lt (t : Fin 64) (h : t.val % 8 < 7) (r : Fin 128) : 512 * (t.val % 8) + r.val + 512 < 4096 := by omega
theorem col_lt (j : Fin 512) : j.val % 128 < 128 := by omega
theorem head_lt (kh : Fin 2) (j : Fin 512) : 4 * kh.val + j.val / 128 < 8 := by omega

variable (GA Q : Vec Ideal S8x4096x1024 .bf16) (K V : Vec Ideal S8x4096x256 .bf16) (GB : Vec Ideal S8x4096x1024 .bf16) (rb : Vec Ideal S32x8 .f32) (sk : Vec Ideal S1x8 .f32)
  (hQ : ∀ j, ∃ x : ℝ, Q j = x) (hK : ∀ j, ∃ x : ℝ, K j = x) (hB : ∀ j, ∃ x : ℝ, rb j = x) (hS : ∀ j, ∃ x : ℝ, sk j = x)
  (i : grid1.Coords) (t : Fin 64) (hi : i = coord t)
  (x1 x2 : Vec Ideal S512x1024 .bf16) (x3 : Vec Ideal S512x256 .bf16) (x4 x5 : Vec Ideal S128x256 .bf16)
  (x6 : Vec Ideal S256x512 .bf16) (x7 x8 : Vec Ideal S256x128 .bf16) (x9 : Vec Ideal S512x1024 .bf16) (x10 : Vec Ideal S3x2x384x512 .f32)
  (x11 : Vec Ideal S8 .f32)
  (h1 : ∀ (r : Fin 512) (j : Fin 1024), x1 (ix2 r j) = GA (ix3 ⟨t.val / 8, batch_lt t⟩ ⟨512 * (t.val % 8) + r.val, cur_lt t r⟩ j))
  (h2 : ∀ (r : Fin 512) (j : Fin 1024), x2 (ix2 r j) = Ideal.div (Q (ix3 ⟨t.val / 8, batch_lt t⟩ ⟨512 * (t.val % 8) + r.val, cur_lt t r⟩ j)) (Ideal.sqrt ((128 : ℝ) : EReal) * Ideal.log ((2 : ℝ) : EReal)))
  (h3 : ∀ (r : Fin 512) (j : Fin 256), x3 (ix2 r j) = K (ix3 ⟨t.val / 8, batch_lt t⟩ ⟨512 * (t.val % 8) + r.val, cur_lt t r⟩ j))
  (h4 : ∀ (_ : 0 < t.val % 8) (r : Fin 128) (j : Fin 256), x4 (ix2 r j) = K (ix3 ⟨t.val / 8, batch_lt t⟩ ⟨512 * (t.val % 8) + r.val - 128, prev_lt t r⟩ j))
  (h5 : ∀ (h : t.val % 8 < 7) (r : Fin 128) (j : Fin 256), x5 (ix2 r j) = K (ix3 ⟨t.val / 8, batch_lt t⟩ ⟨512 * (t.val % 8) + r.val + 512, next_lt t h r⟩ j))
  (h6 : ∀ (r : Fin 512) (j : Fin 256), x6 (ix2 j r) = V (ix3 ⟨t.val / 8, batch_lt t⟩ ⟨512 * (t.val % 8) + r.val, cur_lt t r⟩ j))
  (h7 : ∀ (_ : 0 < t.val % 8) (r : Fin 128) (j : Fin 256), x7 (ix2 j r) = V (ix3 ⟨t.val / 8, batch_lt t⟩ ⟨512 * (t.val % 8) + r.val - 128, prev_lt t r⟩ j))
  (h8 : ∀ (h : t.val % 8 < 7) (r : Fin 128) (j : Fin 256), x8 (ix2 j r) = V (ix3 ⟨t.val / 8, batch_lt t⟩ ⟨512 * (t.val % 8) + r.val + 512, next_lt t h r⟩ j))
  (h9 : ∀ (r : Fin 512) (j : Fin 1024), x9 (ix2 r j) = GB (ix3 ⟨t.val / 8, batch_lt t⟩ ⟨512 * (t.val % 8) + r.val, cur_lt t r⟩ j))
  (h10 : ∀ (v : Fin 3) (kh : Fin 2) (r : Fin 384) (j : Fin 512), x10 (ix4 v kh r j) =
    Cert.KernelIdeal.Table.entry v (rb (ix2 (Cert.ReferenceIdeal.Ref.slot r ⟨j.val % 128, col_lt j⟩) ⟨4 * kh.val + j.val / 128, head_lt kh j⟩)) r ⟨j.val % 128, col_lt j⟩)
  (h11 : ∀ h : Fin 8, x11 (ix1 h) = sk (ix2 0 h))

include h3 h4 h5 in
/-- The band's keys are the padded sequence's, where a key is seen. -/
theorem kband_at (b : Fin 4) (n : Fin 32) (hn : n.val = 4 * (t.val % 8) + b.val) (p : Fin 128) (r : Fin 384)
    (hs : Cert.ReferenceIdeal.Ref.Seen n p r) (j : Fin 256) :
    Cert.KernelIdeal.Blocks.kband x3 x4 x5 ⟨128 * b.val + r.val, by omega⟩ j = Cert.ReferenceIdeal.Ref.padded K ⟨t.val / 8, by omega⟩ (128 * n.val + r.val) j := by
  have hs' := hs
  unfold Cert.ReferenceIdeal.Ref.Seen at hs'
  have hm : 128 ≤ 128 * n.val + r.val ∧ 128 * n.val + r.val < 4224 := by omega
  unfold Cert.KernelIdeal.Blocks.kband Cert.ReferenceIdeal.Ref.padded
  rw [dif_pos hm]
  split_ifs with ha hb
  · rw [h4 (by have : 128 * b.val + r.val < 128 := ha; omega)]
    congr 2
    apply Fin.ext
    show 512 * (t.val % 8) + (128 * b.val + r.val) - 128 = 128 * n.val + r.val - 128
    omega
  · rw [h3]
    congr 2
    apply Fin.ext
    have : ¬ (128 * b.val + r.val < 128) := ha
    show 512 * (t.val % 8) + (128 * b.val + r.val - 128) = 128 * n.val + r.val - 128
    omega
  · have : ¬ (128 * b.val + r.val < 640) := hb
    rw [h5 (by omega)]
    congr 2
    apply Fin.ext
    show 512 * (t.val % 8) + (128 * b.val + r.val - 640) + 512 = 128 * n.val + r.val - 128
    omega

include h6 h7 h8 in
/-- So are its values. -/
theorem vband_at (b : Fin 4) (n : Fin 32) (hn : n.val = 4 * (t.val % 8) + b.val) (p : Fin 128) (r : Fin 384)
    (hs : Cert.ReferenceIdeal.Ref.Seen n p r) (j : Fin 256) :
    Cert.KernelIdeal.Blocks.vband x6 x7 x8 j ⟨128 * b.val + r.val, by omega⟩ = Cert.ReferenceIdeal.Ref.padded V ⟨t.val / 8, by omega⟩ (128 * n.val + r.val) j := by
  have hs' := hs
  unfold Cert.ReferenceIdeal.Ref.Seen at hs'
  have hm : 128 ≤ 128 * n.val + r.val ∧ 128 * n.val + r.val < 4224 := by omega
  unfold Cert.KernelIdeal.Blocks.vband Cert.ReferenceIdeal.Ref.padded
  rw [dif_pos hm]
  split_ifs with ha hb
  · rw [h7 (by have : 128 * b.val + r.val < 128 := ha; omega)]
    congr 2
    apply Fin.ext
    show 512 * (t.val % 8) + (128 * b.val + r.val) - 128 = 128 * n.val + r.val - 128
    omega
  · rw [h6]
    congr 2
    apply Fin.ext
    have : ¬ (128 * b.val + r.val < 128) := ha
    show 512 * (t.val % 8) + (128 * b.val + r.val - 128) = 128 * n.val + r.val - 128
    omega
  · have : ¬ (128 * b.val + r.val < 640) := hb
    rw [h8 (by omega)]
    congr 2
    apply Fin.ext
    show 512 * (t.val % 8) + (128 * b.val + r.val - 640) + 512 = 128 * n.val + r.val - 128
    omega

include hQ hK hB in
/-- A seen key's score is real. -/
theorem score_real (b : Fin 8) (n : Fin 32) (kh : Fin 2) (g : Fin 4) (p : Fin 128) (r : Fin 384) : Cert.ReferenceIdeal.Ref.score Q K rb b n kh g p r ≠ ⊤ := by
  choose q hq using hQ
  choose k hk using hK
  choose β hβ using hB
  unfold Cert.ReferenceIdeal.Ref.score
  split_ifs with hs
  · unfold Cert.ReferenceIdeal.Ref.Seen at hs
    have hm : 128 ≤ 128 * n.val + r.val ∧ 128 * n.val + r.val < 4224 := by omega
    unfold Cert.ReferenceIdeal.Ref.padded
    simp only [dif_pos hm, hq, hk, hβ, sqrt_128, ← EReal.coe_mul]
    rw [Ideal.div_coe sqrt_pos]
    have hsum : ∀ f : Fin 128 → ℝ, ∑ d, ((f d : ℝ) : EReal) = ((∑ d, f d : ℝ) : EReal) := fun f => (map_sum (⟨⟨((↑) : ℝ → EReal), EReal.coe_zero⟩, EReal.coe_add⟩ : ℝ →+ EReal) f Finset.univ).symm
    rw [hsum, ← EReal.coe_mul, ← EReal.coe_add]
    exact EReal.coe_ne_top _
  · exact bot_ne_top

include hQ hK hB hi h2 h3 h4 h5 h10 in
/-- The kernel's score is the reference's, to base two. -/
theorem score_at (b : Fin 4) (n : Fin 32) (hn : n.val = 4 * (t.val % 8) + b.val) (kh : Fin 2) (g : Fin 4) (p : Fin 128) (r : Fin 384) :
    ∑ d : Fin 128, Cert.KernelIdeal.Blocks.kband x3 x4 x5 ⟨128 * b.val + r.val, by omega⟩ ⟨128 * kh.val + d.val, by omega⟩ *
          x2 (ix2 ⟨128 * b.val + p.val, by omega⟩ ⟨512 * kh.val + 128 * g.val + d.val, by omega⟩)
        + x10 (ix4 (Cert.KernelIdeal.Run.variant i b) kh r ⟨128 * g.val + p.val, by omega⟩) =
      Spec.scale (Cert.ReferenceIdeal.Ref.score Q K rb ⟨t.val / 8, by omega⟩ n kh g p r) := by
  have hp : (⟨(128 * g.val + p.val) % 128, by omega⟩ : Fin 128) = p := Fin.ext (by show (128 * g.val + p.val) % 128 = p.val; omega)
  have hg : (⟨4 * kh.val + (128 * g.val + p.val) / 128, by omega⟩ : Fin 8) = ⟨4 * kh.val + g.val, by omega⟩ := Fin.ext (by show 4 * kh.val + (128 * g.val + p.val) / 128 = 4 * kh.val + g.val; omega)
  rw [h10]
  simp only [hp, hg]
  unfold Cert.KernelIdeal.Table.entry Cert.ReferenceIdeal.Ref.score
  have hiff := seen_iff i t hi b n hn p r
  by_cases hs : Cert.ReferenceIdeal.Ref.Seen n p r
  · rw [if_pos (hiff.2 hs), if_pos hs]
    simp only [kband_at K t x3 x4 x5 h3 h4 h5 b n hn p r hs, h2]
    have hrow : (⟨512 * (t.val % 8) + (128 * b.val + p.val), by omega⟩ : Fin 4096) = ⟨128 * n.val + p.val, by omega⟩ := Fin.ext (by show 512 * (t.val % 8) + (128 * b.val + p.val) = 128 * n.val + p.val; omega)
    simp only [hrow]
    unfold Cert.ReferenceIdeal.Ref.Seen at hs
    have hm : 128 ≤ 128 * n.val + r.val ∧ 128 * n.val + r.val < 4224 := by omega
    unfold Cert.ReferenceIdeal.Ref.padded
    simp only [dif_pos hm]
    choose q hq using hQ
    choose k hk using hK
    choose β hβ using hB
    simp only [hq, hk, hβ]
    exact scores _ _ _
  · rw [if_neg (fun h => hs (hiff.1 h)), if_neg hs, EReal.add_bot, Spec.scale_bot]

include hQ hK hB hS hi h1 h2 h3 h4 h5 h6 h7 h8 h9 h10 h11 in
/-- A row's merged activation, given by its block. -/
theorem tile_at (b : Fin 4) (n : Fin 32) (hn : n.val = 4 * (t.val % 8) + b.val) (kh : Fin 2) (g : Fin 4) (p c : Fin 128) :
    Cert.KernelIdeal.Blocks.tileVal (Cert.KernelIdeal.Run.variant i) x1 x2 x3 x4 x5 x6 x7 x8 x9 x10 x11 b kh g p c =
      GA (ix3 ⟨t.val / 8, by omega⟩ ⟨128 * n.val + p.val, by omega⟩ ⟨512 * kh.val + 128 * g.val + c.val, by omega⟩) +
        GB (ix3 ⟨t.val / 8, by omega⟩ ⟨128 * n.val + p.val, by omega⟩ ⟨512 * kh.val + 128 * g.val + c.val, by omega⟩) *
          Cert.ReferenceIdeal.Ref.attn Q K V rb sk ⟨t.val / 8, by omega⟩ n kh g p c := by
  unfold Cert.KernelIdeal.Blocks.tileVal Cert.ReferenceIdeal.Ref.attn
  have hrow : (⟨512 * (t.val % 8) + (128 * b.val + p.val), by omega⟩ : Fin 4096) = ⟨128 * n.val + p.val, by omega⟩ := Fin.ext (by show 512 * (t.val % 8) + (128 * b.val + p.val) = 128 * n.val + p.val; omega)
  obtain ⟨z, hz⟩ := hS (ix2 0 ⟨4 * kh.val + g.val, by omega⟩)
  rw [h1, h9]
  simp only [hrow]
  refine congrArg₂ (· + ·) rfl (congrArg₂ (· * ·) rfl ?_)
  rw [hz, h11, hz]
  refine Spec.attn_eq _ _ _ _ z _ (score_real Q K rb hQ hK hB _ n kh g p) (score_at Q K rb hQ hK hB i t hi x2 x3 x4 x5 x10 h2 h3 h4 h5 h10 b n hn kh g p) rfl ?_
  intro r hr
  by_cases hs : Cert.ReferenceIdeal.Ref.Seen n p r
  · exact (vband_at V t x6 x7 x8 h6 h7 h8 b n hn p r hs _).symm
  · exact absurd (by unfold Cert.ReferenceIdeal.Ref.score; rw [if_neg hs]) hr

include hQ hK hB hS hi h1 h2 h3 h4 h5 h6 h7 h8 h9 h10 h11 in
/-- A row's merged activation is the reference's. -/
theorem merged_at (r : Fin 512) (j : Fin 1024) :
    Cert.KernelIdeal.Blocks.merged (Cert.KernelIdeal.Run.variant i) x1 x2 x3 x4 x5 x6 x7 x8 x9 x10 x11 r j =
      Cert.ReferenceIdeal.Ref.merged GA Q K V GB rb sk ⟨t.val / 8, by omega⟩ ⟨512 * (t.val % 8) + r.val, by omega⟩ j := by
  unfold Cert.KernelIdeal.Blocks.merged Cert.ReferenceIdeal.Ref.merged
  rw [tile_at GA Q K V GB rb sk hQ hK hB hS i t hi x1 x2 x3 x4 x5 x6 x7 x8 x9 x10 x11 h1 h2 h3 h4 h5 h6 h7 h8 h9 h10 h11 ⟨r.val / 128, by omega⟩ ⟨4 * (t.val % 8) + r.val / 128, by omega⟩ rfl]
  have hrow : (⟨128 * (4 * (t.val % 8) + r.val / 128) + r.val % 128, by omega⟩ : Fin 4096) = ⟨512 * (t.val % 8) + r.val, by omega⟩ :=
    Fin.ext (by show 128 * (4 * (t.val % 8) + r.val / 128) + r.val % 128 = 512 * (t.val % 8) + r.val; omega)
  have hcol : (⟨512 * (j.val / 512) + 128 * (j.val % 512 / 128) + j.val % 128, by omega⟩ : Fin 1024) = j :=
    Fin.ext (by show 512 * (j.val / 512) + 128 * (j.val % 512 / 128) + j.val % 128 = j.val; omega)
  have hb : (⟨(512 * (t.val % 8) + r.val) / 128, by omega⟩ : Fin 32) = ⟨4 * (t.val % 8) + r.val / 128, by omega⟩ :=
    Fin.ext (by show (512 * (t.val % 8) + r.val) / 128 = 4 * (t.val % 8) + r.val / 128; omega)
  have hp : (⟨(512 * (t.val % 8) + r.val) % 128, by omega⟩ : Fin 128) = ⟨r.val % 128, by omega⟩ :=
    Fin.ext (by show (512 * (t.val % 8) + r.val) % 128 = r.val % 128; omega)
  simp only [hrow, hcol, hb, hp]

end Cert.Meet

end
-- ==== Proof.Result.lean ====
/- The kernel's result array, element by element, is the reference's value on the same arguments. -/
module

public import proofs.«01_k».proof.Proof.Regions
public import proofs.«01_k».proof.Proof.Host
public import proofs.«01_k».proof.Proof.Meet
public import proofs.«01_k».proof.Proof.RefOut

@[expose] public section

set_option maxRecDepth 16384

noncomputable section

namespace Cert.Result

open Cert.KernelIdeal Cert.KernelIdeal.Gen Idealize.ShloMosaic Idealize.ShloMosaic.TcCoe Idealize.SL.Sem
open Cert.KernelIdeal.Regions Cert.KernelIdeal.Host
open Cert.ReferenceIdeal (Ref.slot Ref.slot_spec Ref.merged Ref.v140_at)

variable (m : (ℓ : Loc nD τ sig) → Buf (Elt Ideal) ℓ) (ρ : Dev nD → PrngReg) (c : Dev nD) (t : Fin 64)

/-! The arguments as launched. -/

abbrev X : Vec Ideal S8x4096x1024 .f32 := m ((c.tc : Thread nD τ).loc main_arg0)
abbrev GA : Vec Ideal S8x4096x1024 .bf16 := m ((c.tc : Thread nD τ).loc main_arg1)
abbrev Q : Vec Ideal S8x4096x1024 .bf16 := m ((c.tc : Thread nD τ).loc main_arg2)
abbrev K : Vec Ideal S8x4096x256 .bf16 := m ((c.tc : Thread nD τ).loc main_arg3)
abbrev Vv : Vec Ideal S8x4096x256 .bf16 := m ((c.tc : Thread nD τ).loc main_arg4)
abbrev GB : Vec Ideal S8x4096x1024 .bf16 := m ((c.tc : Thread nD τ).loc main_arg5)
abbrev rb : Vec Ideal S32x8 .f32 := m ((c.tc : Thread nD τ).loc main_arg6)
abbrev sk : Vec Ideal S1x8 .f32 := m ((c.tc : Thread nD τ).loc main_arg7)
abbrev wo : Vec Ideal S1x1024x1024 .bf16 := m ((c.tc : Thread nD τ).loc main_arg8)
abbrev n2 : Vec Ideal S1x1024 .f32 := m ((c.tc : Thread nD τ).loc main_arg9)
abbrev w1 : Vec Ideal S1x1024x4096 .bf16 := m ((c.tc : Thread nD τ).loc main_arg10)
abbrev w2 : Vec Ideal S1x4096x1024 .bf16 := m ((c.tc : Thread nD τ).loc main_arg11)

theorem row {α : Type} {N C : Nat} (A : (⟨2, ![N, C]⟩ : Shape).Idx → α) {R R' : Fin N} (e : R.val = R'.val) (j : Fin C) : A (ix2 R j) = A (ix2 R' j) := by
  rw [Fin.ext e]

theorem col {α : Type} {N C : Nat} (A : (⟨2, ![N, C]⟩ : Shape).Idx → α) {R R' : Fin C} (e : R.val = R'.val) (j : Fin N) : A (ix2 j R) = A (ix2 j R') := by
  rw [Fin.ext e]

/-! ## What a point of the second call reads, in terms of the arguments -/

theorem read0 (r : Fin 512) (j : Fin 1024) :
    (show Vec Ideal S512x1024 .f32 from iblk1 (V7 m ρ) c 0 t) (ix2 r j) = X m c (ix3 ⟨t.val / 8, by omega⟩ ⟨512 * (t.val % 8) + r.val, by omega⟩ j) :=
  (blk0 (V7 m ρ) c t r j).trans ((row (show Vec Ideal S32768x1024 .f32 from V7 m ρ c main_v43)
    (by show 512 * t.val + r.val = 4096 * (t.val / 8) + (512 * (t.val % 8) + r.val); omega) j).trans ((v43_at (W6 m ρ c) ⟨t.val / 8, by omega⟩ ⟨512 * (t.val % 8) + r.val, by omega⟩ j).trans
    (congrFun (W6_args m ρ c main_arg0 (by decide)) (ix3 ⟨t.val / 8, by omega⟩ ⟨512 * (t.val % 8) + r.val, by omega⟩ j))))

theorem read1 (r : Fin 512) (j : Fin 1024) :
    (show Vec Ideal S512x1024 .bf16 from iblk1 (V7 m ρ) c 1 t) (ix2 r j) = GA m c (ix3 ⟨t.val / 8, by omega⟩ ⟨512 * (t.val % 8) + r.val, by omega⟩ j) :=
  (blk1 (V7 m ρ) c t r j).trans ((row (show Vec Ideal S32768x1024 .bf16 from V7 m ρ c main_v54)
    (by show 512 * t.val + r.val = 4096 * (t.val / 8) + (512 * (t.val % 8) + r.val); omega) j).trans ((v54_at (W6 m ρ c) ⟨t.val / 8, by omega⟩ ⟨512 * (t.val % 8) + r.val, by omega⟩ j).trans
    (congrFun (W6_args m ρ c main_arg1 (by decide)) (ix3 ⟨t.val / 8, by omega⟩ ⟨512 * (t.val % 8) + r.val, by omega⟩ j))))

theorem read2 (r : Fin 512) (j : Fin 1024) :
    (show Vec Ideal S512x1024 .bf16 from iblk1 (V7 m ρ) c 2 t) (ix2 r j) = Ideal.div (Q m c (ix3 ⟨t.val / 8, by omega⟩ ⟨512 * (t.val % 8) + r.val, by omega⟩ j)) (Ideal.sqrt ((128 : ℝ) : EReal) * Ideal.log ((2 : ℝ) : EReal)) :=
  (blk2 (V7 m ρ) c t r j).trans ((row (show Vec Ideal S32768x1024 .bf16 from V7 m ρ c main_v51)
    (by show 512 * t.val + r.val = 4096 * (t.val / 8) + (512 * (t.val % 8) + r.val); omega) j).trans ((v51_at (W6 m ρ c) ⟨t.val / 8, by omega⟩ ⟨512 * (t.val % 8) + r.val, by omega⟩ j).trans
    (congrArg (fun z => Ideal.div z (Ideal.sqrt ((128 : ℝ) : EReal) * Ideal.log ((2 : ℝ) : EReal))) (congrFun (W6_args m ρ c main_arg2 (by decide)) (ix3 ⟨t.val / 8, by omega⟩ ⟨512 * (t.val % 8) + r.val, by omega⟩ j)))))

theorem read3 (r : Fin 512) (j : Fin 256) :
    (show Vec Ideal S512x256 .bf16 from iblk1 (V7 m ρ) c 3 t) (ix2 r j) = K m c (ix3 ⟨t.val / 8, by omega⟩ ⟨512 * (t.val % 8) + r.val, by omega⟩ j) :=
  (blk3 (V7 m ρ) c t r j).trans ((row (show Vec Ideal S32768x256 .bf16 from V7 m ρ c main_v55)
    (by show 512 * t.val + r.val = 4096 * (t.val / 8) + (512 * (t.val % 8) + r.val); omega) j).trans ((v55_at (W6 m ρ c) ⟨t.val / 8, by omega⟩ ⟨512 * (t.val % 8) + r.val, by omega⟩ j).trans
    (congrFun (W6_args m ρ c main_arg3 (by decide)) (ix3 ⟨t.val / 8, by omega⟩ ⟨512 * (t.val % 8) + r.val, by omega⟩ j))))

theorem read4 (h : 0 < t.val % 8) (r : Fin 128) (j : Fin 256) :
    (show Vec Ideal S128x256 .bf16 from iblk1 (V7 m ρ) c 4 t) (ix2 r j) = K m c (ix3 ⟨t.val / 8, by omega⟩ ⟨512 * (t.val % 8) + r.val - 128, by omega⟩ j) :=
  (blk4 (V7 m ρ) c t (by omega) r j).trans ((row (show Vec Ideal S32768x256 .bf16 from V7 m ρ c main_v55)
    (by show 512 * t.val + r.val - 128 = 4096 * (t.val / 8) + (512 * (t.val % 8) + r.val - 128); omega) j).trans ((v55_at (W6 m ρ c) ⟨t.val / 8, by omega⟩ ⟨512 * (t.val % 8) + r.val - 128, by omega⟩ j).trans
    (congrFun (W6_args m ρ c main_arg3 (by decide)) (ix3 ⟨t.val / 8, by omega⟩ ⟨512 * (t.val % 8) + r.val - 128, by omega⟩ j))))

theorem read5 (h : t.val % 8 < 7) (r : Fin 128) (j : Fin 256) :
    (show Vec Ideal S128x256 .bf16 from iblk1 (V7 m ρ) c 5 t) (ix2 r j) = K m c (ix3 ⟨t.val / 8, by omega⟩ ⟨512 * (t.val % 8) + r.val + 512, by omega⟩ j) :=
  (blk5 (V7 m ρ) c t (by omega) r j).trans ((row (show Vec Ideal S32768x256 .bf16 from V7 m ρ c main_v55)
    (by show 512 * t.val + r.val + 512 = 4096 * (t.val / 8) + (512 * (t.val % 8) + r.val + 512); omega) j).trans ((v55_at (W6 m ρ c) ⟨t.val / 8, by omega⟩ ⟨512 * (t.val % 8) + r.val + 512, by omega⟩ j).trans
    (congrFun (W6_args m ρ c main_arg3 (by decide)) (ix3 ⟨t.val / 8, by omega⟩ ⟨512 * (t.val % 8) + r.val + 512, by omega⟩ j))))

theorem read6 (r : Fin 512) (j : Fin 256) :
    (show Vec Ideal S256x512 .bf16 from iblk1 (V7 m ρ) c 6 t) (ix2 j r) = Vv m c (ix3 ⟨t.val / 8, by omega⟩ ⟨512 * (t.val % 8) + r.val, by omega⟩ j) :=
  (blk6 (V7 m ρ) c t r j).trans ((col (show Vec Ideal S256x32768 .bf16 from V7 m ρ c main_v53)
    (by show 512 * t.val + r.val = 4096 * (t.val / 8) + (512 * (t.val % 8) + r.val); omega) j).trans ((v53_at (W6 m ρ c) ⟨t.val / 8, by omega⟩ ⟨512 * (t.val % 8) + r.val, by omega⟩ j).trans
    (congrFun (W6_args m ρ c main_arg4 (by decide)) (ix3 ⟨t.val / 8, by omega⟩ ⟨512 * (t.val % 8) + r.val, by omega⟩ j))))

theorem read7 (h : 0 < t.val % 8) (r : Fin 128) (j : Fin 256) :
    (show Vec Ideal S256x128 .bf16 from iblk1 (V7 m ρ) c 7 t) (ix2 j r) = Vv m c (ix3 ⟨t.val / 8, by omega⟩ ⟨512 * (t.val % 8) + r.val - 128, by omega⟩ j) :=
  (blk7 (V7 m ρ) c t (by omega) r j).trans ((col (show Vec Ideal S256x32768 .bf16 from V7 m ρ c main_v53)
    (by show 512 * t.val + r.val - 128 = 4096 * (t.val / 8) + (512 * (t.val % 8) + r.val - 128); omega) j).trans ((v53_at (W6 m ρ c) ⟨t.val / 8, by omega⟩ ⟨512 * (t.val % 8) + r.val - 128, by omega⟩ j).trans
    (congrFun (W6_args m ρ c main_arg4 (by decide)) (ix3 ⟨t.val / 8, by omega⟩ ⟨512 * (t.val % 8) + r.val - 128, by omega⟩ j))))

theorem read8 (h : t.val % 8 < 7) (r : Fin 128) (j : Fin 256) :
    (show Vec Ideal S256x128 .bf16 from iblk1 (V7 m ρ) c 8 t) (ix2 j r) = Vv m c (ix3 ⟨t.val / 8, by omega⟩ ⟨512 * (t.val % 8) + r.val + 512, by omega⟩ j) :=
  (blk8 (V7 m ρ) c t (by omega) r j).trans ((col (show Vec Ideal S256x32768 .bf16 from V7 m ρ c main_v53)
    (by show 512 * t.val + r.val + 512 = 4096 * (t.val / 8) + (512 * (t.val % 8) + r.val + 512); omega) j).trans ((v53_at (W6 m ρ c) ⟨t.val / 8, by omega⟩ ⟨512 * (t.val % 8) + r.val + 512, by omega⟩ j).trans
    (congrFun (W6_args m ρ c main_arg4 (by decide)) (ix3 ⟨t.val / 8, by omega⟩ ⟨512 * (t.val % 8) + r.val + 512, by omega⟩ j))))

theorem read9 (r : Fin 512) (j : Fin 1024) :
    (show Vec Ideal S512x1024 .bf16 from iblk1 (V7 m ρ) c 9 t) (ix2 r j) = GB m c (ix3 ⟨t.val / 8, by omega⟩ ⟨512 * (t.val % 8) + r.val, by omega⟩ j) :=
  (blk9 (V7 m ρ) c t r j).trans ((row (show Vec Ideal S32768x1024 .bf16 from V7 m ρ c main_v56)
    (by show 512 * t.val + r.val = 4096 * (t.val / 8) + (512 * (t.val % 8) + r.val); omega) j).trans ((v56_at (W6 m ρ c) ⟨t.val / 8, by omega⟩ ⟨512 * (t.val % 8) + r.val, by omega⟩ j).trans
    (congrFun (W6_args m ρ c main_arg5 (by decide)) (ix3 ⟨t.val / 8, by omega⟩ ⟨512 * (t.val % 8) + r.val, by omega⟩ j))))

/-- The bucket indices the host prepares. -/
theorem bucket (r : Fin 384) (p : Fin 128) :
    (show Vec Ideal S384x128 .i32 from V5 m ρ c main_v32) (ix2 r p) = BitVec.ofNat 32 (Ref.slot r p).val := by
  refine (bucket_at (W0 m ρ c) r p).trans ?_
  rw [← Ref.slot_spec, Bits.ofNat_eq r.val, Bits.ofNat_eq p.val, show (128#32 : BitVec 32) = Bits.W 128 from rfl, Bits.subi_W, Bits.subi_W]

theorem read10 (v : Fin 3) (kh : Fin 2) (r : Fin 384) (j : Fin 512) :
    (show Vec Ideal S3x2x384x512 .f32 from iblk1 (V7 m ρ) c 10 t) (ix4 v kh r j) =
      Table.entry v (rb m c (ix2 (Ref.slot r ⟨j.val % 128, by omega⟩) ⟨4 * kh.val + j.val / 128, by omega⟩)) r ⟨j.val % 128, by omega⟩ := by
  refine (blk10 (V7 m ρ) c t v kh r j).trans ?_
  refine (congrFun ((W7_of m ρ c main_v33 (by decide)).trans (W6_arr m ρ c 2)) (ix4 v kh r j)).trans ?_
  refine (out0 (V5 m ρ) c Ref.slot (bucket m ρ c) v kh r j).trans ?_
  exact congrArg (fun z => Table.entry v z r ⟨j.val % 128, by omega⟩) (congrFun (W5_args m ρ c main_arg6 (by decide)) _)

theorem read11 (h : Fin 8) : (show Vec Ideal S8 .f32 from iblk1 (V7 m ρ) c 11 t) (ix1 h) = sk m c (ix2 0 h) :=
  (blk11 (V7 m ρ) c t h).trans ((v42_at (W6 m ρ c) h).trans (congrFun (W6_args m ρ c main_arg7 (by decide)) _))

theorem read12 (k : Fin 1024) (l : Fin 1024) : (show Vec Ideal S1024x1024 .bf16 from iblk1 (V7 m ρ) c 12 t) (ix2 k l) = wo m c (ix3 0 k l) :=
  (blk12 (V7 m ρ) c t k l).trans ((v37_at (W6 m ρ c) k l).trans (congrFun (W6_args m ρ c main_arg8 (by decide)) _))

theorem read13 (k : Fin 1024) : (show Vec Ideal S1x1024 .f32 from iblk1 (V7 m ρ) c 13 t) (ix2 0 k) = n2 m c (ix2 0 k) :=
  (blk13 (V7 m ρ) c t 0 k).trans ((v35_at (W6 m ρ c) k).trans (congrFun (W6_args m ρ c main_arg9 (by decide)) _))

theorem read14 (k : Fin 1024) (l : Fin 4096) : (show Vec Ideal S1024x4096 .bf16 from iblk1 (V7 m ρ) c 14 t) (ix2 k l) = w1 m c (ix3 0 k l) :=
  (blk14 (V7 m ρ) c t k l).trans ((v39_at (W6 m ρ c) k l).trans (congrFun (W6_args m ρ c main_arg10 (by decide)) _))

theorem read15 (k : Fin 4096) (l : Fin 1024) : (show Vec Ideal S4096x1024 .bf16 from iblk1 (V7 m ρ) c 15 t) (ix2 k l) = w2 m c (ix3 0 k l) :=
  (blk15 (V7 m ρ) c t k l).trans ((v41_at (W6 m ρ c) k l).trans (congrFun (W6_args m ρ c main_arg11 (by decide)) _))

/-! ## The result -/

/-- A grid point's coordinate is its number. -/
theorem coords_eq : grid1.coords t = Meet.coord t := by
  funext a
  fin_cases a
  exact Fin.ext (coords_val t)

variable (hQ : ∀ j, ∃ x : ℝ, Q m c j = (x : EReal)) (hK : ∀ j, ∃ x : ℝ, K m c j = (x : EReal))
  (hB : ∀ j, ∃ x : ℝ, rb m c j = (x : EReal)) (hS : ∀ j, ∃ x : ℝ, sk m c j = (x : EReal))

include hQ hK hB hS in
/-- What a point leaves in its rows. -/
theorem point (r : Fin 512) (j : Fin 1024) :
    (show Vec Ideal S512x1024 .f32 from outsAt1 (V7 m ρ) c t) (ix2 r j) =
      Cert.ReferenceIdeal.Read.val_main_v140 (F := Ideal) (X m c) (GA m c) (Q m c) (K m c) (Vv m c) (GB m c) (rb m c) (sk m c) (wo m c) (n2 m c) (w1 m c) (w2 m c)
        (ix3 ⟨t.val / 8, by omega⟩ ⟨512 * (t.val % 8) + r.val, by omega⟩ j) := by
  show outsAt1 (V7 m ρ) c t (ix2 r j) = _
  unfold outsAt1
  refine (Run.out_at c _ _ _ _ _ _ _ _ _ _ _ _ _ _ _ _ _ _ _ _ _ _ _ _ _ _ _ _ _ _ _ _ _ _ _ _ _ _ _ _ _ _ _ _ _ _ _ _ _ _ _ _ _ _ _ _ _ r j).trans ?_
  rw [Ref.v140_at]
  unfold Blocks.outVal
  have h0 : (fun k => (show Vec Ideal S512x1024 .f32 from iblk1 (V7 m ρ) c 0 t) (ix2 r k)) = fun k => X m c (ix3 ⟨t.val / 8, by omega⟩ ⟨512 * (t.val % 8) + r.val, by omega⟩ k) :=
    funext fun k => read0 m ρ c t r k
  have hm : ∀ k, Blocks.merged (Run.variant (grid1.coords t)) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (iblk1 (V7 m ρ) c 10 t) (iblk1 (V7 m ρ) c 11 t) r k =
      Ref.merged (GA m c) (Q m c) (K m c) (Vv m c) (GB m c) (rb m c) (sk m c) ⟨t.val / 8, by omega⟩ ⟨512 * (t.val % 8) + r.val, by omega⟩ k := fun k => Meet.merged_at (GA m c) (Q m c) (K m c) (Vv m c) (GB m c) (rb m c) (sk m c) hQ hK hB hS (grid1.coords t) t (coords_eq t)
    (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t)
    (iblk1 (V7 m ρ) c 7 t) (iblk1 (V7 m ρ) c 8 t) (iblk1 (V7 m ρ) c 9 t) (iblk1 (V7 m ρ) c 10 t) (iblk1 (V7 m ρ) c 11 t)
    (read1 m ρ c t) (read2 m ρ c t) (read3 m ρ c t) (read4 m ρ c t) (read5 m ρ c t) (read6 m ρ c t) (read7 m ρ c t) (read8 m ρ c t) (read9 m ρ c t)
    (read10 m ρ c t) (read11 m ρ c t) r k
  have h12 : (fun k l => (show Vec Ideal S1024x1024 .bf16 from iblk1 (V7 m ρ) c 12 t) (ix2 k l)) = fun k l => wo m c (ix3 0 k l) := funext fun k => funext fun l => read12 m ρ c t k l
  have h13 : (fun k => (show Vec Ideal S1x1024 .f32 from iblk1 (V7 m ρ) c 13 t) (ix2 0 k)) = fun k => n2 m c (ix2 0 k) := funext fun k => read13 m ρ c t k
  have h14 : (fun k l => (show Vec Ideal S1024x4096 .bf16 from iblk1 (V7 m ρ) c 14 t) (ix2 k l)) = fun k l => w1 m c (ix3 0 k l) := funext fun k => funext fun l => read14 m ρ c t k l
  have h15 : (fun k l => (show Vec Ideal S4096x1024 .bf16 from iblk1 (V7 m ρ) c 15 t) (ix2 k l)) = fun k l => w2 m c (ix3 0 k l) := funext fun k => funext fun l => read15 m ρ c t k l
  exact congr (congr (congr (congr (congrArg Spec.ffn (congr (congr (congrArg Spec.mid h0) (funext hm)) h12)) h13) h14) h15) rfl

include hQ hK hB hS in
/-- The kernel's result is the reference's value. -/
theorem out (y : S8x4096x1024.Idx) :
    (show Vec Ideal S8x4096x1024 .f32 from W9 m ρ c (Proc.devRef .tc main_v58)) y =
      Cert.ReferenceIdeal.Read.val_main_v140 (F := Ideal) (X m c) (GA m c) (Q m c) (K m c) (Vv m c) (GB m c) (rb m c) (sk m c) (wo m c) (n2 m c) (w1 m c) (w2 m c) y := by
  obtain ⟨b, s, j, rfl⟩ : ∃ (b : Fin 8) (s : Fin 4096) (j : Fin 1024), y = ix3 b s j := ⟨y 0, y 1, y 2, eq_ix3 y⟩
  refine (v58_at (W8 m ρ c) b s j).trans ?_
  refine (congrFun (W8_arr m ρ c 16) (ix2 ⟨4096 * b.val + s.val, by omega⟩ j)).trans ?_
  have e := row (show Vec Ideal S32768x1024 .f32 from (dat1 (V7 m ρ) c).arrAt 16 cfg1.N) (R := ⟨4096 * b.val + s.val, by omega⟩)
    (R' := ⟨512 * (8 * b.val + s.val / 512) + s.val % 512, by omega⟩) (by show 4096 * b.val + s.val = 512 * (8 * b.val + s.val / 512) + s.val % 512; omega) j
  refine e.trans ((out1 (V7 m ρ) c ⟨8 * b.val + s.val / 512, by omega⟩ ⟨s.val % 512, by omega⟩ j).trans ?_)
  refine (point m ρ c ⟨8 * b.val + s.val / 512, by omega⟩ hQ hK hB hS ⟨s.val % 512, by omega⟩ j).trans ?_
  have hb : (⟨(8 * b.val + s.val / 512) / 8, by omega⟩ : Fin 8) = b := Fin.ext (by show (8 * b.val + s.val / 512) / 8 = b.val; omega)
  have hs : (⟨512 * ((8 * b.val + s.val / 512) % 8) + s.val % 512, by omega⟩ : Fin 4096) = s := Fin.ext (by show 512 * ((8 * b.val + s.val / 512) % 8) + s.val % 512 = s.val; omega)
  exact congrArg₂ (fun b s => Cert.ReferenceIdeal.Read.val_main_v140 (F := Ideal) (X m c) (GA m c) (Q m c) (K m c) (Vv m c) (GB m c) (rb m c) (sk m c) (wo m c) (n2 m c) (w1 m c) (w2 m c) (ix3 b s j)) hb hs

end Cert.Result

end
-- ==== Proof.Value.lean ====
/- The kernel's run, naming what it leaves in its result buffer: the contents of the last boundary. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the result buffer at the last boundary's contents and the arguments as launched. -/
theorem run : θ_run defs (onTc (τ := τ) (main (F := F))) ⟨m, fun _ => 0, ρ⟩ (fun r => ∀ c : Dev nD,
      r.2.mem ((c.tc : Thread nD τ).loc main_v58) = W9 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v58 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Value

end
-- ==== Proof.Algebraic.lean ====
/- The value claim: on equal arguments with real logits, the kernel and the reference end with equal results. -/
module

public import proofs.«01_k».proof.Defs
public import proofs.«01_k».proof.Proof.Result
public import proofs.«01_k».proof.Proof.Value
public import proofs.«01_k».proof.Proof.Pre
public import proofs.«01_k».proof.Proof.Gen.ReferenceIdeal.Run

@[expose] public section

noncomputable section

namespace Cert.Proof.Algebraic

open Idealize.ShloMosaic Idealize.ShloMosaic.StableHlo Idealize.ShloMosaic.TcCoe Idealize.SL.Sem

theorem val_congr {a0 b0 : Vec Ideal Cert.ReferenceIdeal.S8x4096x1024 .f32}
    {a1 b1 : Vec Ideal Cert.ReferenceIdeal.S8x4096x1024 .bf16}
    {a2 b2 : Vec Ideal Cert.ReferenceIdeal.S8x4096x1024 .bf16}
    {a3 b3 : Vec Ideal Cert.ReferenceIdeal.S8x4096x256 .bf16}
    {a4 b4 : Vec Ideal Cert.ReferenceIdeal.S8x4096x256 .bf16}
    {a5 b5 : Vec Ideal Cert.ReferenceIdeal.S8x4096x1024 .bf16}
    {a6 b6 : Vec Ideal Cert.ReferenceIdeal.S32x8 .f32}
    {a7 b7 : Vec Ideal Cert.ReferenceIdeal.S1x8 .f32}
    {a8 b8 : Vec Ideal Cert.ReferenceIdeal.S1x1024x1024 .bf16}
    {a9 b9 : Vec Ideal Cert.ReferenceIdeal.S1x1024 .f32}
    {a10 b10 : Vec Ideal Cert.ReferenceIdeal.S1x1024x4096 .bf16}
    {a11 b11 : Vec Ideal Cert.ReferenceIdeal.S1x4096x1024 .bf16}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) :
    Cert.ReferenceIdeal.Read.val_main_v140 (F := Ideal) a0 a1 a2 a3 a4 a5 a6 a7 a8 a9 a10 a11 = Cert.ReferenceIdeal.Read.val_main_v140 (F := Ideal) b0 b1 b2 b3 b4 b5 b6 b7 b8 b9 b10 b11 := by
  rw [h0, h1, h2, h3, h4, h5, h6, h7, h8, h9, h10, h11]

/-- Both run; the kernel's last contents are the reference's value. -/
theorem holds : Cert.algebraic_KernelIdeal_ReferenceIdeal_pre_finite_logits (hPre_finite_logits := Cert.Pre.facts) := by
  intro m g m' g' hpre hargs
  refine ⟨fun c => Cert.KernelIdeal.Gen.W9 m g c (Proc.devRef .tc Cert.KernelIdeal.main_v58), Cert.KernelIdeal.Value.run m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v140_eq (F := Ideal) (launchContents m' c)).trans ?_)
  obtain ⟨e0, e1, e2, e3, e4, e5, e6, e7, e8, e9, e10, e11⟩ := hargs c
  obtain ⟨hQ, hK, hB, hS⟩ := Cert.Pre.finite m hpre c
  exact (val_congr e0 e1 e2 e3 e4 e5 e6 e7 e8 e9 e10 e11).trans (funext fun y => (Cert.Result.out m g c hQ hK hB hS y).symm)

end Cert.Proof.Algebraic

end
-- ==== Proof.InFrames.lean ====
/- The input projection's claims that state no value: the printed kernel, the idealized one and the reference run,
   leave their arguments as they were and every semaphore at zero; and the constants the idealized kernel names
   are the reals they round. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Quiescent

@[expose] public section

noncomputable section

open Idealize.ShloMosaic Idealize.SL.Sem

namespace Cert.Proof.InFrames

/-- The printed kernel runs from every memory. -/
theorem kernel : Cert.quiescent_Kernel2 := fun m ρ _ => Cert.Kernel2.Gen.frame m ρ

/-- So does the idealized kernel. -/
theorem kernelIdeal : Cert.quiescent_Kernel2Ideal := fun m ρ _ => Cert.Kernel2Ideal.Gen.frame m ρ

/-- And the reference. -/
theorem referenceIdeal : Cert.quiescent_Reference2Ideal := fun m ρ _ =>
  (θ_run Cert.Reference2Ideal.defs _ _).mono
    (fun r h => ⟨fun c => (h c).2.2.2.2.2, sem_eq_zero_of_no_sems (by decide) r.2⟩)
    (Cert.Reference2Ideal.Value.run (F := Ideal) m ρ)

/-- The named constants: the gelu's scale and cube term and the gate's sign, each with the change of base to 2, and
    the queries' scale. -/
theorem preserves : Cert.preserves_Kernel2_Kernel2Ideal :=
  ⟨IdealRules.named_const.statement Cert.Kernel2Ideal.κ "gelu_cube" .f32 0xBDD2D3E8#32 (((-2) * ((Real.log 2)⁻¹ * ((6693141 / 8388608) * (12003091 / 268435456))) : ℝ) : EReal) rfl,
   IdealRules.named_const.statement Cert.Kernel2Ideal.κ "gelu_scale" .f32 0xC0135761#32 (((-2) * ((Real.log 2)⁻¹ * (6693141 / 8388608)) : ℝ) : EReal) rfl,
   IdealRules.named_const.statement Cert.Kernel2Ideal.κ "neg_log2e" .f32 0xBFB8AA3B#32 (((-1) * (Real.log 2)⁻¹ : ℝ) : EReal) rfl,
   IdealRules.named_const.statement Cert.Kernel2Ideal.κ "q_scale" .f32 0x3E0293EE#32 (((Real.sqrt 128)⁻¹ * (Real.log 2)⁻¹ : ℝ) : EReal) rfl⟩

end Cert.Proof.InFrames

end
-- ==== Proof.InWords.lean ====
/- The input projection's arithmetic, written once: each quantity it stores as a function of the arrays read for it. The
   kernel's unrolled text is these functions at each block of rows, group of columns and chunk. -/
module

public import proofs.«01_k».proof.Proof.Gen.Kernel2Ideal.Skeleton

@[expose] public section

noncomputable section

namespace Cert.Kernel2Ideal.Words

open Cert.Kernel2Ideal Cert.Kernel2Ideal.Gen Idealize.ShloMosaic

variable {F : FTy → Type} [FloatOps F] [Named F]

/-- The two halves of a row of 256 columns are slices of it. -/
theorem slices_z (a : Fin 2) : S256x256.Slices ![0, 128 * a.val] S256x128 := by
  fin_cases a
  exacts [slices_S256x256_o0_0_S256x128, slices_S256x256_o0_128_S256x128]

/-- Likewise of the two chunks mixed side by side. -/
theorem slices_m (a : Fin 2) : S128x256.Slices ![0, 128 * a.val] S128x128 := by
  fin_cases a
  exacts [slices_S128x256_o0_0_S128x128, slices_S128x256_o0_128_S128x128]

/-- The normed rows. -/
def h (x : Vec F S1024x1024 .f32) (g : Vec F S1x1024 .f32) : FVec F S1024x1024 .bf16 :=
  shapeCast S1024x1024
    (truncf .bf16
      (mulf
        (mulf (shapeCast S1024x1024 x shapeCasts_S1024x1024_S1024x1024) (broadcastTo S1024x1024
          (rsqrt (addf (divf (shapeCast S1024x1
              (multiReduction .add [1] S1024
                (mulf (shapeCast S1024x1024 x shapeCasts_S1024x1024_S1024x1024) (shapeCast S1024x1024 x shapeCasts_S1024x1024_S1024x1024))
                0x00000000#32 reduces_S1024x1024_S1024 (.inl rfl) rfl)
              shapeCasts_S1024_S1024x1) (broadcast S1024x1 (Scalar.ofBits .f32 0x44800000#32)))
            (broadcast S1024x1 (Scalar.ofBits .f32 0x358637BD#32)))) broadcasts_S1024x1_S1024x1024))
        (broadcastTo S1024x1024 (shapeCast S1x1024 g shapeCasts_S1x1024_S1x1024) broadcasts_S1x1024_S1024x1024))
      bitsLt_bf16_f32)
    shapeCasts_S1024x1024_S1024x1024

/-- The projection of 256 rows to 256 columns. -/
def dots (h : Vec F S256x1024 .bf16) (w : Vec F S1024x256 .bf16) : FVec F S256x256 .f32 :=
  matmul dot_S256x1024_S1024x256_S256x256_1_0_0_1_n_n none h (shapeCast S1024x256 w shapeCasts_S1024x256_S1024x256)
    (constant S256x256 .f32 0x00000000#32)

/-- What the gelu divides by. -/
def geluDen (z : FVec F S256x256 .f32) : FVec F S256x256 .f32 :=
  addf (broadcast S256x256 (Scalar.ofBits .f32 0x3F800000#32))
    (exp2 (mulf z (addf (broadcast S256x256 (Named.named κ "gelu_scale" 0xC0135761#32))
      (mulf (broadcast S256x256 (Named.named κ "gelu_cube" 0xBDD2D3E8#32)) (mulf z z)))))

/-- What the gate divides by. -/
def sigDen (z : FVec F S256x256 .f32) : FVec F S256x256 .f32 :=
  addf (broadcast S256x256 (Scalar.ofBits .f32 0x3F800000#32))
    (exp2 (mulf z (broadcast S256x256 (Named.named κ "neg_log2e" 0xBFB8AA3B#32))))

/-- The gelu of one projection times the gate of another. -/
def gatedU (h : Vec F S256x1024 .bf16) (wu wa : Vec F S1024x256 .bf16) : FVec F S256x256 .bf16 :=
  shapeCast S256x256 (truncf .bf16 (divf (dots h wu) (mulf (geluDen (dots h wu)) (sigDen (dots h wa)))) bitsLt_bf16_f32)
    shapeCasts_S256x256_S256x256

/-- The gelu of a projection. -/
def gv (h : Vec F S256x1024 .bf16) (w : Vec F S1024x256 .bf16) : FVec F S256x256 .f32 := divf (dots h w) (geluDen (dots h w))

/-- The same, as it is stored. -/
def gvKept (h : Vec F S256x1024 .bf16) (w : Vec F S1024x256 .bf16) : FVec F S256x256 .f32 :=
  shapeCast S256x256 (gv h w) shapeCasts_S256x256_S256x256

/-- The gate of a projection. -/
def gate (h : Vec F S256x1024 .bf16) (w : Vec F S1024x256 .bf16) : FVec F S256x256 .bf16 :=
  truncf .bf16 (divf (broadcast S256x256 (Scalar.ofBits .f32 0x3F800000#32)) (sigDen (dots h w))) bitsLt_bf16_f32

/-- The row sums of squares of 256 columns. -/
def sq (v : FVec F S256x256 .f32) : FVec F S256x1 .f32 :=
  shapeCast S256x1 (multiReduction .add [1] S256 (mulf v v) 0x00000000#32 reduces_S256x256_S256 (.inl rfl) rfl) shapeCasts_S256_S256x1

/-- And of all 1024, in four goes. -/
def ssq (v : Fin 4 → FVec F S256x256 .f32) : FVec F S256x1 .f32 :=
  addf (addf (addf (addf (broadcast S256x1 (Scalar.ofBits .f32 0x00000000#32)) (sq (v 0))) (sq (v 1))) (sq (v 2))) (sq (v 3))

/-- The normed rows of the gelus. -/
def vn (s : FVec F S256x1 .f32) (v : Vec F S256x1024 .f32) (g : Vec F S1x1024 .f32) : FVec F S256x1024 .bf16 :=
  shapeCast S256x1024
    (truncf .bf16
      (mulf
        (mulf v (broadcastTo S256x1024
          (rsqrt (addf (mulf s (broadcast S256x1 (Scalar.ofBits .f32 0x3A800000#32))) (broadcast S256x1 (Scalar.ofBits .f32 0x358637BD#32))))
          broadcasts_S256x1_S256x1024))
        (broadcastTo S256x1024 (shapeCast S1x1024 g shapeCasts_S1x1024_S1x1024) broadcasts_S1x1024_S256x1024))
      bitsLt_bf16_f32)
    shapeCasts_S256x1024_S256x1024

/-- The norm of one head of a row. -/
def head (z : FVec F S256x256 .f32) (g : FVec F S1x128 .f32) (a : Fin 2) : FVec F S256x128 .f32 :=
  mulf
    (mulf (extractStridedSlice S256x128 ![0, 128 * a.val] z (slices_z a)) (broadcastTo S256x128
      (rsqrt (addf (divf (shapeCast S256x1
          (multiReduction .add [1] S256
            (mulf (extractStridedSlice S256x128 ![0, 128 * a.val] z (slices_z a)) (extractStridedSlice S256x128 ![0, 128 * a.val] z (slices_z a)))
            0x00000000#32 reduces_S256x128_S256 (.inl rfl) rfl)
          shapeCasts_S256_S256x1) (broadcast S256x1 (Scalar.ofBits .f32 0x43000000#32)))
        (broadcast S256x1 (Scalar.ofBits .f32 0x358637BD#32)))) broadcasts_S256x1_S256x128))
    (broadcastTo S256x128 g broadcasts_S1x128_S256x128)

/-- The two heads of 256 columns normed side by side. -/
def heads (z : FVec F S256x256 .f32) (g : FVec F S1x128 .f32) : FVec F S256x256 .bf16 :=
  truncf .bf16
    (concatenate S256x256 1 [⟨S256x128, head z g 0⟩, ⟨S256x128, head z g 1⟩] concatenates_S256x128_S256x128_S256x256_d1) bitsLt_bf16_f32

/-- The keys' gains. -/
def kg (g : Vec F S1x128 .f32) : FVec F S1x128 .f32 := shapeCast S1x128 g shapeCasts_S1x128_S1x128

/-- The queries' gains, scaled. -/
def qg (g : Vec F S1x128 .f32) : FVec F S1x128 .f32 :=
  mulf (shapeCast S1x128 g shapeCasts_S1x128_S1x128) (broadcast S1x128 (Named.named κ "q_scale" 0x3E0293EE#32))

/-- Two chunks mixed side by side. -/
def mixed (v : Fin 2 → Vec F S128x128 .bf16) (w : Vec F S1x128x128 .bf16) : FVec F S128x256 .f32 :=
  matmul dot_S128x128_S128x256_S128x256_1_0_0_1_n_n none (shapeCast S128x128 w shapeCasts_S1x128x128_S128x128)
    (concatenate S128x256 1 [⟨S128x128, v 0⟩, ⟨S128x128, v 1⟩] concatenates_S128x128_S128x128_S128x256_d1)
    (constant S128x256 .f32 0x00000000#32)

/-- One of them with its bias, gated. -/
def gya (v : Fin 2 → Vec F S128x128 .bf16) (w : Vec F S1x128x128 .bf16) (b : Vec F S1x128x128 .f32) (u : Vec F S128x128 .bf16) (a : Fin 2) :
    FVec F S128x128 .bf16 :=
  truncf .bf16
    (mulf (extf .f32 u bitsLt_bf16_f32)
      (addf (extractStridedSlice S128x128 ![0, 128 * a.val] (mixed v w) (slices_m a)) (shapeCast S128x128 b shapeCasts_S1x128x128_S128x128)))
    bitsLt_bf16_f32

/-- The values' weights, transposed. -/
def wvt (w : Vec F S1x1024x256 .f32) : FVec F S256x1024 .bf16 :=
  shapeCast S256x1024
    (truncf .bf16 (transpose S256x1024 [1, 0] (shapeCast S1024x256 w shapeCasts_S1x1024x256_S1024x256) transposes_S1024x256_p1_0_S256x1024)
      bitsLt_bf16_f32)
    shapeCasts_S256x1024_S256x1024

/-- The values of 256 rows, transposed. -/
def vt (w : Vec F S256x1024 .bf16) (h : Vec F S256x1024 .bf16) : FVec F S256x256 .bf16 :=
  truncf .bf16 (matmul dot_S256x1024_S256x1024_S256x256_1_1_0_0_n_n none w h (constant S256x256 .f32 0x00000000#32)) bitsLt_bf16_f32

end Cert.Kernel2Ideal.Words

end
-- ==== Proof.InRan.lean ====
/- What the input projection's unrolled run leaves, in the words of InWords.lean: the scratch it fills and the pieces of
   its five outputs. -/
module

public import proofs.«01_k».proof.Proof.InWords
public import Idealize.ShloMosaic.Lib.WholeRead
public import Idealize.ShloMosaic.Lib.Ring
public import Idealize.ShloMosaic.Lib.Tactic

@[expose] public section

set_option maxRecDepth 16384

noncomputable section

namespace Cert.Kernel2Ideal.Ran

open Cert.Kernel2Ideal Cert.Kernel2Ideal.Gen Idealize.ShloMosaic Idealize.ShloMosaic.TcCoe Idealize.ShloMosaic.Tactic Idealize.SL.Sem

variable {F : FTy → Type} [FloatOps F] [Named F]

/- The memory the blocks are staged in is left open, so that every call of the projection reads from here. -/
variable {sig : RefSig}

theorem inb_all : ∀ a, (![0, 0] : Fin 2 → Nat) a + S1024x1024.size a ≤ S1024x1024.size a := by decide
theorem inb_g : ∀ a, (![0, 0] : Fin 2 → Nat) a + S1x1024.size a ≤ S1x1024.size a := by decide
theorem inb_n : ∀ a, (![0, 0] : Fin 2 → Nat) a + S1x128.size a ≤ S1x128.size a := by decide
theorem inb_v : ∀ a, (![0, 0, 0] : Fin 3 → Nat) a + S1x1024x256.size a ≤ S1x1024x256.size a := by decide
theorem inb_t : ∀ a, (![0, 0] : Fin 2 → Nat) a + S256x1024.size a ≤ S256x1024.size a := by decide
theorem inb_w (n : Fin 22) : ∀ a, (![0, 256 * n.val] : Fin 2 → Nat) a + S1024x256.size a ≤ S1024x5632.size a := by
  revert n; decide
theorem inb_s (g : Fin 8) : ∀ a, (![g.val, 0, 0] : Fin 3 → Nat) a + S1x128x128.size a ≤ S8x128x128.size a := by
  revert g; decide
theorem inb_rows (r : Fin 4) : ∀ a, (![256 * r.val, 0] : Fin 2 → Nat) a + S256x1024.size a ≤ S1024x1024.size a := by
  revert r; decide
theorem inb_block (r c : Fin 4) : ∀ a, (![256 * r.val, 256 * c.val] : Fin 2 → Nat) a + S256x256.size a ≤ S1024x1024.size a := by
  revert r c; decide
theorem inb_k (r : Fin 4) : ∀ a, (![256 * r.val, 0] : Fin 2 → Nat) a + S256x256.size a ≤ S1024x256.size a := by
  revert r; decide
theorem inb_vt (r : Fin 4) : ∀ a, (![0, 256 * r.val] : Fin 2 → Nat) a + S256x256.size a ≤ S256x1024.size a := by
  revert r; decide
theorem inb_chunk (r : Fin 4) (t : Fin 2) (g : Fin 8) :
    ∀ a, (![256 * r.val + 128 * t.val, 128 * g.val] : Fin 2 → Nat) a + S128x128.size a ≤ S1024x1024.size a := by
  revert r t g; decide

/-- The 256 columns at a quarter of one of the 1024-wide parts, counted in 256s: the part begins at the `o`-th. -/
def part (o : Nat) (h : o ≤ 18) (c : Fin 4) : Fin 22 := ⟨o + c.val, by omega⟩

/-- The keys' columns. -/
def keys : Fin 22 := 12

section Pieces

variable (arg15 : Memref sig .tc .vmem S1024x1024 .bf16) (arg16 : Memref sig .tc .vmem S1024x1024 .f32)
  (arg17 arg18 : Memref sig .tc .vmem S1024x1024 .bf16)
  (lx : Vec F S1024x1024 .f32) (lg : Vec F S1x1024 .f32) (lw : Fin 22 → Vec F S1024x256 .bf16) (ls : Vec F S1x1024 .f32)
  (lws : Fin 8 → Vec F S1x128x128 .bf16) (lbs : Fin 8 → Vec F S1x128x128 .f32)

/-- The normed rows. -/
def hPieces : List (View.Piece (Elt F) S1024x1024 .bf16) := [⟨Rect.unit ![0, 0] S1024x1024.size inb_all, Words.h lx lg⟩]

/-- 256 of them. -/
def hRows (r : Fin 4) : Vec F S256x1024 .bf16 :=
  arg15.view.readCov (hPieces lx lg) (Rect.unit (s := S1024x1024) ![256 * r.val, 0] S256x1024.size (inb_rows r)).toLoadRect

/-- The blocks of 256 rows and columns stored up to a block of rows, last first. -/
def upto : Fin 4 → List (Fin 4 × Fin 4)
  | 0 => [(0, 3), (0, 2), (0, 1), (0, 0)]
  | 1 => [(1, 3), (1, 2), (1, 1), (1, 0), (0, 3), (0, 2), (0, 1), (0, 0)]
  | 2 => [(2, 3), (2, 2), (2, 1), (2, 0), (1, 3), (1, 2), (1, 1), (1, 0), (0, 3), (0, 2), (0, 1), (0, 0)]
  | 3 => [(3, 3), (3, 2), (3, 1), (3, 0), (2, 3), (2, 2), (2, 1), (2, 0), (1, 3), (1, 2), (1, 1), (1, 0), (0, 3), (0, 2), (0, 1), (0, 0)]

/-- And the blocks of rows. -/
def rowsUpto : Fin 4 → List (Fin 4)
  | 0 => [0]
  | 1 => [1, 0]
  | 2 => [2, 1, 0]
  | 3 => [3, 2, 1, 0]

/-- The gated first halves. -/
def guPieces (l : List (Fin 4 × Fin 4)) : List (View.Piece (Elt F) S1024x1024 .bf16) :=
  l.map fun t => ⟨Rect.unit ![256 * t.1.val, 256 * t.2.val] S256x256.size (inb_block t.1 t.2),
    Words.gatedU (hRows arg15 lx lg t.1) (lw (part 0 (by decide) t.2)) (lw (part 14 (by decide) t.2))⟩

/-- The gelus of the second halves. -/
def gvPieces (l : List (Fin 4 × Fin 4)) : List (View.Piece (Elt F) S1024x1024 .f32) :=
  l.map fun t => ⟨Rect.unit ![256 * t.1.val, 256 * t.2.val] S256x256.size (inb_block t.1 t.2),
    Words.gvKept (hRows arg15 lx lg t.1) (lw (part 4 (by decide) t.2))⟩

/-- Their normed rows. -/
def vnPieces (l : List (Fin 4)) : List (View.Piece (Elt F) S1024x1024 .bf16) :=
  l.map fun r => ⟨Rect.unit ![256 * r.val, 0] S256x1024.size (inb_rows r),
    Words.vn (Words.ssq fun c => Words.gv (hRows arg15 lx lg r) (lw (part 4 (by decide) c)))
      (arg16.view.readCov (gvPieces arg15 lx lg lw (upto r)) (Rect.unit (s := S1024x1024) ![256 * r.val, 0] S256x1024.size (inb_rows r)).toLoadRect) ls⟩

/-- A chunk of the first output. -/
def gyaPiece (r : Fin 4) (g : Fin 8) (t : Fin 2) : View.Piece (Elt F) S1024x1024 .bf16 :=
  ⟨Rect.unit ![256 * r.val + 128 * t.val, 128 * g.val] S128x128.size (inb_chunk r t g),
    Words.gya
      (fun t => arg18.view.readCov (vnPieces arg15 arg16 lx lg lw ls (rowsUpto r)) (Rect.unit (s := S1024x1024) ![256 * r.val + 128 * t.val, 128 * g.val] S128x128.size (inb_chunk r t g)).toLoadRect)
      (lws g) (lbs g)
      (arg17.view.readCov (guPieces arg15 lx lg lw (upto r)) (Rect.unit (s := S1024x1024) ![256 * r.val + 128 * t.val, 128 * g.val] S128x128.size (inb_chunk r t g)).toLoadRect)
      t⟩

/-- A block of rows' chunks, last first. -/
def gyaRows (r : Fin 4) : List (View.Piece (Elt F) S1024x1024 .bf16) :=
  [(7, 1), (7, 0), (6, 1), (6, 0), (5, 1), (5, 0), (4, 1), (4, 0), (3, 1), (3, 0), (2, 1), (2, 0), (1, 1), (1, 0), (0, 1), (0, 0)].map
    fun t : Fin 8 × Fin 2 => gyaPiece arg15 arg16 arg17 arg18 lx lg lw ls lws lbs r t.1 t.2

/-- The first output's pieces. -/
def gyaPieces : List (View.Piece (Elt F) S1024x1024 .bf16) :=
  gyaRows arg15 arg16 arg17 arg18 lx lg lw ls lws lbs 3 ++ gyaRows arg15 arg16 arg17 arg18 lx lg lw ls lws lbs 2 ++ gyaRows arg15 arg16 arg17 arg18 lx lg lw ls lws lbs 1 ++ gyaRows arg15 arg16 arg17 arg18 lx lg lw ls lws lbs 0

/-- The queries'. -/
def qPieces (lq : Vec F S1x128 .f32) : List (View.Piece (Elt F) S1024x1024 .bf16) :=
  (upto 3).map fun t => ⟨Rect.unit ![256 * t.1.val, 256 * t.2.val] S256x256.size (inb_block t.1 t.2),
    Words.heads (Words.dots (hRows arg15 lx lg t.1) (lw (part 8 (by decide) t.2))) (Words.qg lq)⟩

/-- The keys'. -/
def kPieces (lk : Vec F S1x128 .f32) : List (View.Piece (Elt F) S1024x256 .bf16) :=
  (rowsUpto 3).map fun r => ⟨Rect.unit ![256 * r.val, 0] S256x256.size (inb_k r),
    Words.heads (Words.dots (hRows arg15 lx lg r) (lw keys)) (Words.kg lk)⟩

/-- The values', transposed. -/
def vtPieces (wt : Vec F S256x1024 .bf16) : List (View.Piece (Elt F) S256x1024 .bf16) :=
  (rowsUpto 3).map fun r => ⟨Rect.unit ![0, 256 * r.val] S256x256.size (inb_vt r), Words.vt wt (hRows arg15 lx lg r)⟩

/-- The second gate's. -/
def gbPieces : List (View.Piece (Elt F) S1024x1024 .bf16) :=
  (upto 3).map fun t => ⟨Rect.unit ![256 * t.1.val, 256 * t.2.val] S256x256.size (inb_block t.1 t.2),
    Words.gate (hRows arg15 lx lg t.1) (lw (part 18 (by decide) t.2))⟩

/-- The carried weights'. -/
def wtPieces (lv : Vec F S1x1024x256 .f32) : List (View.Piece (Elt F) S256x1024 .bf16) :=
  [⟨Rect.unit ![0, 0] S256x1024.size inb_t, Words.wvt lv⟩]

end Pieces

section Loads

/-- The rows read. -/
def ldx (m : Memref sig .tc .vmem S1024x1024 .f32) (hm : m.IsWhole) (x : Vec F S1024x1024 .f32) : Vec F S1024x1024 .f32 :=
  View.readAt (Elt F) m.view (Rect.unit (s := S1024x1024) ![0, 0] S1024x1024.size inb_all).toLoadRect (hm.unread x)

/-- A row of gains. -/
def ldg (m : Memref sig .tc .vmem S1x1024 .f32) (hm : m.IsWhole) (x : Vec F S1x1024 .f32) : Vec F S1x1024 .f32 :=
  View.readAt (Elt F) m.view (Rect.unit (s := S1x1024) ![0, 0] S1x1024.size inb_g).toLoadRect (hm.unread x)

/-- A head's gains. -/
def ldn (m : Memref sig .tc .vmem S1x128 .f32) (hm : m.IsWhole) (x : Vec F S1x128 .f32) : Vec F S1x128 .f32 :=
  View.readAt (Elt F) m.view (Rect.unit (s := S1x128) ![0, 0] S1x128.size inb_n).toLoadRect (hm.unread x)

/-- 256 columns of the weights. -/
def ldw (m : Memref sig .tc .vmem S1024x5632 .bf16) (hm : m.IsWhole) (x : Vec F S1024x5632 .bf16) (n : Fin 22) : Vec F S1024x256 .bf16 :=
  View.readAt (Elt F) m.view (Rect.unit (s := S1024x5632) ![0, 256 * n.val] S1024x256.size (inb_w n)).toLoadRect (hm.unread x)

/-- The values' weights. -/
def ldv (m : Memref sig .tc .vmem S1x1024x256 .f32) (hm : m.IsWhole) (x : Vec F S1x1024x256 .f32) : Vec F S1x1024x256 .f32 :=
  View.readAt (Elt F) m.view (Rect.unit (s := S1x1024x256) ![0, 0, 0] S1x1024x256.size inb_v).toLoadRect (hm.unread x)

/-- A group's mixing matrix, or its biases. -/
def lds {e : EltTy} (m : Memref sig .tc .vmem S8x128x128 e) (hm : m.IsWhole) (x : Vec F S8x128x128 e) (g : Fin 8) : Vec F S1x128x128 e :=
  View.readAt (Elt F) m.view (Rect.unit (s := S8x128x128) ![g.val, 0, 0] S1x128x128.size (inb_s g)).toLoadRect (hm.unread x)

/-- The carried weights as a later point finds them. -/
def ldt (m : Memref sig .tc .vmem S256x1024 .bf16) (hm : m.IsWhole) (x : Vec F S256x1024 .bf16) : Vec F S256x1024 .bf16 :=
  View.readAt (Elt F) m.view (Rect.unit (s := S256x1024) ![0, 0] S256x1024.size inb_t).toLoadRect (hm.unread x)

/-- And as the first point, which has just stored them. -/
def ldt0 (m : Memref sig .tc .vmem S256x1024 .bf16) (lv : Vec F S1x1024x256 .f32) : Vec F S256x1024 .bf16 :=
  m.view.readCov (wtPieces lv) (Rect.unit (s := S256x1024) ![0, 0] S256x1024.size inb_t).toLoadRect

end Loads

end Cert.Kernel2Ideal.Ran

end
-- ==== Proof.InSpec.lean ====
/- The mathematics of the input projection, over the extended reals: normed rows, their projections, the gelu and the gate
   as the reference writes them, and why the kernel's quotients are the same. -/
module

public import proofs.«01_k».proof.Proof.Consts
public import Idealize.ShloMosaic.PureOps.Ideal
public import Idealize.ShloMosaic.PureOps.Ideal.Laws

@[expose] public section

noncomputable section

namespace Cert.InSpec

open Idealize.ShloMosaic

theorem ofBits_1 : Ideal.ofBits .f32 0x3F800000#32 = ((1 : ℝ) : EReal) := by
  simp [Ideal.ofBits, Ideal.ieee, -EReal.coe_mul]; norm_num

theorem one_eq : Ideal.ofBits .f32 0x3F800000#32 = 1 := ofBits_1

theorem ofBits_half : Ideal.ofBits .f32 0x3F000000#32 = ((1 / 2 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_1024_inv : Ideal.ofBits .f32 0x3A800000#32 = ((1 / 1024 : ℝ) : EReal) := by
  simp [Ideal.ofBits, Ideal.ieee, -EReal.coe_mul]; norm_num

theorem ofBits_scale : Ideal.ofBits .f32 0x3F4C422A#32 = ((6693141 / 8388608 : ℝ) : EReal) := by
  simp [Ideal.ofBits, Ideal.ieee, -EReal.coe_mul]; norm_num

theorem ofBits_cube : Ideal.ofBits .f32 0x3D372713#32 = ((12003091 / 268435456 : ℝ) : EReal) := by
  simp [Ideal.ofBits, Ideal.ieee, -EReal.coe_mul]; norm_num

/-- The tanh form of the gelu, as the reference writes it. -/
def gelu (x : EReal) : EReal :=
  x * (Ideal.ofBits .f32 0x3F000000#32 * (Ideal.ofBits .f32 0x3F800000#32 +
    Ideal.tanh (Ideal.ofBits .f32 0x3F4C422A#32 * (x + Ideal.ofBits .f32 0x3D372713#32 * (x * x * x)))))

/-- The gate, likewise. -/
def sig (x : EReal) : EReal := Ideal.div (Ideal.ofBits .f32 0x3F800000#32) (Ideal.ofBits .f32 0x3F800000#32 + Ideal.exp (-x))

/-- What the kernel divides by for a gelu: the constants carry the change of base. -/
def geluDen (x : EReal) : EReal :=
  Ideal.ofBits .f32 0x3F800000#32 + Ideal.exp2 (x * (((-2) * ((Real.log 2)⁻¹ * (6693141 / 8388608)) : ℝ)
    + ((-2) * ((Real.log 2)⁻¹ * ((6693141 / 8388608) * (12003091 / 268435456))) : ℝ) * (x * x)))

/-- And for a gate. -/
def sigDen (x : EReal) : EReal := Ideal.ofBits .f32 0x3F800000#32 + Ideal.exp2 (x * (((-1) * (Real.log 2)⁻¹ : ℝ) : EReal))

theorem log2_ne : Real.log 2 ≠ 0 := (Real.log_pos (by norm_num)).ne'

theorem log2_pos : 0 < (Real.log 2)⁻¹ := inv_pos.2 (Real.log_pos (by norm_num))

/-- A power of two is an exponential. -/
theorem two_rpow (a : ℝ) : Real.rpow 2 a = Real.exp (Real.log 2 * a) := by
  rw [Real.rpow_eq_pow, Real.rpow_def_of_pos (by norm_num)]

/-- The logistic form of the hyperbolic tangent. -/
theorem half_tanh (t : ℝ) : 1 / 2 * (1 + Real.tanh t) = (1 + Real.exp (-2 * t))⁻¹ := by
  rw [Real.tanh_eq_sinh_div_cosh, Real.sinh_eq, Real.cosh_eq, show -2 * t = -t + -t by ring, Real.exp_add, Real.exp_neg]
  have h := Real.exp_pos t
  have h' : Real.exp t * Real.exp t + 1 ≠ 0 := by positivity
  field_simp
  ring

theorem div_of_ne {x y : EReal} (h : y ≠ 0) : Ideal.div x y = x * y⁻¹ := if_neg h

theorem exp2_nonneg (x : EReal) : 0 ≤ Ideal.exp2 x := by
  induction x with
  | bot => exact le_rfl
  | top => exact le_top
  | coe a => exact EReal.coe_nonneg.2 (Real.rpow_nonneg (by norm_num) _)

theorem one_add_ne {e : EReal} (h : 0 ≤ e) : Ideal.ofBits .f32 0x3F800000#32 + e ≠ 0 := by
  rw [ofBits_1]
  exact (add_pos_of_pos_of_nonneg (by exact_mod_cast one_pos) h).ne'

theorem geluDen_ne (x : EReal) : geluDen x ≠ 0 := one_add_ne (exp2_nonneg _)

theorem sigDen_ne (x : EReal) : sigDen x ≠ 0 := one_add_ne (exp2_nonneg _)

/-- The gate's two denominators agree. -/
theorem sigDen_eq (x : EReal) : sigDen x = Ideal.ofBits .f32 0x3F800000#32 + Ideal.exp (-x) := by
  unfold sigDen
  congr 1
  have hneg : (-1) * (Real.log 2)⁻¹ < 0 := by linarith [log2_pos]
  induction x with
  | bot => rw [EReal.bot_mul_coe_of_neg hneg]; rfl
  | top => rw [EReal.top_mul_coe_of_neg hneg]; rfl
  | coe a =>
    rw [← EReal.coe_mul, Ideal.exp2_coe, ← EReal.coe_neg, Ideal.exp_coe, two_rpow]
    congr 2
    have := log2_ne
    field_simp

theorem sig_eq (x : EReal) : sig x = (sigDen x)⁻¹ := by
  unfold sig
  rw [← sigDen_eq, div_of_ne (sigDen_ne x), ofBits_1]
  exact one_mul _

/-- The gelu is the kernel's quotient. -/
theorem gelu_eq (x : EReal) : gelu x = x * (geluDen x)⁻¹ := by
  have hS : (-2) * ((Real.log 2)⁻¹ * (6693141 / 8388608)) < 0 := by have := log2_pos; nlinarith
  have hC : (-2) * ((Real.log 2)⁻¹ * ((6693141 / 8388608) * (12003091 / 268435456))) < 0 := by have := log2_pos; nlinarith
  have hs : (0 : ℝ) < 6693141 / 8388608 := by norm_num
  have hc : (0 : ℝ) < 12003091 / 268435456 := by norm_num
  unfold gelu geluDen
  rw [ofBits_1, ofBits_half, ofBits_scale, ofBits_cube]
  induction x with
  | bot =>
    rw [EReal.bot_mul_bot, EReal.top_mul_bot, EReal.coe_mul_bot_of_pos hc, EReal.coe_mul_top_of_neg hC, EReal.add_bot, EReal.add_bot,
      EReal.coe_mul_bot_of_pos hs, EReal.bot_mul_bot, Ideal.tanh_bot, Ideal.exp2_top, EReal.coe_add_top, EReal.inv_top]
    have : ((1 : ℝ) : EReal) + -1 = 0 := by
      rw [← EReal.coe_one, ← EReal.coe_neg, ← EReal.coe_add, add_neg_cancel, EReal.coe_zero]
    rw [this, mul_zero, mul_zero]
  | top =>
    rw [EReal.top_mul_top, EReal.top_mul_top, EReal.coe_mul_top_of_pos hc, EReal.coe_mul_top_of_neg hC, EReal.add_bot, EReal.top_add_top,
      EReal.coe_mul_top_of_pos hs, EReal.top_mul_bot, Ideal.tanh_top, Ideal.exp2_bot, add_zero, ← EReal.coe_inv]
    have : (((1 / 2 : ℝ) : EReal) * (((1 : ℝ) : EReal) + 1)) = ((1⁻¹ : ℝ) : EReal) := by
      rw [← EReal.coe_one, ← EReal.coe_add, ← EReal.coe_mul]; norm_num
    rw [this]
  | coe a =>
    simp only [← EReal.coe_mul, ← EReal.coe_add, Ideal.tanh_coe, Ideal.exp2_coe, ← EReal.coe_inv]
    rw [half_tanh, two_rpow]
    congr 5
    have := log2_ne
    field_simp
    ring

/-- A gated gelu, as one quotient. -/
theorem gated_eq (x y : EReal) : Ideal.div x (geluDen x * sigDen y) = gelu x * sig y := by
  rw [div_of_ne (mul_ne_zero (geluDen_ne x) (sigDen_ne y)), EReal.mul_inv, gelu_eq, sig_eq, mul_assoc]

theorem gelu_div (x : EReal) : Ideal.div x (geluDen x) = gelu x := by rw [div_of_ne (geluDen_ne x), gelu_eq]

theorem sig_div (x : EReal) : Ideal.div (Ideal.ofBits .f32 0x3F800000#32) (sigDen x) = sig x := by
  unfold sig
  rw [← sigDen_eq]

/-- A mean, by the reciprocal. -/
theorem mean_eq (s : EReal) : s * Ideal.ofBits .f32 0x3A800000#32 = Ideal.div s (Ideal.ofBits .f32 0x44800000#32) := by
  rw [ofBits_1024, ofBits_1024_inv, div_of_ne (by exact_mod_cast (by norm_num : (1024 : ℝ) ≠ 0)), ← EReal.coe_inv]
  norm_num

/-- A row divided by its root mean square, scaled by gains. `N` is how many entries it has. -/
def norm {n : Nat} (N : EReal) (x g : Fin n → EReal) (k : Fin n) : EReal :=
  x k * Ideal.rsqrt (Ideal.div (∑ l, x l * x l) N + Ideal.ofBits .f32 0x358637BD#32) * g k

/-- The number of channels, and of a head's entries. -/
abbrev wide : EReal := Ideal.ofBits .f32 0x44800000#32
@[inherit_doc wide] abbrev narrow : EReal := Ideal.ofBits .f32 0x43000000#32

/-- The normed row's projection to a column. -/
def z (x g : Fin 1024 → EReal) (W : Fin 1024 → Fin 5632 → EReal) (j : Fin 5632) : EReal := ∑ k, norm wide x g k * W k j

/-- A head of the queries or keys: 128 columns normed. -/
def head (x g : Fin 1024 → EReal) (W : Fin 1024 → Fin 5632 → EReal) (o : Nat) (h : o + 128 ≤ 5632) (n : Fin 128 → EReal) (d : Fin 128) : EReal :=
  norm narrow (fun d : Fin 128 => z x g W ⟨o + d.val, by omega⟩) n d

/-- The second half's gelus of one row, normed. -/
def vrow (x g : Fin 1024 → EReal) (W : Fin 1024 → Fin 5632 → EReal) (s : Fin 1024 → EReal) (j : Fin 1024) : EReal :=
  norm wide (fun j : Fin 1024 => gelu (z x g W ⟨1024 + j.val, by omega⟩)) s j

/-- The spatial gating of one row of a chunk, gated again. `X` are the chunk's rows, `p` the row. -/
def gya (X : Fin 128 → Fin 1024 → EReal) (g : Fin 1024 → EReal) (W : Fin 1024 → Fin 5632 → EReal) (s : Fin 1024 → EReal)
    (w : Fin 128 → Fin 128 → EReal) (b : Fin 128 → EReal) (p : Fin 128) (j : Fin 1024) : EReal :=
  sig (z (X p) g W ⟨3584 + j.val, by omega⟩) *
    (gelu (z (X p) g W ⟨j.val, by omega⟩) * (∑ q, vrow (X q) g W s j * w p q + b p))

end Cert.InSpec

end
-- ==== Proof.InTile.lean ====
/- The input projection's arithmetic over the extended reals, read at an index. -/
module

public import proofs.«01_k».proof.Proof.InWords
public import proofs.«01_k».proof.Proof.InSpec
public import Idealize.ShloMosaic.Lib.Pointwise

@[expose] public section

set_option maxRecDepth 16384

noncomputable section

namespace Cert.Kernel2Ideal.Words

open Cert.Kernel2Ideal Cert.Kernel2Ideal.Gen Idealize.ShloMosaic

theorem gelu_scale_eq : Named.named (F := Ideal) (φ := .f32) κ "gelu_scale" 0xC0135761#32 =
    (((-2) * ((Real.log 2)⁻¹ * (6693141 / 8388608)) : ℝ) : EReal) := IdealRules.named_const.ideal_named_scalar _ _ _ _ rfl

theorem gelu_cube_eq : Named.named (F := Ideal) (φ := .f32) κ "gelu_cube" 0xBDD2D3E8#32 =
    (((-2) * ((Real.log 2)⁻¹ * ((6693141 / 8388608) * (12003091 / 268435456))) : ℝ) : EReal) := IdealRules.named_const.ideal_named_scalar _ _ _ _ rfl

theorem neg_log2e_eq : Named.named (F := Ideal) (φ := .f32) κ "neg_log2e" 0xBFB8AA3B#32 = (((-1) * (Real.log 2)⁻¹ : ℝ) : EReal) :=
  IdealRules.named_const.ideal_named_scalar _ _ _ _ rfl

theorem q_scale_eq : Named.named (F := Ideal) (φ := .f32) κ "q_scale" 0x3E0293EE#32 = (((Real.sqrt 128)⁻¹ * (Real.log 2)⁻¹ : ℝ) : EReal) :=
  IdealRules.named_const.ideal_named_scalar _ _ _ _ rfl

theorem h_at (x : Vec Ideal S1024x1024 .f32) (g : Vec Ideal S1x1024 .f32) (r k : Fin 1024) :
    h x g (ix2 r k) = InSpec.norm InSpec.wide (fun k => x (ix2 r k)) (fun k => g (ix2 0 k)) k := by
  pointwise [h]
  rfl

theorem dots_at (h : Vec Ideal S256x1024 .bf16) (w : Vec Ideal S1024x256 .bf16) (r c : Fin 256) :
    dots h w (ix2 r c) = ∑ k : Fin 1024, h (ix2 r k) * w (ix2 k c) := by
  pointwise [dots]

theorem geluDen_at (z : FVec Ideal S256x256 .f32) (r c : Fin 256) : geluDen z (ix2 r c) = InSpec.geluDen (z (ix2 r c)) := by
  pointwise [geluDen]
  rw [gelu_scale_eq, gelu_cube_eq]
  unfold InSpec.geluDen
  rw [InSpec.one_eq]
  rfl

theorem sigDen_at (z : FVec Ideal S256x256 .f32) (r c : Fin 256) : sigDen z (ix2 r c) = InSpec.sigDen (z (ix2 r c)) := by
  pointwise [sigDen]
  rw [neg_log2e_eq]
  unfold InSpec.sigDen
  rw [InSpec.one_eq]
  rfl

theorem gatedU_at (h : Vec Ideal S256x1024 .bf16) (wu wa : Vec Ideal S1024x256 .bf16) (r c : Fin 256) :
    gatedU h wu wa (ix2 r c) = InSpec.gelu (dots h wu (ix2 r c)) * InSpec.sig (dots h wa (ix2 r c)) := by
  pointwise [gatedU]
  rw [geluDen_at, sigDen_at, InSpec.gated_eq]

theorem gv_at (h : Vec Ideal S256x1024 .bf16) (w : Vec Ideal S1024x256 .bf16) (r c : Fin 256) :
    gv h w (ix2 r c) = InSpec.gelu (dots h w (ix2 r c)) := by
  pointwise [gv]
  rw [geluDen_at, InSpec.gelu_div]

theorem gvKept_at (h : Vec Ideal S256x1024 .bf16) (w : Vec Ideal S1024x256 .bf16) (r c : Fin 256) :
    gvKept h w (ix2 r c) = InSpec.gelu (dots h w (ix2 r c)) := by
  rw [← gv_at]
  pointwise [gvKept]

theorem gate_at (h : Vec Ideal S256x1024 .bf16) (w : Vec Ideal S1024x256 .bf16) (r c : Fin 256) :
    gate h w (ix2 r c) = InSpec.sig (dots h w (ix2 r c)) := by
  pointwise [gate]
  rw [sigDen_at, ← InSpec.sig_div, InSpec.one_eq]

theorem sq_at (v : FVec Ideal S256x256 .f32) (r : Fin 256) (o : Fin 1) : sq v (ix2 r o) = ∑ c : Fin 256, v (ix2 r c) * v (ix2 r c) := by
  pointwise [sq]

/-- A sum over 1024 is four sums over 256. -/
theorem sum_quarters (f : Fin 1024 → EReal) : ∑ j, f j =
    ∑ j : Fin 256, f ⟨256 * 0 + j.val, by omega⟩ + ∑ j : Fin 256, f ⟨256 * 1 + j.val, by omega⟩
      + ∑ j : Fin 256, f ⟨256 * 2 + j.val, by omega⟩ + ∑ j : Fin 256, f ⟨256 * 3 + j.val, by omega⟩ := by
  rw [← (finProdFinEquiv (m := 4) (n := 256)).sum_comp, Fintype.sum_prod_type, Fin.sum_univ_four]
  congr 1

theorem ssq_at (v : Fin 4 → FVec Ideal S256x256 .f32) (f : Fin 1024 → EReal) (r : Fin 256) (o : Fin 1)
    (hv : ∀ (c : Fin 4) (j : Fin 256), v c (ix2 r j) = f ⟨256 * c.val + j.val, by omega⟩) :
    ssq v (ix2 r o) = ∑ j, f j * f j := by
  rw [sum_quarters]
  pointwise [ssq]
  simp only [sq_at, hv]
  rfl

theorem vn_at (s : FVec Ideal S256x1 .f32) (v : Vec Ideal S256x1024 .f32) (g : Vec Ideal S1x1024 .f32) (r : Fin 256) (c : Fin 1024)
    (hs : s (ix2 r 0) = ∑ j : Fin 1024, v (ix2 r j) * v (ix2 r j)) :
    vn s v g (ix2 r c) = InSpec.norm InSpec.wide (fun k => v (ix2 r k)) (fun k => g (ix2 0 k)) c := by
  pointwise [vn]
  rw [hs, InSpec.mean_eq]
  rfl

theorem head_at (z : FVec Ideal S256x256 .f32) (g : FVec Ideal S1x128 .f32) (a : Fin 2) (r : Fin 256) (d : Fin 128) :
    head z g a (ix2 r d) = InSpec.norm InSpec.narrow (fun d : Fin 128 => z (ix2 r ⟨128 * a.val + d.val, by omega⟩)) (fun d => g (ix2 0 d)) d := by
  fin_cases a <;> pointwise [head] <;> rfl

theorem heads_at (z : FVec Ideal S256x256 .f32) (g : FVec Ideal S1x128 .f32) (a : Fin 2) (r : Fin 256) (d : Fin 128) :
    heads z g (ix2 r ⟨128 * a.val + d.val, by omega⟩) =
      InSpec.norm InSpec.narrow (fun d : Fin 128 => z (ix2 r ⟨128 * a.val + d.val, by omega⟩)) (fun d => g (ix2 0 d)) d := by
  rw [← head_at]
  fin_cases a <;> pointwise [heads]

theorem kg_at (g : Vec Ideal S1x128 .f32) (d : Fin 128) : kg g (ix2 0 d) = g (ix2 0 d) := by
  pointwise [kg]

theorem qg_at (g : Vec Ideal S1x128 .f32) (d : Fin 128) : qg g (ix2 0 d) = g (ix2 0 d) * (((Real.sqrt 128)⁻¹ * (Real.log 2)⁻¹ : ℝ) : EReal) := by
  pointwise [qg]
  rw [q_scale_eq]

theorem mixed_at (v : Fin 2 → Vec Ideal S128x128 .bf16) (w : Vec Ideal S1x128x128 .bf16) (t : Fin 2) (p c : Fin 128) :
    mixed v w (ix2 p ⟨128 * t.val + c.val, by omega⟩) = ∑ q : Fin 128, w (ix3 0 p q) * v t (ix2 q c) := by
  fin_cases t <;> pointwise [mixed]

theorem gya_at (v : Fin 2 → Vec Ideal S128x128 .bf16) (w : Vec Ideal S1x128x128 .bf16) (b : Vec Ideal S1x128x128 .f32) (u : Vec Ideal S128x128 .bf16)
    (t : Fin 2) (p c : Fin 128) :
    gya v w b u t (ix2 p c) = u (ix2 p c) * (∑ q : Fin 128, w (ix3 0 p q) * v t (ix2 q c) + b (ix3 0 p c)) := by
  rw [← mixed_at]
  fin_cases t <;> pointwise [gya]

theorem wvt_at (w : Vec Ideal S1x1024x256 .f32) (f : Fin 256) (k : Fin 1024) : wvt w (ix2 f k) = w (ix3 0 k f) := by
  pointwise [wvt]

theorem vt_at (w : Vec Ideal S256x1024 .bf16) (h : Vec Ideal S256x1024 .bf16) (f r : Fin 256) :
    vt w h (ix2 f r) = ∑ k : Fin 1024, w (ix2 f k) * h (ix2 r k) := by
  pointwise [vt]

end Cert.Kernel2Ideal.Words

end
-- ==== Proof.InBlocks.lean ====
/- What the input projection's run leaves over the extended reals: each output block as a function of the arrays loaded. -/
module

public import proofs.«01_k».proof.Proof.InRan
public import proofs.«01_k».proof.Proof.InTile
public import proofs.«01_k».proof.Proof.Loads

@[expose] public section

set_option maxRecDepth 16384

noncomputable section

namespace Cert.Kernel2Ideal.Blocks

open Cert.Kernel2Ideal Cert.Kernel2Ideal.Gen Idealize.ShloMosaic Idealize.ShloMosaic.TcCoe Idealize.ShloMosaic.Tactic Idealize.SL.Sem

/-- An array stored in rectangles of one size, read where one of them lies. -/
theorem canon_grid {ι : Type} {A B a b : Nat} {e : EltTy} (l : List ι) (o0 o1 : ι → Nat)
    (inb : ∀ t i, (![o0 t, o1 t] : Fin 2 → Nat) i + (![a, b] : Fin 2 → Nat) i ≤ (⟨2, ![A, B]⟩ : Shape).size i)
    (v : ι → Vec Ideal ⟨2, ![a, b]⟩ e) (f : Fin A → Fin B → Elt Ideal e)
    (hv : ∀ (t : ι) (p : Fin a) (j : Fin b) (P : Fin A) (C : Fin B), P.val = o0 t + p.val → C.val = o1 t + j.val → v t (ix2 p j) = f P C)
    (R : Fin A) (C : Fin B) (t : ι) (ht : t ∈ l) (h0 : o0 t ≤ R.val ∧ R.val < o0 t + a) (h1 : o1 t ≤ C.val ∧ C.val < o1 t + b) :
    View.canon (Val := Elt Ideal) (s := ⟨2, ![A, B]⟩) (e := e)
      (l.map fun t => (⟨Rect.unit (s := ⟨2, ![A, B]⟩) ![o0 t, o1 t] ![a, b] (inb t), v t⟩ : View.Piece (Elt Ideal) ⟨2, ![A, B]⟩ e)) (ix2 R C) = f R C := by
  refine View.canon_apply_of_pieces (Val := Elt Ideal) (e := e) (fun y => f (y 0) (y 1)) _ ?_ (ix2 R C) ?_
  · intro p hp
    obtain ⟨t, _, rfl⟩ := List.mem_map.1 hp
    intro x
    obtain ⟨p, c, rfl⟩ : ∃ (p : Fin a) (c : Fin b), x = ix2 p c := ⟨x 0, x 1, eq_ix2 x⟩
    refine (hv t p c ⟨o0 t + p.val, lt_of_lt_of_le (Nat.add_lt_add_left p.isLt _) (inb t 0)⟩
      ⟨o1 t + c.val, lt_of_lt_of_le (Nat.add_lt_add_left c.isLt _) (inb t 1)⟩ rfl rfl).trans (Eq.symm ?_)
    exact congrArg (fun y : (⟨2, ![A, B]⟩ : Shape).Idx => f (y 0) (y 1)) (Loads.idx2 _ _ (inb t) p c)
  · refine ⟨_, List.mem_map.2 ⟨t, ht, rfl⟩, (Rect.mem_set_unit (inb := inb t)).2 fun i => ?_⟩
    fin_cases i
    exacts [h0, h1]

/-- Where a number lies among the multiples of another. -/
theorem within (a n : Nat) (h : 0 < a := by decide) : a * (n / a) ≤ n ∧ n < a * (n / a) + a :=
  ⟨Nat.mul_div_le n a, Nat.lt_mul_div_succ n h⟩

theorem all (n : Nat) {a : Nat} (i : Fin a) (h : a ≤ n) : 0 ≤ i.val ∧ i.val < 0 + n := ⟨Nat.zero_le _, by omega⟩

theorem col_lt (n : Fin 22) (c : Fin 256) : 256 * n.val + c.val < 5632 := by omega

/-- A read of such an array. -/
theorem readCov_at {sig : RefSig} {A B a b : Nat} {e : EltTy} (m : Memref sig .tc .vmem ⟨2, ![A, B]⟩ e) (L : List (View.Piece (Elt Ideal) ⟨2, ![A, B]⟩ e))
    (o0 o1 : Nat) (inb : ∀ i, (![o0, o1] : Fin 2 → Nat) i + (![a, b] : Fin 2 → Nat) i ≤ (⟨2, ![A, B]⟩ : Shape).size i)
    (p : Fin a) (c : Fin b) (P : Fin A) (C : Fin B) (h : P.val = o0 + p.val) (h' : C.val = o1 + c.val) :
    m.view.readCov L (Rect.unit (s := ⟨2, ![A, B]⟩) ![o0, o1] ![a, b] inb).toLoadRect (ix2 p c) = View.canon L (ix2 P C) :=
  (congrFun (View.readCov_eq_canon' _ _ _) _).trans (congrArg _ (Loads.idx2' _ _ _ p c P C h h'))

theorem upto_mem (r c : Fin 4) : (r, c) ∈ Ran.upto r := by revert r c; decide
theorem upto_all (r c : Fin 4) : (r, c) ∈ Ran.upto 3 := by revert r c; decide
theorem rowsUpto_mem (r : Fin 4) : r ∈ Ran.rowsUpto r := by revert r; decide
theorem rowsUpto_all (r : Fin 4) : r ∈ Ran.rowsUpto 3 := by revert r; decide

variable {sig : RefSig} (arg15 : Memref sig .tc .vmem S1024x1024 .bf16) (arg16 : Memref sig .tc .vmem S1024x1024 .f32)
  (arg17 arg18 : Memref sig .tc .vmem S1024x1024 .bf16)
  (lx : Vec Ideal S1024x1024 .f32) (lg : Vec Ideal S1x1024 .f32) (lw : Fin 22 → Vec Ideal S1024x256 .bf16) (ls : Vec Ideal S1x1024 .f32)
  (lws : Fin 8 → Vec Ideal S1x128x128 .bf16) (lbs : Fin 8 → Vec Ideal S1x128x128 .f32)
  (X : Fin 1024 → Fin 1024 → EReal) (G : Fin 1024 → EReal) (W : Fin 1024 → Fin 5632 → EReal)

section Rows

variable (hX : ∀ r k, lx (ix2 r k) = X r k) (hG : ∀ k, lg (ix2 0 k) = G k) (hW : ∀ n k c, lw n (ix2 k c) = W k ⟨256 * n.val + c.val, col_lt n c⟩)

include hX hG

theorem hRows_at (r : Fin 4) (p : Fin 256) (k : Fin 1024) (R : Fin 1024) (hR : R.val = 256 * r.val + p.val) :
    Ran.hRows arg15 lx lg r (ix2 p k) = InSpec.norm InSpec.wide (X R) G k := by
  refine (readCov_at arg15 _ _ _ _ p k R k hR (Nat.zero_add _).symm).trans ?_
  refine canon_grid (A := 1024) (B := 1024) (a := 1024) (b := 1024) (e := .bf16) (ι := Unit) [()] (fun _ => 0) (fun _ => 0) (fun _ => Ran.inb_all) (fun _ => Words.h lx lg) (fun R k => InSpec.norm InSpec.wide (X R) G k)
    ?_ R k () (List.mem_singleton.2 rfl) (all 1024 R le_rfl) (all 1024 k le_rfl)
  intro _ p j P C hP hC
  obtain rfl : P = p := Fin.ext (hP.trans (Nat.zero_add _))
  obtain rfl : C = j := Fin.ext (hC.trans (Nat.zero_add _))
  rw [Words.h_at, funext (hX P), funext hG]

include hW

/-- A projection of 256 rows to 256 columns. -/
theorem dots_at (r : Fin 4) (n : Fin 22) (p c : Fin 256) (R : Fin 1024) (hR : R.val = 256 * r.val + p.val) (C : Fin 5632) (hC : C.val = 256 * n.val + c.val) :
    Words.dots (Ran.hRows arg15 lx lg r) (lw n) (ix2 p c) = InSpec.z (X R) G W C := by
  rw [Words.dots_at]
  refine Finset.sum_congr rfl fun k _ => congrArg₂ (· * ·) (hRows_at arg15 lx lg X G hX hG r p k R hR) ((hW n k c).trans (congrArg (W k) (Fin.ext hC.symm)))

/-- The gated first halves. -/
theorem gu_canon (r : Fin 4) (R C : Fin 1024) (hr : R.val / 256 = r.val) :
    View.canon (Ran.guPieces arg15 lx lg lw (Ran.upto r)) (ix2 R C) =
      InSpec.gelu (InSpec.z (X R) G W ⟨C.val, by omega⟩) * InSpec.sig (InSpec.z (X R) G W ⟨3584 + C.val, by omega⟩) := by
  refine canon_grid (A := 1024) (B := 1024) (a := 256) (b := 256) (e := .bf16) (ι := Fin 4 × Fin 4) (Ran.upto r) (fun t => 256 * t.1.val) (fun t => 256 * t.2.val) (fun t => Ran.inb_block t.1 t.2) _
    (fun R C => InSpec.gelu (InSpec.z (X R) G W ⟨C.val, by omega⟩) * InSpec.sig (InSpec.z (X R) G W ⟨3584 + C.val, by omega⟩)) ?_ R C
    (r, ⟨C.val / 256, by omega⟩) (upto_mem r _) (hr ▸ within 256 R.val) (within 256 C.val)
  intro t p j P C hP hC
  refine (Words.gatedU_at ..).trans (congrArg₂ (fun a b => InSpec.gelu a * InSpec.sig b) ?_ ?_)
  · exact dots_at arg15 lx lg lw X G W hX hG hW t.1 _ p j P hP _ (by show C.val = 256 * (0 + t.2.val) + j.val; omega)
  · exact dots_at arg15 lx lg lw X G W hX hG hW t.1 _ p j P hP _ (by show 3584 + C.val = 256 * (14 + t.2.val) + j.val; omega)

/-- The gelus of the second halves. -/
theorem gv_canon (r : Fin 4) (R C : Fin 1024) (hr : R.val / 256 = r.val) :
    View.canon (Ran.gvPieces arg15 lx lg lw (Ran.upto r)) (ix2 R C) = InSpec.gelu (InSpec.z (X R) G W ⟨1024 + C.val, by omega⟩) := by
  refine canon_grid (A := 1024) (B := 1024) (a := 256) (b := 256) (e := .f32) (ι := Fin 4 × Fin 4) (Ran.upto r) (fun t => 256 * t.1.val) (fun t => 256 * t.2.val) (fun t => Ran.inb_block t.1 t.2) _
    (fun R C => InSpec.gelu (InSpec.z (X R) G W ⟨1024 + C.val, by omega⟩)) ?_ R C
    (r, ⟨C.val / 256, by omega⟩) (upto_mem r _) (hr ▸ within 256 R.val) (within 256 C.val)
  intro t p j P C hP hC
  refine (Words.gvKept_at ..).trans (congrArg InSpec.gelu ?_)
  exact dots_at arg15 lx lg lw X G W hX hG hW t.1 _ p j P hP _ (by show 1024 + C.val = 256 * (4 + t.2.val) + j.val; omega)

/-- The second gate. -/
theorem gb_canon (R C : Fin 1024) :
    View.canon (Ran.gbPieces arg15 lx lg lw) (ix2 R C) = InSpec.sig (InSpec.z (X R) G W ⟨4608 + C.val, by omega⟩) := by
  refine canon_grid (A := 1024) (B := 1024) (a := 256) (b := 256) (e := .bf16) (ι := Fin 4 × Fin 4) (Ran.upto 3) (fun t => 256 * t.1.val) (fun t => 256 * t.2.val) (fun t => Ran.inb_block t.1 t.2) _
    (fun R C => InSpec.sig (InSpec.z (X R) G W ⟨4608 + C.val, by omega⟩)) ?_ R C
    (⟨R.val / 256, by omega⟩, ⟨C.val / 256, by omega⟩) (upto_all _ _) (within 256 R.val) (within 256 C.val)
  intro t p j P C hP hC
  refine (Words.gate_at ..).trans (congrArg InSpec.sig ?_)
  exact dots_at arg15 lx lg lw X G W hX hG hW t.1 _ p j P hP _ (by show 4608 + C.val = 256 * (18 + t.2.val) + j.val; omega)

/-- Two heads of 256 columns normed, whichever of the queries or keys: `n` the columns' number among all, `o` where the heads begin. -/
theorem heads_at (r : Fin 4) (n : Fin 22) (o : Nat) (g : FVec Ideal S1x128 .f32) (N : Fin 128 → EReal) (hN : ∀ d, g (ix2 0 d) = N d) (p j : Fin 256) (R : Fin 1024)
    (hR : R.val = 256 * r.val + p.val) (ho : o + 128 ≤ 5632) (ho' : o = 256 * n.val + 128 * (j.val / 128)) (d : Fin 128) (hd : d.val = j.val % 128) :
    Words.heads (Words.dots (Ran.hRows arg15 lx lg r) (lw n)) g (ix2 p j) = InSpec.head (X R) G W o ho N d := by
  have hj : j = ⟨128 * (⟨j.val / 128, by omega⟩ : Fin 2).val + d.val, by dsimp only; omega⟩ := Fin.ext (by dsimp only; omega)
  rw [hj, Words.heads_at, funext hN]
  unfold InSpec.head
  congr 1
  funext d
  exact dots_at arg15 lx lg lw X G W hX hG hW r n p _ R hR _ (by dsimp only; omega)

/-- The queries. -/
theorem q_canon (lq : Vec Ideal S1x128 .f32) (N : Fin 128 → EReal) (hN : ∀ d, Words.qg lq (ix2 0 d) = N d) (R C : Fin 1024) :
    View.canon (Ran.qPieces arg15 lx lg lw lq) (ix2 R C) =
      InSpec.head (X R) G W (2048 + 128 * (C.val / 128)) (by omega) N ⟨C.val % 128, by omega⟩ := by
  refine canon_grid (A := 1024) (B := 1024) (a := 256) (b := 256) (e := .bf16) (ι := Fin 4 × Fin 4) (Ran.upto 3) (fun t => 256 * t.1.val) (fun t => 256 * t.2.val) (fun t => Ran.inb_block t.1 t.2) _
    (fun R C => InSpec.head (X R) G W (2048 + 128 * (C.val / 128)) (by omega) N ⟨C.val % 128, by omega⟩) ?_ R C
    (⟨R.val / 256, by omega⟩, ⟨C.val / 256, by omega⟩) (upto_all _ _) (within 256 R.val) (within 256 C.val)
  intro t p j P C hP hC
  exact heads_at arg15 lx lg lw X G W hX hG hW t.1 _ _ _ N hN p j P hP _
    (by show 2048 + 128 * (C.val / 128) = 256 * (8 + t.2.val) + 128 * (j.val / 128); omega) _ (by dsimp only; omega)

/-- The keys. -/
theorem k_canon (lk : Vec Ideal S1x128 .f32) (N : Fin 128 → EReal) (hN : ∀ d, lk (ix2 0 d) = N d) (R : Fin 1024) (C : Fin 256) :
    View.canon (Ran.kPieces arg15 lx lg lw lk) (ix2 R C) =
      InSpec.head (X R) G W (3072 + 128 * (C.val / 128)) (by omega) N ⟨C.val % 128, by omega⟩ := by
  refine canon_grid (A := 1024) (B := 256) (a := 256) (b := 256) (e := .bf16) (ι := Fin 4) (Ran.rowsUpto 3) (fun t => 256 * t.val) (fun _ => 0) (fun t => Ran.inb_k t) _
    (fun R C => InSpec.head (X R) G W (3072 + 128 * (C.val / 128)) (by omega) N ⟨C.val % 128, by omega⟩) ?_ R C
    ⟨R.val / 256, by omega⟩ (rowsUpto_all _) (within 256 R.val) (all 256 C le_rfl)
  intro t p j P C hP hC
  exact heads_at arg15 lx lg lw X G W hX hG hW t Ran.keys _ _ N (fun d => (Words.kg_at lk d).trans (hN d)) p j P hP _
    (by show 3072 + 128 * (C.val / 128) = 256 * 12 + 128 * (j.val / 128); omega) _ (by dsimp only; omega)

omit hW in
/-- The values, transposed. -/
theorem vt_canon (wt : Vec Ideal S256x1024 .bf16) (hT : ∀ (f : Fin 256) (k : Fin 1024), wt (ix2 f k) = W k ⟨3328 + f.val, by omega⟩) (f : Fin 256) (R : Fin 1024) :
    View.canon (Ran.vtPieces arg15 lx lg wt) (ix2 f R) = InSpec.z (X R) G W ⟨3328 + f.val, by omega⟩ := by
  refine canon_grid (A := 256) (B := 1024) (a := 256) (b := 256) (e := .bf16) (ι := Fin 4) (Ran.rowsUpto 3) (fun _ => 0) (fun t => 256 * t.val) (fun t => Ran.inb_vt t) _
    (fun f R => InSpec.z (X R) G W ⟨3328 + f.val, by omega⟩) ?_ f R
    ⟨R.val / 256, by omega⟩ (rowsUpto_all _) (all 256 f le_rfl) (within 256 R.val)
  intro t p j P C hP hC
  obtain rfl : P = p := Fin.ext (hP.trans (Nat.zero_add _))
  refine (Words.vt_at ..).trans (Finset.sum_congr rfl fun k _ => ?_)
  rw [hT, hRows_at arg15 lx lg X G hX hG t j k C hC, mul_comm]

variable (S : Fin 1024 → EReal) (hS : ∀ k, ls (ix2 0 k) = S k)

include hS

/-- The normed second halves. -/
theorem vn_canon (r : Fin 4) (R C : Fin 1024) (hr : R.val / 256 = r.val) :
    View.canon (Ran.vnPieces arg15 arg16 lx lg lw ls (Ran.rowsUpto r)) (ix2 R C) = InSpec.vrow (X R) G W S C := by
  refine canon_grid (A := 1024) (B := 1024) (a := 256) (b := 1024) (e := .bf16) (ι := Fin 4) (Ran.rowsUpto r) (fun t => 256 * t.val) (fun _ => 0) (fun t => Ran.inb_rows t) _
    (fun R C => InSpec.vrow (X R) G W S C) ?_ R C r (rowsUpto_mem r) (hr ▸ within 256 R.val) (all 1024 C le_rfl)
  intro t p j P C hP hC
  obtain rfl : C = j := Fin.ext (hC.trans (Nat.zero_add _))
  have hv : ∀ k : Fin 1024, arg16.view.readCov (Ran.gvPieces arg15 lx lg lw (Ran.upto t))
      (Rect.unit (s := S1024x1024) ![256 * t.val, 0] S256x1024.size (Ran.inb_rows t)).toLoadRect (ix2 p k) =
      InSpec.gelu (InSpec.z (X P) G W ⟨1024 + k.val, by omega⟩) := fun k =>
    (readCov_at arg16 _ _ _ _ p k P k hP (Nat.zero_add _).symm).trans
      (gv_canon arg15 lx lg lw X G W hX hG hW t P k (by omega))
  refine (Words.vn_at _ _ _ p C ?_).trans ?_
  · rw [Finset.sum_congr rfl fun k _ => congrArg₂ (· * ·) (hv k) (hv k)]
    refine Words.ssq_at _ (fun k => InSpec.gelu (InSpec.z (X P) G W ⟨1024 + k.val, by omega⟩)) p 0 fun c j => ?_
    refine (Words.gv_at ..).trans (congrArg InSpec.gelu ?_)
    exact dots_at arg15 lx lg lw X G W hX hG hW t _ p j P hP _ (by show 1024 + (256 * c.val + j.val) = 256 * (4 + c.val) + j.val; omega)
  · rw [funext hv, funext hS]
    rfl

/-- The first output. -/
theorem gya_canon (A B : Fin 8 → Fin 128 → Fin 128 → EReal) (hA : ∀ g p q, lws g (ix3 0 p q) = A g p q) (hB : ∀ g p c, lbs g (ix3 0 p c) = B g p c) (R C : Fin 1024) :
    View.canon (Ran.gyaPieces arg15 arg16 arg17 arg18 lx lg lw ls lws lbs) (ix2 R C) =
      InSpec.gya (fun q : Fin 128 => X ⟨128 * (R.val / 128) + q.val, by omega⟩) G W S (A ⟨C.val / 128, by omega⟩)
        (fun p => B ⟨C.val / 128, by omega⟩ p ⟨C.val % 128, by omega⟩) ⟨R.val % 128, by omega⟩ C := by
  have hl : Ran.gyaPieces arg15 arg16 arg17 arg18 lx lg lw ls lws lbs =
      (([3, 2, 1, 0] : List (Fin 4)).flatMap fun r => ([(7, 1), (7, 0), (6, 1), (6, 0), (5, 1), (5, 0), (4, 1), (4, 0), (3, 1), (3, 0), (2, 1), (2, 0), (1, 1), (1, 0), (0, 1), (0, 0)] : List (Fin 8 × Fin 2)).map
        fun t => (r, t.1, t.2)).map fun t : Fin 4 × Fin 8 × Fin 2 => Ran.gyaPiece arg15 arg16 arg17 arg18 lx lg lw ls lws lbs t.1 t.2.1 t.2.2 := rfl
  have hm : ∀ (r : Fin 4) (g : Fin 8) (t : Fin 2), (r, g, t) ∈ (([3, 2, 1, 0] : List (Fin 4)).flatMap fun r => ([(7, 1), (7, 0), (6, 1), (6, 0), (5, 1), (5, 0), (4, 1), (4, 0), (3, 1), (3, 0), (2, 1), (2, 0), (1, 1), (1, 0), (0, 1), (0, 0)] : List (Fin 8 × Fin 2)).map
        fun t => (r, t.1, t.2)) := by decide
  rw [hl]
  refine canon_grid (A := 1024) (B := 1024) (a := 128) (b := 128) (e := .bf16) (ι := Fin 4 × Fin 8 × Fin 2) _ (fun t => 256 * t.1.val + 128 * t.2.2.val) (fun t => 128 * t.2.1.val) (fun t => Ran.inb_chunk t.1 t.2.2 t.2.1) _
    (fun R C => InSpec.gya (fun q : Fin 128 => X ⟨128 * (R.val / 128) + q.val, by omega⟩) G W S (A ⟨C.val / 128, by omega⟩)
        (fun p => B ⟨C.val / 128, by omega⟩ p ⟨C.val % 128, by omega⟩) ⟨R.val % 128, by omega⟩ C) ?_ R C
    (⟨R.val / 256, by omega⟩, ⟨C.val / 128, by omega⟩, ⟨R.val % 256 / 128, by omega⟩) (hm _ _ _) (by dsimp only; omega) (by dsimp only; omega)
  rintro ⟨r, g, t⟩ p j P C hP hC
  dsimp only at hP hC
  have hg : (⟨C.val / 128, by omega⟩ : Fin 8) = g := Fin.ext (by dsimp only; omega)
  have hj : (⟨C.val % 128, by omega⟩ : Fin 128) = j := Fin.ext (by dsimp only; omega)
  have hp : (⟨P.val % 128, by omega⟩ : Fin 128) = p := Fin.ext (by dsimp only; omega)
  have hq : (⟨128 * (P.val / 128) + p.val, by omega⟩ : Fin 1024) = P := Fin.ext (by dsimp only; omega)
  refine (Words.gya_at ..).trans ?_
  dsimp only
  rw [hg, hj, hp]
  unfold InSpec.gya
  dsimp only
  rw [hq, ← mul_assoc, mul_comm (InSpec.sig _)]
  refine congrArg₂ (· * ·) ?_ (congrArg₂ (· + ·) (Finset.sum_congr rfl fun q _ => ?_) (hB g p j))
  · exact (readCov_at arg17 _ _ _ _ p j P C hP hC).trans (gu_canon arg15 lx lg lw X G W hX hG hW r P C (by omega))
  · rw [hA, mul_comm]
    refine congrArg (· * A g p q) ?_
    exact (readCov_at arg18 _ _ _ _ q j ⟨128 * (P.val / 128) + q.val, by omega⟩ C (by dsimp only; omega) hC).trans
      (vn_canon arg15 arg16 lx lg lw ls X G W hX hG hW S hS r _ C (by dsimp only; omega))

end Rows

end Cert.Kernel2Ideal.Blocks

end
-- ==== Proof.InPoint.lean ====
/- What a point of the input projection leaves in its outputs' blocks, and in the weights it carries to later points, as functions of its
   input blocks. -/
module

public import proofs.«01_k».proof.Proof.InBlocks

@[expose] public section

set_option maxRecDepth 16384

noncomputable section

namespace Cert.Kernel2Ideal.Point

open Cert.Kernel2Ideal Cert.Kernel2Ideal.Gen Idealize.ShloMosaic Idealize.ShloMosaic.TcCoe Idealize.SL.Sem

variable {sig : RefSig}

/-- A rectangle's place of an index of rank three. -/
theorem idx3 {A B C a b c : Nat} (o0 o1 o2 : Nat)
    (inb : ∀ i, (![o0, o1, o2] : Fin 3 → Nat) i + (![a, b, c] : Fin 3 → Nat) i ≤ (⟨3, ![A, B, C]⟩ : Shape).size i)
    (p : Fin a) (q : Fin b) (r : Fin c) (P : Fin A) (Q : Fin B) (R : Fin C) (h : P.val = o0 + p.val) (h' : Q.val = o1 + q.val) (h'' : R.val = o2 + r.val) :
    (Rect.unit (s := ⟨3, ![A, B, C]⟩) ![o0, o1, o2] ![a, b, c] inb).toLoadRect.idx (ix3 p q r) = ix3 P Q R := by
  funext i
  apply Fin.ext
  fin_cases i
  · show o0 + 1 * p.val = P.val
    omega
  · show o1 + 1 * q.val = Q.val
    omega
  · show o2 + 1 * r.val = R.val
    omega

/-! ## The loads -/

theorem ldx_at (a : Memref sig .tc .vmem S1024x1024 .f32) (h : a.IsWhole) (x : Vec Ideal S1024x1024 .f32) (r k : Fin 1024) :
    Ran.ldx a h x (ix2 r k) = x (ix2 r k) :=
  (Memref.IsWhole.readAt_unread h x _ _).trans (congrArg x (Loads.idx2' _ _ _ r k _ _ (Nat.zero_add _).symm (Nat.zero_add _).symm))

theorem ldg_at (a : Memref sig .tc .vmem S1x1024 .f32) (h : a.IsWhole) (x : Vec Ideal S1x1024 .f32) (k : Fin 1024) :
    Ran.ldg a h x (ix2 0 k) = x (ix2 0 k) :=
  (Memref.IsWhole.readAt_unread h x _ _).trans (congrArg x (Loads.idx2' _ _ _ 0 k _ _ rfl (Nat.zero_add _).symm))

theorem ldn_at (a : Memref sig .tc .vmem S1x128 .f32) (h : a.IsWhole) (x : Vec Ideal S1x128 .f32) (k : Fin 128) :
    Ran.ldn a h x (ix2 0 k) = x (ix2 0 k) :=
  (Memref.IsWhole.readAt_unread h x _ _).trans (congrArg x (Loads.idx2' _ _ _ 0 k _ _ rfl (Nat.zero_add _).symm))

theorem ldw_at (a : Memref sig .tc .vmem S1024x5632 .bf16) (h : a.IsWhole) (x : Vec Ideal S1024x5632 .bf16) (n : Fin 22) (k : Fin 1024) (j : Fin 256) :
    Ran.ldw a h x n (ix2 k j) = x (ix2 k ⟨256 * n.val + j.val, Blocks.col_lt n j⟩) :=
  (Memref.IsWhole.readAt_unread h x _ _).trans (congrArg x (Loads.idx2' _ _ _ k j _ _ (Nat.zero_add _).symm rfl))

theorem ldv_at (a : Memref sig .tc .vmem S1x1024x256 .f32) (h : a.IsWhole) (x : Vec Ideal S1x1024x256 .f32) (k : Fin 1024) (f : Fin 256) :
    Ran.ldv a h x (ix3 0 k f) = x (ix3 0 k f) :=
  (Memref.IsWhole.readAt_unread h x _ _).trans (congrArg x (idx3 _ _ _ _ 0 k f _ _ _ rfl (Nat.zero_add _).symm (Nat.zero_add _).symm))

theorem lds_at {e : EltTy} (a : Memref sig .tc .vmem S8x128x128 e) (h : a.IsWhole) (x : Vec Ideal S8x128x128 e) (g : Fin 8) (p q : Fin 128) :
    Ran.lds a h x g (ix3 0 p q) = x (ix3 g p q) :=
  (Memref.IsWhole.readAt_unread h x _ _).trans (congrArg x (idx3 _ _ _ _ 0 p q _ _ _ rfl (Nat.zero_add _).symm (Nat.zero_add _).symm))

theorem ldt_at (a : Memref sig .tc .vmem S256x1024 .bf16) (h : a.IsWhole) (x : Vec Ideal S256x1024 .bf16) (f : Fin 256) (k : Fin 1024) :
    Ran.ldt a h x (ix2 f k) = x (ix2 f k) :=
  (Memref.IsWhole.readAt_unread h x _ _).trans (congrArg x (Loads.idx2' _ _ _ f k _ _ (Nat.zero_add _).symm (Nat.zero_add _).symm))

/-- The carried weights are the values' columns, transposed. -/
theorem wt_canon (w : Vec Ideal S1x1024x256 .f32) (f : Fin 256) (k : Fin 1024) : View.canon (Ran.wtPieces w) (ix2 f k) = w (ix3 0 k f) := by
  unfold Ran.wtPieces
  exact Blocks.canon_grid (A := 256) (B := 1024) (a := 256) (b := 1024) (e := .bf16) (ι := Unit) [()] (fun _ => 0) (fun _ => 0) (fun _ => Ran.inb_t) (fun _ => Words.wvt w)
    (fun f k => w (ix3 0 k f)) (fun _ p j P C hP hC => (Words.wvt_at w p j).trans (congrArg₂ (fun k f => w (ix3 0 k f)) (Fin.ext ((Nat.zero_add _).symm.trans hC.symm)) (Fin.ext ((Nat.zero_add _).symm.trans hP.symm))))
    f k () (List.mem_singleton_self _) ⟨Nat.zero_le _, (Nat.zero_add 256).symm ▸ f.isLt⟩ ⟨Nat.zero_le _, (Nat.zero_add 1024).symm ▸ k.isLt⟩

theorem ldt0_at (a : Memref sig .tc .vmem S256x1024 .bf16) (w : Vec Ideal S1x1024x256 .f32) (f : Fin 256) (k : Fin 1024) :
    Ran.ldt0 a w (ix2 f k) = w (ix3 0 k f) :=
  (Blocks.readCov_at a (Ran.wtPieces w) 0 0 Ran.inb_t f k f k (Nat.zero_add _).symm (Nat.zero_add _).symm).trans (wt_canon w f k)

/-! ## The outputs -/

variable
  {arg1 : Memref sig .tc .vmem S1024x1024 .f32} {harg1 : arg1.IsWhole}
  {arg2 : Memref sig .tc .vmem S1x1024 .f32} {harg2 : arg2.IsWhole}
  {arg3 : Memref sig .tc .vmem S1024x5632 .bf16} {harg3 : arg3.IsWhole}
  {arg4 : Memref sig .tc .vmem S1x1024x256 .f32} {harg4 : arg4.IsWhole}
  {arg5 : Memref sig .tc .vmem S1x1024 .f32} {harg5 : arg5.IsWhole}
  {arg6 : Memref sig .tc .vmem S1x128 .f32} {harg6 : arg6.IsWhole}
  {arg7 : Memref sig .tc .vmem S1x128 .f32} {harg7 : arg7.IsWhole}
  {arg8 : Memref sig .tc .vmem S8x128x128 .bf16} {harg8 : arg8.IsWhole}
  {arg9 : Memref sig .tc .vmem S8x128x128 .f32} {harg9 : arg9.IsWhole}
  {arg10 : Memref sig .tc .vmem S1024x1024 .bf16} {harg10 : arg10.IsWhole}
  {arg11 : Memref sig .tc .vmem S1024x1024 .bf16} {harg11 : arg11.IsWhole}
  {arg12 : Memref sig .tc .vmem S1024x256 .bf16} {harg12 : arg12.IsWhole}
  {arg13 : Memref sig .tc .vmem S256x1024 .bf16} {harg13 : arg13.IsWhole}
  {arg14 : Memref sig .tc .vmem S1024x1024 .bf16} {harg14 : arg14.IsWhole}
  {arg15 : Memref sig .tc .vmem S1024x1024 .bf16} {harg15 : arg15.IsWhole}
  {arg16 : Memref sig .tc .vmem S1024x1024 .f32} {harg16 : arg16.IsWhole}
  {arg17 : Memref sig .tc .vmem S1024x1024 .bf16} {harg17 : arg17.IsWhole}
  {arg18 : Memref sig .tc .vmem S1024x1024 .bf16} {harg18 : arg18.IsWhole}
  {arg19 : Memref sig .tc .vmem S256x1024 .bf16} {harg19 : arg19.IsWhole}
  {x0 : Vec Ideal S1024x1024 .f32}
  {x1 : Vec Ideal S1x1024 .f32}
  {x2 : Vec Ideal S1024x5632 .bf16}
  {x3 : Vec Ideal S1x1024x256 .f32}
  {x4 : Vec Ideal S1x1024 .f32}
  {x5 : Vec Ideal S1x128 .f32}
  {x6 : Vec Ideal S1x128 .f32}
  {x7 : Vec Ideal S8x128x128 .bf16}
  {x8 : Vec Ideal S8x128x128 .f32}
  {xs : Vec Ideal S256x1024 .bf16}
variable {X : Fin 1024 → Fin 1024 → EReal} {G : Fin 1024 → EReal} {W : Fin 1024 → Fin 5632 → EReal} {S : Fin 1024 → EReal} {N K : Fin 128 → EReal}
  {A B : Fin 8 → Fin 128 → Fin 128 → EReal}
  (hX : ∀ r k, x0 (ix2 r k) = X r k) (hG : ∀ k, x1 (ix2 0 k) = G k) (hW : ∀ k j, x2 (ix2 k j) = W k j)
  (hV : ∀ k f, x3 (ix3 0 k f) = W k ⟨3328 + f.val, Nat.lt_of_lt_of_le (Nat.add_lt_add_left f.isLt 3328) (by decide)⟩)
  (hS : ∀ k, x4 (ix2 0 k) = S k)
  (hN : ∀ d, x5 (ix2 0 d) * (((Real.sqrt 128)⁻¹ * (Real.log 2)⁻¹ : ℝ) : EReal) = N d) (hK : ∀ d, x6 (ix2 0 d) = K d)
  (hA : ∀ g p q, x7 (ix3 g p q) = A g p q) (hB : ∀ g p q, x8 (ix3 g p q) = B g p q)
  (hT : ∀ f k, xs (ix2 f k) = W k ⟨3328 + f.val, Nat.lt_of_lt_of_le (Nat.add_lt_add_left f.isLt 3328) (by decide)⟩)

include hX hG hW hS hA hB in
/-- The doubly gated branch. -/
theorem gya_at (R C : Fin 1024) :
    View.canon (Ran.gyaPieces arg15 arg16 arg17 arg18 (Ran.ldx arg1 harg1 x0) (Ran.ldg arg2 harg2 x1) (Ran.ldw arg3 harg3 x2) (Ran.ldg arg5 harg5 x4) (Ran.lds arg8 harg8 x7) (Ran.lds arg9 harg9 x8)) (ix2 R C) =
      InSpec.gya (fun q : Fin 128 => X ⟨128 * (R.val / 128) + q.val, by omega⟩) G W S (A ⟨C.val / 128, by omega⟩)
        (fun p => B ⟨C.val / 128, by omega⟩ p ⟨C.val % 128, by omega⟩) ⟨R.val % 128, by omega⟩ C :=
  Blocks.gya_canon arg15 arg16 arg17 arg18 (Ran.ldx arg1 harg1 x0) (Ran.ldg arg2 harg2 x1) (Ran.ldw arg3 harg3 x2) (Ran.ldg arg5 harg5 x4) (Ran.lds arg8 harg8 x7) (Ran.lds arg9 harg9 x8) X G W
    (fun r k => (ldx_at arg1 harg1 x0 r k).trans (hX r k)) (fun k => (ldg_at arg2 harg2 x1 k).trans (hG k)) (fun n k j => (ldw_at arg3 harg3 x2 n k j).trans (hW k _))
    S (fun k => (ldg_at arg5 harg5 x4 k).trans (hS k)) A B (fun g p q => (lds_at arg8 harg8 x7 g p q).trans (hA g p q)) (fun g p q => (lds_at arg9 harg9 x8 g p q).trans (hB g p q)) R C

include hX hG hW hN in
/-- The queries. -/
theorem q_at (R C : Fin 1024) :
    View.canon (Ran.qPieces arg15 (Ran.ldx arg1 harg1 x0) (Ran.ldg arg2 harg2 x1) (Ran.ldw arg3 harg3 x2) (Ran.ldn arg6 harg6 x5)) (ix2 R C) =
      InSpec.head (X R) G W (2048 + 128 * (C.val / 128)) (by omega) N ⟨C.val % 128, by omega⟩ :=
  Blocks.q_canon arg15 (Ran.ldx arg1 harg1 x0) (Ran.ldg arg2 harg2 x1) (Ran.ldw arg3 harg3 x2) X G W
    (fun r k => (ldx_at arg1 harg1 x0 r k).trans (hX r k)) (fun k => (ldg_at arg2 harg2 x1 k).trans (hG k)) (fun n k j => (ldw_at arg3 harg3 x2 n k j).trans (hW k _))
    (Ran.ldn arg6 harg6 x5) N (fun d => (Words.qg_at _ d).trans ((congrArg (· * (((Real.sqrt 128)⁻¹ * (Real.log 2)⁻¹ : ℝ) : EReal)) (ldn_at arg6 harg6 x5 d)).trans (hN d))) R C

include hX hG hW hK in
/-- The keys. -/
theorem k_at (R : Fin 1024) (C : Fin 256) :
    View.canon (Ran.kPieces arg15 (Ran.ldx arg1 harg1 x0) (Ran.ldg arg2 harg2 x1) (Ran.ldw arg3 harg3 x2) (Ran.ldn arg7 harg7 x6)) (ix2 R C) =
      InSpec.head (X R) G W (3072 + 128 * (C.val / 128)) (by omega) K ⟨C.val % 128, by omega⟩ :=
  Blocks.k_canon arg15 (Ran.ldx arg1 harg1 x0) (Ran.ldg arg2 harg2 x1) (Ran.ldw arg3 harg3 x2) X G W
    (fun r k => (ldx_at arg1 harg1 x0 r k).trans (hX r k)) (fun k => (ldg_at arg2 harg2 x1 k).trans (hG k)) (fun n k j => (ldw_at arg3 harg3 x2 n k j).trans (hW k _))
    (Ran.ldn arg7 harg7 x6) K (fun d => (ldn_at arg7 harg7 x6 d).trans (hK d)) R C

include hX hG hV in
/-- The values, transposed, at the first point. -/
theorem first_at (f : Fin 256) (R : Fin 1024) :
    View.canon (Ran.vtPieces arg15 (Ran.ldx arg1 harg1 x0) (Ran.ldg arg2 harg2 x1) (Ran.ldt0 arg19 (Ran.ldv arg4 harg4 x3))) (ix2 f R) =
      InSpec.z (X R) G W ⟨3328 + f.val, by omega⟩ :=
  Blocks.vt_canon arg15 (Ran.ldx arg1 harg1 x0) (Ran.ldg arg2 harg2 x1) X G W
    (fun r k => (ldx_at arg1 harg1 x0 r k).trans (hX r k)) (fun k => (ldg_at arg2 harg2 x1 k).trans (hG k))
    (Ran.ldt0 arg19 (Ran.ldv arg4 harg4 x3)) (fun f k => (ldt0_at arg19 _ f k).trans ((ldv_at arg4 harg4 x3 k f).trans (hV k f))) f R

include hX hG hW in
/-- The second gate. -/
theorem gb_at (R C : Fin 1024) :
    View.canon (Ran.gbPieces arg15 (Ran.ldx arg1 harg1 x0) (Ran.ldg arg2 harg2 x1) (Ran.ldw arg3 harg3 x2)) (ix2 R C) =
      InSpec.sig (InSpec.z (X R) G W ⟨4608 + C.val, by omega⟩) :=
  Blocks.gb_canon arg15 (Ran.ldx arg1 harg1 x0) (Ran.ldg arg2 harg2 x1) (Ran.ldw arg3 harg3 x2) X G W
    (fun r k => (ldx_at arg1 harg1 x0 r k).trans (hX r k)) (fun k => (ldg_at arg2 harg2 x1 k).trans (hG k)) (fun n k j => (ldw_at arg3 harg3 x2 n k j).trans (hW k _)) R C

include hX hG hT in
/-- The values, transposed, at a later point. -/
theorem later_at (f : Fin 256) (R : Fin 1024) :
    View.canon (Ran.vtPieces arg15 (Ran.ldx arg1 harg1 x0) (Ran.ldg arg2 harg2 x1) (Ran.ldt arg19 harg19 xs)) (ix2 f R) =
      InSpec.z (X R) G W ⟨3328 + f.val, by omega⟩ :=
  Blocks.vt_canon arg15 (Ran.ldx arg1 harg1 x0) (Ran.ldg arg2 harg2 x1) X G W
    (fun r k => (ldx_at arg1 harg1 x0 r k).trans (hX r k)) (fun k => (ldg_at arg2 harg2 x1 k).trans (hG k))
    (Ran.ldt arg19 harg19 xs) (fun f k => (ldt_at arg19 harg19 xs f k).trans (hT f k)) f R

include hV in
/-- The weights carried on. -/
theorem carried_at (f : Fin 256) (k : Fin 1024) :
    View.canon (Ran.wtPieces (Ran.ldv arg4 harg4 x3)) (ix2 f k) = W k ⟨3328 + f.val, by omega⟩ :=
  (wt_canon _ f k).trans ((ldv_at arg4 harg4 x3 k f).trans (hV k f))

end Cert.Kernel2Ideal.Point

end
-- ==== Proof.InRun.lean ====
/- What the prompt's program stores in its five outputs and the buffer it carries between points is what InRan.lean describes. -/
module

public import proofs.«01_k».proof.Proof.InRan
public import proofs.«01_k».proof.Proof.Gen.Kernel2Ideal.Frame

@[expose] public section

set_option maxRecDepth 16384

noncomputable section

namespace Cert.Kernel2Ideal.Run

open Cert.Kernel2Ideal Cert.Kernel2Ideal.Gen Idealize.ShloMosaic Idealize.ShloMosaic.TcCoe Idealize.ShloMosaic.Tactic Idealize.SL.Sem

variable {F : FTy → Type} [FloatOps F] [Named F]

variable (c : Dev nD) (i : grid0.Coords)
  (arg1 : Memref sig .tc .vmem S1024x1024 .f32) (harg1 : arg1.IsWhole)
  (arg2 : Memref sig .tc .vmem S1x1024 .f32) (harg2 : arg2.IsWhole)
  (arg3 : Memref sig .tc .vmem S1024x5632 .bf16) (harg3 : arg3.IsWhole)
  (arg4 : Memref sig .tc .vmem S1x1024x256 .f32) (harg4 : arg4.IsWhole)
  (arg5 : Memref sig .tc .vmem S1x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S8x128x128 .bf16) (harg8 : arg8.IsWhole)
  (arg9 : Memref sig .tc .vmem S8x128x128 .f32) (harg9 : arg9.IsWhole)
  (arg10 : Memref sig .tc .vmem S1024x1024 .bf16) (harg10 : arg10.IsWhole)
  (arg11 : Memref sig .tc .vmem S1024x1024 .bf16) (harg11 : arg11.IsWhole)
  (arg12 : Memref sig .tc .vmem S1024x256 .bf16) (harg12 : arg12.IsWhole)
  (arg13 : Memref sig .tc .vmem S256x1024 .bf16) (harg13 : arg13.IsWhole)
  (arg14 : Memref sig .tc .vmem S1024x1024 .bf16) (harg14 : arg14.IsWhole)
  (arg15 : Memref sig .tc .vmem S1024x1024 .bf16) (harg15 : arg15.IsWhole)
  (arg16 : Memref sig .tc .vmem S1024x1024 .f32) (harg16 : arg16.IsWhole)
  (arg17 : Memref sig .tc .vmem S1024x1024 .bf16) (harg17 : arg17.IsWhole)
  (arg18 : Memref sig .tc .vmem S1024x1024 .bf16) (harg18 : arg18.IsWhole)
  (arg19 : Memref sig .tc .vmem S256x1024 .bf16) (harg19 : arg19.IsWhole)
  (x0 : Vec F S1024x1024 .f32)
  (x1 : Vec F S1x1024 .f32)
  (x2 : Vec F S1024x5632 .bf16)
  (x3 : Vec F S1x1024x256 .f32)
  (x4 : Vec F S1x1024 .f32)
  (x5 : Vec F S1x128 .f32)
  (x6 : Vec F S1x128 .f32)
  (x7 : Vec F S8x128x128 .bf16)
  (x8 : Vec F S8x128x128 .f32)

/-- The doubly gated branch, at the first point. -/
theorem outA9 (hc : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Ran.gyaPieces arg15 arg16 arg17 arg18 (Ran.ldx arg1 harg1 x0) (Ran.ldg arg2 harg2 x1) (Ran.ldw arg3 harg3 x2) (Ran.ldg arg5 harg5 x4) (Ran.lds arg8 harg8 x7) (Ran.lds arg9 harg9 x8)) := by
  unfold out0_A_9
  rw [View.read_writes_junk_eq_canon]
  exact congrArg View.canon (by sl_kernel_rfl)

/-- The queries, at the first point. -/
theorem outA10 (hc : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Ran.qPieces arg15 (Ran.ldx arg1 harg1 x0) (Ran.ldg arg2 harg2 x1) (Ran.ldw arg3 harg3 x2) (Ran.ldn arg6 harg6 x5)) := by
  unfold out0_A_10
  rw [View.read_writes_junk_eq_canon]
  exact congrArg View.canon (by sl_kernel_rfl)

/-- The keys, at the first point. -/
theorem outA11 (hc : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Ran.kPieces arg15 (Ran.ldx arg1 harg1 x0) (Ran.ldg arg2 harg2 x1) (Ran.ldw arg3 harg3 x2) (Ran.ldn arg7 harg7 x6)) := by
  unfold out0_A_11
  rw [View.read_writes_junk_eq_canon]
  exact congrArg View.canon (by sl_kernel_rfl)

/-- The values, at the first point. -/
theorem outA12 (hc : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Ran.vtPieces arg15 (Ran.ldx arg1 harg1 x0) (Ran.ldg arg2 harg2 x1) (Ran.ldt0 arg19 (Ran.ldv arg4 harg4 x3))) := by
  unfold out0_A_12
  rw [View.read_writes_junk_eq_canon]
  exact congrArg View.canon (by sl_kernel_rfl)

/-- The second gate, at the first point. -/
theorem outA13 (hc : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Ran.gbPieces arg15 (Ran.ldx arg1 harg1 x0) (Ran.ldg arg2 harg2 x1) (Ran.ldw arg3 harg3 x2)) := by
  unfold out0_A_13
  rw [View.read_writes_junk_eq_canon]
  exact congrArg View.canon (by sl_kernel_rfl)

/-- The weights carried on, at the first point. -/
theorem outAT (hc : cond0_0 i) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Ran.wtPieces (Ran.ldv arg4 harg4 x3)) := by
  unfold sout0_A_4
  rw [View.read_writes_junk_eq_canon]
  exact congrArg View.canon (by sl_kernel_rfl)

/-- The doubly gated branch, at a later point. -/
theorem outB9 (hc : ¬cond0_0 i) (xs : Vec F S256x1024 .bf16) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Ran.gyaPieces arg15 arg16 arg17 arg18 (Ran.ldx arg1 harg1 x0) (Ran.ldg arg2 harg2 x1) (Ran.ldw arg3 harg3 x2) (Ran.ldg arg5 harg5 x4) (Ran.lds arg8 harg8 x7) (Ran.lds arg9 harg9 x8)) := by
  unfold out0_B_9
  rw [View.read_writes_junk_eq_canon]
  exact congrArg View.canon (by sl_kernel_rfl)

/-- The queries, at a later point. -/
theorem outB10 (hc : ¬cond0_0 i) (xs : Vec F S256x1024 .bf16) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Ran.qPieces arg15 (Ran.ldx arg1 harg1 x0) (Ran.ldg arg2 harg2 x1) (Ran.ldw arg3 harg3 x2) (Ran.ldn arg6 harg6 x5)) := by
  unfold out0_B_10
  rw [View.read_writes_junk_eq_canon]
  exact congrArg View.canon (by sl_kernel_rfl)

/-- The keys, at a later point. -/
theorem outB11 (hc : ¬cond0_0 i) (xs : Vec F S256x1024 .bf16) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Ran.kPieces arg15 (Ran.ldx arg1 harg1 x0) (Ran.ldg arg2 harg2 x1) (Ran.ldw arg3 harg3 x2) (Ran.ldn arg7 harg7 x6)) := by
  unfold out0_B_11
  rw [View.read_writes_junk_eq_canon]
  exact congrArg View.canon (by sl_kernel_rfl)

/-- The values, at a later point. -/
theorem outB12 (hc : ¬cond0_0 i) (xs : Vec F S256x1024 .bf16) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Ran.vtPieces arg15 (Ran.ldx arg1 harg1 x0) (Ran.ldg arg2 harg2 x1) (Ran.ldt arg19 harg19 xs)) := by
  unfold out0_B_12
  rw [View.read_writes_junk_eq_canon]
  exact congrArg View.canon (by sl_kernel_rfl)

/-- The second gate, at a later point. -/
theorem outB13 (hc : ¬cond0_0 i) (xs : Vec F S256x1024 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Ran.gbPieces arg15 (Ran.ldx arg1 harg1 x0) (Ran.ldg arg2 harg2 x1) (Ran.ldw arg3 harg3 x2)) := by
  unfold out0_B_13
  rw [View.read_writes_junk_eq_canon]
  exact congrArg View.canon (by sl_kernel_rfl)

end Cert.Kernel2Ideal.Run

end
-- ==== Proof.InHost.lean ====
/- The arrays the host prepares for the input projection, at an index. -/
module

public import proofs.«01_k».proof.Proof.Gen.Kernel2Ideal.Frame
public import proofs.«01_k».proof.Proof.Consts
public import Idealize.ShloMosaic.Lib.StableHlo.ReadAt
public import Idealize.ShloMosaic.Lib.Pointwise

@[expose] public section

set_option maxRecDepth 16384

noncomputable section

namespace Cert.Kernel2Ideal.Host

open Cert.Kernel2Ideal Cert.Kernel2Ideal.Gen Idealize.ShloMosaic Idealize.ShloMosaic.TcCoe Idealize.SL.Sem

variable (U : Valuation τ sig (Elt Ideal))

/-- The rows of all batches. -/
theorem v20_at (R : Fin 32768) (j : Fin 1024) :
    (show Vec Ideal S32768x1024 .f32 from StableHlo.after hostOps0 U (Proc.devRef .tc main_v20)) (ix2 R j) =
      (show Vec Ideal S8x4096x1024 .f32 from U (Proc.devRef .tc main_arg0)) (ix3 ⟨R.val / 4096, by omega⟩ ⟨R.val % 4096, by omega⟩ j) := by
  dsimp only
  after_reads_at

/-- The first norm's gains. -/
theorem v1_at (k : Fin 1024) :
    (show Vec Ideal S1x1024 .f32 from StableHlo.after hostOps0 U (Proc.devRef .tc main_v1)) (ix2 0 k) =
      (show Vec Ideal S1x1024 .f32 from U (Proc.devRef .tc main_arg1)) (ix2 0 k) := by
  dsimp only
  after_reads_at

/-- The weights. -/
theorem v14_at (k : Fin 1024) (j : Fin 5632) :
    (show Vec Ideal S1024x5632 .bf16 from StableHlo.after hostOps0 U (Proc.devRef .tc main_v14)) (ix2 k j) =
      (show Vec Ideal S1x1024x5632 .f32 from U (Proc.devRef .tc main_arg2)) (ix3 0 k j) := by
  dsimp only
  after_reads_at

/-- The gating norm's gains. -/
theorem v3_at (k : Fin 1024) :
    (show Vec Ideal S1x1024 .f32 from StableHlo.after hostOps0 U (Proc.devRef .tc main_v3)) (ix2 0 k) =
      (show Vec Ideal S1x1024 .f32 from U (Proc.devRef .tc main_arg3)) (ix2 0 k) := by
  dsimp only
  after_reads_at

/-- The queries' gains, scaled. -/
theorem v10_at (d : Fin 128) :
    (show Vec Ideal S1x128 .f32 from StableHlo.after hostOps0 U (Proc.devRef .tc main_v10)) (ix2 0 d) =
      (show Vec Ideal S1x128 .f32 from U (Proc.devRef .tc main_arg6)) (ix2 0 d) * (Ideal.sqrt ((128 : ℝ) : EReal) * Ideal.log ((2 : ℝ) : EReal)) := by
  dsimp only
  after_reads_at
  rw [Consts.ofBits_128, Consts.ofBits_2]

/-- The keys' gains. -/
theorem v12_at (d : Fin 128) :
    (show Vec Ideal S1x128 .f32 from StableHlo.after hostOps0 U (Proc.devRef .tc main_v12)) (ix2 0 d) =
      (show Vec Ideal S1x128 .f32 from U (Proc.devRef .tc main_arg7)) (ix2 0 d) := by
  dsimp only
  after_reads_at

/-- The mixing matrices. -/
theorem v16_at (g : Fin 8) (p q : Fin 128) :
    (show Vec Ideal S8x128x128 .bf16 from StableHlo.after hostOps0 U (Proc.devRef .tc main_v16)) (ix3 g p q) =
      (show Vec Ideal S1x8x128x128 .f32 from U (Proc.devRef .tc main_arg4)) (ix4 0 g p q) := by
  dsimp only
  after_reads_at

/-- Their biases, the same for every channel of a group. -/
theorem v19_at (g : Fin 8) (p q : Fin 128) :
    (show Vec Ideal S8x128x128 .f32 from StableHlo.after hostOps0 U (Proc.devRef .tc main_v19)) (ix3 g p q) =
      (show Vec Ideal S1x8x128 .f32 from U (Proc.devRef .tc main_arg5)) (ix3 0 g p) := by
  dsimp only
  after_reads_at

end Cert.Kernel2Ideal.Host

end
-- ==== Proof.InRegions.lean ====
/- The input projection's windows: what a point's input blocks hold of the arguments, and where its output blocks go. -/
module

public import proofs.«01_k».proof.Proof.Gen.Kernel2Ideal.Value
public import proofs.«01_k».proof.Proof.InHost
public import proofs.«01_k».proof.Proof.InSpec
public import Idealize.ShloMosaic.Lib.Pipeline.Value

@[expose] public section

set_option maxRecDepth 16384

noncomputable section

namespace Cert.Kernel2Ideal.Regions

open Cert.Kernel2Ideal Cert.Kernel2Ideal.Gen Idealize.ShloMosaic Idealize.ShloMosaic.TcCoe Idealize.SL.Sem
open Idealize.ShloMosaic.Pipeline (Window Dat)

/-- A grid point's coordinate is its number. -/
theorem cur : ∀ t : Fin grid0.N, (BitVec.ofNat 32 (grid0.coords t 0).val).toNat = t.val := by decide +kernel

theorem read2 {α : Type} {P C : Nat} (X : (⟨2, ![P, C]⟩ : Shape).Idx → α) (y : (⟨2, ![P, C]⟩ : Shape).Idx) (R : Fin P) (S : Fin C) (h0 : (y 0).val = R.val) (h1 : (y 1).val = S.val) : X y = X (ix2 R S) := by
  congr 1
  funext a
  fin_cases a
  · exact Fin.ext h0
  · exact Fin.ext h1

theorem read3 {α : Type} {A P C : Nat} (X : (⟨3, ![A, P, C]⟩ : Shape).Idx → α) (y : (⟨3, ![A, P, C]⟩ : Shape).Idx) (a : Fin A) (R : Fin P) (S : Fin C)
    (h0 : (y 0).val = a.val) (h1 : (y 1).val = R.val) (h2 : (y 2).val = S.val) : X y = X (ix3 a R S) := by
  congr 1
  funext k
  fin_cases k
  · exact Fin.ext h0
  · exact Fin.ext h1
  · exact Fin.ext h2

variable (m : (ℓ : Loc nD τ sig) → Buf (Elt Ideal) ℓ) (c : Dev nD) (t : Fin 32)

/-! The arguments as launched. -/

abbrev X : Vec Ideal S8x4096x1024 .f32 := m ((c.tc : Thread nD τ).loc main_arg0)
abbrev g1 : Vec Ideal S1x1024 .f32 := m ((c.tc : Thread nD τ).loc main_arg1)
abbrev w : Vec Ideal S1x1024x5632 .f32 := m ((c.tc : Thread nD τ).loc main_arg2)
abbrev sg : Vec Ideal S1x1024 .f32 := m ((c.tc : Thread nD τ).loc main_arg3)
abbrev ws : Vec Ideal S1x8x128x128 .f32 := m ((c.tc : Thread nD τ).loc main_arg4)
abbrev bs : Vec Ideal S1x8x128 .f32 := m ((c.tc : Thread nD τ).loc main_arg5)
abbrev qn : Vec Ideal S1x128 .f32 := m ((c.tc : Thread nD τ).loc main_arg6)
abbrev kn : Vec Ideal S1x128 .f32 := m ((c.tc : Thread nD τ).loc main_arg7)

/-- A row of a point's block among all batches' rows. -/
def rowOf (r : Fin 1024) : Fin 32768 := ⟨1024 * t.val + r.val, by omega⟩

/-- A row of the input, by its number among all batches' rows. -/
def line (R : Fin 32768) (k : Fin 1024) : EReal := X m c (ix3 ⟨R.val / 4096, by omega⟩ ⟨R.val % 4096, by omega⟩ k)

/-! ## What a point reads -/

theorem in0 (r k : Fin 1024) : (show Vec Ideal S1024x1024 .f32 from iblk m c 0 t) (ix2 r k) = line m c (rowOf t r) k :=
  (read2 (show Vec Ideal S32768x1024 .f32 from V m c main_v20) ((win0_0.rect t).emb (ix2 r k)) (rowOf t r) k
    ((Window.rect_emb_val win0_0 t (ix2 r k) 0).trans (by show (BitVec.ofNat 32 (grid0.coords t 0).val).toNat * 1024 + r.val = 1024 * t.val + r.val; exact (congrArg (fun z => z * 1024 + r.val) (cur t)).trans (by omega)))
    ((Window.rect_emb_val win0_0 t (ix2 r k) 1).trans (by show 0 * 1024 + k.val = k.val; omega))).trans
  (Host.v20_at (fun b => m (c, b)) (rowOf t r) k)

theorem in1 (k : Fin 1024) : (show Vec Ideal S1x1024 .f32 from iblk m c 1 t) (ix2 0 k) = g1 m c (ix2 0 k) :=
  (read2 (show Vec Ideal S1x1024 .f32 from V m c main_v1) ((win0_1.rect t).emb (ix2 0 k)) 0 k
    ((Window.rect_emb_val win0_1 t (ix2 0 k) 0).trans rfl) ((Window.rect_emb_val win0_1 t (ix2 0 k) 1).trans (by show 0 * 1024 + k.val = k.val; omega))).trans
  (Host.v1_at (fun b => m (c, b)) k)

theorem in2 (k : Fin 1024) (j : Fin 5632) : (show Vec Ideal S1024x5632 .bf16 from iblk m c 2 t) (ix2 k j) = w m c (ix3 0 k j) :=
  (read2 (show Vec Ideal S1024x5632 .bf16 from V m c main_v14) ((win0_2.rect t).emb (ix2 k j)) k j
    ((Window.rect_emb_val win0_2 t (ix2 k j) 0).trans (by show 0 * 1024 + k.val = k.val; omega)) ((Window.rect_emb_val win0_2 t (ix2 k j) 1).trans (by show 0 * 5632 + j.val = j.val; omega))).trans
  (Host.v14_at (fun b => m (c, b)) k j)

theorem in3 (k : Fin 1024) (f : Fin 256) : (show Vec Ideal S1x1024x256 .f32 from iblk m c 3 t) (ix3 0 k f) = w m c (ix3 0 k ⟨3328 + f.val, by omega⟩) :=
  (read3 (show Vec Ideal S1x1024x5632 .f32 from V m c main_arg2) ((win0_3.rect t).emb (ix3 0 k f)) 0 k ⟨3328 + f.val, by omega⟩
    ((Window.rect_emb_val win0_3 t (ix3 0 k f) 0).trans rfl) ((Window.rect_emb_val win0_3 t (ix3 0 k f) 1).trans (by show 0 * 1024 + k.val = k.val; omega))
    ((Window.rect_emb_val win0_3 t (ix3 0 k f) 2).trans (by show 13 * 256 + f.val = 3328 + f.val; omega))).trans
  (congrFun (V_main_arg2 m c) _)

theorem in4 (k : Fin 1024) : (show Vec Ideal S1x1024 .f32 from iblk m c 4 t) (ix2 0 k) = sg m c (ix2 0 k) :=
  (read2 (show Vec Ideal S1x1024 .f32 from V m c main_v3) ((win0_4.rect t).emb (ix2 0 k)) 0 k
    ((Window.rect_emb_val win0_4 t (ix2 0 k) 0).trans rfl) ((Window.rect_emb_val win0_4 t (ix2 0 k) 1).trans (by show 0 * 1024 + k.val = k.val; omega))).trans
  (Host.v3_at (fun b => m (c, b)) k)

/-- The host's factor on the queries' gains and the kernel's cancel. -/
theorem q_factor (g : EReal) : g * (Ideal.sqrt ((128 : ℝ) : EReal) * Ideal.log ((2 : ℝ) : EReal)) * (((Real.sqrt 128)⁻¹ * (Real.log 2)⁻¹ : ℝ) : EReal) = g := by
  have hs : Real.sqrt 128 ≠ 0 := (Real.sqrt_pos.2 (by norm_num)).ne'
  rw [Ideal.sqrt_coe, Ideal.log_coe, if_neg (by norm_num), if_neg (by norm_num), ← EReal.coe_mul, mul_assoc, ← EReal.coe_mul]
  have : Real.sqrt 128 * Real.log 2 * ((Real.sqrt 128)⁻¹ * (Real.log 2)⁻¹) = 1 := by
    have := InSpec.log2_ne
    field_simp
  rw [this, EReal.coe_one, mul_one]

theorem in5 (d : Fin 128) : (show Vec Ideal S1x128 .f32 from iblk m c 5 t) (ix2 0 d) * (((Real.sqrt 128)⁻¹ * (Real.log 2)⁻¹ : ℝ) : EReal) = qn m c (ix2 0 d) :=
  (congrArg (· * (((Real.sqrt 128)⁻¹ * (Real.log 2)⁻¹ : ℝ) : EReal)) ((read2 (show Vec Ideal S1x128 .f32 from V m c main_v10) ((win0_5.rect t).emb (ix2 0 d)) 0 d
    ((Window.rect_emb_val win0_5 t (ix2 0 d) 0).trans rfl) ((Window.rect_emb_val win0_5 t (ix2 0 d) 1).trans (by show 0 * 128 + d.val = d.val; omega))).trans
  (Host.v10_at (fun b => m (c, b)) d))).trans (q_factor _)

theorem in6 (d : Fin 128) : (show Vec Ideal S1x128 .f32 from iblk m c 6 t) (ix2 0 d) = kn m c (ix2 0 d) :=
  (read2 (show Vec Ideal S1x128 .f32 from V m c main_v12) ((win0_6.rect t).emb (ix2 0 d)) 0 d
    ((Window.rect_emb_val win0_6 t (ix2 0 d) 0).trans rfl) ((Window.rect_emb_val win0_6 t (ix2 0 d) 1).trans (by show 0 * 128 + d.val = d.val; omega))).trans
  (Host.v12_at (fun b => m (c, b)) d)

theorem in7 (g : Fin 8) (p q : Fin 128) : (show Vec Ideal S8x128x128 .bf16 from iblk m c 7 t) (ix3 g p q) = ws m c (ix4 0 g p q) :=
  (read3 (show Vec Ideal S8x128x128 .bf16 from V m c main_v16) ((win0_7.rect t).emb (ix3 g p q)) g p q
    ((Window.rect_emb_val win0_7 t (ix3 g p q) 0).trans (by show 0 * 8 + g.val = g.val; omega)) ((Window.rect_emb_val win0_7 t (ix3 g p q) 1).trans (by show 0 * 128 + p.val = p.val; omega))
    ((Window.rect_emb_val win0_7 t (ix3 g p q) 2).trans (by show 0 * 128 + q.val = q.val; omega))).trans
  (Host.v16_at (fun b => m (c, b)) g p q)

theorem in8 (g : Fin 8) (p q : Fin 128) : (show Vec Ideal S8x128x128 .f32 from iblk m c 8 t) (ix3 g p q) = bs m c (ix3 0 g p) :=
  (read3 (show Vec Ideal S8x128x128 .f32 from V m c main_v19) ((win0_8.rect t).emb (ix3 g p q)) g p q
    ((Window.rect_emb_val win0_8 t (ix3 g p q) 0).trans (by show 0 * 8 + g.val = g.val; omega)) ((Window.rect_emb_val win0_8 t (ix3 g p q) 1).trans (by show 0 * 128 + p.val = p.val; omega))
    ((Window.rect_emb_val win0_8 t (ix3 g p q) 2).trans (by show 0 * 128 + q.val = q.val; omega))).trans
  (Host.v19_at (fun b => m (c, b)) g p q)

/-! ## Where a point writes -/

theorem flush9 : ∀ t : Fin grid0.N, win0_9.flush t = true := by decide +kernel
theorem flush10 : ∀ t : Fin grid0.N, win0_10.flush t = true := by decide +kernel
theorem flush11 : ∀ t : Fin grid0.N, win0_11.flush t = true := by decide +kernel
theorem flush12 : ∀ t : Fin grid0.N, win0_12.flush t = true := by decide +kernel
theorem flush13 : ∀ t : Fin grid0.N, win0_13.flush t = true := by decide +kernel

theorem arr9 (r : Fin 1024) (j : Fin 1024) :
    (show Vec Ideal S32768x1024 .bf16 from (dats m 0 c).arrAt 9 cfg0.N) (ix2 (rowOf t r) j) = (outsAt0 m c t.val t.isLt).1 (ix2 r j) := by
  have h := (Value.blocks9 m c t (flush9 t)).trans (Value.flushed9 m c t)
  generalize (dats m 0 c).arrAt 9 cfg0.N = A at h
  generalize (outsAt0 m c t.val t.isLt).1 = O at h
  refine (read2 (show Vec Ideal S32768x1024 .bf16 from A) ((win0_9.rect t).emb (ix2 r j)) (rowOf t r) j
    ((Window.rect_emb_val win0_9 t (ix2 r j) 0).trans (by show (BitVec.ofNat 32 (grid0.coords t 0).val).toNat * 1024 + r.val = 1024 * t.val + r.val; exact (congrArg (fun z => z * 1024 + r.val) (cur t)).trans (by omega)))
    ((Window.rect_emb_val win0_9 t (ix2 r j) 1).trans (by show 0 * 1024 + j.val = j.val; omega))).symm.trans ?_
  exact congrFun h (ix2 r j)

theorem arr10 (r : Fin 1024) (j : Fin 1024) :
    (show Vec Ideal S32768x1024 .bf16 from (dats m 0 c).arrAt 10 cfg0.N) (ix2 (rowOf t r) j) = (outsAt0 m c t.val t.isLt).2.1 (ix2 r j) := by
  have h := (Value.blocks10 m c t (flush10 t)).trans (Value.flushed10 m c t)
  generalize (dats m 0 c).arrAt 10 cfg0.N = A at h
  generalize (outsAt0 m c t.val t.isLt).2.1 = O at h
  refine (read2 (show Vec Ideal S32768x1024 .bf16 from A) ((win0_10.rect t).emb (ix2 r j)) (rowOf t r) j
    ((Window.rect_emb_val win0_10 t (ix2 r j) 0).trans (by show (BitVec.ofNat 32 (grid0.coords t 0).val).toNat * 1024 + r.val = 1024 * t.val + r.val; exact (congrArg (fun z => z * 1024 + r.val) (cur t)).trans (by omega)))
    ((Window.rect_emb_val win0_10 t (ix2 r j) 1).trans (by show 0 * 1024 + j.val = j.val; omega))).symm.trans ?_
  exact congrFun h (ix2 r j)

theorem arr11 (r : Fin 1024) (j : Fin 256) :
    (show Vec Ideal S32768x256 .bf16 from (dats m 0 c).arrAt 11 cfg0.N) (ix2 (rowOf t r) j) = (outsAt0 m c t.val t.isLt).2.2.1 (ix2 r j) := by
  have h := (Value.blocks11 m c t (flush11 t)).trans (Value.flushed11 m c t)
  generalize (dats m 0 c).arrAt 11 cfg0.N = A at h
  generalize (outsAt0 m c t.val t.isLt).2.2.1 = O at h
  refine (read2 (show Vec Ideal S32768x256 .bf16 from A) ((win0_11.rect t).emb (ix2 r j)) (rowOf t r) j
    ((Window.rect_emb_val win0_11 t (ix2 r j) 0).trans (by show (BitVec.ofNat 32 (grid0.coords t 0).val).toNat * 1024 + r.val = 1024 * t.val + r.val; exact (congrArg (fun z => z * 1024 + r.val) (cur t)).trans (by omega)))
    ((Window.rect_emb_val win0_11 t (ix2 r j) 1).trans (by show 0 * 256 + j.val = j.val; omega))).symm.trans ?_
  exact congrFun h (ix2 r j)

theorem arr12 (r : Fin 1024) (j : Fin 256) :
    (show Vec Ideal S256x32768 .bf16 from (dats m 0 c).arrAt 12 cfg0.N) (ix2 j (rowOf t r)) = (outsAt0 m c t.val t.isLt).2.2.2.1 (ix2 j r) := by
  have h := (Value.blocks12 m c t (flush12 t)).trans (Value.flushed12 m c t)
  generalize (dats m 0 c).arrAt 12 cfg0.N = A at h
  generalize (outsAt0 m c t.val t.isLt).2.2.2.1 = O at h
  refine (read2 (show Vec Ideal S256x32768 .bf16 from A) ((win0_12.rect t).emb (ix2 j r)) j (rowOf t r)
    ((Window.rect_emb_val win0_12 t (ix2 j r) 0).trans (by show 0 * 256 + j.val = j.val; omega))
    ((Window.rect_emb_val win0_12 t (ix2 j r) 1).trans (by show (BitVec.ofNat 32 (grid0.coords t 0).val).toNat * 1024 + r.val = 1024 * t.val + r.val; exact (congrArg (fun z => z * 1024 + r.val) (cur t)).trans (by omega)))).symm.trans ?_
  exact congrFun h (ix2 j r)

theorem arr13 (r : Fin 1024) (j : Fin 1024) :
    (show Vec Ideal S32768x1024 .bf16 from (dats m 0 c).arrAt 13 cfg0.N) (ix2 (rowOf t r) j) = (outsAt0 m c t.val t.isLt).2.2.2.2.1 (ix2 r j) := by
  have h := (Value.blocks13 m c t (flush13 t)).trans (Value.flushed13 m c t)
  generalize (dats m 0 c).arrAt 13 cfg0.N = A at h
  generalize (outsAt0 m c t.val t.isLt).2.2.2.2.1 = O at h
  refine (read2 (show Vec Ideal S32768x1024 .bf16 from A) ((win0_13.rect t).emb (ix2 r j)) (rowOf t r) j
    ((Window.rect_emb_val win0_13 t (ix2 r j) 0).trans (by show (BitVec.ofNat 32 (grid0.coords t 0).val).toNat * 1024 + r.val = 1024 * t.val + r.val; exact (congrArg (fun z => z * 1024 + r.val) (cur t)).trans (by omega)))
    ((Window.rect_emb_val win0_13 t (ix2 r j) 1).trans (by show 0 * 1024 + j.val = j.val; omega))).symm.trans ?_
  exact congrFun h (ix2 r j)

end Cert.Kernel2Ideal.Regions

end
-- ==== Proof.InRef.lean ====
/- The input projection's reference at an index: the normed row, its projection, and the queries and keys. -/
module

public import proofs.«01_k».proof.Proof.Gen.Reference2Ideal.Read
public import proofs.«01_k».proof.Proof.InSpec
public import Idealize.ShloMosaic.Lib.Pointwise

@[expose] public section

noncomputable section

namespace Cert.Reference2Ideal.Ref

open Cert.Reference2Ideal Cert.Reference2Ideal.Gen Cert.Reference2Ideal.Read Idealize.ShloMosaic Idealize.ShloMosaic.TcCoe Idealize.SL.Sem

variable (X : Vec Ideal S8x4096x1024 .f32) (g1 : Vec Ideal S1x1024 .f32) (w : Vec Ideal S1x1024x5632 .f32) (sg : Vec Ideal S1x1024 .f32)
  (ws : Vec Ideal S1x8x128x128 .f32) (bs : Vec Ideal S1x8x128 .f32) (qn kn : Vec Ideal S1x128 .f32)

/-! The arguments as the mathematics takes them. -/

/-- A row of the input. -/
def row (b : Fin 8) (s : Fin 4096) (k : Fin 1024) : EReal := X (ix3 b s k)

/-- Gains. -/
def gain {n : Nat} (g : (⟨2, ![1, n]⟩ : Shape).Idx → EReal) (k : Fin n) : EReal := g (ix2 0 k)

/-- The projection. -/
def proj (k : Fin 1024) (j : Fin 5632) : EReal := w (ix3 0 k j)

/-- A group's mixing matrix, and its biases. -/
def mat (g : Fin 8) (p q : Fin 128) : EReal := ws (ix4 0 g p q)
@[inherit_doc mat] def bias (g : Fin 8) (p : Fin 128) : EReal := bs (ix3 0 g p)

/-- The gains spread over the rows. -/
theorem v12_at (b : Fin 8) (s : Fin 4096) (k : Fin 1024) : val_main_v12 (F := Ideal) g1 (ix3 b s k) = gain g1 k := by
  rw [val_main_v12_apply, val_main_v11_apply, val_main_v0_apply]
  refine congrArg g1 ?_
  funext a
  apply Fin.ext
  fin_cases a
  · rfl
  · exact Nat.mod_eq_of_lt k.isLt

/-- The normed row. -/
theorem v13_at (b : Fin 8) (s : Fin 4096) (k : Fin 1024) :
    val_main_v13 (F := Ideal) X g1 (ix3 b s k) = InSpec.norm InSpec.wide (row X b s) (gain g1) k := by
  rw [val_main_v13_apply, v12_at, val_main_v10_apply, val_main_v9_apply, val_main_v8_apply, val_main_v7_apply, val_main_v6_apply, val_main_v5_apply, val_main_v4_apply,
    val_main_v3_apply, val_main_v2_apply]
  refine congrArg (fun z => X (ix3 b s k) * Ideal.rsqrt (Ideal.div z InSpec.wide + Ideal.ofBits .f32 0x358637BD#32) * gain g1 k) ?_
  refine (congrArg₂ (· + ·) Ideal.ofBits_zero_f32 (Finset.sum_congr rfl fun l _ => ?_)).trans (zero_add _)
  have e : idx_main_v2 (idx_main_v3 (idx_main_v9 (ix3 b s k))) l = ix3 b s l := by
    funext a
    fin_cases a <;> rfl
  rw [val_main_v1_apply, e]
  rfl

/-- Its projection to a column. -/
theorem v15_at (b : Fin 8) (s : Fin 4096) (j : Fin 5632) :
    val_main_v15 (F := Ideal) X g1 w (ix3 b s j) = InSpec.z (row X b s) (gain g1) (proj w) j := by
  rw [val_main_v15_apply]
  refine Finset.sum_congr rfl fun k _ => ?_
  have e : lidx_main_v15 (ix3 b s j) k = ix3 b s k := by
    funext a
    fin_cases a <;> rfl
  rw [e, v13_at, val_main_v14_apply]
  refine congrArg (fun y => InSpec.norm InSpec.wide (row X b s) (gain g1) k * w y) ?_
  funext a
  apply Fin.ext
  fin_cases a
  · rfl
  · show (k.val * 5632 + j.val) / 5632 % 1024 = k.val
    omega
  · show (k.val * 5632 + j.val) % 5632 = j.val
    omega

theorem v16_at (b : Fin 8) (s : Fin 4096) (j : Fin 1024) :
    val_main_v16 (F := Ideal) X g1 w (ix3 b s j) = InSpec.z (row X b s) (gain g1) (proj w) ⟨j.val, by omega⟩ := by
  rw [val_main_v16_apply, ← v15_at]
  refine congrArg _ ?_
  funext a
  fin_cases a <;> rfl

theorem v17_at (b : Fin 8) (s : Fin 4096) (j : Fin 1024) :
    val_main_v17 (F := Ideal) X g1 w (ix3 b s j) = InSpec.z (row X b s) (gain g1) (proj w) ⟨1024 + j.val, by omega⟩ := by
  rw [val_main_v17_apply, ← v15_at]
  refine congrArg _ ?_
  funext a
  fin_cases a <;> rfl

theorem v18_at (b : Fin 8) (s : Fin 4096) (j : Fin 1024) :
    val_main_v18 (F := Ideal) X g1 w (ix3 b s j) = InSpec.z (row X b s) (gain g1) (proj w) ⟨2048 + j.val, by omega⟩ := by
  rw [val_main_v18_apply, ← v15_at]
  refine congrArg _ ?_
  funext a
  fin_cases a <;> rfl

theorem v19_at (b : Fin 8) (s : Fin 4096) (j : Fin 256) :
    val_main_v19 (F := Ideal) X g1 w (ix3 b s j) = InSpec.z (row X b s) (gain g1) (proj w) ⟨3072 + j.val, by omega⟩ := by
  rw [val_main_v19_apply, ← v15_at]
  refine congrArg _ ?_
  funext a
  fin_cases a <;> rfl

theorem v20_at (b : Fin 8) (s : Fin 4096) (j : Fin 256) :
    val_main_v20 (F := Ideal) X g1 w (ix3 b s j) = InSpec.z (row X b s) (gain g1) (proj w) ⟨3328 + j.val, by omega⟩ := by
  rw [val_main_v20_apply, ← v15_at]
  refine congrArg _ ?_
  funext a
  fin_cases a <;> rfl

theorem v21_at (b : Fin 8) (s : Fin 4096) (j : Fin 1024) :
    val_main_v21 (F := Ideal) X g1 w (ix3 b s j) = InSpec.z (row X b s) (gain g1) (proj w) ⟨3584 + j.val, by omega⟩ := by
  rw [val_main_v21_apply, ← v15_at]
  refine congrArg _ ?_
  funext a
  fin_cases a <;> rfl

theorem v22_at (b : Fin 8) (s : Fin 4096) (j : Fin 1024) :
    val_main_v22 (F := Ideal) X g1 w (ix3 b s j) = InSpec.z (row X b s) (gain g1) (proj w) ⟨4608 + j.val, by omega⟩ := by
  rw [val_main_v22_apply, ← v15_at]
  refine congrArg _ ?_
  funext a
  fin_cases a <;> rfl

/-- A row of all batches' rows, by its batch and its place there. -/
def batch (R : Fin 32768) : Fin 8 := ⟨R.val / 4096, by omega⟩
@[inherit_doc batch] def place (R : Fin 32768) : Fin 4096 := ⟨R.val % 4096, by omega⟩

/-- Projections to one column. -/
theorem z_congr (x g : Fin 1024 → EReal) (W : Fin 1024 → Fin 5632 → EReal) {j j' : Fin 5632} (h : j.val = j'.val) : InSpec.z x g W j = InSpec.z x g W j' := by
  rw [Fin.ext h]

/-- A head of the queries, its columns one by one. -/
theorem v74_at (b : Fin 8) (s : Fin 4096) (h : Fin 8) (d : Fin 128) :
    val_main_v74 (F := Ideal) X g1 w (ix4 b s h d) = InSpec.z (row X b s) (gain g1) (proj w) ⟨2048 + 128 * h.val + d.val, by omega⟩ := by
  have e : idx_main_v74 (ix4 b s h d) = ix3 b s ⟨128 * h.val + d.val, by omega⟩ := by
    funext a
    apply Fin.ext
    fin_cases a
    · show (((b.val * 4096 + s.val) * 8 + h.val) * 128 + d.val) / 4194304 = b.val
      omega
    · show (((b.val * 4096 + s.val) * 8 + h.val) * 128 + d.val) / 1024 % 4096 = s.val
      omega
    · show (((b.val * 4096 + s.val) * 8 + h.val) * 128 + d.val) % 1024 = 128 * h.val + d.val
      omega
  rw [val_main_v74_apply, e, v18_at]
  exact z_congr _ _ _ (by show 2048 + (128 * h.val + d.val) = 2048 + 128 * h.val + d.val; omega)

/-- A head of the keys, likewise. -/
theorem v89_at (b : Fin 8) (s : Fin 4096) (h : Fin 2) (d : Fin 128) :
    val_main_v89 (F := Ideal) X g1 w (ix4 b s h d) = InSpec.z (row X b s) (gain g1) (proj w) ⟨3072 + 128 * h.val + d.val, by omega⟩ := by
  have e : idx_main_v89 (ix4 b s h d) = ix3 b s ⟨128 * h.val + d.val, by omega⟩ := by
    funext a
    apply Fin.ext
    fin_cases a
    · show (((b.val * 4096 + s.val) * 2 + h.val) * 128 + d.val) / 1048576 = b.val
      omega
    · show (((b.val * 4096 + s.val) * 2 + h.val) * 128 + d.val) / 256 % 4096 = s.val
      omega
    · show (((b.val * 4096 + s.val) * 2 + h.val) * 128 + d.val) % 256 = 128 * h.val + d.val
      omega
  rw [val_main_v89_apply, e, v19_at]
  exact z_congr _ _ _ (by show 3072 + (128 * h.val + d.val) = 3072 + 128 * h.val + d.val; omega)

/-- The queries' gains. -/
theorem v87_at (b : Fin 8) (s : Fin 4096) (h : Fin 8) (d : Fin 128) : val_main_v87 (F := Ideal) qn (ix4 b s h d) = gain qn d := by
  rw [val_main_v87_apply, val_main_v86_apply, val_main_v75_apply]
  refine congrArg qn ?_
  funext a
  apply Fin.ext
  fin_cases a
  · rfl
  · exact Nat.mod_eq_of_lt d.isLt

/-- The keys' gains. -/
theorem v102_at (b : Fin 8) (s : Fin 4096) (h : Fin 2) (d : Fin 128) : val_main_v102 (F := Ideal) kn (ix4 b s h d) = gain kn d := by
  rw [val_main_v102_apply, val_main_v101_apply, val_main_v90_apply]
  refine congrArg kn ?_
  funext a
  apply Fin.ext
  fin_cases a
  · rfl
  · exact Nat.mod_eq_of_lt d.isLt

/-- A normed query. -/
theorem v88_at (b : Fin 8) (s : Fin 4096) (h : Fin 8) (d : Fin 128) :
    val_main_v88 (F := Ideal) X g1 w qn (ix4 b s h d) =
      InSpec.head (row X b s) (gain g1) (proj w) (2048 + 128 * h.val) (by omega) (gain qn) d := by
  rw [val_main_v88_apply, v87_at, val_main_v85_apply, val_main_v84_apply, val_main_v83_apply, val_main_v82_apply, val_main_v81_apply, val_main_v80_apply, val_main_v79_apply,
    val_main_v78_apply, val_main_v77_apply, v74_at]
  unfold InSpec.head InSpec.norm
  refine congrArg (fun z => InSpec.z (row X b s) (gain g1) (proj w) ⟨2048 + 128 * h.val + d.val, by omega⟩ *
    Ideal.rsqrt (Ideal.div z InSpec.narrow + Ideal.ofBits .f32 0x358637BD#32) * gain qn d) ?_
  refine (congrArg₂ (· + ·) Ideal.ofBits_zero_f32 (Finset.sum_congr rfl fun l _ => ?_)).trans (zero_add _)
  have e : idx_main_v77 (idx_main_v78 (idx_main_v84 (ix4 b s h d))) l = ix4 b s h l := by
    funext a
    fin_cases a <;> rfl
  rw [val_main_v76_apply, e, v74_at]
  rfl

/-- A normed key. -/
theorem v103_at (b : Fin 8) (s : Fin 4096) (h : Fin 2) (d : Fin 128) :
    val_main_v103 (F := Ideal) X g1 w kn (ix4 b s h d) =
      InSpec.head (row X b s) (gain g1) (proj w) (3072 + 128 * h.val) (by omega) (gain kn) d := by
  rw [val_main_v103_apply, v102_at, val_main_v100_apply, val_main_v99_apply, val_main_v98_apply, val_main_v97_apply, val_main_v96_apply, val_main_v95_apply, val_main_v94_apply,
    val_main_v93_apply, val_main_v92_apply, v89_at]
  unfold InSpec.head InSpec.norm
  refine congrArg (fun z => InSpec.z (row X b s) (gain g1) (proj w) ⟨3072 + 128 * h.val + d.val, by omega⟩ *
    Ideal.rsqrt (Ideal.div z InSpec.narrow + Ideal.ofBits .f32 0x358637BD#32) * gain kn d) ?_
  refine (congrArg₂ (· + ·) Ideal.ofBits_zero_f32 (Finset.sum_congr rfl fun l _ => ?_)).trans (zero_add _)
  have e : idx_main_v92 (idx_main_v93 (idx_main_v99 (ix4 b s h d))) l = ix4 b s h l := by
    funext a
    fin_cases a <;> rfl
  rw [val_main_v91_apply, e, v89_at]
  rfl

/-- The queries' array. -/
theorem v114_at (R : Fin 32768) (C : Fin 1024) :
    val_main_v114 (F := Ideal) X g1 w qn (ix2 R C) =
      InSpec.head (row X (batch R) (place R)) (gain g1) (proj w) (2048 + 128 * (C.val / 128)) (by omega) (gain qn) ⟨C.val % 128, by omega⟩ := by
  have e : idx_main_v113 (ix2 R C) = ix4 (batch R) (place R) ⟨C.val / 128, by omega⟩ ⟨C.val % 128, by omega⟩ := by
    funext a
    apply Fin.ext
    fin_cases a
    · show (R.val * 1024 + C.val) / 4194304 = R.val / 4096
      omega
    · show (R.val * 1024 + C.val) / 1024 % 4096 = R.val % 4096
      omega
    · show (R.val * 1024 + C.val) / 128 % 8 = C.val / 128
      omega
    · show (R.val * 1024 + C.val) % 128 = C.val % 128
      omega
  rw [val_main_v114_apply, val_main_v113_apply, e]
  exact v88_at X g1 w qn ..

/-- The keys' array. -/
theorem v116_at (R : Fin 32768) (C : Fin 256) :
    val_main_v116 (F := Ideal) X g1 w kn (ix2 R C) =
      InSpec.head (row X (batch R) (place R)) (gain g1) (proj w) (3072 + 128 * (C.val / 128)) (by omega) (gain kn) ⟨C.val % 128, by omega⟩ := by
  have e : idx_main_v115 (ix2 R C) = ix4 (batch R) (place R) ⟨C.val / 128, by omega⟩ ⟨C.val % 128, by omega⟩ := by
    funext a
    apply Fin.ext
    fin_cases a
    · show (R.val * 256 + C.val) / 1048576 = R.val / 4096
      omega
    · show (R.val * 256 + C.val) / 256 % 4096 = R.val % 4096
      omega
    · show (R.val * 256 + C.val) / 128 % 2 = C.val / 128
      omega
    · show (R.val * 256 + C.val) % 128 = C.val % 128
      omega
  rw [val_main_v116_apply, val_main_v115_apply, e]
  exact v103_at X g1 w kn ..

/-- The values' array. -/
theorem v119_at (f : Fin 256) (R : Fin 32768) :
    val_main_v119 (F := Ideal) X g1 w (ix2 f R) = InSpec.z (row X (batch R) (place R)) (gain g1) (proj w) ⟨3328 + f.val, by omega⟩ := by
  have e : idx_main_v117 (idx_main_v119 (ix2 f R)) = ix3 (batch R) (place R) f := by
    funext a
    apply Fin.ext
    fin_cases a
    · show (R.val * 256 + f.val) / 1048576 = R.val / 4096
      omega
    · show (R.val * 256 + f.val) / 256 % 4096 = R.val % 4096
      omega
    · show (R.val * 256 + f.val) % 256 = f.val
      omega
  rw [val_main_v119_apply, val_main_v118_apply, val_main_v117_apply, e]
  exact v20_at X g1 w ..

end Cert.Reference2Ideal.Ref

end
-- ==== Proof.InRefGate.lean ====
/- The input projection's reference at an index: the spatial gating and the gates. -/
module

public import proofs.«01_k».proof.Proof.InRef

@[expose] public section

noncomputable section

namespace Cert.Reference2Ideal.Ref

open Cert.Reference2Ideal Cert.Reference2Ideal.Gen Cert.Reference2Ideal.Read Idealize.ShloMosaic Idealize.ShloMosaic.TcCoe Idealize.SL.Sem

variable (X : Vec Ideal S8x4096x1024 .f32) (g1 : Vec Ideal S1x1024 .f32) (w : Vec Ideal S1x1024x5632 .f32) (sg : Vec Ideal S1x1024 .f32)
  (ws : Vec Ideal S1x8x128x128 .f32) (bs : Vec Ideal S1x8x128 .f32)

/-- The second gate's array. -/
theorem v127_at (R : Fin 32768) (C : Fin 1024) :
    val_main_v127 (F := Ideal) X g1 w (ix2 R C) = InSpec.sig (InSpec.z (row X (batch R) (place R)) (gain g1) (proj w) ⟨4608 + C.val, by omega⟩) := by
  have e : idx_main_v126 (ix2 R C) = ix3 (batch R) (place R) C := by
    funext a
    apply Fin.ext
    fin_cases a
    · show (R.val * 1024 + C.val) / 4194304 = R.val / 4096
      omega
    · show (R.val * 1024 + C.val) / 1024 % 4096 = R.val % 4096
      omega
    · show (R.val * 1024 + C.val) % 1024 = C.val
      omega
  rw [val_main_v127_apply, val_main_v126_apply, e, val_main_v125_apply, val_main_v124_apply, val_main_v123_apply, val_main_v122_apply, val_main_v121_apply, val_main_v120_apply, v22_at]
  rfl

/-- The first gate. -/
theorem v109_at (b : Fin 8) (s : Fin 4096) (j : Fin 1024) :
    val_main_v109 (F := Ideal) X g1 w (ix3 b s j) = InSpec.sig (InSpec.z (row X b s) (gain g1) (proj w) ⟨3584 + j.val, by omega⟩) := by
  rw [val_main_v109_apply, val_main_v108_apply, val_main_v107_apply, val_main_v106_apply, val_main_v105_apply, val_main_v104_apply, v21_at]
  rfl

/-- The first halves' gelu. -/
theorem v38_at (b : Fin 8) (s : Fin 4096) (j : Fin 1024) :
    val_main_v38 (F := Ideal) X g1 w (ix3 b s j) = InSpec.gelu (InSpec.z (row X b s) (gain g1) (proj w) ⟨j.val, by omega⟩) := by
  rw [val_main_v38_apply, val_main_v37_apply, val_main_v36_apply, val_main_v35_apply, val_main_v34_apply, val_main_v33_apply, val_main_v32_apply, val_main_v31_apply,
    val_main_v30_apply, val_main_v29_apply, val_main_v28_apply, val_main_v27_apply, val_main_v26_apply, v16_at]
  rfl

/-- The second halves'. -/
theorem v51_at (b : Fin 8) (s : Fin 4096) (j : Fin 1024) :
    val_main_v51 (F := Ideal) X g1 w (ix3 b s j) = InSpec.gelu (InSpec.z (row X b s) (gain g1) (proj w) ⟨1024 + j.val, by omega⟩) := by
  rw [val_main_v51_apply, val_main_v50_apply, val_main_v49_apply, val_main_v48_apply, val_main_v47_apply, val_main_v46_apply, val_main_v45_apply, val_main_v44_apply,
    val_main_v43_apply, val_main_v42_apply, val_main_v41_apply, val_main_v40_apply, val_main_v39_apply, v17_at]
  rfl

theorem v63_at (b : Fin 8) (s : Fin 4096) (j : Fin 1024) : val_main_v63 (F := Ideal) sg (ix3 b s j) = gain sg j := by
  rw [val_main_v63_apply, val_main_v62_apply, val_main_v23_apply]
  refine congrArg sg ?_
  funext a
  apply Fin.ext
  fin_cases a
  · rfl
  · exact Nat.mod_eq_of_lt j.isLt

/-- The second halves normed. -/
theorem v64_at (b : Fin 8) (s : Fin 4096) (j : Fin 1024) :
    val_main_v64 (F := Ideal) X g1 w sg (ix3 b s j) = InSpec.vrow (row X b s) (gain g1) (proj w) (gain sg) j := by
  rw [val_main_v64_apply, v63_at, val_main_v61_apply, val_main_v60_apply, val_main_v59_apply, val_main_v58_apply, val_main_v57_apply, val_main_v56_apply, val_main_v55_apply,
    val_main_v54_apply, val_main_v53_apply, v51_at]
  unfold InSpec.vrow InSpec.norm
  refine congrArg (fun z => InSpec.gelu (InSpec.z (row X b s) (gain g1) (proj w) ⟨1024 + j.val, by omega⟩) *
    Ideal.rsqrt (Ideal.div z InSpec.wide + Ideal.ofBits .f32 0x358637BD#32) * gain sg j) ?_
  refine (congrArg₂ (· + ·) Ideal.ofBits_zero_f32 (Finset.sum_congr rfl fun l _ => ?_)).trans (zero_add _)
  have e : idx_main_v53 (idx_main_v54 (idx_main_v60 (ix3 b s j))) l = ix3 b s l := by
    funext a
    fin_cases a <;> rfl
  rw [val_main_v52_apply, e, v51_at]
  rfl

/-- A chunk's row, in the sequence. -/
def chunk (n : Fin 32) (p : Fin 128) : Fin 4096 := ⟨128 * n.val + p.val, by omega⟩

/-- A chunk's normed second halves, group by group. -/
theorem v65_at (b : Fin 8) (n : Fin 32) (p : Fin 128) (g : Fin 8) (d : Fin 128) :
    val_main_v65 (F := Ideal) X g1 w sg (ix5 b n p g d) = InSpec.vrow (row X b (chunk n p)) (gain g1) (proj w) (gain sg) ⟨128 * g.val + d.val, by omega⟩ := by
  have e : idx_main_v65 (ix5 b n p g d) = ix3 b (chunk n p) ⟨128 * g.val + d.val, by omega⟩ := by
    funext a
    apply Fin.ext
    fin_cases a
    · show ((((b.val * 32 + n.val) * 128 + p.val) * 8 + g.val) * 128 + d.val) / 4194304 = b.val
      omega
    · show ((((b.val * 32 + n.val) * 128 + p.val) * 8 + g.val) * 128 + d.val) / 1024 % 4096 = 128 * n.val + p.val
      omega
    · show ((((b.val * 32 + n.val) * 128 + p.val) * 8 + g.val) * 128 + d.val) % 1024 = 128 * g.val + d.val
      omega
  rw [val_main_v65_apply, e, v64_at]

theorem v24_at (g : Fin 8) (p q : Fin 128) : val_main_v24 (F := Ideal) ws (ix3 g p q) = mat ws g p q := by
  rw [val_main_v24_apply]
  refine congrArg ws ?_
  funext a
  apply Fin.ext
  fin_cases a
  · rfl
  · show ((g.val * 128 + p.val) * 128 + q.val) / 16384 % 8 = g.val
    omega
  · show ((g.val * 128 + p.val) * 128 + q.val) / 128 % 128 = p.val
    omega
  · show ((g.val * 128 + p.val) * 128 + q.val) % 128 = q.val
    omega

/-- The mixing of a chunk's rows, with its bias. -/
theorem v71_at (b : Fin 8) (n : Fin 32) (p : Fin 128) (g : Fin 8) (d : Fin 128) :
    val_main_v71 (F := Ideal) X g1 w sg ws bs (ix5 b n p g d) =
      ∑ q, InSpec.vrow (row X b (chunk n q)) (gain g1) (proj w) (gain sg) ⟨128 * g.val + d.val, by omega⟩ * mat ws g p q + bias bs g p := by
  rw [val_main_v71_apply, val_main_v70_apply, val_main_v69_apply, val_main_v68_apply, val_main_v67_apply, val_main_v66_apply, val_main_v25_apply]
  refine congrArg₂ (· + ·) (Finset.sum_congr rfl fun q _ => congrArg₂ (· * ·) ?_ ?_) (congrArg bs ?_)
  · refine Eq.trans (congrArg _ ?_) (v65_at X g1 w sg b n q g d)
    funext a
    fin_cases a <;> rfl
  · refine Eq.trans (congrArg _ ?_) (v24_at ws g p q)
    funext a
    fin_cases a <;> rfl
  · funext a
    apply Fin.ext
    fin_cases a
    · rfl
    · show (g.val * 128 + p.val) / 128 % 8 = g.val
      omega
    · show (g.val * 128 + p.val) % 128 = p.val
      omega

theorem v72_at (b : Fin 8) (s : Fin 4096) (j : Fin 1024) :
    val_main_v72 (F := Ideal) X g1 w sg ws bs (ix3 b s j) =
      ∑ q, InSpec.vrow (row X b (chunk ⟨s.val / 128, by omega⟩ q)) (gain g1) (proj w) (gain sg) j * mat ws ⟨j.val / 128, by omega⟩ ⟨s.val % 128, by omega⟩ q +
        bias bs ⟨j.val / 128, by omega⟩ ⟨s.val % 128, by omega⟩ := by
  have e : idx_main_v72 (ix3 b s j) = ix5 b ⟨s.val / 128, by omega⟩ ⟨s.val % 128, by omega⟩ ⟨j.val / 128, by omega⟩ ⟨j.val % 128, by omega⟩ := by
    funext a
    apply Fin.ext
    fin_cases a
    · show ((b.val * 4096 + s.val) * 1024 + j.val) / 4194304 = b.val
      omega
    · show ((b.val * 4096 + s.val) * 1024 + j.val) / 131072 % 32 = s.val / 128
      omega
    · show ((b.val * 4096 + s.val) * 1024 + j.val) / 1024 % 128 = s.val % 128
      omega
    · show ((b.val * 4096 + s.val) * 1024 + j.val) / 128 % 8 = j.val / 128
      omega
    · show ((b.val * 4096 + s.val) * 1024 + j.val) % 128 = j.val % 128
      omega
  have hj : (⟨128 * (j.val / 128) + j.val % 128, by omega⟩ : Fin 1024) = j := Fin.ext (Nat.div_add_mod _ _)
  rw [val_main_v72_apply, e, v71_at]
  dsimp only
  rw [hj]

/-- The doubly gated array. -/
theorem v112_at (R : Fin 32768) (C : Fin 1024) :
    val_main_v112 (F := Ideal) X g1 w sg ws bs (ix2 R C) =
      InSpec.gya (fun q : Fin 128 => row X (batch R) (chunk ⟨(place R).val / 128, by omega⟩ q)) (gain g1) (proj w) (gain sg) (mat ws ⟨C.val / 128, by omega⟩)
        (bias bs ⟨C.val / 128, by omega⟩) ⟨R.val % 128, by omega⟩ C := by
  have e : idx_main_v111 (ix2 R C) = ix3 (batch R) (place R) C := by
    funext a
    apply Fin.ext
    fin_cases a
    · show (R.val * 1024 + C.val) / 4194304 = R.val / 4096
      omega
    · show (R.val * 1024 + C.val) / 1024 % 4096 = R.val % 4096
      omega
    · show (R.val * 1024 + C.val) % 1024 = C.val
      omega
  have hp : (⟨(place R).val % 128, by omega⟩ : Fin 128) = ⟨R.val % 128, by omega⟩ := Fin.ext (by show R.val % 4096 % 128 = R.val % 128; omega)
  have hc : chunk ⟨(place R).val / 128, by omega⟩ ⟨R.val % 128, by omega⟩ = place R := Fin.ext (by show 128 * (R.val % 4096 / 128) + R.val % 128 = R.val % 4096; omega)
  rw [val_main_v112_apply, val_main_v111_apply, e]
  show val_main_v110 (F := Ideal) X g1 w sg ws bs (ix3 (batch R) (place R) C) = _
  rw [val_main_v110_apply, v109_at, val_main_v73_apply, v38_at, v72_at, hp]
  unfold InSpec.gya
  dsimp only
  rw [hc]
  rfl

end Cert.Reference2Ideal.Ref

end
-- ==== Proof.InResult.lean ====
/- The input projection's five arrays after the run, at an index, are the reference's. -/
module

public import proofs.«01_k».proof.Proof.InPoint
public import proofs.«01_k».proof.Proof.InRun
public import proofs.«01_k».proof.Proof.InRegions
public import proofs.«01_k».proof.Proof.InRefGate

@[expose] public section

set_option maxRecDepth 16384

noncomputable section

namespace Cert.Kernel2Ideal.Result

open Cert.Kernel2Ideal Cert.Kernel2Ideal.Gen Cert.Kernel2Ideal.Regions Idealize.ShloMosaic Idealize.ShloMosaic.TcCoe Idealize.SL.Sem

variable (m : (ℓ : Loc nD τ sig) → Buf (Elt Ideal) ℓ) (c : Dev nD) (t : Fin 32)

/-! ## The weights carried between points -/

/-- After every point the carried buffer holds the values' weights, transposed. -/
theorem carry (n : ℕ) (hn : n < cfg0.N) (f : Fin 256) (k : Fin 1024) :
    (show Vec Ideal S256x1024 .bf16 from (outsAt0 m c n hn).2.2.2.2.2) (ix2 f k) = w m c (ix3 0 k ⟨3328 + f.val, by omega⟩) := by
  induction n with
  | zero =>
    rw [outsAt0_A m c ⟨0, hn⟩ rfl]
    dsimp only
    rw [Run.outAT]
    exact Point.carried_at (W := fun k j => w m c (ix3 0 k j)) (hV := by exact in3 m c ⟨0, hn⟩) f k
  | succ n ih =>
    have h0 : ¬(⟨n + 1, hn⟩ : Fin cfg0.N).val % 32 = 0 := by
      have h : n + 1 < 32 := hn
      show ¬(n + 1) % 32 = 0
      omega
    rw [outsAt0_B m c ⟨n + 1, hn⟩ h0]
    dsimp only
    unfold sout0_B_4
    exact ih (Nat.lt_of_succ_lt hn)

/-! ## A point's blocks -/

/-- The gated rows. -/
theorem at9 (r C : Fin 1024) : (show Vec Ideal S1024x1024 .bf16 from (outsAt0 m c t.val t.isLt).1) (ix2 r C) =
      InSpec.gya (fun q : Fin 128 => line m c (rowOf t ⟨128 * (r.val / 128) + q.val, by omega⟩)) (fun k => g1 m c (ix2 0 k)) (fun k j => w m c (ix3 0 k j)) (fun k => sg m c (ix2 0 k))
        (fun p q => ws m c (ix4 0 ⟨C.val / 128, by omega⟩ p q)) (fun p => bs m c (ix3 0 ⟨C.val / 128, by omega⟩ p)) ⟨r.val % 128, by omega⟩ C := by
  by_cases h0 : t.val % 32 = 0
  · rw [outsAt0_A m c t h0]
    dsimp only
    rw [Run.outA9]
    exact (Point.gya_at (X := fun r k => line m c (rowOf t r) k) (G := fun k => g1 m c (ix2 0 k)) (W := fun k j => w m c (ix3 0 k j)) (S := fun k => sg m c (ix2 0 k)) (A := fun g p q => ws m c (ix4 0 g p q)) (B := fun g p _ => bs m c (ix3 0 g p))
        (hX := by exact in0 m c t) (hG := by exact in1 m c t) (hW := by exact in2 m c t) (hS := by exact in4 m c t) (hA := by exact in7 m c t) (hB := by exact in8 m c t) r C)
  · rw [outsAt0_B m c t h0]
    dsimp only
    rw [Run.outB9]
    exact (Point.gya_at (X := fun r k => line m c (rowOf t r) k) (G := fun k => g1 m c (ix2 0 k)) (W := fun k j => w m c (ix3 0 k j)) (S := fun k => sg m c (ix2 0 k)) (A := fun g p q => ws m c (ix4 0 g p q)) (B := fun g p _ => bs m c (ix3 0 g p))
        (hX := by exact in0 m c t) (hG := by exact in1 m c t) (hW := by exact in2 m c t) (hS := by exact in4 m c t) (hA := by exact in7 m c t) (hB := by exact in8 m c t) r C)

/-- The queries. -/
theorem at10 (r C : Fin 1024) : (show Vec Ideal S1024x1024 .bf16 from (outsAt0 m c t.val t.isLt).2.1) (ix2 r C) =
      InSpec.head (line m c (rowOf t r)) (fun k => g1 m c (ix2 0 k)) (fun k j => w m c (ix3 0 k j)) (2048 + 128 * (C.val / 128)) (by omega) (fun d => qn m c (ix2 0 d)) ⟨C.val % 128, by omega⟩ := by
  by_cases h0 : t.val % 32 = 0
  · rw [outsAt0_A m c t h0]
    dsimp only
    rw [Run.outA10]
    exact (Point.q_at (X := fun r k => line m c (rowOf t r) k) (G := fun k => g1 m c (ix2 0 k)) (W := fun k j => w m c (ix3 0 k j)) (N := fun d => qn m c (ix2 0 d))
        (hX := by exact in0 m c t) (hG := by exact in1 m c t) (hW := by exact in2 m c t) (hN := by exact in5 m c t) r C)
  · rw [outsAt0_B m c t h0]
    dsimp only
    rw [Run.outB10]
    exact (Point.q_at (X := fun r k => line m c (rowOf t r) k) (G := fun k => g1 m c (ix2 0 k)) (W := fun k j => w m c (ix3 0 k j)) (N := fun d => qn m c (ix2 0 d))
        (hX := by exact in0 m c t) (hG := by exact in1 m c t) (hW := by exact in2 m c t) (hN := by exact in5 m c t) r C)

/-- The keys. -/
theorem at11 (r : Fin 1024) (C : Fin 256) : (show Vec Ideal S1024x256 .bf16 from (outsAt0 m c t.val t.isLt).2.2.1) (ix2 r C) =
      InSpec.head (line m c (rowOf t r)) (fun k => g1 m c (ix2 0 k)) (fun k j => w m c (ix3 0 k j)) (3072 + 128 * (C.val / 128)) (by omega) (fun d => kn m c (ix2 0 d)) ⟨C.val % 128, by omega⟩ := by
  by_cases h0 : t.val % 32 = 0
  · rw [outsAt0_A m c t h0]
    dsimp only
    rw [Run.outA11]
    exact (Point.k_at (X := fun r k => line m c (rowOf t r) k) (G := fun k => g1 m c (ix2 0 k)) (W := fun k j => w m c (ix3 0 k j)) (K := fun d => kn m c (ix2 0 d))
        (hX := by exact in0 m c t) (hG := by exact in1 m c t) (hW := by exact in2 m c t) (hK := by exact in6 m c t) r C)
  · rw [outsAt0_B m c t h0]
    dsimp only
    rw [Run.outB11]
    exact (Point.k_at (X := fun r k => line m c (rowOf t r) k) (G := fun k => g1 m c (ix2 0 k)) (W := fun k j => w m c (ix3 0 k j)) (K := fun d => kn m c (ix2 0 d))
        (hX := by exact in0 m c t) (hG := by exact in1 m c t) (hW := by exact in2 m c t) (hK := by exact in6 m c t) r C)

/-- The values. -/
theorem at12 (C : Fin 256) (r : Fin 1024) : (show Vec Ideal S256x1024 .bf16 from (outsAt0 m c t.val t.isLt).2.2.2.1) (ix2 C r) =
      InSpec.z (line m c (rowOf t r)) (fun k => g1 m c (ix2 0 k)) (fun k j => w m c (ix3 0 k j)) ⟨3328 + C.val, by omega⟩ := by
  by_cases h0 : t.val % 32 = 0
  · rw [outsAt0_A m c t h0]
    dsimp only
    rw [Run.outA12]
    exact (Point.first_at (X := fun r k => line m c (rowOf t r) k) (G := fun k => g1 m c (ix2 0 k)) (W := fun k j => w m c (ix3 0 k j))
        (hX := by exact in0 m c t) (hG := by exact in1 m c t) (hV := by exact in3 m c t) C r)
  · rw [outsAt0_B m c t h0]
    dsimp only
    rw [Run.outB12]
    exact (Point.later_at (X := fun r k => line m c (rowOf t r) k) (G := fun k => g1 m c (ix2 0 k)) (W := fun k j => w m c (ix3 0 k j))
        (hX := by exact in0 m c t) (hG := by exact in1 m c t) (hT := carry m c (t.val - 1) (Nat.lt_of_le_of_lt (Nat.sub_le _ _) t.isLt)) C r)

/-- The second gates. -/
theorem at13 (r C : Fin 1024) : (show Vec Ideal S1024x1024 .bf16 from (outsAt0 m c t.val t.isLt).2.2.2.2.1) (ix2 r C) =
      InSpec.sig (InSpec.z (line m c (rowOf t r)) (fun k => g1 m c (ix2 0 k)) (fun k j => w m c (ix3 0 k j)) ⟨4608 + C.val, by omega⟩) := by
  by_cases h0 : t.val % 32 = 0
  · rw [outsAt0_A m c t h0]
    dsimp only
    rw [Run.outA13]
    exact (Point.gb_at (X := fun r k => line m c (rowOf t r) k) (G := fun k => g1 m c (ix2 0 k)) (W := fun k j => w m c (ix3 0 k j))
        (hX := by exact in0 m c t) (hG := by exact in1 m c t) (hW := by exact in2 m c t) r C)
  · rw [outsAt0_B m c t h0]
    dsimp only
    rw [Run.outB13]
    exact (Point.gb_at (X := fun r k => line m c (rowOf t r) k) (G := fun k => g1 m c (ix2 0 k)) (W := fun k j => w m c (ix3 0 k j))
        (hX := by exact in0 m c t) (hG := by exact in1 m c t) (hW := by exact in2 m c t) r C)

end Cert.Kernel2Ideal.Result

end
-- ==== Proof.InArrays.lean ====
/- The input projection's five arrays after the run are the reference's values of the same arguments. -/
module

public import proofs.«01_k».proof.Proof.InResult

@[expose] public section

set_option maxRecDepth 16384

noncomputable section

namespace Cert.Kernel2Ideal.Arrays

open Cert.Kernel2Ideal Cert.Kernel2Ideal.Gen Cert.Kernel2Ideal.Regions Cert.Reference2Ideal.Read Idealize.ShloMosaic Idealize.ShloMosaic.TcCoe Idealize.SL.Sem

/-- Every row is some point's. -/
theorem rows (R : Fin 32768) : R = rowOf ⟨R.val / 1024, by omega⟩ ⟨R.val % 1024, by omega⟩ :=
  Fin.ext (Nat.div_add_mod R.val 1024).symm

/-- Two arrays of rows agree when every point's rows do. -/
theorem ext_rows {n : ℕ} (f g : (⟨2, ![32768, n]⟩ : Shape).Idx → EReal) (h : ∀ t r C, f (ix2 (rowOf t r) C) = g (ix2 (rowOf t r) C)) : f = g := by
  funext y
  have e : y = ix2 (rowOf ⟨(y 0).val / 1024, Nat.div_lt_of_lt_mul (y 0).isLt⟩ ⟨(y 0).val % 1024, Nat.mod_lt _ (by decide)⟩) (y 1) := by
    funext a
    fin_cases a
    · exact rows (y 0)
    · rfl
  rw [e]
  exact h _ _ _

/-- The same of rows that lie along the second dimension. -/
theorem ext_cols {n : ℕ} (f g : (⟨2, ![n, 32768]⟩ : Shape).Idx → EReal) (h : ∀ t r C, f (ix2 C (rowOf t r)) = g (ix2 C (rowOf t r))) : f = g := by
  funext y
  have e : y = ix2 (y 0) (rowOf ⟨(y 1).val / 1024, Nat.div_lt_of_lt_mul (y 1).isLt⟩ ⟨(y 1).val % 1024, Nat.mod_lt _ (by decide)⟩) := by
    funext a
    fin_cases a
    · rfl
    · exact rows (y 1)
  rw [e]
  exact h _ _ _

variable (m : (ℓ : Loc nD τ sig) → Buf (Elt Ideal) ℓ) (c : Dev nD)

/-- A chunk never leaves its batch: its rows among all rows are its rows in the sequence. -/
theorem chunk_rows (t : Fin 32) (r : Fin 1024) :
    (fun q : Fin 128 => line m c (rowOf t ⟨128 * (r.val / 128) + q.val, by omega⟩)) =
      fun q => Cert.Reference2Ideal.Ref.row (X m c) (Cert.Reference2Ideal.Ref.batch (rowOf t r)) (Cert.Reference2Ideal.Ref.chunk ⟨(Cert.Reference2Ideal.Ref.place (rowOf t r)).val / 128, Nat.div_lt_of_lt_mul (Cert.Reference2Ideal.Ref.place (rowOf t r)).isLt⟩ q) := by
  funext q k
  refine congrArg₂ (fun b s => X m c (ix3 b s k)) (Fin.ext ?_) (Fin.ext ?_)
  · show (1024 * t.val + (128 * (r.val / 128) + q.val)) / 4096 = (1024 * t.val + r.val) / 4096
    omega
  · show (1024 * t.val + (128 * (r.val / 128) + q.val)) % 4096 = 128 * ((1024 * t.val + r.val) % 4096 / 128) + q.val
    omega

theorem place_in (t : Fin 32) (r : Fin 1024) : (⟨r.val % 128, Nat.mod_lt _ (by decide)⟩ : Fin 128) = ⟨(rowOf t r).val % 128, Nat.mod_lt _ (by decide)⟩ :=
  Fin.ext (by show r.val % 128 = (1024 * t.val + r.val) % 128; omega)

/-- The doubly gated rows. -/
theorem out9 : (show Vec Ideal S32768x1024 .bf16 from (dats m 0 c).arrAt 9 cfg0.N) =
    val_main_v112 (F := Ideal) (X m c) (g1 m c) (w m c) (sg m c) (ws m c) (bs m c) := by
  refine ext_rows _ _ fun t r C => (arr9 m c t r C).trans ((Result.at9 m c t r C).trans ?_)
  rw [Cert.Reference2Ideal.Ref.v112_at]
  exact congrArg₂ (fun Y p => InSpec.gya Y (Cert.Reference2Ideal.Ref.gain (g1 m c)) (Cert.Reference2Ideal.Ref.proj (w m c)) (Cert.Reference2Ideal.Ref.gain (sg m c)) (Cert.Reference2Ideal.Ref.mat (ws m c) ⟨C.val / 128, Nat.div_lt_of_lt_mul C.isLt⟩)
    (Cert.Reference2Ideal.Ref.bias (bs m c) ⟨C.val / 128, Nat.div_lt_of_lt_mul C.isLt⟩) p C) (chunk_rows m c t r) (place_in t r)

/-- The queries. -/
theorem out10 : (show Vec Ideal S32768x1024 .bf16 from (dats m 0 c).arrAt 10 cfg0.N) = val_main_v114 (F := Ideal) (X m c) (g1 m c) (w m c) (qn m c) := by
  refine ext_rows _ _ fun t r C => (arr10 m c t r C).trans ((Result.at10 m c t r C).trans ?_)
  rw [Cert.Reference2Ideal.Ref.v114_at]
  rfl

/-- The keys. -/
theorem out11 : (show Vec Ideal S32768x256 .bf16 from (dats m 0 c).arrAt 11 cfg0.N) = val_main_v116 (F := Ideal) (X m c) (g1 m c) (w m c) (kn m c) := by
  refine ext_rows _ _ fun t r C => (arr11 m c t r C).trans ((Result.at11 m c t r C).trans ?_)
  rw [Cert.Reference2Ideal.Ref.v116_at]
  rfl

/-- The values, a row a feature. -/
theorem out12 : (show Vec Ideal S256x32768 .bf16 from (dats m 0 c).arrAt 12 cfg0.N) = val_main_v119 (F := Ideal) (X m c) (g1 m c) (w m c) := by
  refine ext_cols _ _ fun t r C => (arr12 m c t r C).trans ((Result.at12 m c t C r).trans ?_)
  rw [Cert.Reference2Ideal.Ref.v119_at]
  rfl

/-- The second gates. -/
theorem out13 : (show Vec Ideal S32768x1024 .bf16 from (dats m 0 c).arrAt 13 cfg0.N) = val_main_v127 (F := Ideal) (X m c) (g1 m c) (w m c) := by
  refine ext_rows _ _ fun t r C => (arr13 m c t r C).trans ((Result.at13 m c t r C).trans ?_)
  rw [Cert.Reference2Ideal.Ref.v127_at]
  rfl

end Cert.Kernel2Ideal.Arrays

end
-- ==== Proof.InAlgebraic.lean ====
/- The input projection's value claim: on equal arguments, the kernel and the reference end with five equal arrays. -/
module

public import proofs.«01_k».proof.Defs
public import proofs.«01_k».proof.Proof.InArrays
public import proofs.«01_k».proof.Proof.Gen.Reference2Ideal.Run

@[expose] public section

set_option maxRecDepth 16384

noncomputable section

namespace Cert.Proof.InAlgebraic

open Cert.Reference2Ideal.Read Cert.Kernel2Ideal.Arrays Idealize.ShloMosaic Idealize.ShloMosaic.StableHlo Idealize.ShloMosaic.TcCoe Idealize.SL.Sem

variable {a0 b0 : Vec Ideal Cert.Reference2Ideal.S8x4096x1024 .f32} {a1 b1 a3 b3 : Vec Ideal Cert.Reference2Ideal.S1x1024 .f32}
  {a2 b2 : Vec Ideal Cert.Reference2Ideal.S1x1024x5632 .f32} {a4 b4 : Vec Ideal Cert.Reference2Ideal.S1x8x128x128 .f32}
  {a5 b5 : Vec Ideal Cert.Reference2Ideal.S1x8x128 .f32} {a6 b6 : Vec Ideal Cert.Reference2Ideal.S1x128 .f32}
  (h0 : a0 = b0) (h1 : a1 = b1) (h2 : a2 = b2) (h3 : a3 = b3) (h4 : a4 = b4) (h5 : a5 = b5) (h6 : a6 = b6)

/-! Equal arguments give equal values. -/

include h0 h1 h2 h3 h4 h5 in
theorem congr112 : val_main_v112 (F := Ideal) a0 a1 a2 a3 a4 a5 = val_main_v112 (F := Ideal) b0 b1 b2 b3 b4 b5 := by
  rw [h0, h1, h2, h3, h4, h5]

include h0 h1 h2 h6 in
theorem congr114 : val_main_v114 (F := Ideal) a0 a1 a2 a6 = val_main_v114 (F := Ideal) b0 b1 b2 b6 := by
  rw [h0, h1, h2, h6]

include h0 h1 h2 h6 in
theorem congr116 : val_main_v116 (F := Ideal) a0 a1 a2 a6 = val_main_v116 (F := Ideal) b0 b1 b2 b6 := by
  rw [h0, h1, h2, h6]

include h0 h1 h2 in
theorem congr119 : val_main_v119 (F := Ideal) a0 a1 a2 = val_main_v119 (F := Ideal) b0 b1 b2 := by
  rw [h0, h1, h2]

include h0 h1 h2 in
theorem congr127 : val_main_v127 (F := Ideal) a0 a1 a2 = val_main_v127 (F := Ideal) b0 b1 b2 := by
  rw [h0, h1, h2]

/-- Both run; the kernel's arrays are the reference's values. -/
theorem holds : Cert.algebraic_Kernel2Ideal_Reference2Ideal := by
  intro m g m' g' _ hargs
  refine ⟨_, _, _, _, _, Cert.Kernel2Ideal.Value.run_blocks m g, ?_⟩
  refine (θ_run Cert.Reference2Ideal.defs _ _).mono (fun r h c => ?_) (Cert.Reference2Ideal.Value.run (F := Ideal) m' g')
  obtain ⟨r0, r1, r2, r3, r4, hr⟩ := h c
  obtain ⟨e0, e1, e2, e3, e4, e5, e6, e7⟩ := hargs c
  refine ⟨?_, ?_, ?_, ?_, ?_, hr⟩
  · exact r0.trans ((val_main_v112_eq (F := Ideal) m' c).trans ((congr112 e0 e1 e2 e3 e4 e5).trans (out9 m c).symm))
  · exact r1.trans ((val_main_v114_eq (F := Ideal) m' c).trans ((congr114 e0 e1 e2 e6).trans (out10 m c).symm))
  · exact r2.trans ((val_main_v116_eq (F := Ideal) m' c).trans ((congr116 e0 e1 e2 e7).trans (out11 m c).symm))
  · exact r3.trans ((val_main_v119_eq (F := Ideal) _ _ _).trans ((congr119 e0 e1 e2).trans (out12 m c).symm))
  · exact r4.trans ((val_main_v127_eq (F := Ideal) _ _ _).trans ((congr127 e0 e1 e2).trans (out13 m c).symm))

end Cert.Proof.InAlgebraic

end
-- ==== Proof.SampleFrames.lean ====
/- The sample's claims that state no value, of its two programs: the printed kernels, the idealized ones and the
   references run, leave their arguments as they were and every semaphore at zero; and the constants the idealized
   kernels name are the reals they round. -/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Pre
public import Idealize.ShloMosaic.Lib.Quiescent

@[expose] public section

noncomputable section

open Idealize.ShloMosaic Idealize.SL.Sem

namespace Cert.Proof.SampleFrames

/-! ## The main calls -/

/-- The printed kernel runs from every memory. -/
theorem kernel : Cert.quiescent_Kernel3 := fun m ρ _ => Cert.Kernel3.Gen.frame m ρ

/-- So does the idealized kernel. -/
theorem kernelIdeal : Cert.quiescent_Kernel3Ideal := fun m ρ _ => Cert.Kernel3Ideal.Gen.frame m ρ

/-- The reference runs from every memory. -/
theorem referenceIdeal : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Both run in particular where the value claim assumes real logits. -/
theorem kernelIdeal_pre : Cert.quiescent_Kernel3Ideal_pre_sample_finite_logits (hPre_sample_finite_logits := Cert.Pre.sample_facts) := fun m ρ _ => Cert.Kernel3Ideal.Gen.frame m ρ

theorem referenceIdeal_pre : Cert.quiescent_Reference3Ideal_pre_sample_finite_logits (hPre_sample_finite_logits := Cert.Pre.sample_facts) := fun m ρ _ => referenceIdeal m ρ trivial

/-- The named constants: log₂ e is (log 2)⁻¹, and the mask's filler stands for −∞. -/
theorem preserves : Cert.preserves_Kernel3_Kernel3Ideal :=
  ⟨IdealRules.named_const.statement Cert.Kernel3Ideal.κ "log2e" .f32 0x3FB8AA3B#32 (((Real.log 2)⁻¹ : ℝ) : EReal) rfl,
   IdealRules.named_const.statement Cert.Kernel3Ideal.κ "mask" .f32 0xF149F2CA#32 ⊥ rfl⟩

/-! ## The input projection -/

/-- The printed kernel runs from every memory. -/
theorem inKernel : Cert.quiescent_Kernel4 := fun m ρ _ => Cert.Kernel4.Gen.frame m ρ

/-- So does the idealized kernel. -/
theorem inKernelIdeal : Cert.quiescent_Kernel4Ideal := fun m ρ _ => Cert.Kernel4Ideal.Gen.frame m ρ

/-- And the reference. -/
theorem inReferenceIdeal : Cert.quiescent_Reference4Ideal := fun m ρ _ =>
  (θ_run Cert.Reference4Ideal.defs _ _).mono
    (fun r h => ⟨fun c => (h c).2.2.2.2.2, sem_eq_zero_of_no_sems (by decide) r.2⟩)
    (Cert.Reference4Ideal.Value.run (F := Ideal) m ρ)

/-- The named constants: the gelu's scale and cube term and the gate's sign, each with the change of base to 2, and
    the queries' scale. -/
theorem inPreserves : Cert.preserves_Kernel4_Kernel4Ideal :=
  ⟨IdealRules.named_const.statement Cert.Kernel4Ideal.κ "gelu_cube" .f32 0xBDD2D3E8#32 (((-2) * ((Real.log 2)⁻¹ * ((6693141 / 8388608) * (12003091 / 268435456))) : ℝ) : EReal) rfl,
   IdealRules.named_const.statement Cert.Kernel4Ideal.κ "gelu_scale" .f32 0xC0135761#32 (((-2) * ((Real.log 2)⁻¹ * (6693141 / 8388608)) : ℝ) : EReal) rfl,
   IdealRules.named_const.statement Cert.Kernel4Ideal.κ "neg_log2e" .f32 0xBFB8AA3B#32 (((-1) * (Real.log 2)⁻¹ : ℝ) : EReal) rfl,
   IdealRules.named_const.statement Cert.Kernel4Ideal.κ "q_scale" .f32 0x3E0293EE#32 (((Real.sqrt 128)⁻¹ * (Real.log 2)⁻¹ : ℝ) : EReal) rfl⟩

end Cert.Proof.SampleFrames

end
-- ==== Proof.SampleRun.lean ====
/- The sample's program stores what Ran.lean and Table.lean describe: its bias table is that one, and its mixer takes the
   biases of a tile's edge blocks from the variant the tile's place picks. -/
module

public import proofs.«01_k».proof.Proof.Blocks
public import proofs.«01_k».proof.Proof.TableAt
public import proofs.«01_k».proof.Proof.Gen.Kernel3Ideal.Frame

@[expose] public section

set_option maxRecDepth 16384

noncomputable section

namespace Cert.Kernel3Ideal.Run

open Cert.Kernel3Ideal Cert.Kernel3Ideal.Gen Idealize.ShloMosaic Idealize.ShloMosaic.TcCoe Idealize.ShloMosaic.Tactic Idealize.SL.Sem

/-- The bias table's run. -/
theorem table_eq {F : FTy → Type} [FloatOps F] [Named F] (c : Dev nD)
    (arg0 : Memref sig .tc .vmem S384x128 .i32) (harg0 : arg0.IsWhole)
    (arg1 : Memref sig .tc .smem S32x8 .f32) (harg1 : arg1.IsWhole)
    (arg2 : Memref sig .tc .vmem S3x2x384x512 .f32) (harg2 : arg2.IsWhole)
    (x0 : Vec F S384x128 .i32) (x1 : Vec F S32x8 .f32) :
    (kernelRun0_A c arg0 harg0 arg1 harg1 arg2 harg2 x0 x1).1 = Cert.KernelIdeal.Table.tablePieces arg0 harg0 arg1 harg1 x0 x1 := by
  sl_kernel_rfl

variable {F : FTy → Type} [FloatOps F] [Named F]

/-- The variant of the bias table a block takes. -/
def variant (i : grid1.Coords) : Fin 4 → Fin 3
  | 0 => ⟨k1_off1 i 0#32 0#32 0, Nat.lt_of_succ_le (k1_off1_inb i 0 0)⟩
  | 3 => ⟨k1_off1 i 15#32 2#32 0, Nat.lt_of_succ_le (k1_off1_inb i 1 0)⟩
  | _ => 1

section

variable (c : Dev nD) (i : grid1.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S256x512 .bf16) (harg7 : arg7.IsWhole)
  (arg8 : Memref sig .tc .vmem S256x128 .bf16) (harg8 : arg8.IsWhole)
  (arg9 : Memref sig .tc .vmem S256x128 .bf16) (harg9 : arg9.IsWhole)
  (arg10 : Memref sig .tc .vmem S512x1024 .bf16) (harg10 : arg10.IsWhole)
  (arg11 : Memref sig .tc .vmem S3x2x384x512 .f32) (harg11 : arg11.IsWhole)
  (arg12 : Memref sig .tc .smem S8 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x4096 .bf16) (harg15 : arg15.IsWhole)
  (arg16 : Memref sig .tc .vmem S4096x1024 .bf16) (harg16 : arg16.IsWhole)
  (arg17 : Memref sig .tc .vmem S512x1024 .f32) (harg17 : arg17.IsWhole)
  (arg18 : Memref sig .tc .vmem S768x256 .bf16) (harg18 : arg18.IsWhole)
  (arg19 : Memref sig .tc .vmem S256x768 .bf16) (harg19 : arg19.IsWhole)
  (arg20 : Memref sig .tc .vmem S512x1024 .bf16) (harg20 : arg20.IsWhole)
  (x0 : Vec F S512x1024 .f32)
  (x1 : Vec F S512x1024 .bf16)
  (x2 : Vec F S512x1024 .bf16)
  (x3 : Vec F S512x256 .bf16)
  (x4 : Vec F S128x256 .bf16)
  (x5 : Vec F S128x256 .bf16)
  (x6 : Vec F S256x512 .bf16)
  (x7 : Vec F S256x128 .bf16)
  (x8 : Vec F S256x128 .bf16)
  (x9 : Vec F S512x1024 .bf16)
  (x10 : Vec F S3x2x384x512 .f32)
  (x11 : Vec F S8 .f32)
  (x12 : Vec F S1024x1024 .bf16)
  (x13 : Vec F S1x1024 .f32)
  (x14 : Vec F S1024x4096 .bf16)
  (x15 : Vec F S4096x1024 .bf16)

/-- The run's pieces. -/
theorem pieces_eq : (kernelRun1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15).1 =
    Cert.KernelIdeal.Ran.outPieces (variant i) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 x0 x1 x2 x3 x4 x5 x6 x7 x8 x9 x10 x11 x12 x13 x14 x15 := by
  sl_kernel_rfl

end

variable (c : Dev nD) (i : grid1.Coords)
  (arg1 : Memref sig .tc .vmem S512x1024 .f32) (harg1 : arg1.IsWhole)
  (arg2 : Memref sig .tc .vmem S512x1024 .bf16) (harg2 : arg2.IsWhole)
  (arg3 : Memref sig .tc .vmem S512x1024 .bf16) (harg3 : arg3.IsWhole)
  (arg4 : Memref sig .tc .vmem S512x256 .bf16) (harg4 : arg4.IsWhole)
  (arg5 : Memref sig .tc .vmem S128x256 .bf16) (harg5 : arg5.IsWhole)
  (arg6 : Memref sig .tc .vmem S128x256 .bf16) (harg6 : arg6.IsWhole)
  (arg7 : Memref sig .tc .vmem S256x512 .bf16) (harg7 : arg7.IsWhole)
  (arg8 : Memref sig .tc .vmem S256x128 .bf16) (harg8 : arg8.IsWhole)
  (arg9 : Memref sig .tc .vmem S256x128 .bf16) (harg9 : arg9.IsWhole)
  (arg10 : Memref sig .tc .vmem S512x1024 .bf16) (harg10 : arg10.IsWhole)
  (arg11 : Memref sig .tc .vmem S3x2x384x512 .f32) (harg11 : arg11.IsWhole)
  (arg12 : Memref sig .tc .smem S8 .f32) (harg12 : arg12.IsWhole)
  (arg13 : Memref sig .tc .vmem S1024x1024 .bf16) (harg13 : arg13.IsWhole)
  (arg14 : Memref sig .tc .vmem S1x1024 .f32) (harg14 : arg14.IsWhole)
  (arg15 : Memref sig .tc .vmem S1024x4096 .bf16) (harg15 : arg15.IsWhole)
  (arg16 : Memref sig .tc .vmem S4096x1024 .bf16) (harg16 : arg16.IsWhole)
  (arg17 : Memref sig .tc .vmem S512x1024 .f32) (harg17 : arg17.IsWhole)
  (arg18 : Memref sig .tc .vmem S768x256 .bf16) (harg18 : arg18.IsWhole)
  (arg19 : Memref sig .tc .vmem S256x768 .bf16) (harg19 : arg19.IsWhole)
  (arg20 : Memref sig .tc .vmem S512x1024 .bf16) (harg20 : arg20.IsWhole)
  (x0 : Vec Ideal S512x1024 .f32)
  (x1 : Vec Ideal S512x1024 .bf16)
  (x2 : Vec Ideal S512x1024 .bf16)
  (x3 : Vec Ideal S512x256 .bf16)
  (x4 : Vec Ideal S128x256 .bf16)
  (x5 : Vec Ideal S128x256 .bf16)
  (x6 : Vec Ideal S256x512 .bf16)
  (x7 : Vec Ideal S256x128 .bf16)
  (x8 : Vec Ideal S256x128 .bf16)
  (x9 : Vec Ideal S512x1024 .bf16)
  (x10 : Vec Ideal S3x2x384x512 .f32)
  (x11 : Vec Ideal S8 .f32)
  (x12 : Vec Ideal S1024x1024 .bf16)
  (x13 : Vec Ideal S1x1024 .f32)
  (x14 : Vec Ideal S1024x4096 .bf16)
  (x15 : Vec Ideal S4096x1024 .bf16)

/-- The output block of the run. -/
theorem out_at (r : Fin 512) (c' : Fin 1024) :
    out1_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 (ix2 r c') = Cert.KernelIdeal.Blocks.outVal (variant i) x0 x1 x2 x3 x4 x5 x6 x7 x8 x9 x10 x11 x12 x13 x14 x15 r c' := by
  unfold out1_A_16
  rw [View.read_writes_junk_eq_canon, pieces_eq]
  exact Cert.KernelIdeal.Blocks.outPieces_at ..

end Cert.Kernel3Ideal.Run

end
-- ==== Proof.SampleRegions.lean ====
/- The sample's two calls' arrays: where a window's block sits in its array, and what the calls leave in their results. -/
module

public import proofs.«01_k».proof.Proof.Gen.Kernel3Ideal.Frame
public import proofs.«01_k».proof.Proof.SampleRun
public import Idealize.ShloMosaic.Lib.Pipeline.Value

@[expose] public section

set_option maxRecDepth 112784

noncomputable section

namespace Cert.Kernel3Ideal.Regions

open Cert.Kernel3Ideal Cert.Kernel3Ideal.Gen Idealize.ShloMosaic Idealize.ShloMosaic.TcCoe Idealize.SL.Sem
open Idealize.ShloMosaic.Pipeline (Window Dat)

/-- A grid point's coordinate is its number. -/
theorem coords_val : ∀ t : Fin grid1.N, (grid1.coords t 0).val = t.val := by decide +kernel

theorem cur : ∀ t : Fin grid1.N, (BitVec.ofNat 32 (grid1.coords t 0).val).toNat = t.val := by decide +kernel

/-- The block of 128 rows before a point's rows, or the first. -/
theorem prev : ∀ t : Fin grid1.N, cc1_transform_4 (grid1.coords t) 0 = 4 * t.val - 1 := by decide +kernel

/-- The block of 128 rows after them, or the last. -/
theorem next : ∀ t : Fin grid1.N, cc1_transform_5 (grid1.coords t) 0 = min (4 * t.val + 4) 511 := by decide +kernel

variable (V : (c : Dev nD) → (b : Ref sig .tc) → Buf (Elt Ideal) ((c : Thread nD τ).loc b)) (c : Dev nD) (t : Fin 128)

theorem read1 {α : Type} {N : Nat} (X : (⟨1, ![N]⟩ : Shape).Idx → α) (y : (⟨1, ![N]⟩ : Shape).Idx) (R : Fin N) (h0 : (y 0).val = R.val) : X y = X (ix1 R) := by
  congr 1
  funext a
  fin_cases a
  exact Fin.ext h0

theorem read2 {α : Type} {P C : Nat} (X : (⟨2, ![P, C]⟩ : Shape).Idx → α) (y : (⟨2, ![P, C]⟩ : Shape).Idx) (R : Fin P) (S : Fin C) (h0 : (y 0).val = R.val) (h1 : (y 1).val = S.val) : X y = X (ix2 R S) := by
  congr 1
  funext a
  fin_cases a
  · exact Fin.ext h0
  · exact Fin.ext h1

theorem read4 {α : Type} {A B P C : Nat} (X : (⟨4, ![A, B, P, C]⟩ : Shape).Idx → α) (y : (⟨4, ![A, B, P, C]⟩ : Shape).Idx) (a : Fin A) (b : Fin B) (R : Fin P) (S : Fin C)
    (h0 : (y 0).val = a.val) (h1 : (y 1).val = b.val) (h2 : (y 2).val = R.val) (h3 : (y 3).val = S.val) : X y = X (ix4 a b R S) := by
  congr 1
  funext k
  fin_cases k
  · exact Fin.ext h0
  · exact Fin.ext h1
  · exact Fin.ext h2
  · exact Fin.ext h3

/-- The residual rows of a point. -/
theorem blk0 (r : Fin 512) (j : Fin 1024) :
    (show Vec Ideal S512x1024 .f32 from iblk1 V c 0 t) (ix2 r j) = (show Vec Ideal S65536x1024 .f32 from V c main_v43) (ix2 ⟨512 * t.val + r.val, by omega⟩ j) :=
  read2 (V c main_v43) ((win1_0.rect t).emb (ix2 r j)) _ _ ((Window.rect_emb_val win1_0 t (ix2 r j) 0).trans (by show (BitVec.ofNat 32 (grid1.coords t 0).val).toNat * 512 + r.val = 512 * t.val + r.val; exact (congrArg (fun z => z * 512 + r.val) (cur t)).trans (by omega)))
    ((Window.rect_emb_val win1_0 t (ix2 r j) 1).trans (by show 0 * 1024 + j.val = j.val; omega))

/-- Its gated rows. -/
theorem blk1 (r : Fin 512) (j : Fin 1024) :
    (show Vec Ideal S512x1024 .bf16 from iblk1 V c 1 t) (ix2 r j) = (show Vec Ideal S65536x1024 .bf16 from V c main_v54) (ix2 ⟨512 * t.val + r.val, by omega⟩ j) :=
  read2 (V c main_v54) ((win1_1.rect t).emb (ix2 r j)) _ _ ((Window.rect_emb_val win1_1 t (ix2 r j) 0).trans (by show (BitVec.ofNat 32 (grid1.coords t 0).val).toNat * 512 + r.val = 512 * t.val + r.val; exact (congrArg (fun z => z * 512 + r.val) (cur t)).trans (by omega)))
    ((Window.rect_emb_val win1_1 t (ix2 r j) 1).trans (by show 0 * 1024 + j.val = j.val; omega))

/-- Its queries. -/
theorem blk2 (r : Fin 512) (j : Fin 1024) :
    (show Vec Ideal S512x1024 .bf16 from iblk1 V c 2 t) (ix2 r j) = (show Vec Ideal S65536x1024 .bf16 from V c main_v51) (ix2 ⟨512 * t.val + r.val, by omega⟩ j) :=
  read2 (V c main_v51) ((win1_2.rect t).emb (ix2 r j)) _ _ ((Window.rect_emb_val win1_2 t (ix2 r j) 0).trans (by show (BitVec.ofNat 32 (grid1.coords t 0).val).toNat * 512 + r.val = 512 * t.val + r.val; exact (congrArg (fun z => z * 512 + r.val) (cur t)).trans (by omega)))
    ((Window.rect_emb_val win1_2 t (ix2 r j) 1).trans (by show 0 * 1024 + j.val = j.val; omega))

/-- Its keys, -/
theorem blk3 (r : Fin 512) (j : Fin 256) :
    (show Vec Ideal S512x256 .bf16 from iblk1 V c 3 t) (ix2 r j) = (show Vec Ideal S65536x256 .bf16 from V c main_v55) (ix2 ⟨512 * t.val + r.val, by omega⟩ j) :=
  read2 (V c main_v55) ((win1_3.rect t).emb (ix2 r j)) _ _ ((Window.rect_emb_val win1_3 t (ix2 r j) 0).trans (by show (BitVec.ofNat 32 (grid1.coords t 0).val).toNat * 512 + r.val = 512 * t.val + r.val; exact (congrArg (fun z => z * 512 + r.val) (cur t)).trans (by omega)))
    ((Window.rect_emb_val win1_3 t (ix2 r j) 1).trans (by show 0 * 256 + j.val = j.val; omega))

/-- those before them, -/
theorem blk4 (h : 0 < t.val) (r : Fin 128) (j : Fin 256) :
    (show Vec Ideal S128x256 .bf16 from iblk1 V c 4 t) (ix2 r j) = (show Vec Ideal S65536x256 .bf16 from V c main_v55) (ix2 ⟨512 * t.val + r.val - 128, by omega⟩ j) :=
  read2 (V c main_v55) ((win1_4.rect t).emb (ix2 r j)) _ _ ((Window.rect_emb_val win1_4 t (ix2 r j) 0).trans (by show cc1_transform_4 (grid1.coords t) 0 * 128 + r.val = 512 * t.val + r.val - 128; exact (congrArg (fun z => z * 128 + r.val) (prev t)).trans (by omega)))
    ((Window.rect_emb_val win1_4 t (ix2 r j) 1).trans (by show 0 * 256 + j.val = j.val; omega))

/-- and those after. -/
theorem blk5 (h : t.val < 127) (r : Fin 128) (j : Fin 256) :
    (show Vec Ideal S128x256 .bf16 from iblk1 V c 5 t) (ix2 r j) = (show Vec Ideal S65536x256 .bf16 from V c main_v55) (ix2 ⟨512 * t.val + r.val + 512, by omega⟩ j) :=
  read2 (V c main_v55) ((win1_5.rect t).emb (ix2 r j)) _ _ ((Window.rect_emb_val win1_5 t (ix2 r j) 0).trans (by show cc1_transform_5 (grid1.coords t) 0 * 128 + r.val = 512 * t.val + r.val + 512; exact (congrArg (fun z => z * 128 + r.val) (next t)).trans (by omega)))
    ((Window.rect_emb_val win1_5 t (ix2 r j) 1).trans (by show 0 * 256 + j.val = j.val; omega))

/-- Its values, -/
theorem blk6 (r : Fin 512) (j : Fin 256) :
    (show Vec Ideal S256x512 .bf16 from iblk1 V c 6 t) (ix2 j r) = (show Vec Ideal S256x65536 .bf16 from V c main_v53) (ix2 j ⟨512 * t.val + r.val, by omega⟩) :=
  read2 (V c main_v53) ((win1_6.rect t).emb (ix2 j r)) _ _ ((Window.rect_emb_val win1_6 t (ix2 j r) 0).trans (by show 0 * 256 + j.val = j.val; omega))
    ((Window.rect_emb_val win1_6 t (ix2 j r) 1).trans (by show (BitVec.ofNat 32 (grid1.coords t 0).val).toNat * 512 + r.val = 512 * t.val + r.val; exact (congrArg (fun z => z * 512 + r.val) (cur t)).trans (by omega)))

/-- those before them, -/
theorem blk7 (h : 0 < t.val) (r : Fin 128) (j : Fin 256) :
    (show Vec Ideal S256x128 .bf16 from iblk1 V c 7 t) (ix2 j r) = (show Vec Ideal S256x65536 .bf16 from V c main_v53) (ix2 j ⟨512 * t.val + r.val - 128, by omega⟩) :=
  read2 (V c main_v53) ((win1_7.rect t).emb (ix2 j r)) _ _ ((Window.rect_emb_val win1_7 t (ix2 j r) 0).trans (by show 0 * 256 + j.val = j.val; omega))
    ((Window.rect_emb_val win1_7 t (ix2 j r) 1).trans (by show cc1_transform_4 (grid1.coords t) 0 * 128 + r.val = 512 * t.val + r.val - 128; exact (congrArg (fun z => z * 128 + r.val) (prev t)).trans (by omega)))

/-- and those after. -/
theorem blk8 (h : t.val < 127) (r : Fin 128) (j : Fin 256) :
    (show Vec Ideal S256x128 .bf16 from iblk1 V c 8 t) (ix2 j r) = (show Vec Ideal S256x65536 .bf16 from V c main_v53) (ix2 j ⟨512 * t.val + r.val + 512, by omega⟩) :=
  read2 (V c main_v53) ((win1_8.rect t).emb (ix2 j r)) _ _ ((Window.rect_emb_val win1_8 t (ix2 j r) 0).trans (by show 0 * 256 + j.val = j.val; omega))
    ((Window.rect_emb_val win1_8 t (ix2 j r) 1).trans (by show cc1_transform_5 (grid1.coords t) 0 * 128 + r.val = 512 * t.val + r.val + 512; exact (congrArg (fun z => z * 128 + r.val) (next t)).trans (by omega)))

/-- Its second gate. -/
theorem blk9 (r : Fin 512) (j : Fin 1024) :
    (show Vec Ideal S512x1024 .bf16 from iblk1 V c 9 t) (ix2 r j) = (show Vec Ideal S65536x1024 .bf16 from V c main_v56) (ix2 ⟨512 * t.val + r.val, by omega⟩ j) :=
  read2 (V c main_v56) ((win1_9.rect t).emb (ix2 r j)) _ _ ((Window.rect_emb_val win1_9 t (ix2 r j) 0).trans (by show (BitVec.ofNat 32 (grid1.coords t 0).val).toNat * 512 + r.val = 512 * t.val + r.val; exact (congrArg (fun z => z * 512 + r.val) (cur t)).trans (by omega)))
    ((Window.rect_emb_val win1_9 t (ix2 r j) 1).trans (by show 0 * 1024 + j.val = j.val; omega))

/-- The bias table, whole at every point. -/
theorem blk10 (v : Fin 3) (kh : Fin 2) (r : Fin 384) (j : Fin 512) :
    (show Vec Ideal S3x2x384x512 .f32 from iblk1 V c 10 t) (ix4 v kh r j) = (show Vec Ideal S3x2x384x512 .f32 from V c main_v33) (ix4 v kh r j) :=
  read4 (V c main_v33) ((win1_10.rect t).emb (ix4 v kh r j)) _ _ _ _
    ((Window.rect_emb_val win1_10 t (ix4 v kh r j) 0).trans (by show 0 * 3 + v.val = v.val; omega))
    ((Window.rect_emb_val win1_10 t (ix4 v kh r j) 1).trans (by show 0 * 2 + kh.val = kh.val; omega))
    ((Window.rect_emb_val win1_10 t (ix4 v kh r j) 2).trans (by show 0 * 384 + r.val = r.val; omega))
    ((Window.rect_emb_val win1_10 t (ix4 v kh r j) 3).trans (by show 0 * 512 + j.val = j.val; omega))

/-- The sinks. -/
theorem blk11 (h : Fin 8) :
    (show Vec Ideal S8 .f32 from iblk1 V c 11 t) (ix1 h) = (show Vec Ideal S8 .f32 from V c main_v42) (ix1 h) :=
  read1 (V c main_v42) ((win1_11.rect t).emb (ix1 h)) _ ((Window.rect_emb_val win1_11 t (ix1 h) 0).trans (by show 0 * 8 + h.val = h.val; omega))

/-- The output projection. -/
theorem blk12 (k : Fin 1024) (l : Fin 1024) :
    (show Vec Ideal S1024x1024 .bf16 from iblk1 V c 12 t) (ix2 k l) = (show Vec Ideal S1024x1024 .bf16 from V c main_v37) (ix2 k l) :=
  read2 (V c main_v37) ((win1_12.rect t).emb (ix2 k l)) _ _ ((Window.rect_emb_val win1_12 t (ix2 k l) 0).trans (by show 0 * 1024 + k.val = k.val; omega))
    ((Window.rect_emb_val win1_12 t (ix2 k l) 1).trans (by show 0 * 1024 + l.val = l.val; omega))

/-- The norm's gain. -/
theorem blk13 (k : Fin 1) (l : Fin 1024) :
    (show Vec Ideal S1x1024 .f32 from iblk1 V c 13 t) (ix2 k l) = (show Vec Ideal S1x1024 .f32 from V c main_v35) (ix2 k l) :=
  read2 (V c main_v35) ((win1_13.rect t).emb (ix2 k l)) _ _ ((Window.rect_emb_val win1_13 t (ix2 k l) 0).trans (by show 0 * 1 + k.val = k.val; omega))
    ((Window.rect_emb_val win1_13 t (ix2 k l) 1).trans (by show 0 * 1024 + l.val = l.val; omega))

/-- The first channel-mix matrix. -/
theorem blk14 (k : Fin 1024) (l : Fin 4096) :
    (show Vec Ideal S1024x4096 .bf16 from iblk1 V c 14 t) (ix2 k l) = (show Vec Ideal S1024x4096 .bf16 from V c main_v39) (ix2 k l) :=
  read2 (V c main_v39) ((win1_14.rect t).emb (ix2 k l)) _ _ ((Window.rect_emb_val win1_14 t (ix2 k l) 0).trans (by show 0 * 1024 + k.val = k.val; omega))
    ((Window.rect_emb_val win1_14 t (ix2 k l) 1).trans (by show 0 * 4096 + l.val = l.val; omega))

/-- The second. -/
theorem blk15 (k : Fin 4096) (l : Fin 1024) :
    (show Vec Ideal S4096x1024 .bf16 from iblk1 V c 15 t) (ix2 k l) = (show Vec Ideal S4096x1024 .bf16 from V c main_v41) (ix2 k l) :=
  read2 (V c main_v41) ((win1_15.rect t).emb (ix2 k l)) _ _ ((Window.rect_emb_val win1_15 t (ix2 k l) 0).trans (by show 0 * 4096 + k.val = k.val; omega))
    ((Window.rect_emb_val win1_15 t (ix2 k l) 1).trans (by show 0 * 1024 + l.val = l.val; omega))

theorem flush1 : ∀ t : Fin grid1.N, win1_16.flush t = true := by decide +kernel

/-- Where a row of a point's output block lies, -/
theorem place0 (x : S512x1024.Idx) : ((win1_16.rect t).emb x 0).val = 512 * t.val + (x 0).val :=
  (Window.rect_emb_val win1_16 t x 0).trans (by show (BitVec.ofNat 32 (grid1.coords t 0).val).toNat * 512 + (x 0).val = 512 * t.val + (x 0).val; exact (congrArg (fun z => z * 512 + (x 0).val) (cur t)).trans (by omega))

/-- and where a column. -/
theorem place1 (x : S512x1024.Idx) : ((win1_16.rect t).emb x 1).val = (x 1).val :=
  (Window.rect_emb_val win1_16 t x 1).trans (by show 0 * 1024 + (x 1).val = (x 1).val; omega)

/-- The array that holds the points' blocks one under another. -/
def stack {α : Type} (f : Fin 128 → S512x1024.Idx → α) (y : S65536x1024.Idx) : α :=
  f ⟨(y 0).val / 512, by have : (y 0).val < 65536 := (y 0).isLt; omega⟩ (ix2 ⟨(y 0).val % 512, by omega⟩ (y 1))

theorem stack_eq {α : Type} (f : Fin 128 → S512x1024.Idx → α) (y : S65536x1024.Idx) (x : S512x1024.Idx) (h0 : (y 0).val = 512 * t.val + (x 0).val) (h1 : (y 1).val = (x 1).val) :
    stack f y = f t x := by
  have hx : (x 0).val < 512 := (x 0).isLt
  have ht : (⟨(y 0).val / 512, by have : (y 0).val < 65536 := (y 0).isLt; omega⟩ : Fin 128) = t := Fin.ext (by show (y 0).val / 512 = t.val; omega)
  unfold stack
  rw [ht]
  exact (read2 (f t) x _ _ (by show (x 0).val = (y 0).val % 512; omega) h1.symm).symm

theorem mem1 (x : S512x1024.Idx) (y : S65536x1024.Idx) (e : (win1_16.rect t).emb x = y) : y ∈ (win1_16.blk t).view.set := by
  subst e
  exact View.emb_mem_set _ x

theorem cover1 (y : S65536x1024.Idx) : ∃ t : Fin grid1.N, win1_16.flush t = true ∧ y ∈ (win1_16.blk t).view.set := by
  have hy : (y 0).val < 65536 := (y 0).isLt
  refine ⟨(⟨(y 0).val / 512, by omega⟩ : Fin 128), flush1 _, ?_⟩
  have e : (win1_16.rect (⟨(y 0).val / 512, by omega⟩ : Fin 128)).emb (ix2 (⟨(y 0).val % 512, by omega⟩ : Fin 512) (y 1)) = y := by
    funext a
    apply Fin.ext
    fin_cases a
    · refine (place0 ⟨(y 0).val / 512, by omega⟩ (ix2 ⟨(y 0).val % 512, by omega⟩ (y 1))).trans ?_
      show 512 * ((y 0).val / 512) + (y 0).val % 512 = (y 0).val
      omega
    · exact place1 ⟨(y 0).val / 512, by omega⟩ (ix2 ⟨(y 0).val % 512, by omega⟩ (y 1))
  exact mem1 _ _ y e

theorem arr1 : (dat1 V c).arrAt 16 cfg1.N = stack (fun t => outsAt1 V c t) := by
  refine (dat1 V c).arrAt_eq_of_cover 16 _ (fun t _ => ?_) cover1
  unfold Dat.flushed
  rw [after1_16]
  generalize outsAt1 V c = f
  funext x
  exact (stack_eq t (fun t => f t) ((win1_16.rect t).emb x) x (place0 t x) (place1 t x)).symm

/-- The second call's result: each row as its point leaves it. -/
theorem out1 (r : Fin 512) (j : Fin 1024) :
    (show Vec Ideal S65536x1024 .f32 from (dat1 V c).arrAt 16 cfg1.N) (ix2 ⟨512 * t.val + r.val, by omega⟩ j) = (show Vec Ideal S512x1024 .f32 from outsAt1 V c t) (ix2 r j) := by
  rw [arr1]
  exact stack_eq t (fun t => outsAt1 V c t) _ (ix2 r j) rfl rfl

/-! ## The first call -/

theorem blk0_0 (r : Fin 384) (p : Fin 128) :
    (show Vec Ideal S384x128 .i32 from iblk0 V c 0 t0_0) (ix2 r p) = (show Vec Ideal S384x128 .i32 from V c main_v32) (ix2 r p) :=
  read2 (V c main_v32) ((win0_0.rect t0_0).emb (ix2 r p)) _ _ ((Window.rect_emb_val win0_0 t0_0 (ix2 r p) 0).trans (by show 0 * 384 + r.val = r.val; omega))
    ((Window.rect_emb_val win0_0 t0_0 (ix2 r p) 1).trans (by show 0 * 128 + p.val = p.val; omega))

theorem blk0_1 (s : Fin 32) (h : Fin 8) :
    (show Vec Ideal S32x8 .f32 from iblk0 V c 1 t0_0) (ix2 s h) = (show Vec Ideal S32x8 .f32 from V c main_arg6) (ix2 s h) :=
  read2 (V c main_arg6) ((win0_1.rect t0_0).emb (ix2 s h)) _ _ ((Window.rect_emb_val win0_1 t0_0 (ix2 s h) 0).trans (by show 0 * 32 + s.val = s.val; omega))
    ((Window.rect_emb_val win0_1 t0_0 (ix2 s h) 1).trans (by show 0 * 8 + h.val = h.val; omega))

theorem flush0 : ∀ t : Fin grid0.N, win0_2.flush t = true := by decide +kernel

theorem place0_2 (x : S3x2x384x512.Idx) : (win0_2.rect t0_0).emb x = x := by
  funext a
  apply Fin.ext
  refine (Window.rect_emb_val win0_2 t0_0 x a).trans ?_
  fin_cases a
  · show 0 * 3 + (x 0).val = (x 0).val; omega
  · show 0 * 2 + (x 1).val = (x 1).val; omega
  · show 0 * 384 + (x 2).val = (x 2).val; omega
  · show 0 * 512 + (x 3).val = (x 3).val; omega

theorem mem0 (x : S3x2x384x512.Idx) : x ∈ (win0_2.blk t0_0).view.set := by
  have h := View.emb_mem_set (win0_2.blk t0_0).view x
  have e : (win0_2.blk t0_0).view.emb x = x := place0_2 x
  exact (congrArg (· ∈ (win0_2.blk t0_0).view.set) e).mp h

theorem arr0 : (dat0 V c).arrAt 2 cfg0.N = outsAt0 V c t0_0 := by
  refine (dat0 V c).arrAt_eq_of_cover 2 _ (fun t _ => ?_) fun y => ⟨t0_0, flush0 _, mem0 y⟩
  unfold Dat.flushed
  rw [after0_2, fin_N0 t]
  generalize outsAt0 V c t0_0 = f
  funext x
  exact (congrArg f (place0_2 x)).symm

/-- The first call's result: the bias table over the buckets it is given. -/
theorem out0 (B : Fin 384 → Fin 128 → Fin 32) (h : ∀ r p, (show Vec Ideal S384x128 .i32 from V c main_v32) (ix2 r p) = BitVec.ofNat 32 (B r p).val)
    (v : Fin 3) (kh : Fin 2) (r : Fin 384) (j : Fin 512) :
    (show Vec Ideal S3x2x384x512 .f32 from (dat0 V c).arrAt 2 cfg0.N) (ix4 v kh r j) =
      Cert.KernelIdeal.Table.entry v ((show Vec Ideal S32x8 .f32 from V c main_arg6) (ix2 (B r ⟨j.val % 128, by omega⟩) ⟨4 * kh.val + j.val / 128, by omega⟩)) r ⟨j.val % 128, by omega⟩ := by
  rw [arr0]
  show outsAt0 V c t0_0 (ix4 v kh r j) = _
  unfold outsAt0 out0_A_2
  rw [View.read_writes_junk_eq_canon, Run.table_eq]
  refine (Cert.KernelIdeal.Table.table_at _ _ _ _ _ _ B (fun r p => (blk0_0 V c r p).trans (h r p)) v kh r j).trans ?_
  exact congrArg (fun z => Cert.KernelIdeal.Table.entry v z r ⟨j.val % 128, by omega⟩) (blk0_1 V c _ _)

end Cert.Kernel3Ideal.Regions

end
-- ==== Proof.SampleHost.lean ====
/- The host's arrays of the sample, at an index: the bucket table it hands the first call, and the arrays it prepares for the second. -/
module

public import proofs.«01_k».proof.Proof.Gen.Kernel3Ideal.Frame
public import proofs.«01_k».proof.Proof.Bits
public import proofs.«01_k».proof.Proof.Consts
public import Idealize.ShloMosaic.Lib.StableHlo.ReadAt
public import Idealize.ShloMosaic.Lib.Pointwise

@[expose] public section

set_option maxRecDepth 16384

noncomputable section

namespace Cert.Kernel3Ideal.Host

open Cert.Kernel3Ideal Cert.Kernel3Ideal.Gen Idealize.ShloMosaic Idealize.ShloMosaic.TcCoe Idealize.SL.Sem

variable (U : Valuation τ sig (Elt Ideal))

/-- The word of a position's bucket. -/
theorem bucket_at (r : Fin 384) (p : Fin 128) :
    (show Vec Ideal S384x128 .i32 from StableHlo.after hostOps0_4 (StableHlo.after hostOps0_3 (StableHlo.after hostOps0_2 (StableHlo.after hostOps0_1 (StableHlo.after hostOps0 U)))) (Proc.devRef .tc main_v32)) (ix2 r p) =
      Bits.bucket (IntOp.subi (IntOp.subi (BitVec.ofNat 32 r.val) 128#32) (BitVec.ofNat 32 p.val)) := by
  dsimp only
  after_reads_at
  unfold Bits.bucket
  rfl

theorem row_of (b : Fin 8) (t : Fin 8192) : (⟨(8192 * b.val + t.val) / 8192, by omega⟩ : Fin 8) = b := Fin.ext (by show (8192 * b.val + t.val) / 8192 = b.val; omega)

theorem row_in (b : Fin 8) (t : Fin 8192) : (⟨(8192 * b.val + t.val) % 8192, by omega⟩ : Fin 8192) = t := Fin.ext (by show (8192 * b.val + t.val) % 8192 = t.val; omega)

/-- The residual input, row by row. -/
theorem v43_at (b : Fin 8) (t : Fin 8192) (j : Fin 1024) :
    (show Vec Ideal S65536x1024 .f32 from StableHlo.after hostOps1 U (Proc.devRef .tc main_v43)) (ix2 ⟨8192 * b.val + t.val, by omega⟩ j) =
      (show Vec Ideal S8x8192x1024 .f32 from U (Proc.devRef .tc main_arg0)) (ix3 b t j) := by
  dsimp only
  after_reads_at

/-- The gated branch. -/
theorem v54_at (b : Fin 8) (t : Fin 8192) (j : Fin 1024) :
    (show Vec Ideal S65536x1024 .bf16 from StableHlo.after hostOps1 U (Proc.devRef .tc main_v54)) (ix2 ⟨8192 * b.val + t.val, by omega⟩ j) =
      (show Vec Ideal S8x8192x1024 .bf16 from U (Proc.devRef .tc main_arg1)) (ix3 b t j) := by
  dsimp only
  after_reads_at

/-- The keys. -/
theorem v55_at (b : Fin 8) (t : Fin 8192) (j : Fin 256) :
    (show Vec Ideal S65536x256 .bf16 from StableHlo.after hostOps1 U (Proc.devRef .tc main_v55)) (ix2 ⟨8192 * b.val + t.val, by omega⟩ j) =
      (show Vec Ideal S8x8192x256 .bf16 from U (Proc.devRef .tc main_arg3)) (ix3 b t j) := by
  dsimp only
  after_reads_at

/-- The values, transposed. -/
theorem v53_at (b : Fin 8) (t : Fin 8192) (j : Fin 256) :
    (show Vec Ideal S256x65536 .bf16 from StableHlo.after hostOps1 U (Proc.devRef .tc main_v53)) (ix2 j ⟨8192 * b.val + t.val, by omega⟩) =
      (show Vec Ideal S8x8192x256 .bf16 from U (Proc.devRef .tc main_arg4)) (ix3 b t j) := by
  dsimp only
  after_reads_at
  rw [row_of, row_in]

/-- The second gate. -/
theorem v56_at (b : Fin 8) (t : Fin 8192) (j : Fin 1024) :
    (show Vec Ideal S65536x1024 .bf16 from StableHlo.after hostOps1 U (Proc.devRef .tc main_v56)) (ix2 ⟨8192 * b.val + t.val, by omega⟩ j) =
      (show Vec Ideal S8x8192x1024 .bf16 from U (Proc.devRef .tc main_arg5)) (ix3 b t j) := by
  dsimp only
  after_reads_at

/-- The queries, scaled. -/
theorem v51_at (b : Fin 8) (t : Fin 8192) (j : Fin 1024) :
    (show Vec Ideal S65536x1024 .bf16 from StableHlo.after hostOps1 U (Proc.devRef .tc main_v51)) (ix2 ⟨8192 * b.val + t.val, by omega⟩ j) =
      Ideal.div ((show Vec Ideal S8x8192x1024 .bf16 from U (Proc.devRef .tc main_arg2)) (ix3 b t j)) (Ideal.sqrt ((128 : ℝ) : EReal) * Ideal.log ((2 : ℝ) : EReal)) := by
  dsimp only
  after_reads_at
  rw [row_of, row_in, Consts.ofBits_128, Consts.ofBits_2]

/-- The output projection. -/
theorem v37_at (k l : Fin 1024) :
    (show Vec Ideal S1024x1024 .bf16 from StableHlo.after hostOps1 U (Proc.devRef .tc main_v37)) (ix2 k l) =
      (show Vec Ideal S1x1024x1024 .f32 from U (Proc.devRef .tc main_arg8)) (ix3 0 k l) := by
  dsimp only
  after_reads_at

/-- The norm's gain. -/
theorem v35_at (k : Fin 1024) :
    (show Vec Ideal S1x1024 .f32 from StableHlo.after hostOps1 U (Proc.devRef .tc main_v35)) (ix2 0 k) =
      (show Vec Ideal S1x1024 .f32 from U (Proc.devRef .tc main_arg9)) (ix2 0 k) := by
  dsimp only
  after_reads_at

/-- The first channel-mix matrix. -/
theorem v39_at (k : Fin 1024) (l : Fin 4096) :
    (show Vec Ideal S1024x4096 .bf16 from StableHlo.after hostOps1 U (Proc.devRef .tc main_v39)) (ix2 k l) =
      (show Vec Ideal S1x1024x4096 .f32 from U (Proc.devRef .tc main_arg10)) (ix3 0 k l) := by
  dsimp only
  after_reads_at

/-- The second. -/
theorem v41_at (k : Fin 4096) (l : Fin 1024) :
    (show Vec Ideal S4096x1024 .bf16 from StableHlo.after hostOps1 U (Proc.devRef .tc main_v41)) (ix2 k l) =
      (show Vec Ideal S1x4096x1024 .f32 from U (Proc.devRef .tc main_arg11)) (ix3 0 k l) := by
  dsimp only
  after_reads_at

/-- The sinks. -/
theorem v42_at (h : Fin 8) :
    (show Vec Ideal S8 .f32 from StableHlo.after hostOps1 U (Proc.devRef .tc main_v42)) (ix1 h) =
      (show Vec Ideal S1x8 .f32 from U (Proc.devRef .tc main_arg7)) (ix2 0 h) := by
  dsimp only
  after_reads_at

/-- The result, batch by batch. -/
theorem v58_at (b : Fin 8) (t : Fin 8192) (j : Fin 1024) :
    (show Vec Ideal S8x8192x1024 .f32 from StableHlo.after hostOps2 U (Proc.devRef .tc main_v58)) (ix3 b t j) =
      (show Vec Ideal S65536x1024 .f32 from U (Proc.devRef .tc main_v57)) (ix2 ⟨8192 * b.val + t.val, by omega⟩ j) := by
  dsimp only
  after_reads_simp
  clean_types
  refine shapeCast_apply _ shapeCasts_S65536x1024_S8x8192x1024 _ _ ?_
  rw [rowMajor_val3 _ 8388608 1024 rfl rfl, rowMajor_val2 _ 1024 rfl]
  show (8192 * b.val + t.val) * 1024 + j.val = b.val * 8388608 + t.val * 1024 + j.val
  omega

end Cert.Kernel3Ideal.Host

end
-- ==== Proof.SampleRefBand.lean ====
/- The sample's reference's bands: for a block of 128 queries, the 384 key rows and value rows around it, zero outside of the sequence. -/
module

public import proofs.«01_k».proof.Proof.Gen.Reference3Ideal.Read
public import Idealize.ShloMosaic.Lib.Pointwise
public import Idealize.ShloMosaic.Lib.KernelVsHost

@[expose] public section

noncomputable section

namespace Cert.Reference3Ideal.Ref

open Cert.Reference3Ideal Cert.Reference3Ideal.Gen Cert.Reference3Ideal.Read Idealize.ShloMosaic Idealize.ShloMosaic.TcCoe Idealize.SL.Sem

/-- A row of the padded keys or values, by its place counted from 128 before the sequence's first. -/
def padded (K : Vec Ideal S8x8192x256 .bf16) (b : Fin 8) (m : Nat) (j : Fin 256) : EReal :=
  if h : 128 ≤ m ∧ m < 8320 then K (ix3 b ⟨m - 128, by omega⟩ j) else 0

theorem v4_at (K : Vec Ideal S8x8192x256 .bf16) (b : Fin 8) (t : Fin 8192) (kh : Fin 2) (d : Fin 128) :
    val_main_v4 (F := Ideal) K (ix4 b t kh d) = K (ix3 b t ⟨128 * kh.val + d.val, by omega⟩) := by
  rw [val_main_v4_apply, val_main_v1_apply]
  show K _ = K _
  congr 1
  funext a
  apply Fin.ext
  fin_cases a
  · show (((b.val * 8192 + t.val) * 2 + kh.val) * 128 + d.val) / 2097152 = b.val
    omega
  · show (((b.val * 8192 + t.val) * 2 + kh.val) * 128 + d.val) / 256 % 8192 = t.val
    omega
  · show (((b.val * 8192 + t.val) * 2 + kh.val) * 128 + d.val) % 256 = 128 * kh.val + d.val
    omega

theorem v7_at (K : Vec Ideal S8x8192x256 .bf16) (b : Fin 8) (m : Fin 8448) (kh : Fin 2) (d : Fin 128) :
    val_main_v7 (F := Ideal) K (ix4 b m kh d) = padded K b m.val ⟨128 * kh.val + d.val, by omega⟩ := by
  unfold val_main_v7 padded
  by_cases h : 128 ≤ m.val ∧ m.val < 8320
  · rw [dif_pos h, pad_apply_of_inside (k := ix4 b ⟨m.val - 128, by omega⟩ kh d)]
    · exact v4_at K b _ kh d
    · intro a
      fin_cases a
      · show b.val = 0 + b.val * (0 + 1)
        omega
      · show m.val = 128 + (m.val - 128) * (0 + 1)
        omega
      · show kh.val = 0 + kh.val * (0 + 1)
        omega
      · show d.val = 0 + d.val * (0 + 1)
        omega
  · rw [dif_neg h, pad_apply_of_not_inside (a := 1)]
    · show (((BitVec.toInt 0#32 : ℤ) : ℝ) : EReal) = 0
      simp
    · show ¬ (128 ≤ m.val ∧ (m.val - 128) % (0 + 1) = 0 ∧ (m.val - 128) / (0 + 1) < 8192)
      omega

theorem v8_at (K : Vec Ideal S8x8192x256 .bf16) (b : Fin 8) (n : Fin 66) (p : Fin 128) (kh : Fin 2) (d : Fin 128) :
    val_main_v8 (F := Ideal) K (ix5 b n p kh d) = padded K b (128 * n.val + p.val) ⟨128 * kh.val + d.val, by omega⟩ := by
  rw [val_main_v8_apply, ← v7_at K b ⟨128 * n.val + p.val, by omega⟩ kh d]
  congr 1
  funext a
  apply Fin.ext
  fin_cases a
  · show ((((b.val * 66 + n.val) * 128 + p.val) * 2 + kh.val) * 128 + d.val) / 2162688 = b.val
    omega
  · show ((((b.val * 66 + n.val) * 128 + p.val) * 2 + kh.val) * 128 + d.val) / 256 % 8448 = 128 * n.val + p.val
    omega
  · show ((((b.val * 66 + n.val) * 128 + p.val) * 2 + kh.val) * 128 + d.val) / 128 % 2 = kh.val
    omega
  · show ((((b.val * 66 + n.val) * 128 + p.val) * 2 + kh.val) * 128 + d.val) % 128 = d.val
    omega

theorem v9_at (K : Vec Ideal S8x8192x256 .bf16) (b : Fin 8) (n : Fin 64) (p : Fin 128) (kh : Fin 2) (d : Fin 128) :
    val_main_v9 (F := Ideal) K (ix5 b n p kh d) = padded K b (128 * n.val + p.val) ⟨128 * kh.val + d.val, by omega⟩ := by
  rw [val_main_v9_apply]
  refine Eq.trans (congrArg _ ?_) (v8_at K b ⟨n.val, by omega⟩ p kh d)
  funext a
  apply Fin.ext
  fin_cases a <;> rfl

theorem v10_at (K : Vec Ideal S8x8192x256 .bf16) (b : Fin 8) (n : Fin 64) (p : Fin 128) (kh : Fin 2) (d : Fin 128) :
    val_main_v10 (F := Ideal) K (ix5 b n p kh d) = padded K b (128 * n.val + (128 + p.val)) ⟨128 * kh.val + d.val, by omega⟩ := by
  rw [val_main_v10_apply, show 128 * n.val + (128 + p.val) = 128 * (1 + n.val) + p.val by omega]
  refine Eq.trans (congrArg _ ?_) (v8_at K b ⟨1 + n.val, by omega⟩ p kh d)
  funext a
  apply Fin.ext
  fin_cases a <;> rfl

theorem v11_at (K : Vec Ideal S8x8192x256 .bf16) (b : Fin 8) (n : Fin 64) (p : Fin 128) (kh : Fin 2) (d : Fin 128) :
    val_main_v11 (F := Ideal) K (ix5 b n p kh d) = padded K b (128 * n.val + (256 + p.val)) ⟨128 * kh.val + d.val, by omega⟩ := by
  rw [val_main_v11_apply, show 128 * n.val + (256 + p.val) = 128 * (2 + n.val) + p.val by omega]
  refine Eq.trans (congrArg _ ?_) (v8_at K b ⟨2 + n.val, by omega⟩ p kh d)
  funext a
  apply Fin.ext
  fin_cases a <;> rfl

/-- The keys of a block of queries. -/
theorem v12_at (K : Vec Ideal S8x8192x256 .bf16) (b : Fin 8) (n : Fin 64) (r : Fin 384) (kh : Fin 2) (d : Fin 128) :
    val_main_v12 (F := Ideal) K (ix5 b n r kh d) = padded K b (128 * n.val + r.val) ⟨128 * kh.val + d.val, by omega⟩ := by
  unfold val_main_v12
  by_cases h1 : r.val < 128
  · refine (concatenate_apply_piece (t := S8x64x384x2x128) 2 _ _ _ 0 (by show 0 < 3; omega) S8x64x128x2x128 (val_main_v9 (F := Ideal) K) rfl rfl 0 rfl (ix5 b n ⟨r.val, by omega⟩ kh d) ?_ ?_).trans ?_
    · intro a ha
      fin_cases a
      · rfl
      · rfl
      · exact absurd rfl ha
      · rfl
      · rfl
    · show 0 + (r.val) = r.val
      omega
    · refine (v9_at K b n ⟨r.val, by omega⟩ kh d).trans ?_
      rfl
  by_cases h2 : r.val < 256
  · refine (concatenate_apply_piece (t := S8x64x384x2x128) 2 _ _ _ 1 (by show 1 < 3; omega) S8x64x128x2x128 (val_main_v10 (F := Ideal) K) rfl rfl 128 rfl (ix5 b n ⟨r.val - 128, by omega⟩ kh d) ?_ ?_).trans ?_
    · intro a ha
      fin_cases a
      · rfl
      · rfl
      · exact absurd rfl ha
      · rfl
      · rfl
    · show 128 + (r.val - 128) = r.val
      omega
    · refine (v10_at K b n ⟨r.val - 128, by omega⟩ kh d).trans ?_
      rw [show 128 + (r.val - 128) = r.val by omega]
  · refine (concatenate_apply_piece (t := S8x64x384x2x128) 2 _ _ _ 2 (by show 2 < 3; omega) S8x64x128x2x128 (val_main_v11 (F := Ideal) K) rfl rfl 256 rfl (ix5 b n ⟨r.val - 256, by omega⟩ kh d) ?_ ?_).trans ?_
    · intro a ha
      fin_cases a
      · rfl
      · rfl
      · exact absurd rfl ha
      · rfl
      · rfl
    · show 256 + (r.val - 256) = r.val
      omega
    · refine (v11_at K b n ⟨r.val - 256, by omega⟩ kh d).trans ?_
      rw [show 256 + (r.val - 256) = r.val by omega]

/-- The values of a block of queries are read the same way. -/
theorem v18_eq (V : Vec Ideal S8x8192x256 .bf16) : val_main_v18 (F := Ideal) V = val_main_v12 (F := Ideal) V := rfl

end Cert.Reference3Ideal.Ref

end
-- ==== Proof.SampleRefScore.lean ====
/- The sample's reference's scores: the scaled products of queries and keys plus the bias of the relative position, −∞ outside of the
   window and of the sequence. -/
module

public import proofs.«01_k».proof.Proof.SampleRefBand
public import proofs.«01_k».proof.Proof.Bits
public import proofs.«01_k».proof.Proof.Spec

@[expose] public section

noncomputable section

namespace Cert.Reference3Ideal.Ref

open Cert.Reference3Ideal Cert.Reference3Ideal.Gen Cert.Reference3Ideal.Read Idealize.ShloMosaic Idealize.ShloMosaic.TcCoe Idealize.SL.Sem

theorem v32_at (p : Fin 128) (r : Fin 384) : val_main_v32 (F := Ideal) (ix2 p r) = Bits.W ((r.val : ℤ) - 128 - p.val) := by
  simp only [val_main_v32_apply, val_main_v30_apply, val_main_v29_apply, val_main_v27_apply, val_main_v26_apply, val_main_v28_apply, val_main_c_1_apply,
    val_main_v31_apply, val_main_v25_apply, val_main_v24_apply]
  show IntOp.subi (IntOp.subi (BitVec.ofNat 32 r.val) (Bits.W 128)) (BitVec.ofNat 32 p.val) = _
  rw [Bits.ofNat_eq, Bits.ofNat_eq, Bits.subi_W, Bits.subi_W]

theorem v56_at (p : Fin 128) (r : Fin 384) : val_main_v56 (F := Ideal) (ix2 p r) = Bits.bucket (Bits.W ((r.val : ℤ) - 128 - p.val)) := by
  rw [← v32_at]
  rfl

theorem rel_small (p : Fin 128) (r : Fin 384) : |(r.val : ℤ) - 128 - p.val| < 1048576 := by
  rw [abs_lt]; omega

/-- The bucket of a query and a key. -/
def slot (r : Fin 384) (p : Fin 128) : Fin 32 := (Bits.bucket_range _ (rel_small p r)).choose

theorem slot_spec (r : Fin 384) (p : Fin 128) : Bits.bucket (Bits.W ((r.val : ℤ) - 128 - p.val)) = BitVec.ofNat 32 (slot r p).val :=
  (Bits.bucket_range _ (rel_small p r)).choose_spec

theorem v61_at (p : Fin 128) (r : Fin 384) : val_main_v61 (F := Ideal) (ix2 p r) = Bits.W (slot r p).val := by
  simp only [val_main_v61_apply, val_main_v58_apply, val_main_v60_apply, v56_at, val_main_v57_apply, val_main_c_12_apply, slot_spec]
  rw [show (0#32 : BitVec 32) = Bits.W 0 from rfl, Bits.ofNat_eq, Bits.slt_W _ _ ⟨by omega, by omega⟩ ⟨by omega, by omega⟩, Bits.select_ofBool, if_neg (by omega)]

theorem v62_at (p : Fin 128) (r : Fin 384) : val_main_v62 (F := Ideal) (ix3 p r 0) = Bits.W (slot r p).val := by
  rw [val_main_v62_apply, ← v61_at]
  congr 1
  funext a
  fin_cases a <;> rfl

/-- The bias looked up. -/
theorem v63_at (rb : Vec Ideal S32x8 .f32) (p : Fin 128) (r : Fin 384) (h : Fin 8) :
    val_main_v63 (F := Ideal) rb (ix3 p r h) = rb (ix2 (slot r p) h) := by
  unfold val_main_v63 Host.gather
  congr 1
  funext a
  refine Fin.ext ?_
  show (gather_S32x8_S128x384x1_S128x384x8_2_0_n_n_0_2_18).start (ix3 p r h) (val_main_v62 (F := Ideal)) a + (gather_S32x8_S128x384x1_S128x384x8_2_0_n_n_0_2_18).batchCoord (ix3 p r h) a
    + (gather_S32x8_S128x384x1_S128x384x8_2_0_n_n_0_2_18).offCoord (ix3 p r h) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (gather_S32x8_S128x384x1_S128x384x8_2_0_n_n_0_2_18).startIndexMap from List.mem_singleton.mpr rfl)]
    have hsi : ∀ k, (gather_S32x8_S128x384x1_S128x384x8_2_0_n_n_0_2_18).siIdx (ix3 p r h) k = ix3 p r 0 := by
      intro k
      obtain rfl : k = ⟨0, by decide⟩ := Fin.ext (by have hk : k.val < 1 := k.isLt; show k.val = 0; omega)
      funext b
      refine Fin.ext ?_
      fin_cases b <;> rfl
    rw [hsi, v62_at, Bits.toInt_W _ ⟨by omega, by omega⟩]
    show min (Int.toNat ((slot r p).val : ℤ)) (32 - 1) + 0 + 0 = (slot r p).val
    rw [Int.toNat_natCast]
    omega
  · unfold GatherDims.start
    rw [dif_neg (show ¬ (1 : Fin 2) ∈ (gather_S32x8_S128x384x1_S128x384x8_2_0_n_n_0_2_18).startIndexMap from (by decide : ¬ (1 : Fin 2) ∈ ([0] : List (Fin 2)))), Nat.zero_add]
    unfold GatherDims.offCoord
    rw [dif_pos ((GatherDims.mem_sKept _ _).mpr ⟨(by decide : ¬ (1 : Fin 2) ∈ ([0] : List (Fin 2))), List.not_mem_nil⟩)]
    rfl

theorem v65_at (rb : Vec Ideal S32x8 .f32) (kh : Fin 2) (g : Fin 4) (p : Fin 128) (r : Fin 384) :
    val_main_v65 (F := Ideal) rb (ix4 kh g p r) = rb (ix2 (slot r p) ⟨4 * kh.val + g.val, by omega⟩) := by
  rw [val_main_v65_apply, val_main_v64_apply, ← v63_at rb]
  congr 1
  funext a
  apply Fin.ext
  fin_cases a
  · show (((kh.val * 4 + g.val) * 128 + p.val) * 384 + r.val) / 384 % 128 = p.val
    omega
  · show (((kh.val * 4 + g.val) * 128 + p.val) * 384 + r.val) % 384 = r.val
    omega
  · show (((kh.val * 4 + g.val) * 128 + p.val) * 384 + r.val) / 49152 = 4 * kh.val + g.val
    omega

/-- A key is seen: within 128 of the query and inside the sequence. -/
abbrev Seen (n : Fin 64) (p : Fin 128) (r : Fin 384) : Prop :=
  (p.val ≤ r.val ∧ r.val ≤ p.val + 256) ∧ 128 ≤ 128 * n.val + r.val ∧ 128 * n.val + r.val < 8320

theorem v68_at (p : Fin 128) (r : Fin 384) : val_main_v68 (F := Ideal) (ix2 p r) = BitVec.ofBool (p.val ≤ r.val ∧ r.val ≤ p.val + 256) := by
  simp only [val_main_v68_apply, val_main_v66_apply, val_main_v67_apply, val_main_c_14_apply, v32_at]
  have h := rel_small p r
  have h0 := abs_nonneg ((r.val : ℤ) - 128 - p.val)
  rw [show (128#32 : BitVec 32) = Bits.W 128 from rfl, Bits.absi_W _ ⟨by omega, by omega⟩, Bits.sle_W _ _ ⟨by omega, by omega⟩ ⟨by omega, by omega⟩]
  congr 1
  rw [decide_eq_decide, abs_le]
  omega

theorem v82_at (n : Fin 64) (r : Fin 384) : val_main_v82 (F := Ideal) (ix2 n r) = BitVec.ofBool (128 ≤ 128 * n.val + r.val ∧ 128 * n.val + r.val < 8320) := by
  have e : val_main_v77 (F := Ideal) (ix2 n r) = Bits.W (((n.val : ℤ) - 1) * 128 + r.val) := by
    simp only [val_main_v77_apply, val_main_v75_apply, val_main_v74_apply, val_main_v72_apply, val_main_v70_apply, val_main_v69_apply, val_main_v71_apply, val_main_c_15_apply,
      val_main_v73_apply, val_main_c_16_apply, val_main_v76_apply, val_main_v27_apply, val_main_v26_apply]
    show IntOp.addi (IntOp.muli (IntOp.subi (BitVec.ofNat 32 n.val) (Bits.W 1)) (Bits.W 128)) (BitVec.ofNat 32 r.val) = _
    rw [Bits.ofNat_eq, Bits.ofNat_eq, Bits.subi_W, Bits.muli_W, Bits.addi_W]
  simp only [val_main_v82_apply, val_main_v79_apply, val_main_v81_apply, e, val_main_v78_apply, val_main_c_17_apply, val_main_v80_apply, val_main_c_18_apply]
  rw [show (0#32 : BitVec 32) = Bits.W 0 from rfl, show (8192#32 : BitVec 32) = Bits.W 8192 from rfl, Bits.sge_W _ _ ⟨by omega, by omega⟩ ⟨by omega, by omega⟩,
    Bits.slt_W _ _ ⟨by omega, by omega⟩ ⟨by omega, by omega⟩, Bits.andi_ofBool]
  congr 1
  rw [decide_eq_decide]
  omega

theorem v87_at (n : Fin 64) (p : Fin 128) (r : Fin 384) : val_main_v87 (F := Ideal) (ix3 n p r) = BitVec.ofBool (Seen n p r) := by
  simp only [val_main_v87_apply, val_main_v85_apply, val_main_v83_apply, val_main_v86_apply, val_main_v84_apply]
  refine Eq.trans ?_ (Bits.andi_ofBool _ _)
  rw [← v68_at, ← v82_at]
  congr 1 <;> congr 1 <;> funext a <;> fin_cases a <;> rfl

/-- The score of a query and a key. -/
def score (Q : Vec Ideal S8x8192x1024 .bf16) (K : Vec Ideal S8x8192x256 .bf16) (rb : Vec Ideal S32x8 .f32)
    (b : Fin 8) (n : Fin 64) (kh : Fin 2) (g : Fin 4) (p : Fin 128) (r : Fin 384) : EReal :=
  if Seen n p r then
    Ideal.div (∑ d : Fin 128, padded K b (128 * n.val + r.val) ⟨128 * kh.val + d.val, by omega⟩ *
      Q (ix3 b ⟨128 * n.val + p.val, by omega⟩ ⟨512 * kh.val + 128 * g.val + d.val, by omega⟩)) (Ideal.sqrt ((128 : ℝ) : EReal))
      + rb (ix2 (slot r p) ⟨4 * kh.val + g.val, by omega⟩)
  else ⊥

theorem v6_at (Q : Vec Ideal S8x8192x1024 .bf16) (b : Fin 8) (n : Fin 64) (p : Fin 128) (kh : Fin 2) (g : Fin 4) (d : Fin 128) :
    val_main_v6 (F := Ideal) Q (ix6 b n p kh g d) = Q (ix3 b ⟨128 * n.val + p.val, by omega⟩ ⟨512 * kh.val + 128 * g.val + d.val, by omega⟩) := by
  unfold val_main_v6
  generalize h : val_main_v0 (F := Ideal) Q = y
  refine Eq.trans (shapeCast_apply y shapeCasts_S8x8192x1024_S8x64x128x2x4x128 _ (ix3 b ⟨128 * n.val + p.val, by omega⟩ ⟨512 * kh.val + 128 * g.val + d.val, by omega⟩) ?_) ?_
  · rw [rowMajor_val3 _ 8388608 1024 rfl rfl, rowMajor_val6 _ 8388608 131072 1024 512 128 rfl rfl rfl rfl rfl]
    show b.val * 8388608 + (128 * n.val + p.val) * 1024 + (512 * kh.val + 128 * g.val + d.val) =
      b.val * 8388608 + n.val * 131072 + p.val * 1024 + kh.val * 512 + g.val * 128 + d.val
    omega
  · subst h
    rfl

theorem v92_at (Q : Vec Ideal S8x8192x1024 .bf16) (K : Vec Ideal S8x8192x256 .bf16) (rb : Vec Ideal S32x8 .f32)
    (b : Fin 8) (n : Fin 64) (kh : Fin 2) (g : Fin 4) (p : Fin 128) (r : Fin 384) :
    val_main_v92 (F := Ideal) Q K rb (ix6 b n kh g p r) = score Q K rb b n kh g p r := by
  have hm : val_main_call4_v1 (F := Ideal) (ix6 b n kh g p r) = BitVec.ofBool (Seen n p r) := by
    rw [← v87_at, val_main_call4_v1_apply, val_main_v88_apply]
    congr 1
    funext a
    fin_cases a <;> rfl
  have hi : val_main_call4_v2 (F := Ideal) (ix6 b n kh g p r) = ⊥ := Consts.ofBits_neg_inf
  rw [val_main_v92_apply, hm, hi, Bits.select_ofBool]
  unfold score
  refine if_congr Iff.rfl ?_ rfl
  rw [val_main_v91_apply, val_main_v23_apply]
  refine congrArg₂ (· + ·) (congrArg₂ Ideal.div ?_ ?_) ?_
  · rw [val_main_v20_apply, val_main_v19_apply]
    refine Finset.sum_congr rfl fun d _ => congrArg₂ (· * ·) (Eq.trans (congrArg _ ?_) (v12_at K b n r kh d)) (Eq.trans (congrArg _ ?_) (v6_at Q b n p kh g d))
    · funext a
      fin_cases a <;> rfl
    · funext a
      fin_cases a <;> rfl
  · show Ideal.sqrt (Ideal.ofBits .f32 0x43000000#32) = _
    rw [Consts.ofBits_128]
  · rw [val_main_v90_apply, val_main_v89_apply]
    refine Eq.trans (congrArg _ ?_) (v65_at rb kh g p r)
    funext a
    fin_cases a <;> rfl

end Cert.Reference3Ideal.Ref

end
-- ==== Proof.SampleRefOut.lean ====
/- The sample's reference's attention and its result at an index. -/
module

public import proofs.«01_k».proof.Proof.SampleRefScore

@[expose] public section

noncomputable section

namespace Cert.Reference3Ideal.Ref

open Cert.Reference3Ideal Cert.Reference3Ideal.Gen Cert.Reference3Ideal.Read Idealize.ShloMosaic Idealize.ShloMosaic.TcCoe Idealize.SL.Sem

variable (X : Vec Ideal S8x8192x1024 .f32) (GA Q : Vec Ideal S8x8192x1024 .bf16) (K V : Vec Ideal S8x8192x256 .bf16) (GB : Vec Ideal S8x8192x1024 .bf16)
  (rb : Vec Ideal S32x8 .f32) (sk : Vec Ideal S1x8 .f32) (wo : Vec Ideal S1x1024x1024 .f32) (n2 : Vec Ideal S1x1024 .f32) (w1 : Vec Ideal S1x1024x4096 .f32) (w2 : Vec Ideal S1x4096x1024 .f32)

theorem v94_at (kh : Fin 2) (g : Fin 4) : val_main_v94 (F := Ideal) sk (ix6 0 0 kh g 0 0) = sk (ix2 0 ⟨4 * kh.val + g.val, by omega⟩) := by
  rw [val_main_v94_apply, val_main_v93_apply, val_main_v3_apply]
  congr 1
  funext a
  apply Fin.ext
  fin_cases a
  · rfl
  · show (kh.val * 4 + g.val) % 8 = 4 * kh.val + g.val
    omega

theorem v95_at (b : Fin 8) (n : Fin 64) (kh : Fin 2) (g : Fin 4) (p : Fin 128) :
    val_main_v95 (F := Ideal) Q K rb (ix5 b n kh g p) = Finset.univ.fold max ⊥ (score Q K rb b n kh g p) := by
  have e : ∀ r, val_main_v92 (F := Ideal) Q K rb (ix6 b n kh g p r) = score Q K rb b n kh g p r := v92_at Q K rb b n kh g p
  unfold val_main_v95
  generalize val_main_v92 (F := Ideal) Q K rb = y at e
  rw [← funext e]
  have hR : S8x64x2x4x128x384.Reduces [5] S8x64x2x4x128 := by decide
  rw [Host.reduce_eq_fold_single _ _ _ _ hR]
  refine congrArg₂ (fun z f => Finset.univ.fold max z f) Consts.ofBits_neg_inf (funext fun r => congrArg y ?_)
  funext a
  fin_cases a <;> rfl

/-- The largest score or the sink. -/
theorem v98_at (b : Fin 8) (n : Fin 64) (kh : Fin 2) (g : Fin 4) (p : Fin 128) :
    val_main_v98 (F := Ideal) Q K rb sk (ix6 b n kh g p 0) = Spec.top (score Q K rb b n kh g p) (sk (ix2 0 ⟨4 * kh.val + g.val, by omega⟩)) := by
  rw [val_main_v98_apply, val_main_v96_apply, val_main_v97_apply]
  refine congrArg₂ max (Eq.trans (congrArg _ ?_) (v95_at Q K rb b n kh g p)) (Eq.trans (congrArg _ ?_) (v94_at sk kh g))
  · funext a
    fin_cases a <;> rfl
  · funext a
    fin_cases a <;> rfl

theorem v101_at (b : Fin 8) (n : Fin 64) (kh : Fin 2) (g : Fin 4) (p : Fin 128) (r : Fin 384) :
    val_main_v101 (F := Ideal) Q K rb sk (ix6 b n kh g p r) =
      Ideal.exp (score Q K rb b n kh g p r - Spec.top (score Q K rb b n kh g p) (sk (ix2 0 ⟨4 * kh.val + g.val, by omega⟩))) := by
  have e : idx_main_v99 (ix6 b n kh g p r) = ix6 b n kh g p 0 := by
    funext a
    fin_cases a <;> rfl
  rw [val_main_v101_apply, val_main_v100_apply, val_main_v99_apply, v92_at, e, v98_at]
  rfl

theorem v107_at (b : Fin 8) (n : Fin 64) (kh : Fin 2) (g : Fin 4) (p : Fin 128) :
    val_main_v107 (F := Ideal) Q K rb sk (ix6 b n kh g p 0) =
      ∑ r, Ideal.exp (score Q K rb b n kh g p r - Spec.top (score Q K rb b n kh g p) (sk (ix2 0 ⟨4 * kh.val + g.val, by omega⟩))) +
        Ideal.exp (sk (ix2 0 ⟨4 * kh.val + g.val, by omega⟩) - Spec.top (score Q K rb b n kh g p) (sk (ix2 0 ⟨4 * kh.val + g.val, by omega⟩))) := by
  rw [val_main_v107_apply, val_main_v103_apply, val_main_v102_apply, val_main_v106_apply, val_main_v105_apply, val_main_v104_apply, v98_at]
  refine congrArg₂ (· + ·) (Eq.trans (congrArg₂ (· + ·) (Ideal.ofBits_zero_f32) (Finset.sum_congr rfl fun r _ => Eq.trans (congrArg _ ?_) (v101_at Q K rb sk b n kh g p r))) (zero_add _))
    (congrArg (fun z => Ideal.exp (z - _)) (Eq.trans (congrArg _ ?_) (v94_at sk kh g)))
  · funext a
    fin_cases a <;> rfl
  · funext a
    fin_cases a <;> rfl

/-- The attention of a query head. -/
def attn (b : Fin 8) (n : Fin 64) (kh : Fin 2) (g : Fin 4) (p c : Fin 128) : EReal :=
  Spec.attnR (score Q K rb b n kh g p) (fun r => padded V b (128 * n.val + r.val) ⟨128 * kh.val + c.val, by omega⟩) (sk (ix2 0 ⟨4 * kh.val + g.val, by omega⟩))

theorem v111_at (b : Fin 8) (n : Fin 64) (kh : Fin 2) (g : Fin 4) (p c : Fin 128) :
    val_main_v111 (F := Ideal) Q K V rb sk (ix6 b n p kh g c) = attn Q K V rb sk b n kh g p c := by
  rw [val_main_v111_apply, val_main_v110_apply]
  unfold attn Spec.attnR
  refine Finset.sum_congr rfl fun r _ => congrArg₂ (· * ·) (Eq.trans (congrArg (val_main_v12 (F := Ideal) V) ?_) (v12_at V b n r kh c)) ?_
  · funext a
    fin_cases a <;> rfl
  · rw [val_main_v109_apply, val_main_v108_apply]
    refine congrArg₂ Ideal.div (Eq.trans (congrArg _ ?_) (v101_at Q K rb sk b n kh g p r)) (Eq.trans (congrArg _ ?_) (v107_at Q K rb sk b n kh g p))
    · funext a
      fin_cases a <;> rfl
    · funext a
      fin_cases a <;> rfl

theorem v112_at (b : Fin 8) (t : Fin 8192) (j : Fin 1024) :
    val_main_v112 (F := Ideal) Q K V rb sk (ix3 b t j) =
      attn Q K V rb sk b ⟨t.val / 128, by omega⟩ ⟨j.val / 512, by omega⟩ ⟨j.val % 512 / 128, by omega⟩ ⟨t.val % 128, by omega⟩ ⟨j.val % 128, by omega⟩ := by
  rw [← v111_at]
  unfold val_main_v112
  refine shapeCast_apply _ shapeCasts_S8x64x128x2x4x128_S8x8192x1024 _ _ ?_
  rw [rowMajor_val3 _ 8388608 1024 rfl rfl, rowMajor_val6 _ 8388608 131072 1024 512 128 rfl rfl rfl rfl rfl]
  show b.val * 8388608 + t.val / 128 * 131072 + t.val % 128 * 1024 + j.val / 512 * 512 + j.val % 512 / 128 * 128 + j.val % 128 = b.val * 8388608 + t.val * 1024 + j.val
  omega

/-- The merged activations of a row. -/
def merged (b : Fin 8) (t : Fin 8192) (j : Fin 1024) : EReal :=
  GA (ix3 b t j) + GB (ix3 b t j) * attn Q K V rb sk b ⟨t.val / 128, by omega⟩ ⟨j.val / 512, by omega⟩ ⟨j.val % 512 / 128, by omega⟩ ⟨t.val % 128, by omega⟩ ⟨j.val % 128, by omega⟩

theorem v119_at (b : Fin 8) (t : Fin 8192) (j : Fin 1024) :
    val_main_v119 (F := Ideal) X GA Q K V GB rb sk wo (ix3 b t j) =
      Spec.mid (fun k => X (ix3 b t k)) (merged GA Q K V GB rb sk b t) (fun k l => wo (ix3 0 k l)) j := by
  rw [val_main_v119_apply, val_main_v118_apply]
  unfold Spec.mid
  refine congrArg₂ (· + ·) rfl (Finset.sum_congr rfl fun k _ => congrArg₂ (· * ·) ?_ ?_)
  · rw [val_main_v116_apply, val_main_v115_apply, val_main_v113_apply, val_main_v114_apply]
    have e : lidx_main_v118 (ix3 b t j) k = ix3 b t k := by
      funext a
      fin_cases a <;> rfl
    rw [e]
    exact congrArg₂ (· + ·) rfl (congrArg₂ (· * ·) rfl (v112_at Q K V rb sk b t k))
  · rw [val_main_v117_apply]
    congr 1
    funext a
    apply Fin.ext
    fin_cases a
    · rfl
    · show (k.val * 1024 + j.val) / 1024 % 1024 = k.val
      omega
    · show (k.val * 1024 + j.val) % 1024 = j.val
      omega

/-- The reference's result. -/
theorem v140_at (b : Fin 8) (t : Fin 8192) (j : Fin 1024) :
    val_main_v140 (F := Ideal) X GA Q K V GB rb sk wo n2 w1 w2 (ix3 b t j) =
      Spec.ffn (Spec.mid (fun k => X (ix3 b t k)) (merged GA Q K V GB rb sk b t) (fun k l => wo (ix3 0 k l))) (fun k => n2 (ix2 0 k)) (fun k l => w1 (ix3 0 k l)) (fun k l => w2 (ix3 0 k l)) j := by
  have h119 := v119_at X GA Q K V GB rb sk wo b t
  have hn : ∀ k, val_main_v133 (F := Ideal) X GA Q K V GB rb sk wo n2 (ix3 b t k) =
      Spec.mid (fun k => X (ix3 b t k)) (merged GA Q K V GB rb sk b t) (fun k l => wo (ix3 0 k l)) k *
        Ideal.rsqrt (Ideal.div (∑ l, Spec.mid (fun k => X (ix3 b t k)) (merged GA Q K V GB rb sk b t) (fun k l => wo (ix3 0 k l)) l *
          Spec.mid (fun k => X (ix3 b t k)) (merged GA Q K V GB rb sk b t) (fun k l => wo (ix3 0 k l)) l) (Ideal.ofBits .f32 0x44800000#32) + Ideal.ofBits .f32 0x358637BD#32) * n2 (ix2 0 k) := by
    intro k
    rw [val_main_v133_apply, val_main_v130_apply, h119, val_main_v129_apply, val_main_v128_apply, val_main_v127_apply, val_main_v125_apply, val_main_v123_apply, val_main_v122_apply]
    refine congrArg₂ (· * ·) (congrArg₂ (· * ·) rfl (congrArg (fun z => Ideal.rsqrt (Ideal.div z _ + _)) (Eq.trans (congrArg₂ (· + ·) (Ideal.ofBits_zero_f32) (Finset.sum_congr rfl fun l _ => ?_)) (zero_add _)))) ?_
    · rw [val_main_v121_apply]
      have e : idx_main_v122 (idx_main_v123 (idx_main_v129 (ix3 b t k))) l = ix3 b t l := by
        funext a
        fin_cases a <;> rfl
      rw [e, h119]
      rfl
    · rw [val_main_v132_apply, val_main_v131_apply, val_main_v120_apply]
      congr 1
      funext a
      apply Fin.ext
      fin_cases a
      · rfl
      · show k.val % 1024 = k.val
        omega
  rw [val_main_v140_apply, h119, val_main_v139_apply]
  unfold Spec.ffn
  refine congrArg₂ (· + ·) rfl (Finset.sum_congr rfl fun l _ => congrArg₂ (· * ·) ?_ ?_)
  · have e : lidx_main_v139 (ix3 b t j) l = ix3 b t l := by
      funext a
      fin_cases a <;> rfl
    have h : val_main_v135 (F := Ideal) X GA Q K V GB rb sk wo n2 w1 (ix3 b t l) = ∑ k, Spec.mid (fun k => X (ix3 b t k)) (merged GA Q K V GB rb sk b t) (fun k l => wo (ix3 0 k l)) k *
        Ideal.rsqrt (Ideal.div (∑ l, Spec.mid (fun k => X (ix3 b t k)) (merged GA Q K V GB rb sk b t) (fun k l => wo (ix3 0 k l)) l *
          Spec.mid (fun k => X (ix3 b t k)) (merged GA Q K V GB rb sk b t) (fun k l => wo (ix3 0 k l)) l) (Ideal.ofBits .f32 0x44800000#32) + Ideal.ofBits .f32 0x358637BD#32) * n2 (ix2 0 k) * w1 (ix3 0 k l) := by
      rw [val_main_v135_apply]
      refine Finset.sum_congr rfl fun k _ => congrArg₂ (· * ·) (Eq.trans (congrArg _ ?_) (hn k)) ?_
      · funext a
        fin_cases a <;> rfl
      · rw [val_main_v134_apply]
        congr 1
        funext a
        apply Fin.ext
        fin_cases a
        · rfl
        · show (k.val * 4096 + l.val) / 4096 % 1024 = k.val
          omega
        · show (k.val * 4096 + l.val) % 4096 = l.val
          omega
    rw [e, val_main_v137_apply, val_main_v136_apply, h]
    exact congrArg₂ (· * ·) (congrArg (max _) (Ideal.ofBits_zero_f32)) (congrArg (max _) (Ideal.ofBits_zero_f32))
  · rw [val_main_v138_apply]
    congr 1
    funext a
    apply Fin.ext
    fin_cases a
    · rfl
    · show (l.val * 1024 + j.val) / 1024 % 4096 = l.val
      omega
    · show (l.val * 1024 + j.val) % 1024 = j.val
      omega

end Cert.Reference3Ideal.Ref

end
-- ==== Proof.SampleMeet.lean ====
/- A tile of the sample's kernel is what the reference says of its rows: the two attentions agree, and with them the merged
   activations. -/
module

public import proofs.«01_k».proof.Proof.Blocks
public import proofs.«01_k».proof.Proof.SampleRun
public import proofs.«01_k».proof.Proof.SampleRefOut

@[expose] public section

noncomputable section

namespace Cert.SampleMeet

open Idealize.ShloMosaic Idealize.ShloMosaic.TcCoe Idealize.SL.Sem
open Cert.Kernel3Ideal (grid1 S512x1024 S512x256 S128x256 S256x512 S256x128 S3x2x384x512 S8 S8x8192x1024 S8x8192x256 S32x8 S1x8)

/-- The grid's coordinates of a point. -/
def coord (t : Fin 128) : grid1.Coords := fun | ⟨0, _⟩ => t

theorem off_first : ∀ t : Fin 128, Cert.Kernel3Ideal.k1_off1 (coord t) 0#32 0#32 0 = if t.val % 16 = 0 then 0 else 1 := by decide +kernel

theorem off_last : ∀ t : Fin 128, Cert.Kernel3Ideal.k1_off1 (coord t) 15#32 2#32 0 = if t.val % 16 = 15 then 2 else 1 := by decide +kernel

/-- The variant of a block: the first of a batch's rows take 0, the last 2. -/
theorem variant_val (i : grid1.Coords) (t : Fin 128) (hi : i = coord t) (b : Fin 4) :
    (Cert.Kernel3Ideal.Run.variant i b).val = if b.val = 0 ∧ t.val % 16 = 0 then 0 else if b.val = 3 ∧ t.val % 16 = 15 then 2 else 1 := by
  subst hi
  have h1 := off_first t
  have h2 := off_last t
  unfold Cert.Kernel3Ideal.Run.variant
  match b with
  | 0 => refine h1.trans ?_; by_cases h : t.val % 16 = 0 <;> simp [h]
  | 1 => simp
  | 2 => simp
  | 3 => refine h2.trans ?_; by_cases h : t.val % 16 = 15 <;> simp [h]

/-- A key is seen exactly where the table's variant keeps it. -/
theorem seen_iff (i : grid1.Coords) (t : Fin 128) (hi : i = coord t) (b : Fin 4) (n : Fin 64) (hn : n.val = 4 * (t.val % 16) + b.val) (p : Fin 128) (r : Fin 384) :
    (Cert.KernelIdeal.Table.inside r p ∧ Cert.KernelIdeal.Table.kept (Cert.Kernel3Ideal.Run.variant i b) r) ↔ Cert.Reference3Ideal.Ref.Seen n p r := by
  have hv := variant_val i t hi b
  unfold Cert.KernelIdeal.Table.inside Cert.KernelIdeal.Table.kept Cert.Reference3Ideal.Ref.Seen
  have e0 : Cert.Kernel3Ideal.Run.variant i b = 0 ↔ (Cert.Kernel3Ideal.Run.variant i b).val = 0 := Fin.ext_iff
  have e2 : Cert.Kernel3Ideal.Run.variant i b = 2 ↔ (Cert.Kernel3Ideal.Run.variant i b).val = 2 := Fin.ext_iff
  have hv0 : (Cert.Kernel3Ideal.Run.variant i b).val = 0 ↔ b.val = 0 ∧ t.val % 16 = 0 := by
    rw [hv]
    split_ifs <;> constructor <;> intro _ <;> first | assumption | contradiction | omega
  have hv2 : (Cert.Kernel3Ideal.Run.variant i b).val = 2 ↔ b.val = 3 ∧ t.val % 16 = 15 := by
    rw [hv]
    split_ifs <;> constructor <;> intro _ <;> first | assumption | contradiction | omega
  rw [e0, e2, hv0, hv2]
  have := b.isLt
  have := r.isLt
  have := p.isLt
  constructor
  · rintro ⟨⟨_, _⟩, k0, k2⟩
    by_cases hA : b.val = 0 ∧ t.val % 16 = 0
    · have := k0 hA
      omega
    · by_cases hB : b.val = 3 ∧ t.val % 16 = 15
      · have := k2 hB
        omega
      · omega
  · intro h
    exact ⟨by omega, fun _ => by omega, fun _ => by omega⟩

theorem sqrt_128 : Ideal.sqrt ((128 : ℝ) : EReal) = ((Real.sqrt 128 : ℝ) : EReal) := (Ideal.sqrt_coe 128).trans (if_neg (by norm_num))

theorem sqrt_pos : Real.sqrt 128 ≠ 0 := (Real.sqrt_pos.2 (by norm_num)).ne'

theorem log_ne : Real.log 2 ≠ 0 := (Real.log_pos (by norm_num)).ne'

/-- Dividing the query beforehand scales the sum. -/
theorem scores (k q : Fin 128 → ℝ) (b : ℝ) :
    ∑ d, ((k d : ℝ) : EReal) * Ideal.div (q d) (Ideal.sqrt ((128 : ℝ) : EReal) * Ideal.log ((2 : ℝ) : EReal)) + Spec.scale b =
      Spec.scale (Ideal.div (∑ d, ((k d : ℝ) : EReal) * (q d : ℝ)) (Ideal.sqrt ((128 : ℝ) : EReal)) + b) := by
  have hl : Ideal.log ((2 : ℝ) : EReal) = ((Real.log 2 : ℝ) : EReal) := by
    rw [Ideal.log_coe]
    simp
  rw [hl, sqrt_128, ← EReal.coe_mul]
  simp only [Ideal.div_coe (mul_ne_zero sqrt_pos log_ne), Ideal.div_coe sqrt_pos, ← EReal.coe_mul]
  have hs : ∀ f : Fin 128 → ℝ, ∑ d, ((f d : ℝ) : EReal) = ((∑ d, f d : ℝ) : EReal) := fun f => (map_sum (⟨⟨((↑) : ℝ → EReal), EReal.coe_zero⟩, EReal.coe_add⟩ : ℝ →+ EReal) f Finset.univ).symm
  rw [hs, hs, ← EReal.coe_mul, ← EReal.coe_add, Spec.scale_coe, Spec.scale_coe, ← EReal.coe_add]
  congr 1
  rw [add_mul, Finset.sum_mul, Finset.sum_mul]
  congr 1
  refine Finset.sum_congr rfl fun d _ => ?_
  field_simp

/-! Bounds of the indices the assumptions below name. -/

theorem batch_lt (t : Fin 128) : t.val / 16 < 8 := by omega
theorem cur_lt (t : Fin 128) (r : Fin 512) : 512 * (t.val % 16) + r.val < 8192 := by omega
theorem prev_lt (t : Fin 128) (r : Fin 128) : 512 * (t.val % 16) + r.val - 128 < 8192 := by omega
theorem next_lt (t : Fin 128) (h : t.val % 16 < 15) (r : Fin 128) : 512 * (t.val % 16) + r.val + 512 < 8192 := by omega
theorem col_lt (j : Fin 512) : j.val % 128 < 128 := by omega
theorem head_lt (kh : Fin 2) (j : Fin 512) : 4 * kh.val + j.val / 128 < 8 := by omega

variable (GA Q : Vec Ideal S8x8192x1024 .bf16) (K V : Vec Ideal S8x8192x256 .bf16) (GB : Vec Ideal S8x8192x1024 .bf16) (rb : Vec Ideal S32x8 .f32) (sk : Vec Ideal S1x8 .f32)
  (hQ : ∀ j, ∃ x : ℝ, Q j = x) (hK : ∀ j, ∃ x : ℝ, K j = x) (hB : ∀ j, ∃ x : ℝ, rb j = x) (hS : ∀ j, ∃ x : ℝ, sk j = x)
  (i : grid1.Coords) (t : Fin 128) (hi : i = coord t)
  (x1 x2 : Vec Ideal S512x1024 .bf16) (x3 : Vec Ideal S512x256 .bf16) (x4 x5 : Vec Ideal S128x256 .bf16)
  (x6 : Vec Ideal S256x512 .bf16) (x7 x8 : Vec Ideal S256x128 .bf16) (x9 : Vec Ideal S512x1024 .bf16) (x10 : Vec Ideal S3x2x384x512 .f32)
  (x11 : Vec Ideal S8 .f32)
  (h1 : ∀ (r : Fin 512) (j : Fin 1024), x1 (ix2 r j) = GA (ix3 ⟨t.val / 16, batch_lt t⟩ ⟨512 * (t.val % 16) + r.val, cur_lt t r⟩ j))
  (h2 : ∀ (r : Fin 512) (j : Fin 1024), x2 (ix2 r j) = Ideal.div (Q (ix3 ⟨t.val / 16, batch_lt t⟩ ⟨512 * (t.val % 16) + r.val, cur_lt t r⟩ j)) (Ideal.sqrt ((128 : ℝ) : EReal) * Ideal.log ((2 : ℝ) : EReal)))
  (h3 : ∀ (r : Fin 512) (j : Fin 256), x3 (ix2 r j) = K (ix3 ⟨t.val / 16, batch_lt t⟩ ⟨512 * (t.val % 16) + r.val, cur_lt t r⟩ j))
  (h4 : ∀ (_ : 0 < t.val % 16) (r : Fin 128) (j : Fin 256), x4 (ix2 r j) = K (ix3 ⟨t.val / 16, batch_lt t⟩ ⟨512 * (t.val % 16) + r.val - 128, prev_lt t r⟩ j))
  (h5 : ∀ (h : t.val % 16 < 15) (r : Fin 128) (j : Fin 256), x5 (ix2 r j) = K (ix3 ⟨t.val / 16, batch_lt t⟩ ⟨512 * (t.val % 16) + r.val + 512, next_lt t h r⟩ j))
  (h6 : ∀ (r : Fin 512) (j : Fin 256), x6 (ix2 j r) = V (ix3 ⟨t.val / 16, batch_lt t⟩ ⟨512 * (t.val % 16) + r.val, cur_lt t r⟩ j))
  (h7 : ∀ (_ : 0 < t.val % 16) (r : Fin 128) (j : Fin 256), x7 (ix2 j r) = V (ix3 ⟨t.val / 16, batch_lt t⟩ ⟨512 * (t.val % 16) + r.val - 128, prev_lt t r⟩ j))
  (h8 : ∀ (h : t.val % 16 < 15) (r : Fin 128) (j : Fin 256), x8 (ix2 j r) = V (ix3 ⟨t.val / 16, batch_lt t⟩ ⟨512 * (t.val % 16) + r.val + 512, next_lt t h r⟩ j))
  (h9 : ∀ (r : Fin 512) (j : Fin 1024), x9 (ix2 r j) = GB (ix3 ⟨t.val / 16, batch_lt t⟩ ⟨512 * (t.val % 16) + r.val, cur_lt t r⟩ j))
  (h10 : ∀ (v : Fin 3) (kh : Fin 2) (r : Fin 384) (j : Fin 512), x10 (ix4 v kh r j) =
    Cert.KernelIdeal.Table.entry v (rb (ix2 (Cert.Reference3Ideal.Ref.slot r ⟨j.val % 128, col_lt j⟩) ⟨4 * kh.val + j.val / 128, head_lt kh j⟩)) r ⟨j.val % 128, col_lt j⟩)
  (h11 : ∀ h : Fin 8, x11 (ix1 h) = sk (ix2 0 h))

include h3 h4 h5 in
/-- The band's keys are the padded sequence's, where a key is seen. -/
theorem kband_at (b : Fin 4) (n : Fin 64) (hn : n.val = 4 * (t.val % 16) + b.val) (p : Fin 128) (r : Fin 384)
    (hs : Cert.Reference3Ideal.Ref.Seen n p r) (j : Fin 256) :
    Cert.KernelIdeal.Blocks.kband x3 x4 x5 ⟨128 * b.val + r.val, by omega⟩ j = Cert.Reference3Ideal.Ref.padded K ⟨t.val / 16, by omega⟩ (128 * n.val + r.val) j := by
  have hs' := hs
  unfold Cert.Reference3Ideal.Ref.Seen at hs'
  have hm : 128 ≤ 128 * n.val + r.val ∧ 128 * n.val + r.val < 8320 := by omega
  unfold Cert.KernelIdeal.Blocks.kband Cert.Reference3Ideal.Ref.padded
  rw [dif_pos hm]
  split_ifs with ha hb
  · rw [h4 (by have : 128 * b.val + r.val < 128 := ha; omega)]
    congr 2
    apply Fin.ext
    show 512 * (t.val % 16) + (128 * b.val + r.val) - 128 = 128 * n.val + r.val - 128
    omega
  · rw [h3]
    congr 2
    apply Fin.ext
    have : ¬ (128 * b.val + r.val < 128) := ha
    show 512 * (t.val % 16) + (128 * b.val + r.val - 128) = 128 * n.val + r.val - 128
    omega
  · have : ¬ (128 * b.val + r.val < 640) := hb
    rw [h5 (by omega)]
    congr 2
    apply Fin.ext
    show 512 * (t.val % 16) + (128 * b.val + r.val - 640) + 512 = 128 * n.val + r.val - 128
    omega

include h6 h7 h8 in
/-- So are its values. -/
theorem vband_at (b : Fin 4) (n : Fin 64) (hn : n.val = 4 * (t.val % 16) + b.val) (p : Fin 128) (r : Fin 384)
    (hs : Cert.Reference3Ideal.Ref.Seen n p r) (j : Fin 256) :
    Cert.KernelIdeal.Blocks.vband x6 x7 x8 j ⟨128 * b.val + r.val, by omega⟩ = Cert.Reference3Ideal.Ref.padded V ⟨t.val / 16, by omega⟩ (128 * n.val + r.val) j := by
  have hs' := hs
  unfold Cert.Reference3Ideal.Ref.Seen at hs'
  have hm : 128 ≤ 128 * n.val + r.val ∧ 128 * n.val + r.val < 8320 := by omega
  unfold Cert.KernelIdeal.Blocks.vband Cert.Reference3Ideal.Ref.padded
  rw [dif_pos hm]
  split_ifs with ha hb
  · rw [h7 (by have : 128 * b.val + r.val < 128 := ha; omega)]
    congr 2
    apply Fin.ext
    show 512 * (t.val % 16) + (128 * b.val + r.val) - 128 = 128 * n.val + r.val - 128
    omega
  · rw [h6]
    congr 2
    apply Fin.ext
    have : ¬ (128 * b.val + r.val < 128) := ha
    show 512 * (t.val % 16) + (128 * b.val + r.val - 128) = 128 * n.val + r.val - 128
    omega
  · have : ¬ (128 * b.val + r.val < 640) := hb
    rw [h8 (by omega)]
    congr 2
    apply Fin.ext
    show 512 * (t.val % 16) + (128 * b.val + r.val - 640) + 512 = 128 * n.val + r.val - 128
    omega

include hQ hK hB in
/-- A seen key's score is real. -/
theorem score_real (b : Fin 8) (n : Fin 64) (kh : Fin 2) (g : Fin 4) (p : Fin 128) (r : Fin 384) : Cert.Reference3Ideal.Ref.score Q K rb b n kh g p r ≠ ⊤ := by
  choose q hq using hQ
  choose k hk using hK
  choose β hβ using hB
  unfold Cert.Reference3Ideal.Ref.score
  split_ifs with hs
  · unfold Cert.Reference3Ideal.Ref.Seen at hs
    have hm : 128 ≤ 128 * n.val + r.val ∧ 128 * n.val + r.val < 8320 := by omega
    unfold Cert.Reference3Ideal.Ref.padded
    simp only [dif_pos hm, hq, hk, hβ, sqrt_128, ← EReal.coe_mul]
    rw [Ideal.div_coe sqrt_pos]
    have hsum : ∀ f : Fin 128 → ℝ, ∑ d, ((f d : ℝ) : EReal) = ((∑ d, f d : ℝ) : EReal) := fun f => (map_sum (⟨⟨((↑) : ℝ → EReal), EReal.coe_zero⟩, EReal.coe_add⟩ : ℝ →+ EReal) f Finset.univ).symm
    rw [hsum, ← EReal.coe_mul, ← EReal.coe_add]
    exact EReal.coe_ne_top _
  · exact bot_ne_top

include hQ hK hB hi h2 h3 h4 h5 h10 in
/-- The kernel's score is the reference's, to base two. -/
theorem score_at (b : Fin 4) (n : Fin 64) (hn : n.val = 4 * (t.val % 16) + b.val) (kh : Fin 2) (g : Fin 4) (p : Fin 128) (r : Fin 384) :
    ∑ d : Fin 128, Cert.KernelIdeal.Blocks.kband x3 x4 x5 ⟨128 * b.val + r.val, by omega⟩ ⟨128 * kh.val + d.val, by omega⟩ *
          x2 (ix2 ⟨128 * b.val + p.val, by omega⟩ ⟨512 * kh.val + 128 * g.val + d.val, by omega⟩)
        + x10 (ix4 (Cert.Kernel3Ideal.Run.variant i b) kh r ⟨128 * g.val + p.val, by omega⟩) =
      Spec.scale (Cert.Reference3Ideal.Ref.score Q K rb ⟨t.val / 16, by omega⟩ n kh g p r) := by
  have hp : (⟨(128 * g.val + p.val) % 128, by omega⟩ : Fin 128) = p := Fin.ext (by show (128 * g.val + p.val) % 128 = p.val; omega)
  have hg : (⟨4 * kh.val + (128 * g.val + p.val) / 128, by omega⟩ : Fin 8) = ⟨4 * kh.val + g.val, by omega⟩ := Fin.ext (by show 4 * kh.val + (128 * g.val + p.val) / 128 = 4 * kh.val + g.val; omega)
  rw [h10]
  simp only [hp, hg]
  unfold Cert.KernelIdeal.Table.entry Cert.Reference3Ideal.Ref.score
  have hiff := seen_iff i t hi b n hn p r
  by_cases hs : Cert.Reference3Ideal.Ref.Seen n p r
  · rw [if_pos (hiff.2 hs), if_pos hs]
    simp only [kband_at K t x3 x4 x5 h3 h4 h5 b n hn p r hs, h2]
    have hrow : (⟨512 * (t.val % 16) + (128 * b.val + p.val), by omega⟩ : Fin 8192) = ⟨128 * n.val + p.val, by omega⟩ := Fin.ext (by show 512 * (t.val % 16) + (128 * b.val + p.val) = 128 * n.val + p.val; omega)
    simp only [hrow]
    unfold Cert.Reference3Ideal.Ref.Seen at hs
    have hm : 128 ≤ 128 * n.val + r.val ∧ 128 * n.val + r.val < 8320 := by omega
    unfold Cert.Reference3Ideal.Ref.padded
    simp only [dif_pos hm]
    choose q hq using hQ
    choose k hk using hK
    choose β hβ using hB
    simp only [hq, hk, hβ]
    exact scores _ _ _
  · rw [if_neg (fun h => hs (hiff.1 h)), if_neg hs, EReal.add_bot, Spec.scale_bot]

include hQ hK hB hS hi h1 h2 h3 h4 h5 h6 h7 h8 h9 h10 h11 in
/-- A row's merged activation, given by its block. -/
theorem tile_at (b : Fin 4) (n : Fin 64) (hn : n.val = 4 * (t.val % 16) + b.val) (kh : Fin 2) (g : Fin 4) (p c : Fin 128) :
    Cert.KernelIdeal.Blocks.tileVal (Cert.Kernel3Ideal.Run.variant i) x1 x2 x3 x4 x5 x6 x7 x8 x9 x10 x11 b kh g p c =
      GA (ix3 ⟨t.val / 16, by omega⟩ ⟨128 * n.val + p.val, by omega⟩ ⟨512 * kh.val + 128 * g.val + c.val, by omega⟩) +
        GB (ix3 ⟨t.val / 16, by omega⟩ ⟨128 * n.val + p.val, by omega⟩ ⟨512 * kh.val + 128 * g.val + c.val, by omega⟩) *
          Cert.Reference3Ideal.Ref.attn Q K V rb sk ⟨t.val / 16, by omega⟩ n kh g p c := by
  unfold Cert.KernelIdeal.Blocks.tileVal Cert.Reference3Ideal.Ref.attn
  have hrow : (⟨512 * (t.val % 16) + (128 * b.val + p.val), by omega⟩ : Fin 8192) = ⟨128 * n.val + p.val, by omega⟩ := Fin.ext (by show 512 * (t.val % 16) + (128 * b.val + p.val) = 128 * n.val + p.val; omega)
  obtain ⟨z, hz⟩ := hS (ix2 0 ⟨4 * kh.val + g.val, by omega⟩)
  rw [h1, h9]
  simp only [hrow]
  refine congrArg₂ (· + ·) rfl (congrArg₂ (· * ·) rfl ?_)
  rw [hz, h11, hz]
  refine Spec.attn_eq _ _ _ _ z _ (score_real Q K rb hQ hK hB _ n kh g p) (score_at Q K rb hQ hK hB i t hi x2 x3 x4 x5 x10 h2 h3 h4 h5 h10 b n hn kh g p) rfl ?_
  intro r hr
  by_cases hs : Cert.Reference3Ideal.Ref.Seen n p r
  · exact (vband_at V t x6 x7 x8 h6 h7 h8 b n hn p r hs _).symm
  · exact absurd (by unfold Cert.Reference3Ideal.Ref.score; rw [if_neg hs]) hr

include hQ hK hB hS hi h1 h2 h3 h4 h5 h6 h7 h8 h9 h10 h11 in
/-- A row's merged activation is the reference's. -/
theorem merged_at (r : Fin 512) (j : Fin 1024) :
    Cert.KernelIdeal.Blocks.merged (Cert.Kernel3Ideal.Run.variant i) x1 x2 x3 x4 x5 x6 x7 x8 x9 x10 x11 r j =
      Cert.Reference3Ideal.Ref.merged GA Q K V GB rb sk ⟨t.val / 16, by omega⟩ ⟨512 * (t.val % 16) + r.val, by omega⟩ j := by
  unfold Cert.KernelIdeal.Blocks.merged Cert.Reference3Ideal.Ref.merged
  rw [tile_at GA Q K V GB rb sk hQ hK hB hS i t hi x1 x2 x3 x4 x5 x6 x7 x8 x9 x10 x11 h1 h2 h3 h4 h5 h6 h7 h8 h9 h10 h11 ⟨r.val / 128, by omega⟩ ⟨4 * (t.val % 16) + r.val / 128, by omega⟩ rfl]
  have hrow : (⟨128 * (4 * (t.val % 16) + r.val / 128) + r.val % 128, by omega⟩ : Fin 8192) = ⟨512 * (t.val % 16) + r.val, by omega⟩ :=
    Fin.ext (by show 128 * (4 * (t.val % 16) + r.val / 128) + r.val % 128 = 512 * (t.val % 16) + r.val; omega)
  have hcol : (⟨512 * (j.val / 512) + 128 * (j.val % 512 / 128) + j.val % 128, by omega⟩ : Fin 1024) = j :=
    Fin.ext (by show 512 * (j.val / 512) + 128 * (j.val % 512 / 128) + j.val % 128 = j.val; omega)
  have hb : (⟨(512 * (t.val % 16) + r.val) / 128, by omega⟩ : Fin 64) = ⟨4 * (t.val % 16) + r.val / 128, by omega⟩ :=
    Fin.ext (by show (512 * (t.val % 16) + r.val) / 128 = 4 * (t.val % 16) + r.val / 128; omega)
  have hp : (⟨(512 * (t.val % 16) + r.val) % 128, by omega⟩ : Fin 128) = ⟨r.val % 128, by omega⟩ :=
    Fin.ext (by show (512 * (t.val % 16) + r.val) % 128 = r.val % 128; omega)
  simp only [hrow, hcol, hb, hp]

end Cert.SampleMeet

end
-- ==== Proof.SampleResult.lean ====
/- The sample's result array, element by element, is the reference's value on the same arguments. -/
module

public import proofs.«01_k».proof.Proof.SampleRegions
public import proofs.«01_k».proof.Proof.SampleHost
public import proofs.«01_k».proof.Proof.SampleMeet
public import proofs.«01_k».proof.Proof.SampleRefOut

@[expose] public section

set_option maxRecDepth 16384

noncomputable section

namespace Cert.SampleResult

open Cert.Kernel3Ideal Cert.Kernel3Ideal.Gen Idealize.ShloMosaic Idealize.ShloMosaic.TcCoe Idealize.SL.Sem
open Cert.Kernel3Ideal.Regions Cert.Kernel3Ideal.Host
open Cert.Reference3Ideal (Ref.slot Ref.slot_spec Ref.merged Ref.v140_at)

variable (m : (ℓ : Loc nD τ sig) → Buf (Elt Ideal) ℓ) (ρ : Dev nD → PrngReg) (c : Dev nD) (t : Fin 128)

/-! The arguments as launched. -/

abbrev X : Vec Ideal S8x8192x1024 .f32 := m ((c.tc : Thread nD τ).loc main_arg0)
abbrev GA : Vec Ideal S8x8192x1024 .bf16 := m ((c.tc : Thread nD τ).loc main_arg1)
abbrev Q : Vec Ideal S8x8192x1024 .bf16 := m ((c.tc : Thread nD τ).loc main_arg2)
abbrev K : Vec Ideal S8x8192x256 .bf16 := m ((c.tc : Thread nD τ).loc main_arg3)
abbrev Vv : Vec Ideal S8x8192x256 .bf16 := m ((c.tc : Thread nD τ).loc main_arg4)
abbrev GB : Vec Ideal S8x8192x1024 .bf16 := m ((c.tc : Thread nD τ).loc main_arg5)
abbrev rb : Vec Ideal S32x8 .f32 := m ((c.tc : Thread nD τ).loc main_arg6)
abbrev sk : Vec Ideal S1x8 .f32 := m ((c.tc : Thread nD τ).loc main_arg7)
abbrev wo : Vec Ideal S1x1024x1024 .bf16 := m ((c.tc : Thread nD τ).loc main_arg8)
abbrev n2 : Vec Ideal S1x1024 .f32 := m ((c.tc : Thread nD τ).loc main_arg9)
abbrev w1 : Vec Ideal S1x1024x4096 .bf16 := m ((c.tc : Thread nD τ).loc main_arg10)
abbrev w2 : Vec Ideal S1x4096x1024 .bf16 := m ((c.tc : Thread nD τ).loc main_arg11)

theorem row {α : Type} {N C : Nat} (A : (⟨2, ![N, C]⟩ : Shape).Idx → α) {R R' : Fin N} (e : R.val = R'.val) (j : Fin C) : A (ix2 R j) = A (ix2 R' j) := by
  rw [Fin.ext e]

theorem col {α : Type} {N C : Nat} (A : (⟨2, ![N, C]⟩ : Shape).Idx → α) {R R' : Fin C} (e : R.val = R'.val) (j : Fin N) : A (ix2 j R) = A (ix2 j R') := by
  rw [Fin.ext e]

/-! ## What a point of the second call reads, in terms of the arguments -/

theorem read0 (r : Fin 512) (j : Fin 1024) :
    (show Vec Ideal S512x1024 .f32 from iblk1 (V7 m ρ) c 0 t) (ix2 r j) = X m c (ix3 ⟨t.val / 16, by omega⟩ ⟨512 * (t.val % 16) + r.val, by omega⟩ j) :=
  (blk0 (V7 m ρ) c t r j).trans ((row (show Vec Ideal S65536x1024 .f32 from V7 m ρ c main_v43)
    (by show 512 * t.val + r.val = 8192 * (t.val / 16) + (512 * (t.val % 16) + r.val); omega) j).trans ((v43_at (W6 m ρ c) ⟨t.val / 16, by omega⟩ ⟨512 * (t.val % 16) + r.val, by omega⟩ j).trans
    (congrFun (W6_args m ρ c main_arg0 (by decide)) (ix3 ⟨t.val / 16, by omega⟩ ⟨512 * (t.val % 16) + r.val, by omega⟩ j))))

theorem read1 (r : Fin 512) (j : Fin 1024) :
    (show Vec Ideal S512x1024 .bf16 from iblk1 (V7 m ρ) c 1 t) (ix2 r j) = GA m c (ix3 ⟨t.val / 16, by omega⟩ ⟨512 * (t.val % 16) + r.val, by omega⟩ j) :=
  (blk1 (V7 m ρ) c t r j).trans ((row (show Vec Ideal S65536x1024 .bf16 from V7 m ρ c main_v54)
    (by show 512 * t.val + r.val = 8192 * (t.val / 16) + (512 * (t.val % 16) + r.val); omega) j).trans ((v54_at (W6 m ρ c) ⟨t.val / 16, by omega⟩ ⟨512 * (t.val % 16) + r.val, by omega⟩ j).trans
    (congrFun (W6_args m ρ c main_arg1 (by decide)) (ix3 ⟨t.val / 16, by omega⟩ ⟨512 * (t.val % 16) + r.val, by omega⟩ j))))

theorem read2 (r : Fin 512) (j : Fin 1024) :
    (show Vec Ideal S512x1024 .bf16 from iblk1 (V7 m ρ) c 2 t) (ix2 r j) = Ideal.div (Q m c (ix3 ⟨t.val / 16, by omega⟩ ⟨512 * (t.val % 16) + r.val, by omega⟩ j)) (Ideal.sqrt ((128 : ℝ) : EReal) * Ideal.log ((2 : ℝ) : EReal)) :=
  (blk2 (V7 m ρ) c t r j).trans ((row (show Vec Ideal S65536x1024 .bf16 from V7 m ρ c main_v51)
    (by show 512 * t.val + r.val = 8192 * (t.val / 16) + (512 * (t.val % 16) + r.val); omega) j).trans ((v51_at (W6 m ρ c) ⟨t.val / 16, by omega⟩ ⟨512 * (t.val % 16) + r.val, by omega⟩ j).trans
    (congrArg (fun z => Ideal.div z (Ideal.sqrt ((128 : ℝ) : EReal) * Ideal.log ((2 : ℝ) : EReal))) (congrFun (W6_args m ρ c main_arg2 (by decide)) (ix3 ⟨t.val / 16, by omega⟩ ⟨512 * (t.val % 16) + r.val, by omega⟩ j)))))

theorem read3 (r : Fin 512) (j : Fin 256) :
    (show Vec Ideal S512x256 .bf16 from iblk1 (V7 m ρ) c 3 t) (ix2 r j) = K m c (ix3 ⟨t.val / 16, by omega⟩ ⟨512 * (t.val % 16) + r.val, by omega⟩ j) :=
  (blk3 (V7 m ρ) c t r j).trans ((row (show Vec Ideal S65536x256 .bf16 from V7 m ρ c main_v55)
    (by show 512 * t.val + r.val = 8192 * (t.val / 16) + (512 * (t.val % 16) + r.val); omega) j).trans ((v55_at (W6 m ρ c) ⟨t.val / 16, by omega⟩ ⟨512 * (t.val % 16) + r.val, by omega⟩ j).trans
    (congrFun (W6_args m ρ c main_arg3 (by decide)) (ix3 ⟨t.val / 16, by omega⟩ ⟨512 * (t.val % 16) + r.val, by omega⟩ j))))

theorem read4 (h : 0 < t.val % 16) (r : Fin 128) (j : Fin 256) :
    (show Vec Ideal S128x256 .bf16 from iblk1 (V7 m ρ) c 4 t) (ix2 r j) = K m c (ix3 ⟨t.val / 16, by omega⟩ ⟨512 * (t.val % 16) + r.val - 128, by omega⟩ j) :=
  (blk4 (V7 m ρ) c t (by omega) r j).trans ((row (show Vec Ideal S65536x256 .bf16 from V7 m ρ c main_v55)
    (by show 512 * t.val + r.val - 128 = 8192 * (t.val / 16) + (512 * (t.val % 16) + r.val - 128); omega) j).trans ((v55_at (W6 m ρ c) ⟨t.val / 16, by omega⟩ ⟨512 * (t.val % 16) + r.val - 128, by omega⟩ j).trans
    (congrFun (W6_args m ρ c main_arg3 (by decide)) (ix3 ⟨t.val / 16, by omega⟩ ⟨512 * (t.val % 16) + r.val - 128, by omega⟩ j))))

theorem read5 (h : t.val % 16 < 15) (r : Fin 128) (j : Fin 256) :
    (show Vec Ideal S128x256 .bf16 from iblk1 (V7 m ρ) c 5 t) (ix2 r j) = K m c (ix3 ⟨t.val / 16, by omega⟩ ⟨512 * (t.val % 16) + r.val + 512, by omega⟩ j) :=
  (blk5 (V7 m ρ) c t (by omega) r j).trans ((row (show Vec Ideal S65536x256 .bf16 from V7 m ρ c main_v55)
    (by show 512 * t.val + r.val + 512 = 8192 * (t.val / 16) + (512 * (t.val % 16) + r.val + 512); omega) j).trans ((v55_at (W6 m ρ c) ⟨t.val / 16, by omega⟩ ⟨512 * (t.val % 16) + r.val + 512, by omega⟩ j).trans
    (congrFun (W6_args m ρ c main_arg3 (by decide)) (ix3 ⟨t.val / 16, by omega⟩ ⟨512 * (t.val % 16) + r.val + 512, by omega⟩ j))))

theorem read6 (r : Fin 512) (j : Fin 256) :
    (show Vec Ideal S256x512 .bf16 from iblk1 (V7 m ρ) c 6 t) (ix2 j r) = Vv m c (ix3 ⟨t.val / 16, by omega⟩ ⟨512 * (t.val % 16) + r.val, by omega⟩ j) :=
  (blk6 (V7 m ρ) c t r j).trans ((col (show Vec Ideal S256x65536 .bf16 from V7 m ρ c main_v53)
    (by show 512 * t.val + r.val = 8192 * (t.val / 16) + (512 * (t.val % 16) + r.val); omega) j).trans ((v53_at (W6 m ρ c) ⟨t.val / 16, by omega⟩ ⟨512 * (t.val % 16) + r.val, by omega⟩ j).trans
    (congrFun (W6_args m ρ c main_arg4 (by decide)) (ix3 ⟨t.val / 16, by omega⟩ ⟨512 * (t.val % 16) + r.val, by omega⟩ j))))

theorem read7 (h : 0 < t.val % 16) (r : Fin 128) (j : Fin 256) :
    (show Vec Ideal S256x128 .bf16 from iblk1 (V7 m ρ) c 7 t) (ix2 j r) = Vv m c (ix3 ⟨t.val / 16, by omega⟩ ⟨512 * (t.val % 16) + r.val - 128, by omega⟩ j) :=
  (blk7 (V7 m ρ) c t (by omega) r j).trans ((col (show Vec Ideal S256x65536 .bf16 from V7 m ρ c main_v53)
    (by show 512 * t.val + r.val - 128 = 8192 * (t.val / 16) + (512 * (t.val % 16) + r.val - 128); omega) j).trans ((v53_at (W6 m ρ c) ⟨t.val / 16, by omega⟩ ⟨512 * (t.val % 16) + r.val - 128, by omega⟩ j).trans
    (congrFun (W6_args m ρ c main_arg4 (by decide)) (ix3 ⟨t.val / 16, by omega⟩ ⟨512 * (t.val % 16) + r.val - 128, by omega⟩ j))))

theorem read8 (h : t.val % 16 < 15) (r : Fin 128) (j : Fin 256) :
    (show Vec Ideal S256x128 .bf16 from iblk1 (V7 m ρ) c 8 t) (ix2 j r) = Vv m c (ix3 ⟨t.val / 16, by omega⟩ ⟨512 * (t.val % 16) + r.val + 512, by omega⟩ j) :=
  (blk8 (V7 m ρ) c t (by omega) r j).trans ((col (show Vec Ideal S256x65536 .bf16 from V7 m ρ c main_v53)
    (by show 512 * t.val + r.val + 512 = 8192 * (t.val / 16) + (512 * (t.val % 16) + r.val + 512); omega) j).trans ((v53_at (W6 m ρ c) ⟨t.val / 16, by omega⟩ ⟨512 * (t.val % 16) + r.val + 512, by omega⟩ j).trans
    (congrFun (W6_args m ρ c main_arg4 (by decide)) (ix3 ⟨t.val / 16, by omega⟩ ⟨512 * (t.val % 16) + r.val + 512, by omega⟩ j))))

theorem read9 (r : Fin 512) (j : Fin 1024) :
    (show Vec Ideal S512x1024 .bf16 from iblk1 (V7 m ρ) c 9 t) (ix2 r j) = GB m c (ix3 ⟨t.val / 16, by omega⟩ ⟨512 * (t.val % 16) + r.val, by omega⟩ j) :=
  (blk9 (V7 m ρ) c t r j).trans ((row (show Vec Ideal S65536x1024 .bf16 from V7 m ρ c main_v56)
    (by show 512 * t.val + r.val = 8192 * (t.val / 16) + (512 * (t.val % 16) + r.val); omega) j).trans ((v56_at (W6 m ρ c) ⟨t.val / 16, by omega⟩ ⟨512 * (t.val % 16) + r.val, by omega⟩ j).trans
    (congrFun (W6_args m ρ c main_arg5 (by decide)) (ix3 ⟨t.val / 16, by omega⟩ ⟨512 * (t.val % 16) + r.val, by omega⟩ j))))

/-- The bucket indices the host prepares. -/
theorem bucket (r : Fin 384) (p : Fin 128) :
    (show Vec Ideal S384x128 .i32 from V5 m ρ c main_v32) (ix2 r p) = BitVec.ofNat 32 (Ref.slot r p).val := by
  refine (bucket_at (W0 m ρ c) r p).trans ?_
  rw [← Ref.slot_spec, Bits.ofNat_eq r.val, Bits.ofNat_eq p.val, show (128#32 : BitVec 32) = Bits.W 128 from rfl, Bits.subi_W, Bits.subi_W]

theorem read10 (v : Fin 3) (kh : Fin 2) (r : Fin 384) (j : Fin 512) :
    (show Vec Ideal S3x2x384x512 .f32 from iblk1 (V7 m ρ) c 10 t) (ix4 v kh r j) =
      Cert.KernelIdeal.Table.entry v (rb m c (ix2 (Ref.slot r ⟨j.val % 128, by omega⟩) ⟨4 * kh.val + j.val / 128, by omega⟩)) r ⟨j.val % 128, by omega⟩ := by
  refine (blk10 (V7 m ρ) c t v kh r j).trans ?_
  refine (congrFun ((W7_of m ρ c main_v33 (by decide)).trans (W6_arr m ρ c 2)) (ix4 v kh r j)).trans ?_
  refine (out0 (V5 m ρ) c Ref.slot (bucket m ρ c) v kh r j).trans ?_
  exact congrArg (fun z => Cert.KernelIdeal.Table.entry v z r ⟨j.val % 128, by omega⟩) (congrFun (W5_args m ρ c main_arg6 (by decide)) _)

theorem read11 (h : Fin 8) : (show Vec Ideal S8 .f32 from iblk1 (V7 m ρ) c 11 t) (ix1 h) = sk m c (ix2 0 h) :=
  (blk11 (V7 m ρ) c t h).trans ((v42_at (W6 m ρ c) h).trans (congrFun (W6_args m ρ c main_arg7 (by decide)) _))

theorem read12 (k : Fin 1024) (l : Fin 1024) : (show Vec Ideal S1024x1024 .bf16 from iblk1 (V7 m ρ) c 12 t) (ix2 k l) = wo m c (ix3 0 k l) :=
  (blk12 (V7 m ρ) c t k l).trans ((v37_at (W6 m ρ c) k l).trans (congrFun (W6_args m ρ c main_arg8 (by decide)) _))

theorem read13 (k : Fin 1024) : (show Vec Ideal S1x1024 .f32 from iblk1 (V7 m ρ) c 13 t) (ix2 0 k) = n2 m c (ix2 0 k) :=
  (blk13 (V7 m ρ) c t 0 k).trans ((v35_at (W6 m ρ c) k).trans (congrFun (W6_args m ρ c main_arg9 (by decide)) _))

theorem read14 (k : Fin 1024) (l : Fin 4096) : (show Vec Ideal S1024x4096 .bf16 from iblk1 (V7 m ρ) c 14 t) (ix2 k l) = w1 m c (ix3 0 k l) :=
  (blk14 (V7 m ρ) c t k l).trans ((v39_at (W6 m ρ c) k l).trans (congrFun (W6_args m ρ c main_arg10 (by decide)) _))

theorem read15 (k : Fin 4096) (l : Fin 1024) : (show Vec Ideal S4096x1024 .bf16 from iblk1 (V7 m ρ) c 15 t) (ix2 k l) = w2 m c (ix3 0 k l) :=
  (blk15 (V7 m ρ) c t k l).trans ((v41_at (W6 m ρ c) k l).trans (congrFun (W6_args m ρ c main_arg11 (by decide)) _))

/-! ## The result -/

/-- A grid point's coordinate is its number. -/
theorem coords_eq : grid1.coords t = SampleMeet.coord t := by
  funext a
  fin_cases a
  exact Fin.ext (coords_val t)

variable (hQ : ∀ j, ∃ x : ℝ, Q m c j = (x : EReal)) (hK : ∀ j, ∃ x : ℝ, K m c j = (x : EReal))
  (hB : ∀ j, ∃ x : ℝ, rb m c j = (x : EReal)) (hS : ∀ j, ∃ x : ℝ, sk m c j = (x : EReal))

include hQ hK hB hS in
/-- What a point leaves in its rows. -/
theorem point (r : Fin 512) (j : Fin 1024) :
    (show Vec Ideal S512x1024 .f32 from outsAt1 (V7 m ρ) c t) (ix2 r j) =
      Cert.Reference3Ideal.Read.val_main_v140 (F := Ideal) (X m c) (GA m c) (Q m c) (K m c) (Vv m c) (GB m c) (rb m c) (sk m c) (wo m c) (n2 m c) (w1 m c) (w2 m c)
        (ix3 ⟨t.val / 16, by omega⟩ ⟨512 * (t.val % 16) + r.val, by omega⟩ j) := by
  show outsAt1 (V7 m ρ) c t (ix2 r j) = _
  unfold outsAt1
  refine (Run.out_at c _ _ _ _ _ _ _ _ _ _ _ _ _ _ _ _ _ _ _ _ _ _ _ _ _ _ _ _ _ _ _ _ _ _ _ _ _ _ _ _ _ _ _ _ _ _ _ _ _ _ _ _ _ _ _ _ _ r j).trans ?_
  rw [Ref.v140_at]
  unfold Cert.KernelIdeal.Blocks.outVal
  have h0 : (fun k => (show Vec Ideal S512x1024 .f32 from iblk1 (V7 m ρ) c 0 t) (ix2 r k)) = fun k => X m c (ix3 ⟨t.val / 16, by omega⟩ ⟨512 * (t.val % 16) + r.val, by omega⟩ k) :=
    funext fun k => read0 m ρ c t r k
  have hm : ∀ k, Cert.KernelIdeal.Blocks.merged (Run.variant (grid1.coords t)) (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t) (iblk1 (V7 m ρ) c 7 t) (iblk1 (V7 m ρ) c 8 t) (iblk1 (V7 m ρ) c 9 t) (iblk1 (V7 m ρ) c 10 t) (iblk1 (V7 m ρ) c 11 t) r k =
      Ref.merged (GA m c) (Q m c) (K m c) (Vv m c) (GB m c) (rb m c) (sk m c) ⟨t.val / 16, by omega⟩ ⟨512 * (t.val % 16) + r.val, by omega⟩ k := fun k => SampleMeet.merged_at (GA m c) (Q m c) (K m c) (Vv m c) (GB m c) (rb m c) (sk m c) hQ hK hB hS (grid1.coords t) t (coords_eq t)
    (iblk1 (V7 m ρ) c 1 t) (iblk1 (V7 m ρ) c 2 t) (iblk1 (V7 m ρ) c 3 t) (iblk1 (V7 m ρ) c 4 t) (iblk1 (V7 m ρ) c 5 t) (iblk1 (V7 m ρ) c 6 t)
    (iblk1 (V7 m ρ) c 7 t) (iblk1 (V7 m ρ) c 8 t) (iblk1 (V7 m ρ) c 9 t) (iblk1 (V7 m ρ) c 10 t) (iblk1 (V7 m ρ) c 11 t)
    (read1 m ρ c t) (read2 m ρ c t) (read3 m ρ c t) (read4 m ρ c t) (read5 m ρ c t) (read6 m ρ c t) (read7 m ρ c t) (read8 m ρ c t) (read9 m ρ c t)
    (read10 m ρ c t) (read11 m ρ c t) r k
  have h12 : (fun k l => (show Vec Ideal S1024x1024 .bf16 from iblk1 (V7 m ρ) c 12 t) (ix2 k l)) = fun k l => wo m c (ix3 0 k l) := funext fun k => funext fun l => read12 m ρ c t k l
  have h13 : (fun k => (show Vec Ideal S1x1024 .f32 from iblk1 (V7 m ρ) c 13 t) (ix2 0 k)) = fun k => n2 m c (ix2 0 k) := funext fun k => read13 m ρ c t k
  have h14 : (fun k l => (show Vec Ideal S1024x4096 .bf16 from iblk1 (V7 m ρ) c 14 t) (ix2 k l)) = fun k l => w1 m c (ix3 0 k l) := funext fun k => funext fun l => read14 m ρ c t k l
  have h15 : (fun k l => (show Vec Ideal S4096x1024 .bf16 from iblk1 (V7 m ρ) c 15 t) (ix2 k l)) = fun k l => w2 m c (ix3 0 k l) := funext fun k => funext fun l => read15 m ρ c t k l
  exact congr (congr (congr (congr (congrArg Spec.ffn (congr (congr (congrArg Spec.mid h0) (funext hm)) h12)) h13) h14) h15) rfl

include hQ hK hB hS in
/-- The kernel's result is the reference's value. -/
theorem out (y : S8x8192x1024.Idx) :
    (show Vec Ideal S8x8192x1024 .f32 from W9 m ρ c (Proc.devRef .tc main_v58)) y =
      Cert.Reference3Ideal.Read.val_main_v140 (F := Ideal) (X m c) (GA m c) (Q m c) (K m c) (Vv m c) (GB m c) (rb m c) (sk m c) (wo m c) (n2 m c) (w1 m c) (w2 m c) y := by
  obtain ⟨b, s, j, rfl⟩ : ∃ (b : Fin 8) (s : Fin 8192) (j : Fin 1024), y = ix3 b s j := ⟨y 0, y 1, y 2, eq_ix3 y⟩
  refine (v58_at (W8 m ρ c) b s j).trans ?_
  refine (congrFun (W8_arr m ρ c 16) (ix2 ⟨8192 * b.val + s.val, by omega⟩ j)).trans ?_
  have e := row (show Vec Ideal S65536x1024 .f32 from (dat1 (V7 m ρ) c).arrAt 16 cfg1.N) (R := ⟨8192 * b.val + s.val, by omega⟩)
    (R' := ⟨512 * (16 * b.val + s.val / 512) + s.val % 512, by omega⟩) (by show 8192 * b.val + s.val = 512 * (16 * b.val + s.val / 512) + s.val % 512; omega) j
  refine e.trans ((out1 (V7 m ρ) c ⟨16 * b.val + s.val / 512, by omega⟩ ⟨s.val % 512, by omega⟩ j).trans ?_)
  refine (point m ρ c ⟨16 * b.val + s.val / 512, by omega⟩ hQ hK hB hS ⟨s.val % 512, by omega⟩ j).trans ?_
  have hb : (⟨(16 * b.val + s.val / 512) / 16, by omega⟩ : Fin 8) = b := Fin.ext (by show (16 * b.val + s.val / 512) / 16 = b.val; omega)
  have hs : (⟨512 * ((16 * b.val + s.val / 512) % 16) + s.val % 512, by omega⟩ : Fin 8192) = s := Fin.ext (by show 512 * ((16 * b.val + s.val / 512) % 16) + s.val % 512 = s.val; omega)
  exact congrArg₂ (fun b s => Cert.Reference3Ideal.Read.val_main_v140 (F := Ideal) (X m c) (GA m c) (Q m c) (K m c) (Vv m c) (GB m c) (rb m c) (sk m c) (wo m c) (n2 m c) (w1 m c) (w2 m c) (ix3 b s j)) hb hs

end Cert.SampleResult

end
-- ==== Proof.SampleValue.lean ====
/- The sample's run, naming what it leaves in its result buffer: the contents of the last boundary. -/
module

public import proofs.«01_k».proof.Proof.Gen.Kernel3Ideal.Frame

@[expose] public section

set_option maxRecDepth 16384

noncomputable section

namespace Cert.Kernel3Ideal.Value

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with the result buffer at the last boundary's contents and the arguments as launched. -/
theorem run : θ_run defs (onTc (τ := τ) (main (F := F))) ⟨m, fun _ => 0, ρ⟩ (fun r => ∀ c : Dev nD,
      r.2.mem ((c.tc : Thread nD τ).loc main_v58) = W9 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v58 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.Kernel3Ideal.Value

end
-- ==== Proof.SampleAlgebraic.lean ====
/- The sample's value claim: on equal arguments with real logits, the kernel and the reference end with equal results. -/
module

public import proofs.«01_k».proof.Defs
public import proofs.«01_k».proof.Proof.SampleResult
public import proofs.«01_k».proof.Proof.SampleValue
public import proofs.«01_k».proof.Proof.Pre
public import proofs.«01_k».proof.Proof.Gen.Reference3Ideal.Run

@[expose] public section

noncomputable section

namespace Cert.Proof.SampleAlgebraic

open Idealize.ShloMosaic Idealize.ShloMosaic.StableHlo Idealize.ShloMosaic.TcCoe Idealize.SL.Sem

theorem val_congr {a0 b0 : Vec Ideal Cert.Reference3Ideal.S8x8192x1024 .f32}
    {a1 b1 : Vec Ideal Cert.Reference3Ideal.S8x8192x1024 .bf16}
    {a2 b2 : Vec Ideal Cert.Reference3Ideal.S8x8192x1024 .bf16}
    {a3 b3 : Vec Ideal Cert.Reference3Ideal.S8x8192x256 .bf16}
    {a4 b4 : Vec Ideal Cert.Reference3Ideal.S8x8192x256 .bf16}
    {a5 b5 : Vec Ideal Cert.Reference3Ideal.S8x8192x1024 .bf16}
    {a6 b6 : Vec Ideal Cert.Reference3Ideal.S32x8 .f32}
    {a7 b7 : Vec Ideal Cert.Reference3Ideal.S1x8 .f32}
    {a8 b8 : Vec Ideal Cert.Reference3Ideal.S1x1024x1024 .bf16}
    {a9 b9 : Vec Ideal Cert.Reference3Ideal.S1x1024 .f32}
    {a10 b10 : Vec Ideal Cert.Reference3Ideal.S1x1024x4096 .bf16}
    {a11 b11 : Vec Ideal Cert.Reference3Ideal.S1x4096x1024 .bf16}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) :
    Cert.Reference3Ideal.Read.val_main_v140 (F := Ideal) a0 a1 a2 a3 a4 a5 a6 a7 a8 a9 a10 a11 = Cert.Reference3Ideal.Read.val_main_v140 (F := Ideal) b0 b1 b2 b3 b4 b5 b6 b7 b8 b9 b10 b11 := by
  rw [h0, h1, h2, h3, h4, h5, h6, h7, h8, h9, h10, h11]

/-- Both run; the kernel's last contents are the reference's value. -/
theorem holds : Cert.algebraic_Kernel3Ideal_Reference3Ideal_pre_sample_finite_logits (hPre_sample_finite_logits := Cert.Pre.sample_facts) := by
  intro m g m' g' hpre hargs
  refine ⟨fun c => Cert.Kernel3Ideal.Gen.W9 m g c (Proc.devRef .tc Cert.Kernel3Ideal.main_v58), Cert.Kernel3Ideal.Value.run m g, ?_⟩
  refine (θ_run Cert.Reference3Ideal.defs _ _).mono (fun r h c => ⟨?_, (h c).2⟩) (Cert.Reference3Ideal.Value.run (F := Ideal) m' g')
  refine (h c).1.trans ((Cert.Reference3Ideal.Read.val_main_v140_eq (F := Ideal) (launchContents m' c)).trans ?_)
  obtain ⟨e0, e1, e2, e3, e4, e5, e6, e7, e8, e9, e10, e11⟩ := hargs c
  obtain ⟨hQ, hK, hB, hS⟩ := Cert.Pre.sample_finite m hpre c
  exact (val_congr e0 e1 e2 e3 e4 e5 e6 e7 e8 e9 e10 e11).trans (funext fun y => (Cert.SampleResult.out m g c hQ hK hB hS y).symm)

end Cert.Proof.SampleAlgebraic

end
-- ==== Proof.SampleInRun.lean ====
/- What the sample's program stores in its five outputs and the buffer it carries between points is what InRan.lean describes. -/
module

public import proofs.«01_k».proof.Proof.InRan
public import proofs.«01_k».proof.Proof.Gen.Kernel4Ideal.Frame

@[expose] public section

set_option maxRecDepth 16384

noncomputable section

namespace Cert.Kernel4Ideal.Run

open Cert.Kernel4Ideal Cert.Kernel4Ideal.Gen Idealize.ShloMosaic Idealize.ShloMosaic.TcCoe Idealize.ShloMosaic.Tactic Idealize.SL.Sem

variable {F : FTy → Type} [FloatOps F] [Named F]

variable (c : Dev nD) (i : grid0.Coords)
  (arg1 : Memref sig .tc .vmem S1024x1024 .f32) (harg1 : arg1.IsWhole)
  (arg2 : Memref sig .tc .vmem S1x1024 .f32) (harg2 : arg2.IsWhole)
  (arg3 : Memref sig .tc .vmem S1024x5632 .bf16) (harg3 : arg3.IsWhole)
  (arg4 : Memref sig .tc .vmem S1x1024x256 .f32) (harg4 : arg4.IsWhole)
  (arg5 : Memref sig .tc .vmem S1x1024 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S8x128x128 .bf16) (harg8 : arg8.IsWhole)
  (arg9 : Memref sig .tc .vmem S8x128x128 .f32) (harg9 : arg9.IsWhole)
  (arg10 : Memref sig .tc .vmem S1024x1024 .bf16) (harg10 : arg10.IsWhole)
  (arg11 : Memref sig .tc .vmem S1024x1024 .bf16) (harg11 : arg11.IsWhole)
  (arg12 : Memref sig .tc .vmem S1024x256 .bf16) (harg12 : arg12.IsWhole)
  (arg13 : Memref sig .tc .vmem S256x1024 .bf16) (harg13 : arg13.IsWhole)
  (arg14 : Memref sig .tc .vmem S1024x1024 .bf16) (harg14 : arg14.IsWhole)
  (arg15 : Memref sig .tc .vmem S1024x1024 .bf16) (harg15 : arg15.IsWhole)
  (arg16 : Memref sig .tc .vmem S1024x1024 .f32) (harg16 : arg16.IsWhole)
  (arg17 : Memref sig .tc .vmem S1024x1024 .bf16) (harg17 : arg17.IsWhole)
  (arg18 : Memref sig .tc .vmem S1024x1024 .bf16) (harg18 : arg18.IsWhole)
  (arg19 : Memref sig .tc .vmem S256x1024 .bf16) (harg19 : arg19.IsWhole)
  (x0 : Vec F S1024x1024 .f32)
  (x1 : Vec F S1x1024 .f32)
  (x2 : Vec F S1024x5632 .bf16)
  (x3 : Vec F S1x1024x256 .f32)
  (x4 : Vec F S1x1024 .f32)
  (x5 : Vec F S1x128 .f32)
  (x6 : Vec F S1x128 .f32)
  (x7 : Vec F S8x128x128 .bf16)
  (x8 : Vec F S8x128x128 .f32)

/-- The doubly gated branch, at the first point. -/
theorem outA9 (hc : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Cert.Kernel2Ideal.Ran.gyaPieces arg15 arg16 arg17 arg18 (Cert.Kernel2Ideal.Ran.ldx arg1 harg1 x0) (Cert.Kernel2Ideal.Ran.ldg arg2 harg2 x1) (Cert.Kernel2Ideal.Ran.ldw arg3 harg3 x2) (Cert.Kernel2Ideal.Ran.ldg arg5 harg5 x4) (Cert.Kernel2Ideal.Ran.lds arg8 harg8 x7) (Cert.Kernel2Ideal.Ran.lds arg9 harg9 x8)) := by
  unfold out0_A_9
  rw [View.read_writes_junk_eq_canon]
  exact congrArg View.canon (by sl_kernel_rfl)

/-- The queries, at the first point. -/
theorem outA10 (hc : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Cert.Kernel2Ideal.Ran.qPieces arg15 (Cert.Kernel2Ideal.Ran.ldx arg1 harg1 x0) (Cert.Kernel2Ideal.Ran.ldg arg2 harg2 x1) (Cert.Kernel2Ideal.Ran.ldw arg3 harg3 x2) (Cert.Kernel2Ideal.Ran.ldn arg6 harg6 x5)) := by
  unfold out0_A_10
  rw [View.read_writes_junk_eq_canon]
  exact congrArg View.canon (by sl_kernel_rfl)

/-- The keys, at the first point. -/
theorem outA11 (hc : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Cert.Kernel2Ideal.Ran.kPieces arg15 (Cert.Kernel2Ideal.Ran.ldx arg1 harg1 x0) (Cert.Kernel2Ideal.Ran.ldg arg2 harg2 x1) (Cert.Kernel2Ideal.Ran.ldw arg3 harg3 x2) (Cert.Kernel2Ideal.Ran.ldn arg7 harg7 x6)) := by
  unfold out0_A_11
  rw [View.read_writes_junk_eq_canon]
  exact congrArg View.canon (by sl_kernel_rfl)

/-- The values, at the first point. -/
theorem outA12 (hc : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Cert.Kernel2Ideal.Ran.vtPieces arg15 (Cert.Kernel2Ideal.Ran.ldx arg1 harg1 x0) (Cert.Kernel2Ideal.Ran.ldg arg2 harg2 x1) (Cert.Kernel2Ideal.Ran.ldt0 arg19 (Cert.Kernel2Ideal.Ran.ldv arg4 harg4 x3))) := by
  unfold out0_A_12
  rw [View.read_writes_junk_eq_canon]
  exact congrArg View.canon (by sl_kernel_rfl)

/-- The second gate, at the first point. -/
theorem outA13 (hc : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Cert.Kernel2Ideal.Ran.gbPieces arg15 (Cert.Kernel2Ideal.Ran.ldx arg1 harg1 x0) (Cert.Kernel2Ideal.Ran.ldg arg2 harg2 x1) (Cert.Kernel2Ideal.Ran.ldw arg3 harg3 x2)) := by
  unfold out0_A_13
  rw [View.read_writes_junk_eq_canon]
  exact congrArg View.canon (by sl_kernel_rfl)

/-- The weights carried on, at the first point. -/
theorem outAT (hc : cond0_0 i) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 =
      View.canon (Cert.Kernel2Ideal.Ran.wtPieces (Cert.Kernel2Ideal.Ran.ldv arg4 harg4 x3)) := by
  unfold sout0_A_4
  rw [View.read_writes_junk_eq_canon]
  exact congrArg View.canon (by sl_kernel_rfl)

/-- The doubly gated branch, at a later point. -/
theorem outB9 (hc : ¬cond0_0 i) (xs : Vec F S256x1024 .bf16) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Cert.Kernel2Ideal.Ran.gyaPieces arg15 arg16 arg17 arg18 (Cert.Kernel2Ideal.Ran.ldx arg1 harg1 x0) (Cert.Kernel2Ideal.Ran.ldg arg2 harg2 x1) (Cert.Kernel2Ideal.Ran.ldw arg3 harg3 x2) (Cert.Kernel2Ideal.Ran.ldg arg5 harg5 x4) (Cert.Kernel2Ideal.Ran.lds arg8 harg8 x7) (Cert.Kernel2Ideal.Ran.lds arg9 harg9 x8)) := by
  unfold out0_B_9
  rw [View.read_writes_junk_eq_canon]
  exact congrArg View.canon (by sl_kernel_rfl)

/-- The queries, at a later point. -/
theorem outB10 (hc : ¬cond0_0 i) (xs : Vec F S256x1024 .bf16) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Cert.Kernel2Ideal.Ran.qPieces arg15 (Cert.Kernel2Ideal.Ran.ldx arg1 harg1 x0) (Cert.Kernel2Ideal.Ran.ldg arg2 harg2 x1) (Cert.Kernel2Ideal.Ran.ldw arg3 harg3 x2) (Cert.Kernel2Ideal.Ran.ldn arg6 harg6 x5)) := by
  unfold out0_B_10
  rw [View.read_writes_junk_eq_canon]
  exact congrArg View.canon (by sl_kernel_rfl)

/-- The keys, at a later point. -/
theorem outB11 (hc : ¬cond0_0 i) (xs : Vec F S256x1024 .bf16) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Cert.Kernel2Ideal.Ran.kPieces arg15 (Cert.Kernel2Ideal.Ran.ldx arg1 harg1 x0) (Cert.Kernel2Ideal.Ran.ldg arg2 harg2 x1) (Cert.Kernel2Ideal.Ran.ldw arg3 harg3 x2) (Cert.Kernel2Ideal.Ran.ldn arg7 harg7 x6)) := by
  unfold out0_B_11
  rw [View.read_writes_junk_eq_canon]
  exact congrArg View.canon (by sl_kernel_rfl)

/-- The values, at a later point. -/
theorem outB12 (hc : ¬cond0_0 i) (xs : Vec F S256x1024 .bf16) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Cert.Kernel2Ideal.Ran.vtPieces arg15 (Cert.Kernel2Ideal.Ran.ldx arg1 harg1 x0) (Cert.Kernel2Ideal.Ran.ldg arg2 harg2 x1) (Cert.Kernel2Ideal.Ran.ldt arg19 harg19 xs)) := by
  unfold out0_B_12
  rw [View.read_writes_junk_eq_canon]
  exact congrArg View.canon (by sl_kernel_rfl)

/-- The second gate, at a later point. -/
theorem outB13 (hc : ¬cond0_0 i) (xs : Vec F S256x1024 .bf16) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 xs =
      View.canon (Cert.Kernel2Ideal.Ran.gbPieces arg15 (Cert.Kernel2Ideal.Ran.ldx arg1 harg1 x0) (Cert.Kernel2Ideal.Ran.ldg arg2 harg2 x1) (Cert.Kernel2Ideal.Ran.ldw arg3 harg3 x2)) := by
  unfold out0_B_13
  rw [View.read_writes_junk_eq_canon]
  exact congrArg View.canon (by sl_kernel_rfl)

end Cert.Kernel4Ideal.Run

end
-- ==== Proof.SampleInHost.lean ====
/- The arrays the host prepares for the sample's input projection, at an index. -/
module

public import proofs.«01_k».proof.Proof.Gen.Kernel4Ideal.Frame
public import proofs.«01_k».proof.Proof.Consts
public import Idealize.ShloMosaic.Lib.StableHlo.ReadAt
public import Idealize.ShloMosaic.Lib.Pointwise

@[expose] public section

set_option maxRecDepth 16384

noncomputable section

namespace Cert.Kernel4Ideal.Host

open Cert.Kernel4Ideal Cert.Kernel4Ideal.Gen Idealize.ShloMosaic Idealize.ShloMosaic.TcCoe Idealize.SL.Sem

variable (U : Valuation τ sig (Elt Ideal))

/-- The rows of all batches. -/
theorem v20_at (R : Fin 65536) (j : Fin 1024) :
    (show Vec Ideal S65536x1024 .f32 from StableHlo.after hostOps0 U (Proc.devRef .tc main_v20)) (ix2 R j) =
      (show Vec Ideal S8x8192x1024 .f32 from U (Proc.devRef .tc main_arg0)) (ix3 ⟨R.val / 8192, by omega⟩ ⟨R.val % 8192, by omega⟩ j) := by
  dsimp only
  after_reads_at

/-- The first norm's gains. -/
theorem v1_at (k : Fin 1024) :
    (show Vec Ideal S1x1024 .f32 from StableHlo.after hostOps0 U (Proc.devRef .tc main_v1)) (ix2 0 k) =
      (show Vec Ideal S1x1024 .f32 from U (Proc.devRef .tc main_arg1)) (ix2 0 k) := by
  dsimp only
  after_reads_at

/-- The weights. -/
theorem v14_at (k : Fin 1024) (j : Fin 5632) :
    (show Vec Ideal S1024x5632 .bf16 from StableHlo.after hostOps0 U (Proc.devRef .tc main_v14)) (ix2 k j) =
      (show Vec Ideal S1x1024x5632 .f32 from U (Proc.devRef .tc main_arg2)) (ix3 0 k j) := by
  dsimp only
  after_reads_at

/-- The gating norm's gains. -/
theorem v3_at (k : Fin 1024) :
    (show Vec Ideal S1x1024 .f32 from StableHlo.after hostOps0 U (Proc.devRef .tc main_v3)) (ix2 0 k) =
      (show Vec Ideal S1x1024 .f32 from U (Proc.devRef .tc main_arg3)) (ix2 0 k) := by
  dsimp only
  after_reads_at

/-- The queries' gains, scaled. -/
theorem v10_at (d : Fin 128) :
    (show Vec Ideal S1x128 .f32 from StableHlo.after hostOps0 U (Proc.devRef .tc main_v10)) (ix2 0 d) =
      (show Vec Ideal S1x128 .f32 from U (Proc.devRef .tc main_arg6)) (ix2 0 d) * (Ideal.sqrt ((128 : ℝ) : EReal) * Ideal.log ((2 : ℝ) : EReal)) := by
  dsimp only
  after_reads_at
  rw [Consts.ofBits_128, Consts.ofBits_2]

/-- The keys' gains. -/
theorem v12_at (d : Fin 128) :
    (show Vec Ideal S1x128 .f32 from StableHlo.after hostOps0 U (Proc.devRef .tc main_v12)) (ix2 0 d) =
      (show Vec Ideal S1x128 .f32 from U (Proc.devRef .tc main_arg7)) (ix2 0 d) := by
  dsimp only
  after_reads_at

/-- The mixing matrices. -/
theorem v16_at (g : Fin 8) (p q : Fin 128) :
    (show Vec Ideal S8x128x128 .bf16 from StableHlo.after hostOps0 U (Proc.devRef .tc main_v16)) (ix3 g p q) =
      (show Vec Ideal S1x8x128x128 .f32 from U (Proc.devRef .tc main_arg4)) (ix4 0 g p q) := by
  dsimp only
  after_reads_at

/-- Their biases, the same for every channel of a group. -/
theorem v19_at (g : Fin 8) (p q : Fin 128) :
    (show Vec Ideal S8x128x128 .f32 from StableHlo.after hostOps0 U (Proc.devRef .tc main_v19)) (ix3 g p q) =
      (show Vec Ideal S1x8x128 .f32 from U (Proc.devRef .tc main_arg5)) (ix3 0 g p) := by
  dsimp only
  after_reads_at

end Cert.Kernel4Ideal.Host

end
-- ==== Proof.SampleInRegions.lean ====
/- The sample's input projection's windows: what a point's input blocks hold of the arguments, and where its output blocks go. -/
module

public import proofs.«01_k».proof.Proof.Gen.Kernel4Ideal.Value
public import proofs.«01_k».proof.Proof.SampleInHost
public import proofs.«01_k».proof.Proof.InSpec
public import Idealize.ShloMosaic.Lib.Pipeline.Value

@[expose] public section

set_option maxRecDepth 16384

noncomputable section

namespace Cert.Kernel4Ideal.Regions

open Cert.Kernel4Ideal Cert.Kernel4Ideal.Gen Idealize.ShloMosaic Idealize.ShloMosaic.TcCoe Idealize.SL.Sem
open Idealize.ShloMosaic.Pipeline (Window Dat)

/-- A grid point's coordinate is its number. -/
theorem cur : ∀ t : Fin grid0.N, (BitVec.ofNat 32 (grid0.coords t 0).val).toNat = t.val := by decide +kernel

theorem read2 {α : Type} {P C : Nat} (X : (⟨2, ![P, C]⟩ : Shape).Idx → α) (y : (⟨2, ![P, C]⟩ : Shape).Idx) (R : Fin P) (S : Fin C) (h0 : (y 0).val = R.val) (h1 : (y 1).val = S.val) : X y = X (ix2 R S) := by
  congr 1
  funext a
  fin_cases a
  · exact Fin.ext h0
  · exact Fin.ext h1

theorem read3 {α : Type} {A P C : Nat} (X : (⟨3, ![A, P, C]⟩ : Shape).Idx → α) (y : (⟨3, ![A, P, C]⟩ : Shape).Idx) (a : Fin A) (R : Fin P) (S : Fin C)
    (h0 : (y 0).val = a.val) (h1 : (y 1).val = R.val) (h2 : (y 2).val = S.val) : X y = X (ix3 a R S) := by
  congr 1
  funext k
  fin_cases k
  · exact Fin.ext h0
  · exact Fin.ext h1
  · exact Fin.ext h2

variable (m : (ℓ : Loc nD τ sig) → Buf (Elt Ideal) ℓ) (c : Dev nD) (t : Fin 64)

/-! The arguments as launched. -/

abbrev X : Vec Ideal S8x8192x1024 .f32 := m ((c.tc : Thread nD τ).loc main_arg0)
abbrev g1 : Vec Ideal S1x1024 .f32 := m ((c.tc : Thread nD τ).loc main_arg1)
abbrev w : Vec Ideal S1x1024x5632 .f32 := m ((c.tc : Thread nD τ).loc main_arg2)
abbrev sg : Vec Ideal S1x1024 .f32 := m ((c.tc : Thread nD τ).loc main_arg3)
abbrev ws : Vec Ideal S1x8x128x128 .f32 := m ((c.tc : Thread nD τ).loc main_arg4)
abbrev bs : Vec Ideal S1x8x128 .f32 := m ((c.tc : Thread nD τ).loc main_arg5)
abbrev qn : Vec Ideal S1x128 .f32 := m ((c.tc : Thread nD τ).loc main_arg6)
abbrev kn : Vec Ideal S1x128 .f32 := m ((c.tc : Thread nD τ).loc main_arg7)

/-- A row of a point's block among all batches' rows. -/
def rowOf (r : Fin 1024) : Fin 65536 := ⟨1024 * t.val + r.val, by omega⟩

/-- A row of the input, by its number among all batches' rows. -/
def line (R : Fin 65536) (k : Fin 1024) : EReal := X m c (ix3 ⟨R.val / 8192, by omega⟩ ⟨R.val % 8192, by omega⟩ k)

/-! ## What a point reads -/

theorem in0 (r k : Fin 1024) : (show Vec Ideal S1024x1024 .f32 from iblk m c 0 t) (ix2 r k) = line m c (rowOf t r) k :=
  (read2 (show Vec Ideal S65536x1024 .f32 from V m c main_v20) ((win0_0.rect t).emb (ix2 r k)) (rowOf t r) k
    ((Window.rect_emb_val win0_0 t (ix2 r k) 0).trans (by show (BitVec.ofNat 32 (grid0.coords t 0).val).toNat * 1024 + r.val = 1024 * t.val + r.val; exact (congrArg (fun z => z * 1024 + r.val) (cur t)).trans (by omega)))
    ((Window.rect_emb_val win0_0 t (ix2 r k) 1).trans (by show 0 * 1024 + k.val = k.val; omega))).trans
  (Host.v20_at (fun b => m (c, b)) (rowOf t r) k)

theorem in1 (k : Fin 1024) : (show Vec Ideal S1x1024 .f32 from iblk m c 1 t) (ix2 0 k) = g1 m c (ix2 0 k) :=
  (read2 (show Vec Ideal S1x1024 .f32 from V m c main_v1) ((win0_1.rect t).emb (ix2 0 k)) 0 k
    ((Window.rect_emb_val win0_1 t (ix2 0 k) 0).trans rfl) ((Window.rect_emb_val win0_1 t (ix2 0 k) 1).trans (by show 0 * 1024 + k.val = k.val; omega))).trans
  (Host.v1_at (fun b => m (c, b)) k)

theorem in2 (k : Fin 1024) (j : Fin 5632) : (show Vec Ideal S1024x5632 .bf16 from iblk m c 2 t) (ix2 k j) = w m c (ix3 0 k j) :=
  (read2 (show Vec Ideal S1024x5632 .bf16 from V m c main_v14) ((win0_2.rect t).emb (ix2 k j)) k j
    ((Window.rect_emb_val win0_2 t (ix2 k j) 0).trans (by show 0 * 1024 + k.val = k.val; omega)) ((Window.rect_emb_val win0_2 t (ix2 k j) 1).trans (by show 0 * 5632 + j.val = j.val; omega))).trans
  (Host.v14_at (fun b => m (c, b)) k j)

theorem in3 (k : Fin 1024) (f : Fin 256) : (show Vec Ideal S1x1024x256 .f32 from iblk m c 3 t) (ix3 0 k f) = w m c (ix3 0 k ⟨3328 + f.val, by omega⟩) :=
  (read3 (show Vec Ideal S1x1024x5632 .f32 from V m c main_arg2) ((win0_3.rect t).emb (ix3 0 k f)) 0 k ⟨3328 + f.val, by omega⟩
    ((Window.rect_emb_val win0_3 t (ix3 0 k f) 0).trans rfl) ((Window.rect_emb_val win0_3 t (ix3 0 k f) 1).trans (by show 0 * 1024 + k.val = k.val; omega))
    ((Window.rect_emb_val win0_3 t (ix3 0 k f) 2).trans (by show 13 * 256 + f.val = 3328 + f.val; omega))).trans
  (congrFun (V_main_arg2 m c) _)

theorem in4 (k : Fin 1024) : (show Vec Ideal S1x1024 .f32 from iblk m c 4 t) (ix2 0 k) = sg m c (ix2 0 k) :=
  (read2 (show Vec Ideal S1x1024 .f32 from V m c main_v3) ((win0_4.rect t).emb (ix2 0 k)) 0 k
    ((Window.rect_emb_val win0_4 t (ix2 0 k) 0).trans rfl) ((Window.rect_emb_val win0_4 t (ix2 0 k) 1).trans (by show 0 * 1024 + k.val = k.val; omega))).trans
  (Host.v3_at (fun b => m (c, b)) k)

/-- The host's factor on the queries' gains and the kernel's cancel. -/
theorem q_factor (g : EReal) : g * (Ideal.sqrt ((128 : ℝ) : EReal) * Ideal.log ((2 : ℝ) : EReal)) * (((Real.sqrt 128)⁻¹ * (Real.log 2)⁻¹ : ℝ) : EReal) = g := by
  have hs : Real.sqrt 128 ≠ 0 := (Real.sqrt_pos.2 (by norm_num)).ne'
  rw [Ideal.sqrt_coe, Ideal.log_coe, if_neg (by norm_num), if_neg (by norm_num), ← EReal.coe_mul, mul_assoc, ← EReal.coe_mul]
  have : Real.sqrt 128 * Real.log 2 * ((Real.sqrt 128)⁻¹ * (Real.log 2)⁻¹) = 1 := by
    have := InSpec.log2_ne
    field_simp
  rw [this, EReal.coe_one, mul_one]

theorem in5 (d : Fin 128) : (show Vec Ideal S1x128 .f32 from iblk m c 5 t) (ix2 0 d) * (((Real.sqrt 128)⁻¹ * (Real.log 2)⁻¹ : ℝ) : EReal) = qn m c (ix2 0 d) :=
  (congrArg (· * (((Real.sqrt 128)⁻¹ * (Real.log 2)⁻¹ : ℝ) : EReal)) ((read2 (show Vec Ideal S1x128 .f32 from V m c main_v10) ((win0_5.rect t).emb (ix2 0 d)) 0 d
    ((Window.rect_emb_val win0_5 t (ix2 0 d) 0).trans rfl) ((Window.rect_emb_val win0_5 t (ix2 0 d) 1).trans (by show 0 * 128 + d.val = d.val; omega))).trans
  (Host.v10_at (fun b => m (c, b)) d))).trans (q_factor _)

theorem in6 (d : Fin 128) : (show Vec Ideal S1x128 .f32 from iblk m c 6 t) (ix2 0 d) = kn m c (ix2 0 d) :=
  (read2 (show Vec Ideal S1x128 .f32 from V m c main_v12) ((win0_6.rect t).emb (ix2 0 d)) 0 d
    ((Window.rect_emb_val win0_6 t (ix2 0 d) 0).trans rfl) ((Window.rect_emb_val win0_6 t (ix2 0 d) 1).trans (by show 0 * 128 + d.val = d.val; omega))).trans
  (Host.v12_at (fun b => m (c, b)) d)

theorem in7 (g : Fin 8) (p q : Fin 128) : (show Vec Ideal S8x128x128 .bf16 from iblk m c 7 t) (ix3 g p q) = ws m c (ix4 0 g p q) :=
  (read3 (show Vec Ideal S8x128x128 .bf16 from V m c main_v16) ((win0_7.rect t).emb (ix3 g p q)) g p q
    ((Window.rect_emb_val win0_7 t (ix3 g p q) 0).trans (by show 0 * 8 + g.val = g.val; omega)) ((Window.rect_emb_val win0_7 t (ix3 g p q) 1).trans (by show 0 * 128 + p.val = p.val; omega))
    ((Window.rect_emb_val win0_7 t (ix3 g p q) 2).trans (by show 0 * 128 + q.val = q.val; omega))).trans
  (Host.v16_at (fun b => m (c, b)) g p q)

theorem in8 (g : Fin 8) (p q : Fin 128) : (show Vec Ideal S8x128x128 .f32 from iblk m c 8 t) (ix3 g p q) = bs m c (ix3 0 g p) :=
  (read3 (show Vec Ideal S8x128x128 .f32 from V m c main_v19) ((win0_8.rect t).emb (ix3 g p q)) g p q
    ((Window.rect_emb_val win0_8 t (ix3 g p q) 0).trans (by show 0 * 8 + g.val = g.val; omega)) ((Window.rect_emb_val win0_8 t (ix3 g p q) 1).trans (by show 0 * 128 + p.val = p.val; omega))
    ((Window.rect_emb_val win0_8 t (ix3 g p q) 2).trans (by show 0 * 128 + q.val = q.val; omega))).trans
  (Host.v19_at (fun b => m (c, b)) g p q)

/-! ## Where a point writes -/

theorem flush9 : ∀ t : Fin grid0.N, win0_9.flush t = true := by decide +kernel
theorem flush10 : ∀ t : Fin grid0.N, win0_10.flush t = true := by decide +kernel
theorem flush11 : ∀ t : Fin grid0.N, win0_11.flush t = true := by decide +kernel
theorem flush12 : ∀ t : Fin grid0.N, win0_12.flush t = true := by decide +kernel
theorem flush13 : ∀ t : Fin grid0.N, win0_13.flush t = true := by decide +kernel

theorem arr9 (r : Fin 1024) (j : Fin 1024) :
    (show Vec Ideal S65536x1024 .bf16 from (dats m 0 c).arrAt 9 cfg0.N) (ix2 (rowOf t r) j) = (outsAt0 m c t.val t.isLt).1 (ix2 r j) := by
  have h := (Value.blocks9 m c t (flush9 t)).trans (Value.flushed9 m c t)
  generalize (dats m 0 c).arrAt 9 cfg0.N = A at h
  generalize (outsAt0 m c t.val t.isLt).1 = O at h
  refine (read2 (show Vec Ideal S65536x1024 .bf16 from A) ((win0_9.rect t).emb (ix2 r j)) (rowOf t r) j
    ((Window.rect_emb_val win0_9 t (ix2 r j) 0).trans (by show (BitVec.ofNat 32 (grid0.coords t 0).val).toNat * 1024 + r.val = 1024 * t.val + r.val; exact (congrArg (fun z => z * 1024 + r.val) (cur t)).trans (by omega)))
    ((Window.rect_emb_val win0_9 t (ix2 r j) 1).trans (by show 0 * 1024 + j.val = j.val; omega))).symm.trans ?_
  exact congrFun h (ix2 r j)

theorem arr10 (r : Fin 1024) (j : Fin 1024) :
    (show Vec Ideal S65536x1024 .bf16 from (dats m 0 c).arrAt 10 cfg0.N) (ix2 (rowOf t r) j) = (outsAt0 m c t.val t.isLt).2.1 (ix2 r j) := by
  have h := (Value.blocks10 m c t (flush10 t)).trans (Value.flushed10 m c t)
  generalize (dats m 0 c).arrAt 10 cfg0.N = A at h
  generalize (outsAt0 m c t.val t.isLt).2.1 = O at h
  refine (read2 (show Vec Ideal S65536x1024 .bf16 from A) ((win0_10.rect t).emb (ix2 r j)) (rowOf t r) j
    ((Window.rect_emb_val win0_10 t (ix2 r j) 0).trans (by show (BitVec.ofNat 32 (grid0.coords t 0).val).toNat * 1024 + r.val = 1024 * t.val + r.val; exact (congrArg (fun z => z * 1024 + r.val) (cur t)).trans (by omega)))
    ((Window.rect_emb_val win0_10 t (ix2 r j) 1).trans (by show 0 * 1024 + j.val = j.val; omega))).symm.trans ?_
  exact congrFun h (ix2 r j)

theorem arr11 (r : Fin 1024) (j : Fin 256) :
    (show Vec Ideal S65536x256 .bf16 from (dats m 0 c).arrAt 11 cfg0.N) (ix2 (rowOf t r) j) = (outsAt0 m c t.val t.isLt).2.2.1 (ix2 r j) := by
  have h := (Value.blocks11 m c t (flush11 t)).trans (Value.flushed11 m c t)
  generalize (dats m 0 c).arrAt 11 cfg0.N = A at h
  generalize (outsAt0 m c t.val t.isLt).2.2.1 = O at h
  refine (read2 (show Vec Ideal S65536x256 .bf16 from A) ((win0_11.rect t).emb (ix2 r j)) (rowOf t r) j
    ((Window.rect_emb_val win0_11 t (ix2 r j) 0).trans (by show (BitVec.ofNat 32 (grid0.coords t 0).val).toNat * 1024 + r.val = 1024 * t.val + r.val; exact (congrArg (fun z => z * 1024 + r.val) (cur t)).trans (by omega)))
    ((Window.rect_emb_val win0_11 t (ix2 r j) 1).trans (by show 0 * 256 + j.val = j.val; omega))).symm.trans ?_
  exact congrFun h (ix2 r j)

theorem arr12 (r : Fin 1024) (j : Fin 256) :
    (show Vec Ideal S256x65536 .bf16 from (dats m 0 c).arrAt 12 cfg0.N) (ix2 j (rowOf t r)) = (outsAt0 m c t.val t.isLt).2.2.2.1 (ix2 j r) := by
  have h := (Value.blocks12 m c t (flush12 t)).trans (Value.flushed12 m c t)
  generalize (dats m 0 c).arrAt 12 cfg0.N = A at h
  generalize (outsAt0 m c t.val t.isLt).2.2.2.1 = O at h
  refine (read2 (show Vec Ideal S256x65536 .bf16 from A) ((win0_12.rect t).emb (ix2 j r)) j (rowOf t r)
    ((Window.rect_emb_val win0_12 t (ix2 j r) 0).trans (by show 0 * 256 + j.val = j.val; omega))
    ((Window.rect_emb_val win0_12 t (ix2 j r) 1).trans (by show (BitVec.ofNat 32 (grid0.coords t 0).val).toNat * 1024 + r.val = 1024 * t.val + r.val; exact (congrArg (fun z => z * 1024 + r.val) (cur t)).trans (by omega)))).symm.trans ?_
  exact congrFun h (ix2 j r)

theorem arr13 (r : Fin 1024) (j : Fin 1024) :
    (show Vec Ideal S65536x1024 .bf16 from (dats m 0 c).arrAt 13 cfg0.N) (ix2 (rowOf t r) j) = (outsAt0 m c t.val t.isLt).2.2.2.2.1 (ix2 r j) := by
  have h := (Value.blocks13 m c t (flush13 t)).trans (Value.flushed13 m c t)
  generalize (dats m 0 c).arrAt 13 cfg0.N = A at h
  generalize (outsAt0 m c t.val t.isLt).2.2.2.2.1 = O at h
  refine (read2 (show Vec Ideal S65536x1024 .bf16 from A) ((win0_13.rect t).emb (ix2 r j)) (rowOf t r) j
    ((Window.rect_emb_val win0_13 t (ix2 r j) 0).trans (by show (BitVec.ofNat 32 (grid0.coords t 0).val).toNat * 1024 + r.val = 1024 * t.val + r.val; exact (congrArg (fun z => z * 1024 + r.val) (cur t)).trans (by omega)))
    ((Window.rect_emb_val win0_13 t (ix2 r j) 1).trans (by show 0 * 1024 + j.val = j.val; omega))).symm.trans ?_
  exact congrFun h (ix2 r j)

end Cert.Kernel4Ideal.Regions

end
-- ==== Proof.SampleInRef.lean ====
/- The sample's input projection's reference at an index: the normed row, its projection, and the queries and keys. -/
module

public import proofs.«01_k».proof.Proof.Gen.Reference4Ideal.Read
public import proofs.«01_k».proof.Proof.InSpec
public import Idealize.ShloMosaic.Lib.Pointwise

@[expose] public section

noncomputable section

namespace Cert.Reference4Ideal.Ref

open Cert.Reference4Ideal Cert.Reference4Ideal.Gen Cert.Reference4Ideal.Read Idealize.ShloMosaic Idealize.ShloMosaic.TcCoe Idealize.SL.Sem

variable (X : Vec Ideal S8x8192x1024 .f32) (g1 : Vec Ideal S1x1024 .f32) (w : Vec Ideal S1x1024x5632 .f32) (sg : Vec Ideal S1x1024 .f32)
  (ws : Vec Ideal S1x8x128x128 .f32) (bs : Vec Ideal S1x8x128 .f32) (qn kn : Vec Ideal S1x128 .f32)

/-! The arguments as the mathematics takes them. -/

/-- A row of the input. -/
def row (b : Fin 8) (s : Fin 8192) (k : Fin 1024) : EReal := X (ix3 b s k)

/-- Gains. -/
def gain {n : Nat} (g : (⟨2, ![1, n]⟩ : Shape).Idx → EReal) (k : Fin n) : EReal := g (ix2 0 k)

/-- The projection. -/
def proj (k : Fin 1024) (j : Fin 5632) : EReal := w (ix3 0 k j)

/-- A group's mixing matrix, and its biases. -/
def mat (g : Fin 8) (p q : Fin 128) : EReal := ws (ix4 0 g p q)
@[inherit_doc mat] def bias (g : Fin 8) (p : Fin 128) : EReal := bs (ix3 0 g p)

/-- The gains spread over the rows. -/
theorem v12_at (b : Fin 8) (s : Fin 8192) (k : Fin 1024) : val_main_v12 (F := Ideal) g1 (ix3 b s k) = gain g1 k := by
  rw [val_main_v12_apply, val_main_v11_apply, val_main_v0_apply]
  refine congrArg g1 ?_
  funext a
  apply Fin.ext
  fin_cases a
  · rfl
  · exact Nat.mod_eq_of_lt k.isLt

/-- The normed row. -/
theorem v13_at (b : Fin 8) (s : Fin 8192) (k : Fin 1024) :
    val_main_v13 (F := Ideal) X g1 (ix3 b s k) = InSpec.norm InSpec.wide (row X b s) (gain g1) k := by
  rw [val_main_v13_apply, v12_at, val_main_v10_apply, val_main_v9_apply, val_main_v8_apply, val_main_v7_apply, val_main_v6_apply, val_main_v5_apply, val_main_v4_apply,
    val_main_v3_apply, val_main_v2_apply]
  refine congrArg (fun z => X (ix3 b s k) * Ideal.rsqrt (Ideal.div z InSpec.wide + Ideal.ofBits .f32 0x358637BD#32) * gain g1 k) ?_
  refine (congrArg₂ (· + ·) Ideal.ofBits_zero_f32 (Finset.sum_congr rfl fun l _ => ?_)).trans (zero_add _)
  have e : idx_main_v2 (idx_main_v3 (idx_main_v9 (ix3 b s k))) l = ix3 b s l := by
    funext a
    fin_cases a <;> rfl
  rw [val_main_v1_apply, e]
  rfl

/-- Its projection to a column. -/
theorem v15_at (b : Fin 8) (s : Fin 8192) (j : Fin 5632) :
    val_main_v15 (F := Ideal) X g1 w (ix3 b s j) = InSpec.z (row X b s) (gain g1) (proj w) j := by
  rw [val_main_v15_apply]
  refine Finset.sum_congr rfl fun k _ => ?_
  have e : lidx_main_v15 (ix3 b s j) k = ix3 b s k := by
    funext a
    fin_cases a <;> rfl
  rw [e, v13_at, val_main_v14_apply]
  refine congrArg (fun y => InSpec.norm InSpec.wide (row X b s) (gain g1) k * w y) ?_
  funext a
  apply Fin.ext
  fin_cases a
  · rfl
  · show (k.val * 5632 + j.val) / 5632 % 1024 = k.val
    omega
  · show (k.val * 5632 + j.val) % 5632 = j.val
    omega

theorem v16_at (b : Fin 8) (s : Fin 8192) (j : Fin 1024) :
    val_main_v16 (F := Ideal) X g1 w (ix3 b s j) = InSpec.z (row X b s) (gain g1) (proj w) ⟨j.val, by omega⟩ := by
  rw [val_main_v16_apply, ← v15_at]
  refine congrArg _ ?_
  funext a
  fin_cases a <;> rfl

theorem v17_at (b : Fin 8) (s : Fin 8192) (j : Fin 1024) :
    val_main_v17 (F := Ideal) X g1 w (ix3 b s j) = InSpec.z (row X b s) (gain g1) (proj w) ⟨1024 + j.val, by omega⟩ := by
  rw [val_main_v17_apply, ← v15_at]
  refine congrArg _ ?_
  funext a
  fin_cases a <;> rfl

theorem v18_at (b : Fin 8) (s : Fin 8192) (j : Fin 1024) :
    val_main_v18 (F := Ideal) X g1 w (ix3 b s j) = InSpec.z (row X b s) (gain g1) (proj w) ⟨2048 + j.val, by omega⟩ := by
  rw [val_main_v18_apply, ← v15_at]
  refine congrArg _ ?_
  funext a
  fin_cases a <;> rfl

theorem v19_at (b : Fin 8) (s : Fin 8192) (j : Fin 256) :
    val_main_v19 (F := Ideal) X g1 w (ix3 b s j) = InSpec.z (row X b s) (gain g1) (proj w) ⟨3072 + j.val, by omega⟩ := by
  rw [val_main_v19_apply, ← v15_at]
  refine congrArg _ ?_
  funext a
  fin_cases a <;> rfl

theorem v20_at (b : Fin 8) (s : Fin 8192) (j : Fin 256) :
    val_main_v20 (F := Ideal) X g1 w (ix3 b s j) = InSpec.z (row X b s) (gain g1) (proj w) ⟨3328 + j.val, by omega⟩ := by
  rw [val_main_v20_apply, ← v15_at]
  refine congrArg _ ?_
  funext a
  fin_cases a <;> rfl

theorem v21_at (b : Fin 8) (s : Fin 8192) (j : Fin 1024) :
    val_main_v21 (F := Ideal) X g1 w (ix3 b s j) = InSpec.z (row X b s) (gain g1) (proj w) ⟨3584 + j.val, by omega⟩ := by
  rw [val_main_v21_apply, ← v15_at]
  refine congrArg _ ?_
  funext a
  fin_cases a <;> rfl

theorem v22_at (b : Fin 8) (s : Fin 8192) (j : Fin 1024) :
    val_main_v22 (F := Ideal) X g1 w (ix3 b s j) = InSpec.z (row X b s) (gain g1) (proj w) ⟨4608 + j.val, by omega⟩ := by
  rw [val_main_v22_apply, ← v15_at]
  refine congrArg _ ?_
  funext a
  fin_cases a <;> rfl

/-- A row of all batches' rows, by its batch and its place there. -/
def batch (R : Fin 65536) : Fin 8 := ⟨R.val / 8192, by omega⟩
@[inherit_doc batch] def place (R : Fin 65536) : Fin 8192 := ⟨R.val % 8192, by omega⟩

/-- Projections to one column. -/
theorem z_congr (x g : Fin 1024 → EReal) (W : Fin 1024 → Fin 5632 → EReal) {j j' : Fin 5632} (h : j.val = j'.val) : InSpec.z x g W j = InSpec.z x g W j' := by
  rw [Fin.ext h]

/-- A head of the queries, its columns one by one. -/
theorem v74_at (b : Fin 8) (s : Fin 8192) (h : Fin 8) (d : Fin 128) :
    val_main_v74 (F := Ideal) X g1 w (ix4 b s h d) = InSpec.z (row X b s) (gain g1) (proj w) ⟨2048 + 128 * h.val + d.val, by omega⟩ := by
  have e : idx_main_v74 (ix4 b s h d) = ix3 b s ⟨128 * h.val + d.val, by omega⟩ := by
    funext a
    apply Fin.ext
    fin_cases a
    · show (((b.val * 8192 + s.val) * 8 + h.val) * 128 + d.val) / 8388608 = b.val
      omega
    · show (((b.val * 8192 + s.val) * 8 + h.val) * 128 + d.val) / 1024 % 8192 = s.val
      omega
    · show (((b.val * 8192 + s.val) * 8 + h.val) * 128 + d.val) % 1024 = 128 * h.val + d.val
      omega
  rw [val_main_v74_apply, e, v18_at]
  exact z_congr _ _ _ (by show 2048 + (128 * h.val + d.val) = 2048 + 128 * h.val + d.val; omega)

/-- A head of the keys, likewise. -/
theorem v89_at (b : Fin 8) (s : Fin 8192) (h : Fin 2) (d : Fin 128) :
    val_main_v89 (F := Ideal) X g1 w (ix4 b s h d) = InSpec.z (row X b s) (gain g1) (proj w) ⟨3072 + 128 * h.val + d.val, by omega⟩ := by
  have e : idx_main_v89 (ix4 b s h d) = ix3 b s ⟨128 * h.val + d.val, by omega⟩ := by
    funext a
    apply Fin.ext
    fin_cases a
    · show (((b.val * 8192 + s.val) * 2 + h.val) * 128 + d.val) / 2097152 = b.val
      omega
    · show (((b.val * 8192 + s.val) * 2 + h.val) * 128 + d.val) / 256 % 8192 = s.val
      omega
    · show (((b.val * 8192 + s.val) * 2 + h.val) * 128 + d.val) % 256 = 128 * h.val + d.val
      omega
  rw [val_main_v89_apply, e, v19_at]
  exact z_congr _ _ _ (by show 3072 + (128 * h.val + d.val) = 3072 + 128 * h.val + d.val; omega)

/-- The queries' gains. -/
theorem v87_at (b : Fin 8) (s : Fin 8192) (h : Fin 8) (d : Fin 128) : val_main_v87 (F := Ideal) qn (ix4 b s h d) = gain qn d := by
  rw [val_main_v87_apply, val_main_v86_apply, val_main_v75_apply]
  refine congrArg qn ?_
  funext a
  apply Fin.ext
  fin_cases a
  · rfl
  · exact Nat.mod_eq_of_lt d.isLt

/-- The keys' gains. -/
theorem v102_at (b : Fin 8) (s : Fin 8192) (h : Fin 2) (d : Fin 128) : val_main_v102 (F := Ideal) kn (ix4 b s h d) = gain kn d := by
  rw [val_main_v102_apply, val_main_v101_apply, val_main_v90_apply]
  refine congrArg kn ?_
  funext a
  apply Fin.ext
  fin_cases a
  · rfl
  · exact Nat.mod_eq_of_lt d.isLt

/-- A normed query. -/
theorem v88_at (b : Fin 8) (s : Fin 8192) (h : Fin 8) (d : Fin 128) :
    val_main_v88 (F := Ideal) X g1 w qn (ix4 b s h d) =
      InSpec.head (row X b s) (gain g1) (proj w) (2048 + 128 * h.val) (by omega) (gain qn) d := by
  rw [val_main_v88_apply, v87_at, val_main_v85_apply, val_main_v84_apply, val_main_v83_apply, val_main_v82_apply, val_main_v81_apply, val_main_v80_apply, val_main_v79_apply,
    val_main_v78_apply, val_main_v77_apply, v74_at]
  unfold InSpec.head InSpec.norm
  refine congrArg (fun z => InSpec.z (row X b s) (gain g1) (proj w) ⟨2048 + 128 * h.val + d.val, by omega⟩ *
    Ideal.rsqrt (Ideal.div z InSpec.narrow + Ideal.ofBits .f32 0x358637BD#32) * gain qn d) ?_
  refine (congrArg₂ (· + ·) Ideal.ofBits_zero_f32 (Finset.sum_congr rfl fun l _ => ?_)).trans (zero_add _)
  have e : idx_main_v77 (idx_main_v78 (idx_main_v84 (ix4 b s h d))) l = ix4 b s h l := by
    funext a
    fin_cases a <;> rfl
  rw [val_main_v76_apply, e, v74_at]
  rfl

/-- A normed key. -/
theorem v103_at (b : Fin 8) (s : Fin 8192) (h : Fin 2) (d : Fin 128) :
    val_main_v103 (F := Ideal) X g1 w kn (ix4 b s h d) =
      InSpec.head (row X b s) (gain g1) (proj w) (3072 + 128 * h.val) (by omega) (gain kn) d := by
  rw [val_main_v103_apply, v102_at, val_main_v100_apply, val_main_v99_apply, val_main_v98_apply, val_main_v97_apply, val_main_v96_apply, val_main_v95_apply, val_main_v94_apply,
    val_main_v93_apply, val_main_v92_apply, v89_at]
  unfold InSpec.head InSpec.norm
  refine congrArg (fun z => InSpec.z (row X b s) (gain g1) (proj w) ⟨3072 + 128 * h.val + d.val, by omega⟩ *
    Ideal.rsqrt (Ideal.div z InSpec.narrow + Ideal.ofBits .f32 0x358637BD#32) * gain kn d) ?_
  refine (congrArg₂ (· + ·) Ideal.ofBits_zero_f32 (Finset.sum_congr rfl fun l _ => ?_)).trans (zero_add _)
  have e : idx_main_v92 (idx_main_v93 (idx_main_v99 (ix4 b s h d))) l = ix4 b s h l := by
    funext a
    fin_cases a <;> rfl
  rw [val_main_v91_apply, e, v89_at]
  rfl

/-- The queries' array. -/
theorem v114_at (R : Fin 65536) (C : Fin 1024) :
    val_main_v114 (F := Ideal) X g1 w qn (ix2 R C) =
      InSpec.head (row X (batch R) (place R)) (gain g1) (proj w) (2048 + 128 * (C.val / 128)) (by omega) (gain qn) ⟨C.val % 128, by omega⟩ := by
  have e : idx_main_v113 (ix2 R C) = ix4 (batch R) (place R) ⟨C.val / 128, by omega⟩ ⟨C.val % 128, by omega⟩ := by
    funext a
    apply Fin.ext
    fin_cases a
    · show (R.val * 1024 + C.val) / 8388608 = R.val / 8192
      omega
    · show (R.val * 1024 + C.val) / 1024 % 8192 = R.val % 8192
      omega
    · show (R.val * 1024 + C.val) / 128 % 8 = C.val / 128
      omega
    · show (R.val * 1024 + C.val) % 128 = C.val % 128
      omega
  rw [val_main_v114_apply, val_main_v113_apply, e]
  exact v88_at X g1 w qn ..

/-- The keys' array. -/
theorem v116_at (R : Fin 65536) (C : Fin 256) :
    val_main_v116 (F := Ideal) X g1 w kn (ix2 R C) =
      InSpec.head (row X (batch R) (place R)) (gain g1) (proj w) (3072 + 128 * (C.val / 128)) (by omega) (gain kn) ⟨C.val % 128, by omega⟩ := by
  have e : idx_main_v115 (ix2 R C) = ix4 (batch R) (place R) ⟨C.val / 128, by omega⟩ ⟨C.val % 128, by omega⟩ := by
    funext a
    apply Fin.ext
    fin_cases a
    · show (R.val * 256 + C.val) / 2097152 = R.val / 8192
      omega
    · show (R.val * 256 + C.val) / 256 % 8192 = R.val % 8192
      omega
    · show (R.val * 256 + C.val) / 128 % 2 = C.val / 128
      omega
    · show (R.val * 256 + C.val) % 128 = C.val % 128
      omega
  rw [val_main_v116_apply, val_main_v115_apply, e]
  exact v103_at X g1 w kn ..

/-- The values' array. -/
theorem v119_at (f : Fin 256) (R : Fin 65536) :
    val_main_v119 (F := Ideal) X g1 w (ix2 f R) = InSpec.z (row X (batch R) (place R)) (gain g1) (proj w) ⟨3328 + f.val, by omega⟩ := by
  have e : idx_main_v117 (idx_main_v119 (ix2 f R)) = ix3 (batch R) (place R) f := by
    funext a
    apply Fin.ext
    fin_cases a
    · show (R.val * 256 + f.val) / 2097152 = R.val / 8192
      omega
    · show (R.val * 256 + f.val) / 256 % 8192 = R.val % 8192
      omega
    · show (R.val * 256 + f.val) % 256 = f.val
      omega
  rw [val_main_v119_apply, val_main_v118_apply, val_main_v117_apply, e]
  exact v20_at X g1 w ..

end Cert.Reference4Ideal.Ref

end
-- ==== Proof.SampleInRefGate.lean ====
/- The sample's input projection's reference at an index: the spatial gating and the gates. -/
module

public import proofs.«01_k».proof.Proof.SampleInRef

@[expose] public section

noncomputable section

namespace Cert.Reference4Ideal.Ref

open Cert.Reference4Ideal Cert.Reference4Ideal.Gen Cert.Reference4Ideal.Read Idealize.ShloMosaic Idealize.ShloMosaic.TcCoe Idealize.SL.Sem

variable (X : Vec Ideal S8x8192x1024 .f32) (g1 : Vec Ideal S1x1024 .f32) (w : Vec Ideal S1x1024x5632 .f32) (sg : Vec Ideal S1x1024 .f32)
  (ws : Vec Ideal S1x8x128x128 .f32) (bs : Vec Ideal S1x8x128 .f32)

/-- The second gate's array. -/
theorem v127_at (R : Fin 65536) (C : Fin 1024) :
    val_main_v127 (F := Ideal) X g1 w (ix2 R C) = InSpec.sig (InSpec.z (row X (batch R) (place R)) (gain g1) (proj w) ⟨4608 + C.val, by omega⟩) := by
  have e : idx_main_v126 (ix2 R C) = ix3 (batch R) (place R) C := by
    funext a
    apply Fin.ext
    fin_cases a
    · show (R.val * 1024 + C.val) / 8388608 = R.val / 8192
      omega
    · show (R.val * 1024 + C.val) / 1024 % 8192 = R.val % 8192
      omega
    · show (R.val * 1024 + C.val) % 1024 = C.val
      omega
  rw [val_main_v127_apply, val_main_v126_apply, e, val_main_v125_apply, val_main_v124_apply, val_main_v123_apply, val_main_v122_apply, val_main_v121_apply, val_main_v120_apply, v22_at]
  rfl

/-- The first gate. -/
theorem v109_at (b : Fin 8) (s : Fin 8192) (j : Fin 1024) :
    val_main_v109 (F := Ideal) X g1 w (ix3 b s j) = InSpec.sig (InSpec.z (row X b s) (gain g1) (proj w) ⟨3584 + j.val, by omega⟩) := by
  rw [val_main_v109_apply, val_main_v108_apply, val_main_v107_apply, val_main_v106_apply, val_main_v105_apply, val_main_v104_apply, v21_at]
  rfl

/-- The first halves' gelu. -/
theorem v38_at (b : Fin 8) (s : Fin 8192) (j : Fin 1024) :
    val_main_v38 (F := Ideal) X g1 w (ix3 b s j) = InSpec.gelu (InSpec.z (row X b s) (gain g1) (proj w) ⟨j.val, by omega⟩) := by
  rw [val_main_v38_apply, val_main_v37_apply, val_main_v36_apply, val_main_v35_apply, val_main_v34_apply, val_main_v33_apply, val_main_v32_apply, val_main_v31_apply,
    val_main_v30_apply, val_main_v29_apply, val_main_v28_apply, val_main_v27_apply, val_main_v26_apply, v16_at]
  rfl

/-- The second halves'. -/
theorem v51_at (b : Fin 8) (s : Fin 8192) (j : Fin 1024) :
    val_main_v51 (F := Ideal) X g1 w (ix3 b s j) = InSpec.gelu (InSpec.z (row X b s) (gain g1) (proj w) ⟨1024 + j.val, by omega⟩) := by
  rw [val_main_v51_apply, val_main_v50_apply, val_main_v49_apply, val_main_v48_apply, val_main_v47_apply, val_main_v46_apply, val_main_v45_apply, val_main_v44_apply,
    val_main_v43_apply, val_main_v42_apply, val_main_v41_apply, val_main_v40_apply, val_main_v39_apply, v17_at]
  rfl

theorem v63_at (b : Fin 8) (s : Fin 8192) (j : Fin 1024) : val_main_v63 (F := Ideal) sg (ix3 b s j) = gain sg j := by
  rw [val_main_v63_apply, val_main_v62_apply, val_main_v23_apply]
  refine congrArg sg ?_
  funext a
  apply Fin.ext
  fin_cases a
  · rfl
  · exact Nat.mod_eq_of_lt j.isLt

/-- The second halves normed. -/
theorem v64_at (b : Fin 8) (s : Fin 8192) (j : Fin 1024) :
    val_main_v64 (F := Ideal) X g1 w sg (ix3 b s j) = InSpec.vrow (row X b s) (gain g1) (proj w) (gain sg) j := by
  rw [val_main_v64_apply, v63_at, val_main_v61_apply, val_main_v60_apply, val_main_v59_apply, val_main_v58_apply, val_main_v57_apply, val_main_v56_apply, val_main_v55_apply,
    val_main_v54_apply, val_main_v53_apply, v51_at]
  unfold InSpec.vrow InSpec.norm
  refine congrArg (fun z => InSpec.gelu (InSpec.z (row X b s) (gain g1) (proj w) ⟨1024 + j.val, by omega⟩) *
    Ideal.rsqrt (Ideal.div z InSpec.wide + Ideal.ofBits .f32 0x358637BD#32) * gain sg j) ?_
  refine (congrArg₂ (· + ·) Ideal.ofBits_zero_f32 (Finset.sum_congr rfl fun l _ => ?_)).trans (zero_add _)
  have e : idx_main_v53 (idx_main_v54 (idx_main_v60 (ix3 b s j))) l = ix3 b s l := by
    funext a
    fin_cases a <;> rfl
  rw [val_main_v52_apply, e, v51_at]
  rfl

/-- A chunk's row, in the sequence. -/
def chunk (n : Fin 64) (p : Fin 128) : Fin 8192 := ⟨128 * n.val + p.val, by omega⟩

/-- A chunk's normed second halves, group by group. -/
theorem v65_at (b : Fin 8) (n : Fin 64) (p : Fin 128) (g : Fin 8) (d : Fin 128) :
    val_main_v65 (F := Ideal) X g1 w sg (ix5 b n p g d) = InSpec.vrow (row X b (chunk n p)) (gain g1) (proj w) (gain sg) ⟨128 * g.val + d.val, by omega⟩ := by
  have e : idx_main_v65 (ix5 b n p g d) = ix3 b (chunk n p) ⟨128 * g.val + d.val, by omega⟩ := by
    funext a
    apply Fin.ext
    fin_cases a
    · show ((((b.val * 64 + n.val) * 128 + p.val) * 8 + g.val) * 128 + d.val) / 8388608 = b.val
      omega
    · show ((((b.val * 64 + n.val) * 128 + p.val) * 8 + g.val) * 128 + d.val) / 1024 % 8192 = 128 * n.val + p.val
      omega
    · show ((((b.val * 64 + n.val) * 128 + p.val) * 8 + g.val) * 128 + d.val) % 1024 = 128 * g.val + d.val
      omega
  rw [val_main_v65_apply, e, v64_at]

theorem v24_at (g : Fin 8) (p q : Fin 128) : val_main_v24 (F := Ideal) ws (ix3 g p q) = mat ws g p q := by
  rw [val_main_v24_apply]
  refine congrArg ws ?_
  funext a
  apply Fin.ext
  fin_cases a
  · rfl
  · show ((g.val * 128 + p.val) * 128 + q.val) / 16384 % 8 = g.val
    omega
  · show ((g.val * 128 + p.val) * 128 + q.val) / 128 % 128 = p.val
    omega
  · show ((g.val * 128 + p.val) * 128 + q.val) % 128 = q.val
    omega

/-- The mixing of a chunk's rows, with its bias. -/
theorem v71_at (b : Fin 8) (n : Fin 64) (p : Fin 128) (g : Fin 8) (d : Fin 128) :
    val_main_v71 (F := Ideal) X g1 w sg ws bs (ix5 b n p g d) =
      ∑ q, InSpec.vrow (row X b (chunk n q)) (gain g1) (proj w) (gain sg) ⟨128 * g.val + d.val, by omega⟩ * mat ws g p q + bias bs g p := by
  rw [val_main_v71_apply, val_main_v70_apply, val_main_v69_apply, val_main_v68_apply, val_main_v67_apply, val_main_v66_apply, val_main_v25_apply]
  refine congrArg₂ (· + ·) (Finset.sum_congr rfl fun q _ => congrArg₂ (· * ·) ?_ ?_) (congrArg bs ?_)
  · refine Eq.trans (congrArg _ ?_) (v65_at X g1 w sg b n q g d)
    funext a
    fin_cases a <;> rfl
  · refine Eq.trans (congrArg _ ?_) (v24_at ws g p q)
    funext a
    fin_cases a <;> rfl
  · funext a
    apply Fin.ext
    fin_cases a
    · rfl
    · show (g.val * 128 + p.val) / 128 % 8 = g.val
      omega
    · show (g.val * 128 + p.val) % 128 = p.val
      omega

theorem v72_at (b : Fin 8) (s : Fin 8192) (j : Fin 1024) :
    val_main_v72 (F := Ideal) X g1 w sg ws bs (ix3 b s j) =
      ∑ q, InSpec.vrow (row X b (chunk ⟨s.val / 128, by omega⟩ q)) (gain g1) (proj w) (gain sg) j * mat ws ⟨j.val / 128, by omega⟩ ⟨s.val % 128, by omega⟩ q +
        bias bs ⟨j.val / 128, by omega⟩ ⟨s.val % 128, by omega⟩ := by
  have e : idx_main_v72 (ix3 b s j) = ix5 b ⟨s.val / 128, by omega⟩ ⟨s.val % 128, by omega⟩ ⟨j.val / 128, by omega⟩ ⟨j.val % 128, by omega⟩ := by
    funext a
    apply Fin.ext
    fin_cases a
    · show ((b.val * 8192 + s.val) * 1024 + j.val) / 8388608 = b.val
      omega
    · show ((b.val * 8192 + s.val) * 1024 + j.val) / 131072 % 64 = s.val / 128
      omega
    · show ((b.val * 8192 + s.val) * 1024 + j.val) / 1024 % 128 = s.val % 128
      omega
    · show ((b.val * 8192 + s.val) * 1024 + j.val) / 128 % 8 = j.val / 128
      omega
    · show ((b.val * 8192 + s.val) * 1024 + j.val) % 128 = j.val % 128
      omega
  have hj : (⟨128 * (j.val / 128) + j.val % 128, by omega⟩ : Fin 1024) = j := Fin.ext (Nat.div_add_mod _ _)
  rw [val_main_v72_apply, e, v71_at]
  dsimp only
  rw [hj]

/-- The doubly gated array. -/
theorem v112_at (R : Fin 65536) (C : Fin 1024) :
    val_main_v112 (F := Ideal) X g1 w sg ws bs (ix2 R C) =
      InSpec.gya (fun q : Fin 128 => row X (batch R) (chunk ⟨(place R).val / 128, by omega⟩ q)) (gain g1) (proj w) (gain sg) (mat ws ⟨C.val / 128, by omega⟩)
        (bias bs ⟨C.val / 128, by omega⟩) ⟨R.val % 128, by omega⟩ C := by
  have e : idx_main_v111 (ix2 R C) = ix3 (batch R) (place R) C := by
    funext a
    apply Fin.ext
    fin_cases a
    · show (R.val * 1024 + C.val) / 8388608 = R.val / 8192
      omega
    · show (R.val * 1024 + C.val) / 1024 % 8192 = R.val % 8192
      omega
    · show (R.val * 1024 + C.val) % 1024 = C.val
      omega
  have hp : (⟨(place R).val % 128, by omega⟩ : Fin 128) = ⟨R.val % 128, by omega⟩ := Fin.ext (by show R.val % 8192 % 128 = R.val % 128; omega)
  have hc : chunk ⟨(place R).val / 128, by omega⟩ ⟨R.val % 128, by omega⟩ = place R := Fin.ext (by show 128 * (R.val % 8192 / 128) + R.val % 128 = R.val % 8192; omega)
  rw [val_main_v112_apply, val_main_v111_apply, e]
  show val_main_v110 (F := Ideal) X g1 w sg ws bs (ix3 (batch R) (place R) C) = _
  rw [val_main_v110_apply, v109_at, val_main_v73_apply, v38_at, v72_at, hp]
  unfold InSpec.gya
  dsimp only
  rw [hc]
  rfl

end Cert.Reference4Ideal.Ref

end
-- ==== Proof.SampleInResult.lean ====
/- The sample's input projection's five arrays after the run, at an index, are the reference's. -/
module

public import proofs.«01_k».proof.Proof.InPoint
public import proofs.«01_k».proof.Proof.SampleInRun
public import proofs.«01_k».proof.Proof.SampleInRegions
public import proofs.«01_k».proof.Proof.SampleInRefGate

@[expose] public section

set_option maxRecDepth 16384

noncomputable section

namespace Cert.Kernel4Ideal.Result

open Cert.Kernel4Ideal Cert.Kernel4Ideal.Gen Cert.Kernel4Ideal.Regions Idealize.ShloMosaic Idealize.ShloMosaic.TcCoe Idealize.SL.Sem

variable (m : (ℓ : Loc nD τ sig) → Buf (Elt Ideal) ℓ) (c : Dev nD) (t : Fin 64)

/-! ## The weights carried between points -/

/-- After every point the carried buffer holds the values' weights, transposed. -/
theorem carry (n : ℕ) (hn : n < cfg0.N) (f : Fin 256) (k : Fin 1024) :
    (show Vec Ideal S256x1024 .bf16 from (outsAt0 m c n hn).2.2.2.2.2) (ix2 f k) = w m c (ix3 0 k ⟨3328 + f.val, by omega⟩) := by
  induction n with
  | zero =>
    rw [outsAt0_A m c ⟨0, hn⟩ rfl]
    dsimp only
    rw [Run.outAT]
    exact Cert.Kernel2Ideal.Point.carried_at (W := fun k j => w m c (ix3 0 k j)) (hV := by exact in3 m c ⟨0, hn⟩) f k
  | succ n ih =>
    have h0 : ¬(⟨n + 1, hn⟩ : Fin cfg0.N).val % 64 = 0 := by
      have h : n + 1 < 64 := hn
      show ¬(n + 1) % 64 = 0
      omega
    rw [outsAt0_B m c ⟨n + 1, hn⟩ h0]
    dsimp only
    unfold sout0_B_4
    exact ih (Nat.lt_of_succ_lt hn)

/-! ## A point's blocks -/

/-- The gated rows. -/
theorem at9 (r C : Fin 1024) : (show Vec Ideal S1024x1024 .bf16 from (outsAt0 m c t.val t.isLt).1) (ix2 r C) =
      InSpec.gya (fun q : Fin 128 => line m c (rowOf t ⟨128 * (r.val / 128) + q.val, by omega⟩)) (fun k => g1 m c (ix2 0 k)) (fun k j => w m c (ix3 0 k j)) (fun k => sg m c (ix2 0 k))
        (fun p q => ws m c (ix4 0 ⟨C.val / 128, by omega⟩ p q)) (fun p => bs m c (ix3 0 ⟨C.val / 128, by omega⟩ p)) ⟨r.val % 128, by omega⟩ C := by
  by_cases h0 : t.val % 64 = 0
  · rw [outsAt0_A m c t h0]
    dsimp only
    rw [Run.outA9]
    exact (Cert.Kernel2Ideal.Point.gya_at (X := fun r k => line m c (rowOf t r) k) (G := fun k => g1 m c (ix2 0 k)) (W := fun k j => w m c (ix3 0 k j)) (S := fun k => sg m c (ix2 0 k)) (A := fun g p q => ws m c (ix4 0 g p q)) (B := fun g p _ => bs m c (ix3 0 g p))
        (hX := by exact in0 m c t) (hG := by exact in1 m c t) (hW := by exact in2 m c t) (hS := by exact in4 m c t) (hA := by exact in7 m c t) (hB := by exact in8 m c t) r C)
  · rw [outsAt0_B m c t h0]
    dsimp only
    rw [Run.outB9]
    exact (Cert.Kernel2Ideal.Point.gya_at (X := fun r k => line m c (rowOf t r) k) (G := fun k => g1 m c (ix2 0 k)) (W := fun k j => w m c (ix3 0 k j)) (S := fun k => sg m c (ix2 0 k)) (A := fun g p q => ws m c (ix4 0 g p q)) (B := fun g p _ => bs m c (ix3 0 g p))
        (hX := by exact in0 m c t) (hG := by exact in1 m c t) (hW := by exact in2 m c t) (hS := by exact in4 m c t) (hA := by exact in7 m c t) (hB := by exact in8 m c t) r C)

/-- The queries. -/
theorem at10 (r C : Fin 1024) : (show Vec Ideal S1024x1024 .bf16 from (outsAt0 m c t.val t.isLt).2.1) (ix2 r C) =
      InSpec.head (line m c (rowOf t r)) (fun k => g1 m c (ix2 0 k)) (fun k j => w m c (ix3 0 k j)) (2048 + 128 * (C.val / 128)) (by omega) (fun d => qn m c (ix2 0 d)) ⟨C.val % 128, by omega⟩ := by
  by_cases h0 : t.val % 64 = 0
  · rw [outsAt0_A m c t h0]
    dsimp only
    rw [Run.outA10]
    exact (Cert.Kernel2Ideal.Point.q_at (X := fun r k => line m c (rowOf t r) k) (G := fun k => g1 m c (ix2 0 k)) (W := fun k j => w m c (ix3 0 k j)) (N := fun d => qn m c (ix2 0 d))
        (hX := by exact in0 m c t) (hG := by exact in1 m c t) (hW := by exact in2 m c t) (hN := by exact in5 m c t) r C)
  · rw [outsAt0_B m c t h0]
    dsimp only
    rw [Run.outB10]
    exact (Cert.Kernel2Ideal.Point.q_at (X := fun r k => line m c (rowOf t r) k) (G := fun k => g1 m c (ix2 0 k)) (W := fun k j => w m c (ix3 0 k j)) (N := fun d => qn m c (ix2 0 d))
        (hX := by exact in0 m c t) (hG := by exact in1 m c t) (hW := by exact in2 m c t) (hN := by exact in5 m c t) r C)

/-- The keys. -/
theorem at11 (r : Fin 1024) (C : Fin 256) : (show Vec Ideal S1024x256 .bf16 from (outsAt0 m c t.val t.isLt).2.2.1) (ix2 r C) =
      InSpec.head (line m c (rowOf t r)) (fun k => g1 m c (ix2 0 k)) (fun k j => w m c (ix3 0 k j)) (3072 + 128 * (C.val / 128)) (by omega) (fun d => kn m c (ix2 0 d)) ⟨C.val % 128, by omega⟩ := by
  by_cases h0 : t.val % 64 = 0
  · rw [outsAt0_A m c t h0]
    dsimp only
    rw [Run.outA11]
    exact (Cert.Kernel2Ideal.Point.k_at (X := fun r k => line m c (rowOf t r) k) (G := fun k => g1 m c (ix2 0 k)) (W := fun k j => w m c (ix3 0 k j)) (K := fun d => kn m c (ix2 0 d))
        (hX := by exact in0 m c t) (hG := by exact in1 m c t) (hW := by exact in2 m c t) (hK := by exact in6 m c t) r C)
  · rw [outsAt0_B m c t h0]
    dsimp only
    rw [Run.outB11]
    exact (Cert.Kernel2Ideal.Point.k_at (X := fun r k => line m c (rowOf t r) k) (G := fun k => g1 m c (ix2 0 k)) (W := fun k j => w m c (ix3 0 k j)) (K := fun d => kn m c (ix2 0 d))
        (hX := by exact in0 m c t) (hG := by exact in1 m c t) (hW := by exact in2 m c t) (hK := by exact in6 m c t) r C)

/-- The values. -/
theorem at12 (C : Fin 256) (r : Fin 1024) : (show Vec Ideal S256x1024 .bf16 from (outsAt0 m c t.val t.isLt).2.2.2.1) (ix2 C r) =
      InSpec.z (line m c (rowOf t r)) (fun k => g1 m c (ix2 0 k)) (fun k j => w m c (ix3 0 k j)) ⟨3328 + C.val, by omega⟩ := by
  by_cases h0 : t.val % 64 = 0
  · rw [outsAt0_A m c t h0]
    dsimp only
    rw [Run.outA12]
    exact (Cert.Kernel2Ideal.Point.first_at (X := fun r k => line m c (rowOf t r) k) (G := fun k => g1 m c (ix2 0 k)) (W := fun k j => w m c (ix3 0 k j))
        (hX := by exact in0 m c t) (hG := by exact in1 m c t) (hV := by exact in3 m c t) C r)
  · rw [outsAt0_B m c t h0]
    dsimp only
    rw [Run.outB12]
    exact (Cert.Kernel2Ideal.Point.later_at (X := fun r k => line m c (rowOf t r) k) (G := fun k => g1 m c (ix2 0 k)) (W := fun k j => w m c (ix3 0 k j))
        (hX := by exact in0 m c t) (hG := by exact in1 m c t) (hT := carry m c (t.val - 1) (Nat.lt_of_le_of_lt (Nat.sub_le _ _) t.isLt)) C r)

/-- The second gates. -/
theorem at13 (r C : Fin 1024) : (show Vec Ideal S1024x1024 .bf16 from (outsAt0 m c t.val t.isLt).2.2.2.2.1) (ix2 r C) =
      InSpec.sig (InSpec.z (line m c (rowOf t r)) (fun k => g1 m c (ix2 0 k)) (fun k j => w m c (ix3 0 k j)) ⟨4608 + C.val, by omega⟩) := by
  by_cases h0 : t.val % 64 = 0
  · rw [outsAt0_A m c t h0]
    dsimp only
    rw [Run.outA13]
    exact (Cert.Kernel2Ideal.Point.gb_at (X := fun r k => line m c (rowOf t r) k) (G := fun k => g1 m c (ix2 0 k)) (W := fun k j => w m c (ix3 0 k j))
        (hX := by exact in0 m c t) (hG := by exact in1 m c t) (hW := by exact in2 m c t) r C)
  · rw [outsAt0_B m c t h0]
    dsimp only
    rw [Run.outB13]
    exact (Cert.Kernel2Ideal.Point.gb_at (X := fun r k => line m c (rowOf t r) k) (G := fun k => g1 m c (ix2 0 k)) (W := fun k j => w m c (ix3 0 k j))
        (hX := by exact in0 m c t) (hG := by exact in1 m c t) (hW := by exact in2 m c t) r C)

end Cert.Kernel4Ideal.Result

end
-- ==== Proof.SampleInArrays.lean ====
/- The sample's input projection's five arrays after the run are the reference's values of the same arguments. -/
module

public import proofs.«01_k».proof.Proof.SampleInResult

@[expose] public section

set_option maxRecDepth 16384

noncomputable section

namespace Cert.Kernel4Ideal.Arrays

open Cert.Kernel4Ideal Cert.Kernel4Ideal.Gen Cert.Kernel4Ideal.Regions Cert.Reference4Ideal.Read Idealize.ShloMosaic Idealize.ShloMosaic.TcCoe Idealize.SL.Sem

/-- Every row is some point's. -/
theorem rows (R : Fin 65536) : R = rowOf ⟨R.val / 1024, by omega⟩ ⟨R.val % 1024, by omega⟩ :=
  Fin.ext (Nat.div_add_mod R.val 1024).symm

/-- Two arrays of rows agree when every point's rows do. -/
theorem ext_rows {n : ℕ} (f g : (⟨2, ![65536, n]⟩ : Shape).Idx → EReal) (h : ∀ t r C, f (ix2 (rowOf t r) C) = g (ix2 (rowOf t r) C)) : f = g := by
  funext y
  have e : y = ix2 (rowOf ⟨(y 0).val / 1024, Nat.div_lt_of_lt_mul (y 0).isLt⟩ ⟨(y 0).val % 1024, Nat.mod_lt _ (by decide)⟩) (y 1) := by
    funext a
    fin_cases a
    · exact rows (y 0)
    · rfl
  rw [e]
  exact h _ _ _

/-- The same of rows that lie along the second dimension. -/
theorem ext_cols {n : ℕ} (f g : (⟨2, ![n, 65536]⟩ : Shape).Idx → EReal) (h : ∀ t r C, f (ix2 C (rowOf t r)) = g (ix2 C (rowOf t r))) : f = g := by
  funext y
  have e : y = ix2 (y 0) (rowOf ⟨(y 1).val / 1024, Nat.div_lt_of_lt_mul (y 1).isLt⟩ ⟨(y 1).val % 1024, Nat.mod_lt _ (by decide)⟩) := by
    funext a
    fin_cases a
    · rfl
    · exact rows (y 1)
  rw [e]
  exact h _ _ _

variable (m : (ℓ : Loc nD τ sig) → Buf (Elt Ideal) ℓ) (c : Dev nD)

/-- A chunk never leaves its batch: its rows among all rows are its rows in the sequence. -/
theorem chunk_rows (t : Fin 64) (r : Fin 1024) :
    (fun q : Fin 128 => line m c (rowOf t ⟨128 * (r.val / 128) + q.val, by omega⟩)) =
      fun q => Cert.Reference4Ideal.Ref.row (X m c) (Cert.Reference4Ideal.Ref.batch (rowOf t r)) (Cert.Reference4Ideal.Ref.chunk ⟨(Cert.Reference4Ideal.Ref.place (rowOf t r)).val / 128, Nat.div_lt_of_lt_mul (Cert.Reference4Ideal.Ref.place (rowOf t r)).isLt⟩ q) := by
  funext q k
  refine congrArg₂ (fun b s => X m c (ix3 b s k)) (Fin.ext ?_) (Fin.ext ?_)
  · show (1024 * t.val + (128 * (r.val / 128) + q.val)) / 8192 = (1024 * t.val + r.val) / 8192
    omega
  · show (1024 * t.val + (128 * (r.val / 128) + q.val)) % 8192 = 128 * ((1024 * t.val + r.val) % 8192 / 128) + q.val
    omega

theorem place_in (t : Fin 64) (r : Fin 1024) : (⟨r.val % 128, Nat.mod_lt _ (by decide)⟩ : Fin 128) = ⟨(rowOf t r).val % 128, Nat.mod_lt _ (by decide)⟩ :=
  Fin.ext (by show r.val % 128 = (1024 * t.val + r.val) % 128; omega)

/-- The doubly gated rows. -/
theorem out9 : (show Vec Ideal S65536x1024 .bf16 from (dats m 0 c).arrAt 9 cfg0.N) =
    val_main_v112 (F := Ideal) (X m c) (g1 m c) (w m c) (sg m c) (ws m c) (bs m c) := by
  refine ext_rows _ _ fun t r C => (arr9 m c t r C).trans ((Result.at9 m c t r C).trans ?_)
  rw [Cert.Reference4Ideal.Ref.v112_at]
  exact congrArg₂ (fun Y p => InSpec.gya Y (Cert.Reference4Ideal.Ref.gain (g1 m c)) (Cert.Reference4Ideal.Ref.proj (w m c)) (Cert.Reference4Ideal.Ref.gain (sg m c)) (Cert.Reference4Ideal.Ref.mat (ws m c) ⟨C.val / 128, Nat.div_lt_of_lt_mul C.isLt⟩)
    (Cert.Reference4Ideal.Ref.bias (bs m c) ⟨C.val / 128, Nat.div_lt_of_lt_mul C.isLt⟩) p C) (chunk_rows m c t r) (place_in t r)

/-- The queries. -/
theorem out10 : (show Vec Ideal S65536x1024 .bf16 from (dats m 0 c).arrAt 10 cfg0.N) = val_main_v114 (F := Ideal) (X m c) (g1 m c) (w m c) (qn m c) := by
  refine ext_rows _ _ fun t r C => (arr10 m c t r C).trans ((Result.at10 m c t r C).trans ?_)
  rw [Cert.Reference4Ideal.Ref.v114_at]
  rfl

/-- The keys. -/
theorem out11 : (show Vec Ideal S65536x256 .bf16 from (dats m 0 c).arrAt 11 cfg0.N) = val_main_v116 (F := Ideal) (X m c) (g1 m c) (w m c) (kn m c) := by
  refine ext_rows _ _ fun t r C => (arr11 m c t r C).trans ((Result.at11 m c t r C).trans ?_)
  rw [Cert.Reference4Ideal.Ref.v116_at]
  rfl

/-- The values, a row a feature. -/
theorem out12 : (show Vec Ideal S256x65536 .bf16 from (dats m 0 c).arrAt 12 cfg0.N) = val_main_v119 (F := Ideal) (X m c) (g1 m c) (w m c) := by
  refine ext_cols _ _ fun t r C => (arr12 m c t r C).trans ((Result.at12 m c t C r).trans ?_)
  rw [Cert.Reference4Ideal.Ref.v119_at]
  rfl

/-- The second gates. -/
theorem out13 : (show Vec Ideal S65536x1024 .bf16 from (dats m 0 c).arrAt 13 cfg0.N) = val_main_v127 (F := Ideal) (X m c) (g1 m c) (w m c) := by
  refine ext_rows _ _ fun t r C => (arr13 m c t r C).trans ((Result.at13 m c t r C).trans ?_)
  rw [Cert.Reference4Ideal.Ref.v127_at]
  rfl

end Cert.Kernel4Ideal.Arrays

end
-- ==== Proof.SampleInAlgebraic.lean ====
/- The sample's input projection's value claim: on equal arguments, the kernel and the reference end with five equal arrays. -/
module

public import proofs.«01_k».proof.Defs
public import proofs.«01_k».proof.Proof.SampleInArrays
public import proofs.«01_k».proof.Proof.Gen.Reference4Ideal.Run

@[expose] public section

set_option maxRecDepth 16384

noncomputable section

namespace Cert.Proof.SampleInAlgebraic

open Cert.Reference4Ideal.Read Cert.Kernel4Ideal.Arrays Idealize.ShloMosaic Idealize.ShloMosaic.StableHlo Idealize.ShloMosaic.TcCoe Idealize.SL.Sem

variable {a0 b0 : Vec Ideal Cert.Reference4Ideal.S8x8192x1024 .f32} {a1 b1 a3 b3 : Vec Ideal Cert.Reference4Ideal.S1x1024 .f32}
  {a2 b2 : Vec Ideal Cert.Reference4Ideal.S1x1024x5632 .f32} {a4 b4 : Vec Ideal Cert.Reference4Ideal.S1x8x128x128 .f32}
  {a5 b5 : Vec Ideal Cert.Reference4Ideal.S1x8x128 .f32} {a6 b6 : Vec Ideal Cert.Reference4Ideal.S1x128 .f32}
  (h0 : a0 = b0) (h1 : a1 = b1) (h2 : a2 = b2) (h3 : a3 = b3) (h4 : a4 = b4) (h5 : a5 = b5) (h6 : a6 = b6)

/-! Equal arguments give equal values. -/

include h0 h1 h2 h3 h4 h5 in
theorem congr112 : val_main_v112 (F := Ideal) a0 a1 a2 a3 a4 a5 = val_main_v112 (F := Ideal) b0 b1 b2 b3 b4 b5 := by
  rw [h0, h1, h2, h3, h4, h5]

include h0 h1 h2 h6 in
theorem congr114 : val_main_v114 (F := Ideal) a0 a1 a2 a6 = val_main_v114 (F := Ideal) b0 b1 b2 b6 := by
  rw [h0, h1, h2, h6]

include h0 h1 h2 h6 in
theorem congr116 : val_main_v116 (F := Ideal) a0 a1 a2 a6 = val_main_v116 (F := Ideal) b0 b1 b2 b6 := by
  rw [h0, h1, h2, h6]

include h0 h1 h2 in
theorem congr119 : val_main_v119 (F := Ideal) a0 a1 a2 = val_main_v119 (F := Ideal) b0 b1 b2 := by
  rw [h0, h1, h2]

include h0 h1 h2 in
theorem congr127 : val_main_v127 (F := Ideal) a0 a1 a2 = val_main_v127 (F := Ideal) b0 b1 b2 := by
  rw [h0, h1, h2]

/-- Both run; the kernel's arrays are the reference's values. -/
theorem holds : Cert.algebraic_Kernel4Ideal_Reference4Ideal := by
  intro m g m' g' _ hargs
  refine ⟨_, _, _, _, _, Cert.Kernel4Ideal.Value.run_blocks m g, ?_⟩
  refine (θ_run Cert.Reference4Ideal.defs _ _).mono (fun r h c => ?_) (Cert.Reference4Ideal.Value.run (F := Ideal) m' g')
  obtain ⟨r0, r1, r2, r3, r4, hr⟩ := h c
  obtain ⟨e0, e1, e2, e3, e4, e5, e6, e7⟩ := hargs c
  refine ⟨?_, ?_, ?_, ?_, ?_, hr⟩
  · exact r0.trans ((val_main_v112_eq (F := Ideal) m' c).trans ((congr112 e0 e1 e2 e3 e4 e5).trans (out9 m c).symm))
  · exact r1.trans ((val_main_v114_eq (F := Ideal) m' c).trans ((congr114 e0 e1 e2 e6).trans (out10 m c).symm))
  · exact r2.trans ((val_main_v116_eq (F := Ideal) m' c).trans ((congr116 e0 e1 e2 e7).trans (out11 m c).symm))
  · exact r3.trans ((val_main_v119_eq (F := Ideal) _ _ _).trans ((congr119 e0 e1 e2).trans (out12 m c).symm))
  · exact r4.trans ((val_main_v127_eq (F := Ideal) _ _ _).trans ((congr127 e0 e1 e2).trans (out13 m c).symm))

end Cert.Proof.SampleInAlgebraic

end
-- ==== Proof.lean ====
module

public import proofs.«01_k».proof.Defs
public import proofs.«01_k».proof.Proof.Frames
public import proofs.«01_k».proof.Proof.Algebraic
public import proofs.«01_k».proof.Proof.InFrames
public import proofs.«01_k».proof.Proof.InAlgebraic
public import proofs.«01_k».proof.Proof.SampleFrames
public import proofs.«01_k».proof.Proof.SampleAlgebraic
public import proofs.«01_k».proof.Proof.SampleInAlgebraic

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Pre.facts, Cert.Pre.sample_facts,
    Frames.kernel, Frames.kernelIdeal, Frames.kernelIdeal_pre, Frames.referenceIdeal, Frames.referenceIdeal_pre, InFrames.kernel, InFrames.kernelIdeal, InFrames.referenceIdeal,
    SampleFrames.kernel, SampleFrames.kernelIdeal, SampleFrames.kernelIdeal_pre, SampleFrames.referenceIdeal, SampleFrames.referenceIdeal_pre,
    SampleFrames.inKernel, SampleFrames.inKernelIdeal, SampleFrames.inReferenceIdeal,
    Frames.preserves, Algebraic.holds, InFrames.preserves, InAlgebraic.holds,
    SampleFrames.preserves, SampleAlgebraic.holds, SampleFrames.inPreserves, SampleInAlgebraic.holds⟩

end Cert.Proof

end
